-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v49_0)) (v1 : (c : Dev Cert.Kernel3Ideal.nD) → Buf (Elt Ideal) ((c.tc : Thread Cert.Kernel3Ideal.nD Cert.Kernel3Ideal.τ).loc Cert.Kernel3Ideal.main_v49_1)) (v2 : (c : Dev Cert.Kernel3Ideal.nD) → Buf (Elt Ideal) ((c.tc : Thread Cert.Kernel3Ideal.nD Cert.Kernel3Ideal.τ).loc Cert.Kernel3Ideal.main_v49_2)) (v3 : (c : Dev Cert.Kernel3Ideal.nD) → Buf (Elt Ideal) ((c.tc : Thread Cert.Kernel3Ideal.nD Cert.Kernel3Ideal.τ).loc Cert.Kernel3Ideal.main_v49_3)) (v4 : (c : Dev Cert.Kernel3Ideal.nD) → Buf (Elt Ideal) ((c.tc : Thread Cert.Kernel3Ideal.nD Cert.Kernel3Ideal.τ).loc Cert.Kernel3Ideal.main_v49_4)) (v5 : (c : Dev Cert.Kernel3Ideal.nD) → Buf (Elt Ideal) ((c.tc : Thread Cert.Kernel3Ideal.nD Cert.Kernel3Ideal.τ).loc Cert.Kernel3Ideal.main_v49_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v49_0) = v0 c
          ∧ r.2.mem ((c.tc : Thread Cert.Kernel3Ideal.nD Cert.Kernel3Ideal.τ).loc Cert.Kernel3Ideal.main_v49_1) = v1 c
          ∧ r.2.mem ((c.tc : Thread Cert.Kernel3Ideal.nD Cert.Kernel3Ideal.τ).loc Cert.Kernel3Ideal.main_v49_2) = v2 c
          ∧ r.2.mem ((c.tc : Thread Cert.Kernel3Ideal.nD Cert.Kernel3Ideal.τ).loc Cert.Kernel3Ideal.main_v49_3) = v3 c
          ∧ r.2.mem ((c.tc : Thread Cert.Kernel3Ideal.nD Cert.Kernel3Ideal.τ).loc Cert.Kernel3Ideal.main_v49_4) = v4 c
          ∧ r.2.mem ((c.tc : Thread Cert.Kernel3Ideal.nD Cert.Kernel3Ideal.τ).loc Cert.Kernel3Ideal.main_v49_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v86) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_v88) = v3 c
          ∧ r.2.mem ((c.tc : Thread Cert.Reference3Ideal.nD Cert.Reference3Ideal.τ).loc Cert.Reference3Ideal.main_v89) = v4 c
          ∧ r.2.mem ((c.tc : Thread Cert.Reference3Ideal.nD Cert.Reference3Ideal.τ).loc Cert.Reference3Ideal.main_v92) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S2x8192x1024 : Shape := ⟨3, ![2, 8192, 1024]⟩
abbrev S2x2x8192x256 : Shape := ⟨4, ![2, 2, 8192, 256]⟩
abbrev S2x2x1024 : Shape := ⟨3, ![2, 2, 1024]⟩
abbrev S1x4x256x256 : Shape := ⟨4, ![1, 4, 256, 256]⟩
abbrev S1x4x256 : Shape := ⟨3, ![1, 4, 256]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel

variable [Facts]

def fn {F : FTy → Type} [FloatOps F] (main_arg0 : FVec F S2x8192x1024 .f32) (main_arg1 : FVec F S2x2x8192x256 .f32) (main_arg2 : FVec F S2x2x1024 .f32) (main_arg3 : FVec F S2x2x1024 .f32) (main_arg4 : FVec F S1x4x256x256 .f32) (main_arg5 : FVec F S1x4x256 .f32) (main_arg6 : FVec F S1x1024 .f32) (main_arg7 : FVec F S2x1024x4096 .f32) (main_arg8 : FVec F S2x4096x1024 .f32) (main_arg9 : FVec F S2x1024x1024 .f32) (main_arg10 : FVec F S2x1024 .f32) (main_arg11 : FVec F S2x256x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  main_v3
-- ==== Kernel.lean ====
abbrev S2x8192x1024 : Shape := ⟨3, ![2, 8192, 1024]⟩
abbrev S2x2x8192x256 : Shape := ⟨4, ![2, 2, 8192, 256]⟩
abbrev S2x2x1024 : Shape := ⟨3, ![2, 2, 1024]⟩
abbrev S1x4x256x256 : Shape := ⟨4, ![1, 4, 256, 256]⟩
abbrev S1x4x256 : Shape := ⟨3, ![1, 4, 256]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S2x1x1024 : Shape := ⟨3, ![2, 1, 1024]⟩
abbrev S2x4x1024 : Shape := ⟨3, ![2, 4, 1024]⟩
abbrev S1024 : Shape := ⟨1, ![1024]⟩
abbrev S1x1024x1024 : Shape := ⟨3, ![1, 1024, 1024]⟩
abbrev S1x16x1024 : Shape := ⟨3, ![1, 16, 1024]⟩
abbrev S1x1x1024x256 : Shape := ⟨4, ![1, 1, 1024, 256]⟩
abbrev S1x4x1024 : Shape := ⟨3, ![1, 4, 1024]⟩
abbrev S1x1024x4096 : Shape := ⟨3, ![1, 1024, 4096]⟩
abbrev S1x4096x1024 : Shape := ⟨3, ![1, 4096, 1024]⟩
abbrev S1x1x1024 : Shape := ⟨3, ![1, 1, 1024]⟩
abbrev S1x256x1024 : Shape := ⟨3, ![1, 256, 1024]⟩
abbrev S1040x1024 : Shape := ⟨2, ![1040, 1024]⟩
abbrev S16x1024 : Shape := ⟨2, ![16, 1024]⟩
abbrev S1024x1024 : Shape := ⟨2, ![1024, 1024]⟩
abbrev S256x1 : Shape := ⟨2, ![256, 1]⟩
abbrev S256x1024 : Shape := ⟨2, ![256, 1024]⟩
abbrev S272x256 : Shape := ⟨2, ![272, 256]⟩
abbrev S256x256 : Shape := ⟨2, ![256, 256]⟩
abbrev S1x1x256x256 : Shape := ⟨4, ![1, 1, 256, 256]⟩
abbrev S1x1x256 : Shape := ⟨3, ![1, 1, 256]⟩
abbrev S1x256 : Shape := ⟨2, ![1, 256]⟩
abbrev S256 : Shape := ⟨1, ![256]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 34
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x2x8192x256, .f32⟩
  | .hbm, ⟨2, _⟩ => ⟨S2x2x1024, .f32⟩
  | .hbm, ⟨3, _⟩ => ⟨S2x2x1024, .f32⟩
  | .hbm, ⟨4, _⟩ => ⟨S1x4x256x256, .f32⟩
  | .hbm, ⟨5, _⟩ => ⟨S1x4x256, .f32⟩
  | .hbm, ⟨6, _⟩ => ⟨S1x1024, .f32⟩
  | .hbm, ⟨7, _⟩ => ⟨S2x1024x4096, .f32⟩
  | .hbm, ⟨8, _⟩ => ⟨S2x4096x1024, .f32⟩
  | .hbm, ⟨9, _⟩ => ⟨S2x1024x1024, .f32⟩
  | .hbm, ⟨10, _⟩ => ⟨S2x1024, .f32⟩
  | .hbm, ⟨11, _⟩ => ⟨S2x256x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x4x1024, .f32⟩
  | .hbm, ⟨25, _⟩ => ⟨S2x1024x4096, .bf16⟩
  | .hbm, ⟨26, _⟩ => ⟨S2x4096x1024, .bf16⟩
  | .hbm, ⟨27, _⟩ => ⟨S2x1024x1024, .bf16⟩
  | .hbm, ⟨28, _⟩ => ⟨S2x1x1024, .f32⟩
  | .hbm, ⟨29, _⟩ => ⟨S2x256x1024, .bf16⟩
  | .hbm, ⟨30, _⟩ => ⟨S1x4x256x256, .bf16⟩
  | .hbm, ⟨31, _⟩ => ⟨S1024, .f32⟩
  | .hbm, ⟨32, _⟩ => ⟨S1x1024, .f32⟩
  | .hbm, ⟨33, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x4x256x256, .bf16⟩
  | .local _ .vmem, ⟨7, _⟩ => ⟨S1x4x256, .f32⟩
  | .local _ .vmem, ⟨8, _⟩ => ⟨S1x1024, .f32⟩
  | .local _ .vmem, ⟨9, _⟩ => ⟨S1x4x1024, .f32⟩
  | .local _ .vmem, ⟨10, _⟩ => ⟨S1x1024x4096, .bf16⟩
  | .local _ .vmem, ⟨11, _⟩ => ⟨S1x4096x1024, .bf16⟩
  | .local _ .vmem, ⟨12, _⟩ => ⟨S1x1024x1024, .bf16⟩
  | .local _ .vmem, ⟨13, _⟩ => ⟨S1x1x1024, .f32⟩
  | .local _ .vmem, ⟨14, _⟩ => ⟨S1x256x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1040x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x8192x1024 : Shape := ⟨3, ![2, 8192, 1024]⟩
abbrev S2x2x8192x256 : Shape := ⟨4, ![2, 2, 8192, 256]⟩
abbrev S2x2x1024 : Shape := ⟨3, ![2, 2, 1024]⟩
abbrev S1x4x256x256 : Shape := ⟨4, ![1, 4, 256, 256]⟩
abbrev S1x4x256 : Shape := ⟨3, ![1, 4, 256]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S4x256x256 : Shape := ⟨3, ![4, 256, 256]⟩
abbrev S4x256 : Shape := ⟨2, ![4, 256]⟩
abbrev S1024 : Shape := ⟨1, ![1024]⟩
abbrev S2x8192x4x256 : Shape := ⟨4, ![2, 8192, 4, 256]⟩
abbrev S_ : Shape := ⟨0, ![]⟩
abbrev S8192 : Shape := ⟨1, ![8192]⟩
abbrev S1x8192x1 : Shape := ⟨3, ![1, 8192, 1]⟩
abbrev S2x8192x1x256 : Shape := ⟨4, ![2, 8192, 1, 256]⟩
abbrev S2x8192x256 : Shape := ⟨3, ![2, 8192, 256]⟩
abbrev S2x8194x256 : Shape := ⟨3, ![2, 8194, 256]⟩
abbrev S2x8196x256 : Shape := ⟨3, ![2, 8196, 256]⟩
abbrev S2x8200x256 : Shape := ⟨3, ![2, 8200, 256]⟩
abbrev S2x8208x256 : Shape := ⟨3, ![2, 8208, 256]⟩
abbrev S4x256x2x8192 : Shape := ⟨4, ![4, 256, 2, 8192]⟩
abbrev S1x1x4x256 : Shape := ⟨4, ![1, 1, 4, 256]⟩
abbrev S1x1x1024 : Shape := ⟨3, ![1, 1, 1024]⟩
abbrev S2x8192 : Shape := ⟨2, ![2, 8192]⟩
abbrev S2x8192x1 : Shape := ⟨3, ![2, 8192, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩
abbrev S1x1024x1024 : Shape := ⟨3, ![1, 1024, 1024]⟩
abbrev S1024x1024 : Shape := ⟨2, ![1024, 1024]⟩
abbrev S1x2x8192x256 : Shape := ⟨4, ![1, 2, 8192, 256]⟩
abbrev S1x256x1024 : Shape := ⟨3, ![1, 256, 1024]⟩
abbrev S256x1024 : Shape := ⟨2, ![256, 1024]⟩

abbrev nBuf : Space → Nat
  | .hbm => 206
  | .vmem => 0
  | .smem => 0
  | _ => 0

abbrev hbmTy0_0 (i : Nat) : BufTy := match i % 128 with
  | 0 => ⟨S2x8192x1024, .f32⟩
  | 1 => ⟨S2x2x8192x256, .f32⟩
  | 2 => ⟨S2x2x1024, .f32⟩
  | 3 => ⟨S2x2x1024, .f32⟩
  | 4 => ⟨S1x4x256x256, .f32⟩
  | 5 => ⟨S1x4x256, .f32⟩
  | 6 => ⟨S1x1024, .f32⟩
  | 7 => ⟨S2x1024x4096, .f32⟩
  | 8 => ⟨S2x4096x1024, .f32⟩
  | 9 => ⟨S2x1024x1024, .f32⟩
  | 10 => ⟨S2x1024, .f32⟩
  | 11 => ⟨S2x256x1024, .f32⟩
  | 12 => ⟨S4x256x256, .f32⟩
  | 13 => ⟨S4x256, .f32⟩
  | 14 => ⟨S1024, .f32⟩
  | 15 => ⟨S2x8192x4x256, .f32⟩
  | 16 => ⟨S_, .f32⟩
  | 17 => ⟨S_, .f32⟩
  | 18 => ⟨S2x8192x4x256, .f32⟩
  | 19 => ⟨S8192, .i32⟩
  | 20 => ⟨S_, .i32⟩
  | 21 => ⟨S8192, .i32⟩
  | 22 => ⟨S8192, .i32⟩
  | 23 => ⟨S8192, .f32⟩
  | 24 => ⟨S1x8192x1, .f32⟩
  | 25 => ⟨S2x8192x1x256, .f32⟩
  | 26 => ⟨S2x8192x256, .f32⟩
  | 27 => ⟨S_, .i32⟩
  | 28 => ⟨S_, .f32⟩
  | 29 => ⟨S2x8194x256, .f32⟩
  | 30 => ⟨S2x8192x256, .f32⟩
  | 31 => ⟨S2x8192x256, .f32⟩
  | 32 => ⟨S_, .f32⟩
  | 33 => ⟨S1x8192x1, .f32⟩
  | 34 => ⟨S1x8192x1, .f32⟩
  | 35 => ⟨S2x8192x256, .f32⟩
  | 36 => ⟨S2x8192x256, .f32⟩
  | 37 => ⟨S2x8192x1x256, .f32⟩
  | 38 => ⟨S2x8192x256, .f32⟩
  | 39 => ⟨S2x8192x256, .f32⟩
  | 40 => ⟨S2x8192x1x256, .f32⟩
  | 41 => ⟨S2x8192x256, .f32⟩
  | 42 => ⟨S_, .i32⟩
  | 43 => ⟨S_, .f32⟩
  | 44 => ⟨S2x8196x256, .f32⟩
  | 45 => ⟨S2x8192x256, .f32⟩
  | 46 => ⟨S2x8192x256, .f32⟩
  | 47 => ⟨S_, .f32⟩
  | 48 => ⟨S1x8192x1, .f32⟩
  | 49 => ⟨S1x8192x1, .f32⟩
  | 50 => ⟨S2x8192x256, .f32⟩
  | 51 => ⟨S2x8192x256, .f32⟩
  | 52 => ⟨S2x8192x1x256, .f32⟩
  | 53 => ⟨S2x8192x256, .f32⟩
  | 54 => ⟨S2x8192x256, .f32⟩
  | 55 => ⟨S2x8192x1x256, .f32⟩
  | 56 => ⟨S2x8192x256, .f32⟩
  | 57 => ⟨S_, .i32⟩
  | 58 => ⟨S_, .f32⟩
  | 59 => ⟨S2x8200x256, .f32⟩
  | 60 => ⟨S2x8192x256, .f32⟩
  | 61 => ⟨S2x8192x256, .f32⟩
  | 62 => ⟨S_, .f32⟩
  | 63 => ⟨S1x8192x1, .f32⟩
  | 64 => ⟨S1x8192x1, .f32⟩
  | 65 => ⟨S2x8192x256, .f32⟩
  | 66 => ⟨S2x8192x256, .f32⟩
  | 67 => ⟨S2x8192x1x256, .f32⟩
  | 68 => ⟨S2x8192x256, .f32⟩
  | 69 => ⟨S2x8192x256, .f32⟩
  | 70 => ⟨S2x8192x1x256, .f32⟩
  | 71 => ⟨S2x8192x256, .f32⟩
  | 72 => ⟨S_, .i32⟩
  | 73 => ⟨S_, .f32⟩
  | 74 => ⟨S2x8208x256, .f32⟩
  | 75 => ⟨S2x8192x256, .f32⟩
  | 76 => ⟨S2x8192x256, .f32⟩
  | 77 => ⟨S_, .f32⟩
  | 78 => ⟨S1x8192x1, .f32⟩
  | 79 => ⟨S1x8192x1, .f32⟩
  | 80 => ⟨S2x8192x256, .f32⟩
  | 81 => ⟨S2x8192x256, .f32⟩
  | 82 => ⟨S2x8192x1x256, .f32⟩
  | 83 => ⟨S2x8192x256, .f32⟩
  | 84 => ⟨S2x8192x256, .f32⟩
  | 85 => ⟨S2x8192x1x256, .f32⟩
  | 86 => ⟨S2x8192x1x256, .f32⟩
  | 87 => ⟨S2x8192x1x256, .f32⟩
  | 88 => ⟨S2x8192x1x256, .f32⟩
  | 89 => ⟨S2x8192x4x256, .f32⟩
  | 90 => ⟨S4x256x2x8192, .f32⟩
  | 91 => ⟨S2x8192x4x256, .f32⟩
  | 92 => ⟨S1x1x4x256, .f32⟩
  | 93 => ⟨S2x8192x4x256, .f32⟩
  | 94 => ⟨S2x8192x4x256, .f32⟩
  | 95 => ⟨S2x8192x1024, .f32⟩
  | 96 => ⟨S1x1x1024, .f32⟩
  | 97 => ⟨S2x8192x1024, .f32⟩
  | 98 => ⟨S2x8192x1024, .f32⟩
  | 99 => ⟨S_, .f32⟩
  | 100 => ⟨S2x8192x1024, .f32⟩
  | 101 => ⟨S2x8192x1024, .f32⟩
  | 102 => ⟨S2x8192x1024, .f32⟩
  | 103 => ⟨S1x1x1024, .f32⟩
  | 104 => ⟨S1024, .f32⟩
  | 105 => ⟨S1x1x1024, .f32⟩
  | 106 => ⟨S1024, .f32⟩
  | 107 => ⟨S_, .f32⟩
  | 108 => ⟨S2x8192, .f32⟩
  | 109 => ⟨S2x8192x1, .f32⟩
  | 110 => ⟨S_, .f32⟩
  | 111 => ⟨S2x8192x1, .f32⟩
  | 112 => ⟨S2x8192x1, .f32⟩
  | 113 => ⟨S2x8192x1024, .f32⟩
  | 114 => ⟨S2x8192x1024, .f32⟩
  | 115 => ⟨S2x8192x1024, .f32⟩
  | 116 => ⟨S_, .f32⟩
  | 117 => ⟨S2x8192, .f32⟩
  | 118 => ⟨S2x8192x1, .f32⟩
  | 119 => ⟨S_, .f32⟩
  | 120 => ⟨S2x8192x1, .f32⟩
  | 121 => ⟨S2x8192x1, .f32⟩
  | 122 => ⟨S2x8192x1024, .f32⟩
  | 123 => ⟨S2x8192x1024, .f32⟩
  | 124 => ⟨S_, .f32⟩
  | 125 => ⟨S2x8192x1, .f32⟩
  | 126 => ⟨S2x8192x1, .f32⟩
  | 127 => ⟨S2x8192x1, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S1x1x1024, .f32⟩
  | 3 => ⟨S2x8192x1024, .f32⟩
  | 4 => ⟨S2x8192x1024, .f32⟩
  | 5 => ⟨S1x1x1024, .f32⟩
  | 6 => ⟨S2x8192x1024, .f32⟩
  | 7 => ⟨S2x8192x1024, .f32⟩
  | 8 => ⟨S1x1024x4096, .f32⟩
  | 9 => ⟨S1024x4096, .f32⟩
  | 10 => ⟨S1x4096x1024, .f32⟩
  | 11 => ⟨S4096x1024, .f32⟩
  | 12 => ⟨S2x8192x4096, .f32⟩
  | 13 => ⟨S_, .f32⟩
  | 14 => ⟨S2x8192x4096, .f32⟩
  | 15 => ⟨S2x8192x4096, .f32⟩
  | 16 => ⟨S2x8192x4096, .f32⟩
  | 17 => ⟨S2x8192x1024, .f32⟩
  | 18 => ⟨S1x1024x1024, .f32⟩
  | 19 => ⟨S1024x1024, .f32⟩
  | 20 => ⟨S2x8192x1024, .f32⟩
  | 21 => ⟨S1x1024, .f32⟩
  | 22 => ⟨S1024, .f32⟩
  | 23 => ⟨S1x1x1024, .f32⟩
  | 24 => ⟨S2x8192x1024, .f32⟩
  | 25 => ⟨S2x8192x1024, .f32⟩
  | 26 => ⟨S2x8192x1024, .f32⟩
  | 27 => ⟨S2x8192x1024, .f32⟩
  | 28 => ⟨S_, .f32⟩
  | 29 => ⟨S2x8192x1024, .f32⟩
  | 30 => ⟨S2x8192x1024, .f32⟩
  | 31 => ⟨S_, .f32⟩
  | 32 => ⟨S2x8192x1024, .f32⟩
  | 33 => ⟨S2x8192x1024, .f32⟩
  | 34 => ⟨S1x2x8192x256, .f32⟩
  | 35 => ⟨S2x8192x256, .f32⟩
  | 36 => ⟨S1x256x1024, .f32⟩
  | 37 => ⟨S256x1024, .f32⟩
  | 38 => ⟨S2x8192x1024, .f32⟩
  | 39 => ⟨S2x8192x1024, .f32⟩
  | 40 => ⟨S_, .f32⟩
  | 41 => ⟨S2x8192x1024, .f32⟩
  | 42 => ⟨S2x8192x1024, .f32⟩
  | 43 => ⟨S2x8192x1024, .f32⟩
  | 44 => ⟨S2x8192x1024, .f32⟩
  | 45 => ⟨S1x1x1024, .f32⟩
  | 46 => ⟨S1024, .f32⟩
  | 47 => ⟨S1x1x1024, .f32⟩
  | 48 => ⟨S1024, .f32⟩
  | 49 => ⟨S_, .f32⟩
  | 50 => ⟨S2x8192, .f32⟩
  | 51 => ⟨S2x8192x1, .f32⟩
  | 52 => ⟨S_, .f32⟩
  | 53 => ⟨S2x8192x1, .f32⟩
  | 54 => ⟨S2x8192x1, .f32⟩
  | 55 => ⟨S2x8192x1024, .f32⟩
  | 56 => ⟨S2x8192x1024, .f32⟩
  | 57 => ⟨S2x8192x1024, .f32⟩
  | 58 => ⟨S_, .f32⟩
  | 59 => ⟨S2x8192, .f32⟩
  | 60 => ⟨S2x8192x1, .f32⟩
  | 61 => ⟨S_, .f32⟩
  | 62 => ⟨S2x8192x1, .f32⟩
  | 63 => ⟨S2x8192x1, .f32⟩
  | 64 => ⟨S2x8192x1024, .f32⟩
  | 65 => ⟨S2x8192x1024, .f32⟩
  | 66 => ⟨S_, .f32⟩
  | 67 => ⟨S2x8192x1, .f32⟩
  | 68 => ⟨S2x8192x1, .f32⟩
  | 69 => ⟨S2x8192x1, .f32⟩
  | 70 => ⟨S2x8192x1024, .f32⟩
  | 71 => ⟨S2x8192x1024, .f32⟩
  | 72 => ⟨S1x1x1024, .f32⟩
  | 73 => ⟨S2x8192x1024, .f32⟩
  | 74 => ⟨S2x8192x1024, .f32⟩
  | 75 => ⟨S1x1x1024, .f32⟩
  | 76 => ⟨S2x8192x1024, .f32⟩
  | 77 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_call0_cst : Ref sig .tc := ⟨.hbm, 16, rfl⟩
abbrev main_call0_call0_v0 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_call1_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_1 : Ref sig .tc := ⟨.hbm, 42, rfl⟩
abbrev main_call2_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_3 : Ref sig .tc := ⟨.hbm, 57, rfl⟩
abbrev main_call3_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_call4_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_7 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_8 : Ref sig .tc := ⟨.hbm, 107, rfl⟩
abbrev main_v79 : Ref sig .tc := ⟨.hbm, 108, rfl⟩
abbrev main_v80 : Ref sig .tc := ⟨.hbm, 109, rfl⟩
abbrev main_cst_9 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_10 : Ref sig .tc := ⟨.hbm, 116, rfl⟩
abbrev main_v86 : Ref sig .tc := ⟨.hbm, 117, rfl⟩
abbrev main_v87 : Ref sig .tc := ⟨.hbm, 118, rfl⟩
abbrev main_cst_11 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_12 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_call5_cst : Ref sig .tc := ⟨.hbm, 141, rfl⟩
abbrev main_call5_v0 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_13 : Ref sig .tc := ⟨.hbm, 156, rfl⟩
abbrev main_v121 : Ref sig .tc := ⟨.hbm, 157, rfl⟩
abbrev main_v122 : Ref sig .tc := ⟨.hbm, 158, rfl⟩
abbrev main_cst_14 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_15 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_16 : Ref sig .tc := ⟨.hbm, 177, rfl⟩
abbrev main_v139 : Ref sig .tc := ⟨.hbm, 178, rfl⟩
abbrev main_v140 : Ref sig .tc := ⟨.hbm, 179, rfl⟩
abbrev main_cst_17 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_18 : Ref sig .tc := ⟨.hbm, 186, rfl⟩
abbrev main_v146 : Ref sig .tc := ⟨.hbm, 187, rfl⟩
abbrev main_v147 : Ref sig .tc := ⟨.hbm, 188, rfl⟩
abbrev main_cst_19 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_20 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x2x8192x256 : Shape := ⟨4, ![2, 2, 8192, 256]⟩
abbrev S2x2x1024 : Shape := ⟨3, ![2, 2, 1024]⟩
abbrev S1x128 : Shape := ⟨2, ![1, 128]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S2x1x1024 : Shape := ⟨3, ![2, 1, 1024]⟩
abbrev S2x4x1024 : Shape := ⟨3, ![2, 4, 1024]⟩
abbrev S128 : Shape := ⟨1, ![128]⟩
abbrev S8x128 : Shape := ⟨2, ![8, 128]⟩
abbrev S1024 : Shape := ⟨1, ![1024]⟩
abbrev S1x1024 : Shape := ⟨2, ![1, 1024]⟩
abbrev S1x1x1024x256 : Shape := ⟨4, ![1, 1, 1024, 256]⟩
abbrev S1x4x1024 : Shape := ⟨3, ![1, 4, 1024]⟩
abbrev S1x1024x4096 : Shape := ⟨3, ![1, 1024, 4096]⟩
abbrev S1x4096x1024 : Shape := ⟨3, ![1, 4096, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩
abbrev S1x1x256x256 : Shape := ⟨4, ![1, 1, 256, 256]⟩
abbrev S256x256 : Shape := ⟨2, ![256, 256]⟩

abbrev nBuf : Space → Nat
  | .hbm => 38
  | .vmem => 18
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .f32⟩
  | .hbm, ⟨3, _⟩ => ⟨S2x2x8192x256, .f32⟩
  | .hbm, ⟨4, _⟩ => ⟨S2x2x1024, .f32⟩
  | .hbm, ⟨5, _⟩ => ⟨S2x2x1024, .f32⟩
  | .hbm, ⟨6, _⟩ => ⟨S1x128, .f32⟩
  | .hbm, ⟨7, _⟩ => ⟨S1x1024x1024, .f32⟩
  | .hbm, ⟨8, _⟩ => ⟨S2x1024x4096, .f32⟩
  | .hbm, ⟨9, _⟩ => ⟨S2x4096x1024, .f32⟩
  | .hbm, ⟨10, _⟩ => ⟨S2x1024x1024, .f32⟩
  | .hbm, ⟨11, _⟩ => ⟨S2x1024, .f32⟩
  | .hbm, ⟨12, _⟩ => ⟨S2x256x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1024, .f32⟩
  | .hbm, ⟨17, _⟩ => ⟨S2x1x1024, .f32⟩
  | .hbm, ⟨18, _⟩ => ⟨S2x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x4x1024, .f32⟩
  | .hbm, ⟨26, _⟩ => ⟨S2x1024x4096, .bf16⟩
  | .hbm, ⟨27, _⟩ => ⟨S2x4096x1024, .bf16⟩
  | .hbm, ⟨28, _⟩ => ⟨S2x1024x1024, .bf16⟩
  | .hbm, ⟨29, _⟩ => ⟨S2x1x1024, .f32⟩
  | .hbm, ⟨30, _⟩ => ⟨S2x256x1024, .bf16⟩
  | .hbm, ⟨31, _⟩ => ⟨S128, .f32⟩
  | .hbm, ⟨32, _⟩ => ⟨S1x128, .f32⟩
  | .hbm, ⟨33, _⟩ => ⟨S8x128, .f32⟩
  | .hbm, ⟨34, _⟩ => ⟨S1024, .f32⟩
  | .hbm, ⟨35, _⟩ => ⟨S1x1024, .f32⟩
  | .hbm, ⟨36, _⟩ => ⟨S1x1024x1024, .bf16⟩
  | .hbm, ⟨37, _⟩ => ⟨S2x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1024, .f32⟩
  | .local _ .vmem, ⟨9, _⟩ => ⟨S1x1024x1024, .bf16⟩
  | .local _ .vmem, ⟨10, _⟩ => ⟨S1x4x1024, .f32⟩
  | .local _ .vmem, ⟨11, _⟩ => ⟨S1x1024x4096, .bf16⟩
  | .local _ .vmem, ⟨12, _⟩ => ⟨S1x4096x1024, .bf16⟩
  | .local _ .vmem, ⟨13, _⟩ => ⟨S1x1024x1024, .bf16⟩
  | .local _ .vmem, ⟨14, _⟩ => ⟨S1x1x1024, .f32⟩
  | .local _ .vmem, ⟨15, _⟩ => ⟨S1x256x1024, .bf16⟩
  | .local _ .vmem, ⟨16, _⟩ => ⟨S1x1024x1024, .f32⟩
  | .local _ .vmem, ⟨17, _⟩ => ⟨S1x1024x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S2x8192x1024 : Shape := ⟨3, ![2, 8192, 1024]⟩
abbrev S2x2x8192x256 : Shape := ⟨4, ![2, 2, 8192, 256]⟩
abbrev S2x2x1024 : Shape := ⟨3, ![2, 2, 1024]⟩
abbrev S1x128 : Shape := ⟨2, ![1, 128]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S128 : Shape := ⟨1, ![128]⟩
abbrev S1024x1024 : Shape := ⟨2, ![1024, 1024]⟩
abbrev S2x8192x8x128 : Shape := ⟨4, ![2, 8192, 8, 128]⟩
abbrev S_ : Shape := ⟨0, ![]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S1x1x1024 : Shape := ⟨3, ![1, 1, 1024]⟩
abbrev S1024 : Shape := ⟨1, ![1024]⟩
abbrev S2x8192 : Shape := ⟨2, ![2, 8192]⟩
abbrev S2x8192x1 : Shape := ⟨3, ![2, 8192, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩
abbrev S1x1024 : Shape := ⟨2, ![1, 1024]⟩
abbrev S1x2x8192x256 : Shape := ⟨4, ![1, 2, 8192, 256]⟩
abbrev S2x8192x256 : Shape := ⟨3, ![2, 8192, 256]⟩
abbrev S1x256x1024 : Shape := ⟨3, ![1, 256, 1024]⟩
abbrev S256x1024 : Shape := ⟨2, ![256, 1024]⟩

abbrev nBuf : Space → Nat
  | .hbm => 154
  | .vmem => 0
  | .smem => 0
  | _ => 0

abbrev hbmTy0_0 (i : Nat) : BufTy := match i % 128 with
  | 0 => ⟨S2x8192x1024, .bf16⟩
  | 1 => ⟨S2x8192x1024, .bf16⟩
  | 2 => ⟨S2x8192x1024, .f32⟩
  | 3 => ⟨S2x2x8192x256, .f32⟩
  | 4 => ⟨S2x2x1024, .f32⟩
  | 5 => ⟨S2x2x1024, .f32⟩
  | 6 => ⟨S1x128, .f32⟩
  | 7 => ⟨S1x1024x1024, .f32⟩
  | 8 => ⟨S2x1024x4096, .f32⟩
  | 9 => ⟨S2x4096x1024, .f32⟩
  | 10 => ⟨S2x1024x1024, .f32⟩
  | 11 => ⟨S2x1024, .f32⟩
  | 12 => ⟨S2x256x1024, .f32⟩
  | 13 => ⟨S128, .f32⟩
  | 14 => ⟨S1024x1024, .f32⟩
  | 15 => ⟨S2x8192x8x128, .bf16⟩
  | 16 => ⟨S2x8192x8x128, .f32⟩
  | 17 => ⟨S2x8192x8x128, .bf16⟩
  | 18 => ⟨S2x8192x8x128, .f32⟩
  | 19 => ⟨S2x8192x8x128, .f32⟩
  | 20 => ⟨S_, .f32⟩
  | 21 => ⟨S2x8192x8, .f32⟩
  | 22 => ⟨S2x8192x8x1, .f32⟩
  | 23 => ⟨S_, .f32⟩
  | 24 => ⟨S2x8192x8x1, .f32⟩
  | 25 => ⟨S2x8192x8x1, .f32⟩
  | 26 => ⟨S_, .f32⟩
  | 27 => ⟨S2x8192x8x1, .f32⟩
  | 28 => ⟨S2x8192x8x1, .f32⟩
  | 29 => ⟨S2x8192x8x1, .f32⟩
  | 30 => ⟨S2x8192x8x128, .f32⟩
  | 31 => ⟨S2x8192x8x128, .f32⟩
  | 32 => ⟨S1x1x1x128, .f32⟩
  | 33 => ⟨S2x8192x8x128, .f32⟩
  | 34 => ⟨S2x8192x8x128, .f32⟩
  | 35 => ⟨S2x8192x8x128, .f32⟩
  | 36 => ⟨S2x8192x8x128, .f32⟩
  | 37 => ⟨S_, .f32⟩
  | 38 => ⟨S2x8192x8x128, .f32⟩
  | 39 => ⟨S2x8192x8x128, .f32⟩
  | 40 => ⟨S_, .f32⟩
  | 41 => ⟨S2x8192x8x128, .f32⟩
  | 42 => ⟨S2x8192x8x128, .f32⟩
  | 43 => ⟨S2x8192x8x128, .f32⟩
  | 44 => ⟨S2x8192x8x128, .f32⟩
  | 45 => ⟨S2x8192x1024, .f32⟩
  | 46 => ⟨S2x8192x1024, .f32⟩
  | 47 => ⟨S_, .f32⟩
  | 48 => ⟨S2x8192x1024, .f32⟩
  | 49 => ⟨S2x8192x1024, .f32⟩
  | 50 => ⟨S2x8192x1024, .f32⟩
  | 51 => ⟨S1x1x1024, .f32⟩
  | 52 => ⟨S1024, .f32⟩
  | 53 => ⟨S1x1x1024, .f32⟩
  | 54 => ⟨S1024, .f32⟩
  | 55 => ⟨S_, .f32⟩
  | 56 => ⟨S2x8192, .f32⟩
  | 57 => ⟨S2x8192x1, .f32⟩
  | 58 => ⟨S_, .f32⟩
  | 59 => ⟨S2x8192x1, .f32⟩
  | 60 => ⟨S2x8192x1, .f32⟩
  | 61 => ⟨S2x8192x1024, .f32⟩
  | 62 => ⟨S2x8192x1024, .f32⟩
  | 63 => ⟨S2x8192x1024, .f32⟩
  | 64 => ⟨S_, .f32⟩
  | 65 => ⟨S2x8192, .f32⟩
  | 66 => ⟨S2x8192x1, .f32⟩
  | 67 => ⟨S_, .f32⟩
  | 68 => ⟨S2x8192x1, .f32⟩
  | 69 => ⟨S2x8192x1, .f32⟩
  | 70 => ⟨S2x8192x1024, .f32⟩
  | 71 => ⟨S2x8192x1024, .f32⟩
  | 72 => ⟨S_, .f32⟩
  | 73 => ⟨S2x8192x1, .f32⟩
  | 74 => ⟨S2x8192x1, .f32⟩
  | 75 => ⟨S2x8192x1, .f32⟩
  | 76 => ⟨S2x8192x1024, .f32⟩
  | 77 => ⟨S2x8192x1024, .f32⟩
  | 78 => ⟨S1x1x1024, .f32⟩
  | 79 => ⟨S2x8192x1024, .f32⟩
  | 80 => ⟨S2x8192x1024, .f32⟩
  | 81 => ⟨S1x1x1024, .f32⟩
  | 82 => ⟨S2x8192x1024, .f32⟩
  | 83 => ⟨S2x8192x1024, .f32⟩
  | 84 => ⟨S1x1024x4096, .f32⟩
  | 85 => ⟨S1024x4096, .f32⟩
  | 86 => ⟨S1x4096x1024, .f32⟩
  | 87 => ⟨S4096x1024, .f32⟩
  | 88 => ⟨S2x8192x4096, .f32⟩
  | 89 => ⟨S_, .f32⟩
  | 90 => ⟨S2x8192x4096, .f32⟩
  | 91 => ⟨S2x8192x4096, .f32⟩
  | 92 => ⟨S2x8192x4096, .f32⟩
  | 93 => ⟨S2x8192x1024, .f32⟩
  | 94 => ⟨S1x1024x1024, .f32⟩
  | 95 => ⟨S1024x1024, .f32⟩
  | 96 => ⟨S2x8192x1024, .f32⟩
  | 97 => ⟨S1x1024, .f32⟩
  | 98 => ⟨S1024, .f32⟩
  | 99 => ⟨S1x1x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S_, .f32⟩
  | 105 => ⟨S2x8192x1024, .f32⟩
  | 106 => ⟨S2x8192x1024, .f32⟩
  | 107 => ⟨S_, .f32⟩
  | 108 => ⟨S2x8192x1024, .f32⟩
  | 109 => ⟨S2x8192x1024, .f32⟩
  | 110 => ⟨S1x2x8192x256, .f32⟩
  | 111 => ⟨S2x8192x256, .f32⟩
  | 112 => ⟨S1x256x1024, .f32⟩
  | 113 => ⟨S256x1024, .f32⟩
  | 114 => ⟨S2x8192x1024, .f32⟩
  | 115 => ⟨S2x8192x1024, .f32⟩
  | 116 => ⟨S_, .f32⟩
  | 117 => ⟨S2x8192x1024, .f32⟩
  | 118 => ⟨S2x8192x1024, .f32⟩
  | 119 => ⟨S2x8192x1024, .f32⟩
  | 120 => ⟨S2x8192x1024, .f32⟩
  | 121 => ⟨S1x1x1024, .f32⟩
  | 122 => ⟨S1024, .f32⟩
  | 123 => ⟨S1x1x1024, .f32⟩
  | 124 => ⟨S1024, .f32⟩
  | 125 => ⟨S_, .f32⟩
  | 126 => ⟨S2x8192, .f32⟩
  | 127 => ⟨S2x8192x1, .f32⟩
  | _ => ⟨S2x8192x1024, .bf16⟩

abbrev hbmTy0_1 (i : Nat) : BufTy := match i % 128 with
  | 0 => ⟨S_, .f32⟩
  | 1 => ⟨S2x8192x1, .f32⟩
  | 2 => ⟨S2x8192x1, .f32⟩
  | 3 => ⟨S2x8192x1024, .f32⟩
  | 4 => ⟨S2x8192x1024, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S2x8192x1024, .f32⟩
  | 13 => ⟨S2x8192x1024, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | _ => ⟨S2x8192x1024, .bf16⟩

abbrev hbmTy (i : Nat) : BufTy := match i / 128 with
  | 0 => hbmTy0_0 i
  | 1 => hbmTy0_1 i
  | _ => ⟨S2x8192x1024, .bf16⟩

abbrev bufTy : (tb : Table) → Fin (tcTables nBuf tb) → BufTy
  | .hbm, ⟨i, _⟩ => hbmTy i
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_8 : Ref sig .tc := ⟨.hbm, 104, rfl⟩
abbrev main_v72 : Ref sig .tc := ⟨.hbm, 105, rfl⟩
abbrev main_v73 : Ref sig .tc := ⟨.hbm, 106, rfl⟩
abbrev main_cst_9 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_10 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_11 : Ref sig .tc := ⟨.hbm, 125, rfl⟩
abbrev main_v90 : Ref sig .tc := ⟨.hbm, 126, rfl⟩
abbrev main_v91 : Ref sig .tc := ⟨.hbm, 127, rfl⟩
abbrev main_cst_12 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_13 : Ref sig .tc := ⟨.hbm, 134, rfl⟩
abbrev main_v97 : Ref sig .tc := ⟨.hbm, 135, rfl⟩
abbrev main_v98 : Ref sig .tc := ⟨.hbm, 136, rfl⟩
abbrev main_cst_14 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_15 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024x4112 : Shape := ⟨3, ![1, 1024, 4112]⟩
abbrev S1x4x3072 : Shape := ⟨3, ![1, 4, 3072]⟩
abbrev S1x8 : Shape := ⟨2, ![1, 8]⟩
abbrev S1024x4112 : Shape := ⟨2, ![1024, 4112]⟩
abbrev S1024x16 : Shape := ⟨2, ![1024, 16]⟩
abbrev S_ : Shape := ⟨0, ![]⟩
abbrev S1024x128 : Shape := ⟨2, ![1024, 128]⟩
abbrev S8 : Shape := ⟨1, ![8]⟩
abbrev S1x128 : Shape := ⟨2, ![1, 128]⟩
abbrev S1 : Shape := ⟨1, ![1]⟩
abbrev S2 : Shape := ⟨1, ![2]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1024 : Shape := ⟨1, ![1024]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S1x512x1024 : Shape := ⟨3, ![1, 512, 1024]⟩
abbrev S1x1024x3072 : Shape := ⟨3, ![1, 1024, 3072]⟩
abbrev S1x1024x1024 : Shape := ⟨3, ![1, 1024, 1024]⟩
abbrev S3x8x1024 : Shape := ⟨3, ![3, 8, 1024]⟩
abbrev S512x1024 : Shape := ⟨2, ![512, 1024]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩
abbrev S512x128 : Shape := ⟨2, ![512, 128]⟩
abbrev S1x8x256 : Shape := ⟨3, ![1, 8, 256]⟩
abbrev S8x256 : Shape := ⟨2, ![8, 256]⟩
abbrev S264x256 : Shape := ⟨2, ![264, 256]⟩
abbrev S1x1x256 : Shape := ⟨3, ![1, 1, 256]⟩
abbrev S1x256 : Shape := ⟨2, ![1, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x256x256 : Shape := ⟨3, ![1, 256, 256]⟩
abbrev S128x256 : Shape := ⟨2, ![128, 256]⟩

abbrev nBuf : Space → Nat
  | .hbm => 120
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S1x1024x4112, .f32⟩
  | .hbm, ⟨2, _⟩ => ⟨S1x4x3072, .f32⟩
  | .hbm, ⟨3, _⟩ => ⟨S1x8, .f32⟩
  | .hbm, ⟨4, _⟩ => ⟨S1x8, .f32⟩
  | .hbm, ⟨5, _⟩ => ⟨S1024x4112, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S8, .f32⟩
  | .hbm, ⟨12, _⟩ => ⟨S_, .f32⟩
  | .hbm, ⟨13, _⟩ => ⟨S1x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S8, .f32⟩
  | .hbm, ⟨21, _⟩ => ⟨S_, .f32⟩
  | .hbm, ⟨22, _⟩ => ⟨S1x128, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S1x1024x4112, .bf16⟩
  | .hbm, ⟨30, _⟩ => ⟨S512, .i32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x1, .i32⟩
  | .hbm, ⟨37, _⟩ => ⟨S_, .i32⟩
  | .hbm, ⟨38, _⟩ => ⟨S_, .i32⟩
  | .hbm, ⟨39, _⟩ => ⟨S512x1, .i32⟩
  | .hbm, ⟨40, _⟩ => ⟨S512x1, .i32⟩
  | .hbm, ⟨41, _⟩ => ⟨S512x1, .i32⟩
  | .hbm, ⟨42, _⟩ => ⟨S_, .i32⟩
  | .hbm, ⟨43, _⟩ => ⟨S512x1, .i32⟩
  | .hbm, ⟨44, _⟩ => ⟨S512x1, .i1⟩
  | .hbm, ⟨45, _⟩ => ⟨S512x1, .i32⟩
  | .hbm, ⟨46, _⟩ => ⟨S512x1, .i32⟩
  | .hbm, ⟨47, _⟩ => ⟨S_, .i32⟩
  | .hbm, ⟨48, _⟩ => ⟨S512x1, .i32⟩
  | .hbm, ⟨49, _⟩ => ⟨S512x1, .i1⟩
  | .hbm, ⟨50, _⟩ => ⟨S512x1, .i1⟩
  | .hbm, ⟨51, _⟩ => ⟨S_, .i32⟩
  | .hbm, ⟨52, _⟩ => ⟨S512x1, .i32⟩
  | .hbm, ⟨53, _⟩ => ⟨S512x1, .i32⟩
  | .hbm, ⟨54, _⟩ => ⟨S512x1, .i32⟩
  | .hbm, ⟨55, _⟩ => ⟨S1x512, .i32⟩
  | .hbm, ⟨56, _⟩ => ⟨S_, .i32⟩
  | .hbm, ⟨57, _⟩ => ⟨S_, .i32⟩
  | .hbm, ⟨58, _⟩ => ⟨S1x512, .i32⟩
  | .hbm, ⟨59, _⟩ => ⟨S1x512, .i32⟩
  | .hbm, ⟨60, _⟩ => ⟨S1x512, .i32⟩
  | .hbm, ⟨61, _⟩ => ⟨S_, .i32⟩
  | .hbm, ⟨62, _⟩ => ⟨S1x512, .i32⟩
  | .hbm, ⟨63, _⟩ => ⟨S1x512, .i1⟩
  | .hbm, ⟨64, _⟩ => ⟨S1x512, .i32⟩
  | .hbm, ⟨65, _⟩ => ⟨S1x512, .i32⟩
  | .hbm, ⟨66, _⟩ => ⟨S_, .i32⟩
  | .hbm, ⟨67, _⟩ => ⟨S1x512, .i32⟩
  | .hbm, ⟨68, _⟩ => ⟨S1x512, .i1⟩
  | .hbm, ⟨69, _⟩ => ⟨S1x512, .i1⟩
  | .hbm, ⟨70, _⟩ => ⟨S_, .i32⟩
  | .hbm, ⟨71, _⟩ => ⟨S1x512, .i32⟩
  | .hbm, ⟨72, _⟩ => ⟨S1x512, .i32⟩
  | .hbm, ⟨73, _⟩ => ⟨S1x512, .i32⟩
  | .hbm, ⟨74, _⟩ => ⟨S512x512, .i32⟩
  | .hbm, ⟨75, _⟩ => ⟨S512x512, .i32⟩
  | .hbm, ⟨76, _⟩ => ⟨S512x512, .i1⟩
  | .hbm, ⟨77, _⟩ => ⟨S512x512, .i1⟩
  | .hbm, ⟨78, _⟩ => ⟨S512x512, .bf16⟩
  | .hbm, ⟨79, _⟩ => ⟨S1024, .i32⟩
  | .hbm, ⟨80, _⟩ => ⟨S_, .i32⟩
  | .hbm, ⟨81, _⟩ => ⟨S_, .i32⟩
  | .hbm, ⟨82, _⟩ => ⟨S1024, .i32⟩
  | .hbm, ⟨83, _⟩ => ⟨S1024, .i32⟩
  | .hbm, ⟨84, _⟩ => ⟨S1024, .i32⟩
  | .hbm, ⟨85, _⟩ => ⟨S_, .i32⟩
  | .hbm, ⟨86, _⟩ => ⟨S1024, .i32⟩
  | .hbm, ⟨87, _⟩ => ⟨S1024, .i1⟩
  | .hbm, ⟨88, _⟩ => ⟨S1024, .i32⟩
  | .hbm, ⟨89, _⟩ => ⟨S1024, .i32⟩
  | .hbm, ⟨90, _⟩ => ⟨S_, .i32⟩
  | .hbm, ⟨91, _⟩ => ⟨S1024, .i32⟩
  | .hbm, ⟨92, _⟩ => ⟨S1024, .i1⟩
  | .hbm, ⟨93, _⟩ => ⟨S1024, .i1⟩
  | .hbm, ⟨94, _⟩ => ⟨S_, .i32⟩
  | .hbm, ⟨95, _⟩ => ⟨S1024, .i32⟩
  | .hbm, ⟨96, _⟩ => ⟨S1024, .i32⟩
  | .hbm, ⟨97, _⟩ => ⟨S1024, .i32⟩
  | .hbm, ⟨98, _⟩ => ⟨S128, .i32⟩
  | .hbm, ⟨99, _⟩ => ⟨S128x1, .i32⟩
  | .hbm, ⟨100, _⟩ => ⟨S1x1024, .i32⟩
  | .hbm, ⟨101, _⟩ => ⟨S128x1024, .i32⟩
  | .hbm, ⟨102, _⟩ => ⟨S128x1024, .i32⟩
  | .hbm, ⟨103, _⟩ => ⟨S128x1024, .i1⟩
  | .hbm, ⟨104, _⟩ => ⟨S128x1024, .bf16⟩
  | .hbm, ⟨105, _⟩ => ⟨S128x1, .i32⟩
  | .hbm, ⟨106, _⟩ => ⟨S1x1024, .i32⟩
  | .hbm, ⟨107, _⟩ => ⟨S_, .i32⟩
  | .hbm, ⟨108, _⟩ => ⟨S1x1024, .i32⟩
  | .hbm, ⟨109, _⟩ => ⟨S1x1024, .i32⟩
  | .hbm, ⟨110, _⟩ => ⟨S128x1024, .i32⟩
  | .hbm, ⟨111, _⟩ => ⟨S128x1024, .i32⟩
  | .hbm, ⟨112, _⟩ => ⟨S128x1024, .i1⟩
  | .hbm, ⟨113, _⟩ => ⟨S128x1024, .bf16⟩
  | .hbm, ⟨114, _⟩ => ⟨S2x8192x1024, .bf16⟩
  | .hbm, ⟨115, _⟩ => ⟨S2x8192x1024, .bf16⟩
  | .hbm, ⟨116, _⟩ => ⟨S2x8192x1024, .bf16⟩
  | .hbm, ⟨117, _⟩ => ⟨S2x8192x1024, .bf16⟩
  | .hbm, ⟨118, _⟩ => ⟨S2x8192x1024, .bf16⟩
  | .hbm, ⟨119, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x3072, .bf16⟩
  | .local _ .vmem, ⟨3, _⟩ => ⟨S1x1024x1024, .bf16⟩
  | .local _ .vmem, ⟨4, _⟩ => ⟨S1x4x3072, .f32⟩
  | .local _ .vmem, ⟨5, _⟩ => ⟨S1024x128, .bf16⟩
  | .local _ .vmem, ⟨6, _⟩ => ⟨S1x128, .f32⟩
  | .local _ .vmem, ⟨7, _⟩ => ⟨S1x128, .f32⟩
  | .local _ .vmem, ⟨8, _⟩ => ⟨S512x512, .bf16⟩
  | .local _ .vmem, ⟨9, _⟩ => ⟨S128x1024, .bf16⟩
  | .local _ .vmem, ⟨10, _⟩ => ⟨S128x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .f32⟩
  | .local _ .vmem, ⟨22, _⟩ => ⟨S1x512x1024, .f32⟩
  | .local _ .vmem, ⟨23, _⟩ => ⟨S3x8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_7 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_c_8 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49_0 : Ref sig .tc := ⟨.hbm, 114, rfl⟩
abbrev main_v49_1 : Ref sig .tc := ⟨.hbm, 115, rfl⟩
abbrev main_v49_2 : Ref sig .tc := ⟨.hbm, 116, rfl⟩
abbrev main_v49_3 : Ref sig .tc := ⟨.hbm, 117, rfl⟩
abbrev main_v49_4 : Ref sig .tc := ⟨.hbm, 118, rfl⟩
abbrev main_v49_5 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S2x8192x1024 : Shape := ⟨3, ![2, 8192, 1024]⟩
abbrev S1x1024x4112 : Shape := ⟨3, ![1, 1024, 4112]⟩
abbrev S1x4x3072 : Shape := ⟨3, ![1, 4, 3072]⟩
abbrev S1x8 : Shape := ⟨2, ![1, 8]⟩
abbrev S1024x4112 : Shape := ⟨2, ![1024, 4112]⟩
abbrev S2x8192x4112 : Shape := ⟨3, ![2, 8192, 4112]⟩
abbrev S2x8192x3072 : Shape := ⟨3, ![2, 8192, 3072]⟩
abbrev S2x8192x8 : Shape := ⟨3, ![2, 8192, 8]⟩
abbrev S4x3072 : Shape := ⟨2, ![4, 3072]⟩
abbrev S_ : Shape := ⟨0, ![]⟩
abbrev S2x8195x3072 : Shape := ⟨3, ![2, 8195, 3072]⟩
abbrev S1x3072 : Shape := ⟨2, ![1, 3072]⟩
abbrev S3072 : Shape := ⟨1, ![3072]⟩
abbrev S1x1x3072 : Shape := ⟨3, ![1, 1, 3072]⟩
abbrev S2x8192x8x128 : Shape := ⟨4, ![2, 8192, 8, 128]⟩
abbrev S2x8192x8x1 : Shape := ⟨4, ![2, 8192, 8, 1]⟩
abbrev S8 : Shape := ⟨1, ![8]⟩
abbrev S1x1x8 : Shape := ⟨3, ![1, 1, 8]⟩
abbrev S2x128x64x8 : Shape := ⟨4, ![2, 128, 64, 8]⟩

abbrev nBuf : Space → Nat
  | .hbm => 131
  | .vmem => 0
  | .smem => 0
  | _ => 0

abbrev hbmTy0_0 (i : Nat) : BufTy := match i % 128 with
  | 0 => ⟨S2x8192x1024, .f32⟩
  | 1 => ⟨S1x1024x4112, .f32⟩
  | 2 => ⟨S1x4x3072, .f32⟩
  | 3 => ⟨S1x8, .f32⟩
  | 4 => ⟨S1x8, .f32⟩
  | 5 => ⟨S1024x4112, .f32⟩
  | 6 => ⟨S2x8192x4112, .f32⟩
  | 7 => ⟨S2x8192x3072, .f32⟩
  | 8 => ⟨S2x8192x1024, .f32⟩
  | 9 => ⟨S2x8192x8, .f32⟩
  | 10 => ⟨S2x8192x8, .f32⟩
  | 11 => ⟨S4x3072, .f32⟩
  | 12 => ⟨S_, .i32⟩
  | 13 => ⟨S_, .f32⟩
  | 14 => ⟨S2x8195x3072, .f32⟩
  | 15 => ⟨S2x8192x3072, .f32⟩
  | 16 => ⟨S1x3072, .f32⟩
  | 17 => ⟨S3072, .f32⟩
  | 18 => ⟨S1x1x3072, .f32⟩
  | 19 => ⟨S2x8192x3072, .f32⟩
  | 20 => ⟨S2x8192x3072, .f32⟩
  | 21 => ⟨S_, .f32⟩
  | 22 => ⟨S2x8192x3072, .f32⟩
  | 23 => ⟨S2x8192x3072, .f32⟩
  | 24 => ⟨S2x8192x3072, .f32⟩
  | 25 => ⟨S1x3072, .f32⟩
  | 26 => ⟨S3072, .f32⟩
  | 27 => ⟨S1x1x3072, .f32⟩
  | 28 => ⟨S2x8192x3072, .f32⟩
  | 29 => ⟨S2x8192x3072, .f32⟩
  | 30 => ⟨S2x8192x3072, .f32⟩
  | 31 => ⟨S2x8192x3072, .f32⟩
  | 32 => ⟨S1x3072, .f32⟩
  | 33 => ⟨S3072, .f32⟩
  | 34 => ⟨S1x1x3072, .f32⟩
  | 35 => ⟨S2x8192x3072, .f32⟩
  | 36 => ⟨S2x8192x3072, .f32⟩
  | 37 => ⟨S2x8192x3072, .f32⟩
  | 38 => ⟨S2x8192x3072, .f32⟩
  | 39 => ⟨S1x3072, .f32⟩
  | 40 => ⟨S3072, .f32⟩
  | 41 => ⟨S1x1x3072, .f32⟩
  | 42 => ⟨S2x8192x3072, .f32⟩
  | 43 => ⟨S2x8192x3072, .f32⟩
  | 44 => ⟨S2x8192x3072, .f32⟩
  | 45 => ⟨S2x8192x3072, .f32⟩
  | 46 => ⟨S2x8192x3072, .f32⟩
  | 47 => ⟨S_, .f32⟩
  | 48 => ⟨S2x8192x3072, .f32⟩
  | 49 => ⟨S2x8192x3072, .f32⟩
  | 50 => ⟨S_, .f32⟩
  | 51 => ⟨S2x8192x3072, .f32⟩
  | 52 => ⟨S2x8192x3072, .f32⟩
  | 53 => ⟨S2x8192x3072, .f32⟩
  | 54 => ⟨S2x8192x1024, .f32⟩
  | 55 => ⟨S2x8192x1024, .f32⟩
  | 56 => ⟨S2x8192x1024, .f32⟩
  | 57 => ⟨S2x8192x8x128, .f32⟩
  | 58 => ⟨S2x8192x8x128, .f32⟩
  | 59 => ⟨S_, .f32⟩
  | 60 => ⟨S2x8192x8, .f32⟩
  | 61 => ⟨S2x8192x8x1, .f32⟩
  | 62 => ⟨S_, .f32⟩
  | 63 => ⟨S2x8192x8x1, .f32⟩
  | 64 => ⟨S2x8192x8x1, .f32⟩
  | 65 => ⟨S2x8192x8x1, .f32⟩
  | 66 => ⟨S2x8192x8x128, .f32⟩
  | 67 => ⟨S2x8192x8x128, .f32⟩
  | 68 => ⟨S_, .f32⟩
  | 69 => ⟨S2x8192x8x128, .f32⟩
  | 70 => ⟨S2x8192x8x128, .f32⟩
  | 71 => ⟨S2x8192x8x128, .f32⟩
  | 72 => ⟨S2x8192x8x128, .f32⟩
  | 73 => ⟨S_, .f32⟩
  | 74 => ⟨S2x8192x8, .f32⟩
  | 75 => ⟨S2x8192x8x1, .f32⟩
  | 76 => ⟨S_, .f32⟩
  | 77 => ⟨S2x8192x8x1, .f32⟩
  | 78 => ⟨S2x8192x8x1, .f32⟩
  | 79 => ⟨S2x8192x8x1, .f32⟩
  | 80 => ⟨S2x8192x8x128, .f32⟩
  | 81 => ⟨S2x8192x8x128, .f32⟩
  | 82 => ⟨S2x8192x8, .f32⟩
  | 83 => ⟨S2x8192x8, .f32⟩
  | 84 => ⟨S_, .f32⟩
  | 85 => ⟨S2x8192x8, .f32⟩
  | 86 => ⟨S2x8192x8, .f32⟩
  | 87 => ⟨S_, .f32⟩
  | 88 => ⟨S2x8192x8, .f32⟩
  | 89 => ⟨S2x8192x8, .f32⟩
  | 90 => ⟨S8, .f32⟩
  | 91 => ⟨S8, .f32⟩
  | 92 => ⟨S8, .f32⟩
  | 93 => ⟨S8, .f32⟩
  | 94 => ⟨S1x1x8, .f32⟩
  | 95 => ⟨S2x8192x8, .f32⟩
  | 96 => ⟨S2x8192x8, .f32⟩
  | 97 => ⟨S_, .f32⟩
  | 98 => ⟨S2x8192x8, .f32⟩
  | 99 => ⟨S2x8192x8, .f32⟩
  | 100 => ⟨S2x8192x8, .f32⟩
  | 101 => ⟨S2x8192x8, .f32⟩
  | 102 => ⟨S2x8192x8, .i1⟩
  | 103 => ⟨S2x8192x8, .f32⟩
  | 104 => ⟨S2x8192x8, .f32⟩
  | 105 => ⟨S2x8192x8, .f32⟩
  | 106 => ⟨S2x8192x8, .f32⟩
  | 107 => ⟨S2x8192x8, .f32⟩
  | 108 => ⟨S2x8192x8, .f32⟩
  | 109 => ⟨S2x8192x8, .f32⟩
  | 110 => ⟨S2x8192x8, .f32⟩
  | 111 => ⟨S1x1x8, .f32⟩
  | 112 => ⟨S2x8192x8, .f32⟩
  | 113 => ⟨S2x8192x8, .f32⟩
  | 114 => ⟨S2x128x64x8, .f32⟩
  | 115 => ⟨S_, .f32⟩
  | 116 => ⟨S_, .f32⟩
  | 117 => ⟨S2x128x64x8, .f32⟩
  | 118 => ⟨S2x8192x1024, .f32⟩
  | 119 => ⟨S2x8192x1024, .f32⟩
  | 120 => ⟨S2x8192x8x1, .f32⟩
  | 121 => ⟨S2x8192x8x128, .f32⟩
  | 122 => ⟨S2x8192x1024, .f32⟩
  | 123 => ⟨S2x8192x1024, .bf16⟩
  | 124 => ⟨S2x8192x1024, .bf16⟩
  | 125 => ⟨S2x8192x1024, .bf16⟩
  | 126 => ⟨S2x8192x1024, .bf16⟩
  | 127 => ⟨S2x8192x1024, .bf16⟩
  | _ => ⟨S2x8192x1024, .f32⟩

abbrev hbmTy0_1 (i : Nat) : BufTy := match i % 128 with
  | 0 => ⟨S2x8192x8x1, .f32⟩
  | 1 => ⟨S2x8192x8x128, .f32⟩
  | 2 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_0 : Ref sig .tc := ⟨.hbm, 59, rfl⟩
abbrev main_v43 : Ref sig .tc := ⟨.hbm, 60, rfl⟩
abbrev main_v44 : Ref sig .tc := ⟨.hbm, 61, rfl⟩
abbrev main_cst_1 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_2 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_v55 : Ref sig .tc := ⟨.hbm, 75, rfl⟩
abbrev main_cst_4 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call3_call0_cst : Ref sig .tc := ⟨.hbm, 115, rfl⟩
abbrev main_call3_call0_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== Proof.Vocab.lean ====
module

public import Idealize.ShloMosaic.Lib.Pipeline.Value
public import Idealize.ShloMosaic.Lib.Pointwise
public import Idealize.ShloMosaic.PureOps.Ideal.Laws

/-! The vocabulary of the layer kernels' bodies: what one sub-tile of 256 rows is computed by, as functions of the
staged blocks, for any float values. -/

@[expose] public section

noncomputable section

namespace Cert.Tile

open Idealize.ShloMosaic Idealize.ShloMosaic.TcCoe

variable {F : FTy → Type} [FloatOps F]

abbrev T256 : Shape := ⟨1, ![256]⟩
abbrev T256x1 : Shape := ⟨2, ![256, 1]⟩
abbrev T1x1024 : Shape := ⟨2, ![1, 1024]⟩
abbrev T1x256 : Shape := ⟨2, ![1, 256]⟩
abbrev T256x256 : Shape := ⟨2, ![256, 256]⟩
abbrev T272x256 : Shape := ⟨2, ![272, 256]⟩
abbrev T256x512 : Shape := ⟨2, ![256, 512]⟩
abbrev T256x1024 : Shape := ⟨2, ![256, 1024]⟩
abbrev T512x1024 : Shape := ⟨2, ![512, 1024]⟩
abbrev T1024x512 : Shape := ⟨2, ![1024, 512]⟩
abbrev T1024x1024 : Shape := ⟨2, ![1024, 1024]⟩
abbrev T1040x1024 : Shape := ⟨2, ![1040, 1024]⟩
abbrev T1x1x256 : Shape := ⟨3, ![1, 1, 256]⟩
abbrev T1x4x256 : Shape := ⟨3, ![1, 4, 256]⟩
abbrev T1x1x1024 : Shape := ⟨3, ![1, 1, 1024]⟩
abbrev T1x4x1024 : Shape := ⟨3, ![1, 4, 1024]⟩
abbrev T1x256x1024 : Shape := ⟨3, ![1, 256, 1024]⟩
abbrev T1x1024x1024 : Shape := ⟨3, ![1, 1024, 1024]⟩
abbrev T1x1024x512 : Shape := ⟨3, ![1, 1024, 512]⟩
abbrev T1x512x1024 : Shape := ⟨3, ![1, 512, 1024]⟩
abbrev T1x1024x4096 : Shape := ⟨3, ![1, 1024, 4096]⟩
abbrev T1x4096x1024 : Shape := ⟨3, ![1, 4096, 1024]⟩
abbrev T1x1x256x256 : Shape := ⟨4, ![1, 1, 256, 256]⟩
abbrev T1x4x256x256 : Shape := ⟨4, ![1, 4, 256, 256]⟩
abbrev T1x1x1024x256 : Shape := ⟨4, ![1, 1, 1024, 256]⟩

/-- The first matrix loses its leading axis. -/
theorem casts_w1 : T1x1024x512.ShapeCasts T1024x512 := by decide
/-- The second matrix loses its leading axis. -/
theorem casts_w2 : T1x512x1024.ShapeCasts T512x1024 := by decide
/-- A tile loses its leading axis. -/
theorem casts_x : T1x256x1024.ShapeCasts T256x1024 := by decide
/-- A pooling matrix loses its leading axes. -/
theorem casts_pw : T1x1x256x256.ShapeCasts T256x256 := by decide
/-- A pooling offset loses a leading axis. -/
theorem casts_pb : T1x1x256.ShapeCasts T1x256 := by decide
/-- Four groups side by side fill a row. -/
theorem cats_groups : Shape.Concatenates [T256x256, T256x256, T256x256, T256x256] T256x1024 1 := by decide

/-- The rows' mean and variance are spread over the row, a scale of one row over the tile: the layer norm of a tile, with
    its gain and offset rows. -/
def normK (y : FVec F T256x1024 .f32) (g b : Vec F T1x1x1024 .f32) : FVec F T256x1024 .f32 :=
  let d : FVec F T256x1024 .f32 := subf y (broadcastTo T256x1024 (divf (shapeCast T256x1 (multiReduction .add [1] T256 y 0x00000000#32 (by decide) (.inl rfl) rfl) (by decide)) (broadcast T256x1 (Scalar.ofBits .f32 0x44800000#32))) (by decide))
  let r : FVec F T256x1 .f32 := rsqrt (addf (divf (shapeCast T256x1 (multiReduction .add [1] T256 (mulf d d) 0x00000000#32 (by decide) (.inl rfl) rfl) (by decide)) (broadcast T256x1 (Scalar.ofBits .f32 0x44800000#32))) (broadcast T256x1 (Scalar.ofBits .f32 0x3727C5AC#32)))
  addf (mulf (mulf d (broadcastTo T256x1024 r (by decide))) (broadcastTo T256x1024 (shapeCast T1x1024 g (by decide)) (by decide)))
    (broadcastTo T256x1024 (shapeCast T1x1024 b (by decide)) (by decide))

/-- Row `k` of the four norm rows of the staged block. -/
def rowK (x6 : Vec F T1x4x1024 .f32) (k : ℕ) (hk : k < 4) : Vec F T1x1x1024 .f32 :=
  View.ld x6 (Rect.unit (s := T1x4x1024) ![0, k, 0] T1x1x1024.size (by intro a; match a with | ⟨0, _⟩ => exact Nat.le_refl _ | ⟨1, _⟩ => exact hk | ⟨2, _⟩ => exact Nat.le_refl _))

/-- The hidden units `o … o + 511` of the tile. -/
def hidK (xb : FVec F T256x1024 .bf16) (x7 : Vec F T1x1024x4096 .bf16) (o : ℕ) (ho : o + 512 ≤ 4096) : FVec F T256x512 .f32 :=
  matmul (DotDims.plain 256 1024 512) none xb
    (shapeCast T1024x512 (View.ld x7 (Rect.unit (s := T1x1024x4096) ![0, 0, o] T1x1024x512.size (by intro a; match a with | ⟨0, _⟩ => exact Nat.le_refl _ | ⟨1, _⟩ => exact Nat.le_refl _ | ⟨2, _⟩ => exact ho))) casts_w1)
    (constant T256x512 .f32 0x00000000#32)

/-- What the hidden units `o … o + 511` add to the tile: their squared positive parts by the second weights. -/
def chunkK (xb : FVec F T256x1024 .bf16) (x7 : Vec F T1x1024x4096 .bf16) (x8 : Vec F T1x4096x1024 .bf16) (o : ℕ) (ho : o + 512 ≤ 4096) : FVec F T256x1024 .f32 :=
  let h : FVec F T256x512 .f32 := maximumf (hidK xb x7 o ho) (broadcast T256x512 (Scalar.ofBits .f32 0x00000000#32))
  matmul (DotDims.plain 256 512 1024) none (truncf .bf16 (mulf h h) (by decide))
    (shapeCast T512x1024 (View.ld x8 (Rect.unit (s := T1x4096x1024) ![0, o, 0] T1x512x1024.size (by intro a; match a with | ⟨0, _⟩ => exact Nat.le_refl _ | ⟨1, _⟩ => exact ho | ⟨2, _⟩ => exact Nat.le_refl _))) casts_w2)
    (constant T256x1024 .f32 0x00000000#32)

/-- The feed-forward branch of the tile: its eight chunks added in order. -/
def ffK (xb : FVec F T256x1024 .bf16) (x7 : Vec F T1x1024x4096 .bf16) (x8 : Vec F T1x4096x1024 .bf16) : FVec F T256x1024 .f32 :=
  addf (addf (addf (addf (addf (addf (addf (chunkK xb x7 x8 0 (by decide)) (chunkK xb x7 x8 512 (by decide))) (chunkK xb x7 x8 1024 (by decide)))
    (chunkK xb x7 x8 1536 (by decide))) (chunkK xb x7 x8 2048 (by decide))) (chunkK xb x7 x8 2560 (by decide))) (chunkK xb x7 x8 3072 (by decide)))
    (chunkK xb x7 x8 3584 (by decide))

/-- The gated per-layer embedding of the tile. -/
def gateK (xb : FVec F T256x1024 .bf16) (p : Vec F T1x1x256x256 .f32) (x9 : Vec F T1x1024x1024 .bf16) (x10 : Vec F T1x1x1024 .f32) (x11 : Vec F T1x256x1024 .bf16) : FVec F T256x1024 .f32 :=
  mulf
    (logistic (addf (matmul (DotDims.plain 256 1024 1024) none xb (shapeCast T1024x1024 x9 (by decide)) (constant T256x1024 .f32 0x00000000#32))
      (broadcastTo T256x1024 (shapeCast T1x1024 x10 (by decide)) (by decide))))
    (matmul (DotDims.plain 256 256 1024) none (truncf .bf16 (shapeCast T256x256 p (by decide)) (by decide)) (shapeCast T256x1024 x11 (by decide)) (constant T256x1024 .f32 0x00000000#32))

/-- From the mixer's sum `y` to the tile stored: the first norm, the feed-forward and gate branches, the second norm. -/
def tailK (y : FVec F T256x1024 .f32) (p : Vec F T1x1x256x256 .f32) (x6 : Vec F T1x4x1024 .f32) (x7 : Vec F T1x1024x4096 .bf16) (x8 : Vec F T1x4096x1024 .bf16)
    (x9 : Vec F T1x1024x1024 .bf16) (x10 : Vec F T1x1x1024 .f32) (x11 : Vec F T1x256x1024 .bf16) : FVec F T256x1024 .f32 :=
  let x1 : FVec F T256x1024 .f32 := normK y (rowK x6 0 (by decide)) (rowK x6 1 (by decide))
  let xb : FVec F T256x1024 .bf16 := truncf .bf16 x1 (by decide)
  normK (addf (addf (mulf (broadcast T256x1024 (Scalar.ofBits .f32 0x3FB504F3#32)) x1) (ffK xb x7 x8)) (gateK xb p x9 x10 x11))
    (rowK x6 2 (by decide)) (rowK x6 3 (by decide))

/-- Rows `o … o + 255` of the staged embedding block. -/
def pRows (x2 : Vec F T1x1x1024x256 .f32) (o : ℕ) (ho : o + 256 ≤ 1024) : Vec F T1x1x256x256 .f32 :=
  View.ld x2 (Rect.unit (s := T1x1x1024x256) ![0, 0, o, 0] T1x1x256x256.size (by intro a; match a with | ⟨0, _⟩ => exact Nat.le_refl _ | ⟨1, _⟩ => exact Nat.le_refl _ | ⟨2, _⟩ => exact ho | ⟨3, _⟩ => exact Nat.le_refl _))

/-- Rows `o … o + 255` of a staged tile of 1024 rows. -/
def xRows (x0 : Vec F T1x1024x1024 .f32) (o : ℕ) (ho : o + 256 ≤ 1024) : FVec F T256x1024 .f32 :=
  shapeCast T256x1024 (View.ld x0 (Rect.unit (s := T1x1024x1024) ![0, o, 0] T1x256x1024.size (by intro a; match a with | ⟨0, _⟩ => exact Nat.le_refl _ | ⟨1, _⟩ => exact ho | ⟨2, _⟩ => exact Nat.le_refl _))) casts_x

/-! The pooling mixer. -/

/-- The rows' positions, counted from one. -/
def posK (a : BitVec 32) (o : BitVec 32) : FVec F T256x1 .f32 :=
  sitofp .f32 (addi (iota .tc T256x1 32 [0] (by decide)) (broadcast T256x1 (Scalar.addi (Scalar.addi (Scalar.muli a 1024#32) o) 1#32)))

/-- One doubling of a running window sum: each row plus the row `n` before it. -/
def rollK (n : BitVec 32) (s : FVec F T272x256 .f32) : FVec F T272x256 .f32 := addf s (dynamicRotate 0 n none s (by decide))

/-- Rows `o … o + 271` of the extended tile, columns `q … q + 255`. -/
def eRows (E : Vec F T1040x1024 .f32) (o q : ℕ) (ho : o + 272 ≤ 1040) (hq : q + 256 ≤ 1024) : FVec F T272x256 .f32 :=
  View.ld E (Rect.unit (s := T1040x1024) ![o, q] T272x256.size (by intro a; match a with | ⟨0, _⟩ => exact ho | ⟨1, _⟩ => exact hq))

/-- A group's columns lie in the row. -/
theorem slices_cols (q : ℕ) (hq : q + 256 ≤ 1024) : T256x1024.Slices ![0, q] T256x256 :=
  ⟨rfl, by intro a; match a with | ⟨0, _⟩ => exact Nat.le_refl _ | ⟨1, _⟩ => exact hq⟩

/-- One group of the pooled mixer: the window sum `s` over the rows counted, less the row itself, by the group's matrix. -/
def groupK (pos : FVec F T256x1 .f32) (x : FVec F T256x1024 .f32) (s : FVec F T272x256 .f32) (w : BitVec 32) (k q : ℕ) (hk : k < 4) (hq : q + 256 ≤ 1024)
    (x3 : Vec F T1x4x256x256 .bf16) (x4 : Vec F T1x4x256 .f32) : FVec F T256x256 .f32 :=
  addf
    (matmul (DotDims.plain 256 256 256) none
      (truncf .bf16 (subf (mulf (extractStridedSlice T256x256 ![16, 0] s (by decide))
          (broadcastTo T256x256 (divf (broadcast T256x1 (Scalar.ofBits .f32 0x3F800000#32)) (minimumf pos (broadcast T256x1 (Scalar.ofBits .f32 w)))) (by decide)))
        (extractStridedSlice T256x256 ![0, q] x (slices_cols q hq))) (by decide))
      (shapeCast T256x256 (View.ld x3 (Rect.unit (s := T1x4x256x256) ![0, k, 0, 0] T1x1x256x256.size (by intro a; match a with | ⟨0, _⟩ => exact Nat.le_refl _ | ⟨1, _⟩ => exact hk | ⟨2, _⟩ => exact Nat.le_refl _ | ⟨3, _⟩ => exact Nat.le_refl _))) casts_pw)
      (constant T256x256 .f32 0x00000000#32))
    (broadcastTo T256x256 (shapeCast T1x256 (View.ld x4 (Rect.unit (s := T1x4x256) ![0, k, 0] T1x1x256.size (by intro a; match a with | ⟨0, _⟩ => exact Nat.le_refl _ | ⟨1, _⟩ => exact hk | ⟨2, _⟩ => exact Nat.le_refl _))) casts_pb) (by decide))

/-- The mixer's sum for rows `o … o + 255`: the scaled residual plus the four pooled groups. -/
def mixK (pos : FVec F T256x1 .f32) (x : FVec F T256x1024 .f32) (E : Vec F T1040x1024 .f32) (o : ℕ) (ho : o + 272 ≤ 1040)
    (x3 : Vec F T1x4x256x256 .bf16) (x4 : Vec F T1x4x256 .f32) (x5 : Vec F T1x1024 .f32) : FVec F T256x1024 .f32 :=
  addf (mulf (broadcast T256x1024 (Scalar.ofBits .f32 0x3FB504F3#32)) x)
    (mulf
      (concatenate T256x1024 1
        [⟨T256x256, groupK pos x (rollK 1#32 (eRows E o 0 ho (by decide))) 0x40000000#32 0 0 (by decide) (by decide) x3 x4⟩,
         ⟨T256x256, groupK pos x (rollK 2#32 (rollK 1#32 (eRows E o 256 ho (by decide)))) 0x40800000#32 1 256 (by decide) (by decide) x3 x4⟩,
         ⟨T256x256, groupK pos x (rollK 4#32 (rollK 2#32 (rollK 1#32 (eRows E o 512 ho (by decide))))) 0x41000000#32 2 512 (by decide) (by decide) x3 x4⟩,
         ⟨T256x256, groupK pos x (rollK 8#32 (rollK 4#32 (rollK 2#32 (rollK 1#32 (eRows E o 768 ho (by decide)))))) 0x41800000#32 3 768 (by decide) (by decide) x3 x4⟩]
        cats_groups)
      (broadcastTo T256x1024 (shapeCast T1x1024 x5 (by decide)) (by decide)))

end Cert.Tile

end
-- ==== Proof.Pieces.lean ====
module

public import proofs.«01_k».proof.Proof.Gen.KernelIdeal.Value
public import proofs.«01_k».proof.Proof.Vocab

/-! The four pieces the layer kernel's body stores, read as the sub-tiles of the vocabulary. -/

@[expose] public section

noncomputable section

namespace Cert.Tile

open Cert.KernelIdeal Cert.KernelIdeal.Gen Idealize.ShloMosaic Idealize.ShloMosaic.TcCoe Idealize.SL.Sem Idealize.ShloMosaic.Tactic

variable {F : FTy → Type} [FloatOps F]

/-- The scratch as the body fills it: the halo's rows (zero in the first tile), then the tile's. -/
def extL (i : grid0.Coords) (x0 : Vec F S1x1024x1024 .f32) (x1 : Vec F S1x16x1024 .f32) : List (View.Piece (Elt F) S1040x1024 .f32) :=
  [⟨Rect.unit (s := S1040x1024) ![16, 0] S1024x1024.size inb_S1040x1024_S1024x1024_16_0, k0_pay3 x0⟩,
   ⟨Rect.unit (s := S1040x1024) ![0, 0] S16x1024.size inb_S1040x1024_S16x1024_0_0, k0_pay2 i x1⟩]

/-- Its contents. -/
def extK (i : grid0.Coords) (x0 : Vec F S1x1024x1024 .f32) (x1 : Vec F S1x16x1024 .f32) : Vec F S1040x1024 .f32 := View.canon (extL i x0 x1)

/-- The sub-tile of rows `o … o + 255`, as stored. -/
def tileV (i : grid0.Coords) (x0 : Vec F S1x1024x1024 .f32) (x1 : Vec F S1x16x1024 .f32) (x2 : Vec F S1x1x1024x256 .f32) (x3 : Vec F S1x4x256x256 .bf16) (x4 : Vec F S1x4x256 .f32) (x5 : Vec F S1x1024 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) (o : ℕ) (ho : o + 256 ≤ 1024) (ho' : o + 272 ≤ 1040) : Vec F S1x256x1024 .f32 :=
  shapeCast S1x256x1024 (tailK (mixK (posK (BitVec.ofNat 32 (i 1).val) (BitVec.ofNat 32 o)) (xRows x0 o ho) (extK i x0 x1) o ho' x3 x4 x5) (pRows x2 o ho) x6 x7 x8 x9 x10 x11) (by decide)

/-- The body's text of the first norm of the sub-tile at row 0. -/
def firstT0 (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) : FVec F S256x1024 .f32 :=
  let n0 := k0_pay5 (View.ld x0 (Rect.unit (s := S1x1024x1024) ![0, 0, 0] S1x256x1024.size inb_S1x1024x1024_S1x256x1024_0_0_0))
  let n1 := k0_pay6 i (View.ld E (Rect.unit (s := S1040x1024) ![0, 0] S272x256.size inb_S1040x1024_S272x256_0_0))
  let n2 := k0_pay7 (View.ld x0 (Rect.unit (s := S1x1024x1024) ![0, 0, 0] S1x256x1024.size inb_S1x1024x1024_S1x256x1024_0_0_0))
  let n3 := k0_pay8 n1 n2 (View.ld x3 (Rect.unit (s := S1x4x256x256) ![0, 0, 0, 0] S1x1x256x256.size inb_S1x4x256x256_S1x1x256x256_0_0_0_0)) (View.ld x4 (Rect.unit (s := S1x4x256) ![0, 0, 0] S1x1x256.size inb_S1x4x256_S1x1x256_0_0_0))
  let n4 := k0_pay4 i
  let n5 := k0_pay9 n4 n0 (View.ld E (Rect.unit (s := S1040x1024) ![0, 256] S272x256.size inb_S1040x1024_S272x256_0_256)) (View.ld x3 (Rect.unit (s := S1x4x256x256) ![0, 1, 0, 0] S1x1x256x256.size inb_S1x4x256x256_S1x1x256x256_0_1_0_0)) (View.ld x4 (Rect.unit (s := S1x4x256) ![0, 1, 0] S1x1x256.size inb_S1x4x256_S1x1x256_0_1_0))
  let n6 := k0_pay10 (View.ld E (Rect.unit (s := S1040x1024) ![0, 512] S272x256.size inb_S1040x1024_S272x256_0_512))
  let n7 := k0_pay11 n4 n0 n6 2#32 (View.ld x3 (Rect.unit (s := S1x4x256x256) ![0, 2, 0, 0] S1x1x256x256.size inb_S1x4x256x256_S1x1x256x256_0_2_0_0)) (View.ld x4 (Rect.unit (s := S1x4x256) ![0, 2, 0] S1x1x256.size inb_S1x4x256_S1x1x256_0_2_0))
  let n8 := k0_pay12 n4 n0 (View.ld E (Rect.unit (s := S1040x1024) ![0, 768] S272x256.size inb_S1040x1024_S272x256_0_768))
  k0_pay13 n0 n3 n5 n7 n8 (View.ld x3 (Rect.unit (s := S1x4x256x256) ![0, 3, 0, 0] S1x1x256x256.size inb_S1x4x256x256_S1x1x256x256_0_3_0_0)) (View.ld x4 (Rect.unit (s := S1x4x256) ![0, 3, 0] S1x1x256.size inb_S1x4x256_S1x1x256_0_3_0)) x5 (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))

/-- The first part of the sub-tile at row 0, in the layer's words. -/
theorem firstT0_eq (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) :
    firstT0 i E x0 x3 x4 x5 x6 = normK (mixK (posK (BitVec.ofNat 32 (i 1).val) (BitVec.ofNat 32 0)) (xRows x0 0 (by decide)) E 0 (by decide) x3 x4 x5) (rowK x6 0 (by decide)) (rowK x6 1 (by decide)) := rfl

/-- The body's text of the same, narrowed. -/
def narrowT0 (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) : FVec F S256x1024 .bf16 :=
  let n0 := k0_pay5 (View.ld x0 (Rect.unit (s := S1x1024x1024) ![0, 0, 0] S1x256x1024.size inb_S1x1024x1024_S1x256x1024_0_0_0))
  let n1 := k0_pay6 i (View.ld E (Rect.unit (s := S1040x1024) ![0, 0] S272x256.size inb_S1040x1024_S272x256_0_0))
  let n2 := k0_pay7 (View.ld x0 (Rect.unit (s := S1x1024x1024) ![0, 0, 0] S1x256x1024.size inb_S1x1024x1024_S1x256x1024_0_0_0))
  let n3 := k0_pay8 n1 n2 (View.ld x3 (Rect.unit (s := S1x4x256x256) ![0, 0, 0, 0] S1x1x256x256.size inb_S1x4x256x256_S1x1x256x256_0_0_0_0)) (View.ld x4 (Rect.unit (s := S1x4x256) ![0, 0, 0] S1x1x256.size inb_S1x4x256_S1x1x256_0_0_0))
  let n4 := k0_pay4 i
  let n5 := k0_pay9 n4 n0 (View.ld E (Rect.unit (s := S1040x1024) ![0, 256] S272x256.size inb_S1040x1024_S272x256_0_256)) (View.ld x3 (Rect.unit (s := S1x4x256x256) ![0, 1, 0, 0] S1x1x256x256.size inb_S1x4x256x256_S1x1x256x256_0_1_0_0)) (View.ld x4 (Rect.unit (s := S1x4x256) ![0, 1, 0] S1x1x256.size inb_S1x4x256_S1x1x256_0_1_0))
  let n6 := k0_pay10 (View.ld E (Rect.unit (s := S1040x1024) ![0, 512] S272x256.size inb_S1040x1024_S272x256_0_512))
  let n7 := k0_pay11 n4 n0 n6 2#32 (View.ld x3 (Rect.unit (s := S1x4x256x256) ![0, 2, 0, 0] S1x1x256x256.size inb_S1x4x256x256_S1x1x256x256_0_2_0_0)) (View.ld x4 (Rect.unit (s := S1x4x256) ![0, 2, 0] S1x1x256.size inb_S1x4x256_S1x1x256_0_2_0))
  let n8 := k0_pay12 n4 n0 (View.ld E (Rect.unit (s := S1040x1024) ![0, 768] S272x256.size inb_S1040x1024_S272x256_0_768))
  let n9 := k0_pay13 n0 n3 n5 n7 n8 (View.ld x3 (Rect.unit (s := S1x4x256x256) ![0, 3, 0, 0] S1x1x256x256.size inb_S1x4x256x256_S1x1x256x256_0_3_0_0)) (View.ld x4 (Rect.unit (s := S1x4x256) ![0, 3, 0] S1x1x256.size inb_S1x4x256_S1x1x256_0_3_0)) x5 (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))
  k0_pay14 n9

/-- The narrowed rows of the sub-tile at row 0. -/
theorem narrowT0_eq (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) :
    narrowT0 i E x0 x3 x4 x5 x6 = truncf .bf16 (firstT0 i E x0 x3 x4 x5 x6) (by decide) := rfl

/-- The body's text from there to the tile stored. -/
def restT0 (X : FVec F S256x1024 .f32) (Y : FVec F S256x1024 .bf16) (x2 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) : FVec F S1x256x1024 .f32 :=
  let n0 := k0_pay37 Y (View.ld x7 (Rect.unit (s := S1x1024x4096) ![0, 0, 3584] S1x1024x512.size inb_S1x1024x4096_S1x1024x512_0_0_3584))
  let n1 := k0_pay29 Y (View.ld x7 (Rect.unit (s := S1x1024x4096) ![0, 0, 2048] S1x1024x512.size inb_S1x1024x4096_S1x1024x512_0_0_2048))
  let n2 := k0_pay25 Y (View.ld x7 (Rect.unit (s := S1x1024x4096) ![0, 0, 1536] S1x1024x512.size inb_S1x1024x4096_S1x1024x512_0_0_1536))
  let n3 := k0_pay21 Y (View.ld x7 (Rect.unit (s := S1x1024x4096) ![0, 0, 1024] S1x1024x512.size inb_S1x1024x4096_S1x1024x512_0_0_1024))
  let n4 := k0_pay15 X (View.ld x7 (Rect.unit (s := S1x1024x4096) ![0, 0, 512] S1x1024x512.size inb_S1x1024x4096_S1x1024x512_0_0_512))
  let n5 := k0_pay16 X (View.ld x7 (Rect.unit (s := S1x1024x4096) ![0, 0, 0] S1x1024x512.size inb_S1x1024x4096_S1x1024x512_0_0_0)) (View.ld x8 (Rect.unit (s := S1x4096x1024) ![0, 0, 0] S1x512x1024.size inb_S1x4096x1024_S1x512x1024_0_0_0))
  let n6 := k0_pay22 n4 n5 (View.ld x8 (Rect.unit (s := S1x4096x1024) ![0, 512, 0] S1x512x1024.size inb_S1x4096x1024_S1x512x1024_0_512_0))
  let n7 := k0_pay26 n3 n6 (View.ld x8 (Rect.unit (s := S1x4096x1024) ![0, 1024, 0] S1x512x1024.size inb_S1x4096x1024_S1x512x1024_0_1024_0))
  let n8 := k0_pay30 n2 n7 (View.ld x8 (Rect.unit (s := S1x4096x1024) ![0, 1536, 0] S1x512x1024.size inb_S1x4096x1024_S1x512x1024_0_1536_0))
  let n9 := k0_pay32 n1 n8 (View.ld x8 (Rect.unit (s := S1x4096x1024) ![0, 2048, 0] S1x512x1024.size inb_S1x4096x1024_S1x512x1024_0_2048_0))
  let n10 := k0_pay34 Y (View.ld x7 (Rect.unit (s := S1x1024x4096) ![0, 0, 3072] S1x1024x512.size inb_S1x1024x4096_S1x1024x512_0_0_3072))
  let n11 := k0_pay35 Y (View.ld x7 (Rect.unit (s := S1x1024x4096) ![0, 0, 2560] S1x1024x512.size inb_S1x1024x4096_S1x1024x512_0_0_2560))
  let n12 := k0_pay36 (View.ld x8 (Rect.unit (s := S1x4096x1024) ![0, 2560, 0] S1x512x1024.size inb_S1x4096x1024_S1x512x1024_0_2560_0))
  let n13 := k0_pay38 n9 n10 n11 n12 (View.ld x8 (Rect.unit (s := S1x4096x1024) ![0, 3072, 0] S1x512x1024.size inb_S1x4096x1024_S1x512x1024_0_3072_0))
  let n14 := k0_pay41 X Y n0 n13 (Scalar.ofBits .f32 0x00000000#32) (View.ld x8 (Rect.unit (s := S1x4096x1024) ![0, 3584, 0] S1x512x1024.size inb_S1x4096x1024_S1x512x1024_0_3584_0)) x9 x10 (View.ld x2 (Rect.unit (s := S1x1x1024x256) ![0, 0, 0, 0] S1x1x256x256.size inb_S1x1x1024x256_S1x1x256x256_0_0_0_0)) x11
  let n15 := k0_pay42 (View.ld x6 (Rect.unit (s := S1x4x1024) ![0, 2, 0] S1x1x1024.size inb_S1x4x1024_S1x1x1024_0_2_0))
  let n16 := k0_pay43 (View.ld x6 (Rect.unit (s := S1x4x1024) ![0, 3, 0] S1x1x1024.size inb_S1x4x1024_S1x1x1024_0_3_0))
  let n17 := k0_pay44 X Y n0 n13 (Scalar.ofBits .f32 0x00000000#32) (View.ld x8 (Rect.unit (s := S1x4096x1024) ![0, 3584, 0] S1x512x1024.size inb_S1x4096x1024_S1x512x1024_0_3584_0)) x9 x10 (View.ld x2 (Rect.unit (s := S1x1x1024x256) ![0, 0, 0, 0] S1x1x256x256.size inb_S1x1x1024x256_S1x1x256x256_0_0_0_0)) x11
  k0_pay45 n14 n15 n16 n17

/-- The rest of the sub-tile at row 0, in the layer's words. -/
theorem restT0_eq (X : FVec F S256x1024 .f32) (x2 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    restT0 X (truncf .bf16 X (by decide)) x2 x6 x7 x8 x9 x10 x11 =
      shapeCast S1x256x1024 (normK (addf (addf (mulf (broadcast T256x1024 (Scalar.ofBits .f32 0x3FB504F3#32)) X) (ffK (truncf .bf16 X (by decide)) x7 x8)) (gateK (truncf .bf16 X (by decide)) (pRows x2 0 (by decide)) x9 x10 x11))
        (rowK x6 2 (by decide)) (rowK x6 3 (by decide))) (by decide) := rfl

/-- The sub-tile stored at row 0. -/
theorem tile_0 (i : grid0.Coords) (E : Vec F S1040x1024 .f32) (x0 : Vec F S1x1024x1024 .f32) (x2 : Vec F S1x1x1024x256 .f32) (x3 : Vec F S1x4x256x256 .bf16) (x4 : Vec F S1x4x256 .f32) (x5 : Vec F S1x1024 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    restT0 (firstT0 i E x0 x3 x4 x5 x6) (narrowT0 i E x0 x3 x4 x5 x6) x2 x6 x7 x8 x9 x10 x11 =
      shapeCast S1x256x1024 (tailK (mixK (posK (BitVec.ofNat 32 (i 1).val) (BitVec.ofNat 32 0)) (xRows x0 0 (by decide)) E 0 (by decide) x3 x4 x5) (pRows x2 0 (by decide)) x6 x7 x8 x9 x10 x11) (by decide) := by
  rw [narrowT0_eq, firstT0_eq]
  exact restT0_eq _ x2 x6 x7 x8 x9 x10 x11

/-- The body's text of the first norm of the sub-tile at row 256. -/
def firstT256 (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) : FVec F S256x1024 .f32 :=
  let n0 := k0_pay18 (View.ld x0 (Rect.unit (s := S1x1024x1024) ![0, 256, 0] S1x256x1024.size inb_S1x1024x1024_S1x256x1024_0_256_0))
  let n1 := k0_pay19 (BitVec.ofNat 32 (i 1).val) (View.ld x0 (Rect.unit (s := S1x1024x1024) ![0, 256, 0] S1x256x1024.size inb_S1x1024x1024_S1x256x1024_0_256_0)) (View.ld E (Rect.unit (s := S1040x1024) ![256, 0] S272x256.size inb_S1040x1024_S272x256_256_0))
  let n2 := k0_pay20 n1 (View.ld x3 (Rect.unit (s := S1x4x256x256) ![0, 0, 0, 0] S1x1x256x256.size inb_S1x4x256x256_S1x1x256x256_0_0_0_0)) (View.ld x4 (Rect.unit (s := S1x4x256) ![0, 0, 0] S1x1x256.size inb_S1x4x256_S1x1x256_0_0_0))
  let n3 := k0_pay17 (BitVec.ofNat 32 (i 1).val)
  let n4 := k0_pay23 n3 n0 (View.ld E (Rect.unit (s := S1040x1024) ![256, 256] S272x256.size inb_S1040x1024_S272x256_256_256))
  let n5 := k0_pay24 n4 (View.ld x3 (Rect.unit (s := S1x4x256x256) ![0, 1, 0, 0] S1x1x256x256.size inb_S1x4x256x256_S1x1x256x256_0_1_0_0)) (View.ld x4 (Rect.unit (s := S1x4x256) ![0, 1, 0] S1x1x256.size inb_S1x4x256_S1x1x256_0_1_0))
  let n6 := k0_pay27 n3 n0 (View.ld E (Rect.unit (s := S1040x1024) ![256, 512] S272x256.size inb_S1040x1024_S272x256_256_512))
  let n7 := k0_pay28 n6 (View.ld x3 (Rect.unit (s := S1x4x256x256) ![0, 2, 0, 0] S1x1x256x256.size inb_S1x4x256x256_S1x1x256x256_0_2_0_0)) (View.ld x4 (Rect.unit (s := S1x4x256) ![0, 2, 0] S1x1x256.size inb_S1x4x256_S1x1x256_0_2_0))
  let n8 := k0_pay31 n3 n0 (View.ld E (Rect.unit (s := S1040x1024) ![256, 768] S272x256.size inb_S1040x1024_S272x256_256_768))
  let n9 := k0_pay33 n0 n2 n5 n7 n8 (View.ld x3 (Rect.unit (s := S1x4x256x256) ![0, 3, 0, 0] S1x1x256x256.size inb_S1x4x256x256_S1x1x256x256_0_3_0_0)) (View.ld x4 (Rect.unit (s := S1x4x256) ![0, 3, 0] S1x1x256.size inb_S1x4x256_S1x1x256_0_3_0)) x5
  k0_pay39 n9 (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))

/-- The first part of the sub-tile at row 256, in the layer's words. -/
theorem firstT256_eq (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) :
    firstT256 i E x0 x3 x4 x5 x6 = normK (mixK (posK (BitVec.ofNat 32 (i 1).val) (BitVec.ofNat 32 256)) (xRows x0 256 (by decide)) E 256 (by decide) x3 x4 x5) (rowK x6 0 (by decide)) (rowK x6 1 (by decide)) := rfl

/-- The body's text of the same, narrowed. -/
def narrowT256 (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) : FVec F S256x1024 .bf16 :=
  let n0 := k0_pay18 (View.ld x0 (Rect.unit (s := S1x1024x1024) ![0, 256, 0] S1x256x1024.size inb_S1x1024x1024_S1x256x1024_0_256_0))
  let n1 := k0_pay19 (BitVec.ofNat 32 (i 1).val) (View.ld x0 (Rect.unit (s := S1x1024x1024) ![0, 256, 0] S1x256x1024.size inb_S1x1024x1024_S1x256x1024_0_256_0)) (View.ld E (Rect.unit (s := S1040x1024) ![256, 0] S272x256.size inb_S1040x1024_S272x256_256_0))
  let n2 := k0_pay20 n1 (View.ld x3 (Rect.unit (s := S1x4x256x256) ![0, 0, 0, 0] S1x1x256x256.size inb_S1x4x256x256_S1x1x256x256_0_0_0_0)) (View.ld x4 (Rect.unit (s := S1x4x256) ![0, 0, 0] S1x1x256.size inb_S1x4x256_S1x1x256_0_0_0))
  let n3 := k0_pay17 (BitVec.ofNat 32 (i 1).val)
  let n4 := k0_pay23 n3 n0 (View.ld E (Rect.unit (s := S1040x1024) ![256, 256] S272x256.size inb_S1040x1024_S272x256_256_256))
  let n5 := k0_pay24 n4 (View.ld x3 (Rect.unit (s := S1x4x256x256) ![0, 1, 0, 0] S1x1x256x256.size inb_S1x4x256x256_S1x1x256x256_0_1_0_0)) (View.ld x4 (Rect.unit (s := S1x4x256) ![0, 1, 0] S1x1x256.size inb_S1x4x256_S1x1x256_0_1_0))
  let n6 := k0_pay27 n3 n0 (View.ld E (Rect.unit (s := S1040x1024) ![256, 512] S272x256.size inb_S1040x1024_S272x256_256_512))
  let n7 := k0_pay28 n6 (View.ld x3 (Rect.unit (s := S1x4x256x256) ![0, 2, 0, 0] S1x1x256x256.size inb_S1x4x256x256_S1x1x256x256_0_2_0_0)) (View.ld x4 (Rect.unit (s := S1x4x256) ![0, 2, 0] S1x1x256.size inb_S1x4x256_S1x1x256_0_2_0))
  let n8 := k0_pay31 n3 n0 (View.ld E (Rect.unit (s := S1040x1024) ![256, 768] S272x256.size inb_S1040x1024_S272x256_256_768))
  let n9 := k0_pay33 n0 n2 n5 n7 n8 (View.ld x3 (Rect.unit (s := S1x4x256x256) ![0, 3, 0, 0] S1x1x256x256.size inb_S1x4x256x256_S1x1x256x256_0_3_0_0)) (View.ld x4 (Rect.unit (s := S1x4x256) ![0, 3, 0] S1x1x256.size inb_S1x4x256_S1x1x256_0_3_0)) x5
  k0_pay40 n9 (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))

/-- The narrowed rows of the sub-tile at row 256. -/
theorem narrowT256_eq (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) :
    narrowT256 i E x0 x3 x4 x5 x6 = truncf .bf16 (firstT256 i E x0 x3 x4 x5 x6) (by decide) := rfl

/-- The body's text from there to the tile stored. -/
def restT256 (X : FVec F S256x1024 .f32) (Y : FVec F S256x1024 .bf16) (x2 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) : FVec F S1x256x1024 .f32 :=
  let n0 := k0_pay64 Y (View.ld x7 (Rect.unit (s := S1x1024x4096) ![0, 0, 3584] S1x1024x512.size inb_S1x1024x4096_S1x1024x512_0_0_3584))
  let n1 := k0_pay61 Y (View.ld x7 (Rect.unit (s := S1x1024x4096) ![0, 0, 2560] S1x1024x512.size inb_S1x1024x4096_S1x1024x512_0_0_2560))
  let n2 := k0_pay58 Y (View.ld x7 (Rect.unit (s := S1x1024x4096) ![0, 0, 2048] S1x1024x512.size inb_S1x1024x4096_S1x1024x512_0_0_2048))
  let n3 := k0_pay55 Y (View.ld x7 (Rect.unit (s := S1x1024x4096) ![0, 0, 1536] S1x1024x512.size inb_S1x1024x4096_S1x1024x512_0_0_1536))
  let n4 := k0_pay47 Y (View.ld x7 (Rect.unit (s := S1x1024x4096) ![0, 0, 0] S1x1024x512.size inb_S1x1024x4096_S1x1024x512_0_0_0)) (View.ld x8 (Rect.unit (s := S1x4096x1024) ![0, 0, 0] S1x512x1024.size inb_S1x4096x1024_S1x512x1024_0_0_0))
  let n5 := k0_pay51 Y (View.ld x7 (Rect.unit (s := S1x1024x4096) ![0, 0, 1024] S1x1024x512.size inb_S1x1024x4096_S1x1024x512_0_0_1024))
  let n6 := k0_pay46 Y (View.ld x7 (Rect.unit (s := S1x1024x4096) ![0, 0, 512] S1x1024x512.size inb_S1x1024x4096_S1x1024x512_0_0_512))
  let n7 := k0_pay52 n6
  let n8 := k0_pay53 (View.ld x8 (Rect.unit (s := S1x4096x1024) ![0, 512, 0] S1x512x1024.size inb_S1x4096x1024_S1x512x1024_0_512_0))
  let n9 := k0_pay56 n4 n5 n7 n8 (View.ld x8 (Rect.unit (s := S1x4096x1024) ![0, 1024, 0] S1x512x1024.size inb_S1x4096x1024_S1x512x1024_0_1024_0))
  let n10 := k0_pay59 n3 n9 (View.ld x8 (Rect.unit (s := S1x4096x1024) ![0, 1536, 0] S1x512x1024.size inb_S1x4096x1024_S1x512x1024_0_1536_0))
  let n11 := k0_pay62 n2 n10 (View.ld x8 (Rect.unit (s := S1x4096x1024) ![0, 2048, 0] S1x512x1024.size inb_S1x4096x1024_S1x512x1024_0_2048_0))
  let n12 := k0_pay65 Y n1 n11 (View.ld x7 (Rect.unit (s := S1x1024x4096) ![0, 0, 3072] S1x1024x512.size inb_S1x1024x4096_S1x1024x512_0_0_3072)) (View.ld x8 (Rect.unit (s := S1x4096x1024) ![0, 2560, 0] S1x512x1024.size inb_S1x4096x1024_S1x512x1024_0_2560_0)) (View.ld x8 (Rect.unit (s := S1x4096x1024) ![0, 3072, 0] S1x512x1024.size inb_S1x4096x1024_S1x512x1024_0_3072_0))
  let n13 := k0_pay69 n0 n12 (View.ld x8 (Rect.unit (s := S1x4096x1024) ![0, 3584, 0] S1x512x1024.size inb_S1x4096x1024_S1x512x1024_0_3584_0))
  let n14 := k0_pay70 Y x9 x10
  k0_pay71 X n13 n14 (View.ld x2 (Rect.unit (s := S1x1x1024x256) ![0, 0, 256, 0] S1x1x256x256.size inb_S1x1x1024x256_S1x1x256x256_0_0_256_0)) x11 (View.ld x6 (Rect.unit (s := S1x4x1024) ![0, 2, 0] S1x1x1024.size inb_S1x4x1024_S1x1x1024_0_2_0)) (View.ld x6 (Rect.unit (s := S1x4x1024) ![0, 3, 0] S1x1x1024.size inb_S1x4x1024_S1x1x1024_0_3_0))

/-- The rest of the sub-tile at row 256, in the layer's words. -/
theorem restT256_eq (X : FVec F S256x1024 .f32) (x2 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    restT256 X (truncf .bf16 X (by decide)) x2 x6 x7 x8 x9 x10 x11 =
      shapeCast S1x256x1024 (normK (addf (addf (mulf (broadcast T256x1024 (Scalar.ofBits .f32 0x3FB504F3#32)) X) (ffK (truncf .bf16 X (by decide)) x7 x8)) (gateK (truncf .bf16 X (by decide)) (pRows x2 256 (by decide)) x9 x10 x11))
        (rowK x6 2 (by decide)) (rowK x6 3 (by decide))) (by decide) := rfl

/-- The sub-tile stored at row 256. -/
theorem tile_256 (i : grid0.Coords) (E : Vec F S1040x1024 .f32) (x0 : Vec F S1x1024x1024 .f32) (x2 : Vec F S1x1x1024x256 .f32) (x3 : Vec F S1x4x256x256 .bf16) (x4 : Vec F S1x4x256 .f32) (x5 : Vec F S1x1024 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    restT256 (firstT256 i E x0 x3 x4 x5 x6) (narrowT256 i E x0 x3 x4 x5 x6) x2 x6 x7 x8 x9 x10 x11 =
      shapeCast S1x256x1024 (tailK (mixK (posK (BitVec.ofNat 32 (i 1).val) (BitVec.ofNat 32 256)) (xRows x0 256 (by decide)) E 256 (by decide) x3 x4 x5) (pRows x2 256 (by decide)) x6 x7 x8 x9 x10 x11) (by decide) := by
  rw [narrowT256_eq, firstT256_eq]
  exact restT256_eq _ x2 x6 x7 x8 x9 x10 x11

/-- The body's text of the first norm of the sub-tile at row 512. -/
def firstT512 (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) : FVec F S256x1024 .f32 :=
  let n0 := k0_pay49 (View.ld x0 (Rect.unit (s := S1x1024x1024) ![0, 512, 0] S1x256x1024.size inb_S1x1024x1024_S1x256x1024_0_512_0))
  let n1 := iota .tc S256x1 32 [0] iota_S256x1_d0_w32
  let n2 := Scalar.muli (BitVec.ofNat 32 (i 1).val) 1024#32
  let n3 := Scalar.addi n2 512#32
  let n4 := k0_pay50 n1 n3 (View.ld x0 (Rect.unit (s := S1x1024x1024) ![0, 512, 0] S1x256x1024.size inb_S1x1024x1024_S1x256x1024_0_512_0)) (View.ld E (Rect.unit (s := S1040x1024) ![512, 0] S272x256.size inb_S1040x1024_S272x256_512_0)) (View.ld x3 (Rect.unit (s := S1x4x256x256) ![0, 0, 0, 0] S1x1x256x256.size inb_S1x4x256x256_S1x1x256x256_0_0_0_0)) (View.ld x4 (Rect.unit (s := S1x4x256) ![0, 0, 0] S1x1x256.size inb_S1x4x256_S1x1x256_0_0_0))
  let n5 := k0_pay48 n1 n3
  let n6 := k0_pay54 n5 n0 (View.ld E (Rect.unit (s := S1040x1024) ![512, 256] S272x256.size inb_S1040x1024_S272x256_512_256)) (View.ld x3 (Rect.unit (s := S1x4x256x256) ![0, 1, 0, 0] S1x1x256x256.size inb_S1x4x256x256_S1x1x256x256_0_1_0_0)) (View.ld x4 (Rect.unit (s := S1x4x256) ![0, 1, 0] S1x1x256.size inb_S1x4x256_S1x1x256_0_1_0))
  let n7 := k0_pay57 n5 n0 (View.ld E (Rect.unit (s := S1040x1024) ![512, 512] S272x256.size inb_S1040x1024_S272x256_512_512)) (View.ld x3 (Rect.unit (s := S1x4x256x256) ![0, 2, 0, 0] S1x1x256x256.size inb_S1x4x256x256_S1x1x256x256_0_2_0_0)) (View.ld x4 (Rect.unit (s := S1x4x256) ![0, 2, 0] S1x1x256.size inb_S1x4x256_S1x1x256_0_2_0))
  let n8 := k0_pay60 n5 n0 (View.ld E (Rect.unit (s := S1040x1024) ![512, 768] S272x256.size inb_S1040x1024_S272x256_512_768)) (View.ld x3 (Rect.unit (s := S1x4x256x256) ![0, 3, 0, 0] S1x1x256x256.size inb_S1x4x256x256_S1x1x256x256_0_3_0_0)) (View.ld x4 (Rect.unit (s := S1x4x256) ![0, 3, 0] S1x1x256.size inb_S1x4x256_S1x1x256_0_3_0))
  let n9 := k0_pay63 n0 n4 n6 n7 n8 x5
  let n10 := k0_pay66 (View.ld x6 (Rect.unit (s := S1x4x1024) ![0, 0, 0] S1x1x1024.size inb_S1x4x1024_S1x1x1024_0_0_0))
  k0_pay67 n9 n10 (View.ld x6 (Rect.unit (s := S1x4x1024) ![0, 1, 0] S1x1x1024.size inb_S1x4x1024_S1x1x1024_0_1_0))

/-- The first part of the sub-tile at row 512, in the layer's words. -/
theorem firstT512_eq (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) :
    firstT512 i E x0 x3 x4 x5 x6 = normK (mixK (posK (BitVec.ofNat 32 (i 1).val) (BitVec.ofNat 32 512)) (xRows x0 512 (by decide)) E 512 (by decide) x3 x4 x5) (rowK x6 0 (by decide)) (rowK x6 1 (by decide)) := rfl

/-- The body's text of the same, narrowed. -/
def narrowT512 (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) : FVec F S256x1024 .bf16 :=
  let n0 := k0_pay49 (View.ld x0 (Rect.unit (s := S1x1024x1024) ![0, 512, 0] S1x256x1024.size inb_S1x1024x1024_S1x256x1024_0_512_0))
  let n1 := iota .tc S256x1 32 [0] iota_S256x1_d0_w32
  let n2 := Scalar.muli (BitVec.ofNat 32 (i 1).val) 1024#32
  let n3 := Scalar.addi n2 512#32
  let n4 := k0_pay50 n1 n3 (View.ld x0 (Rect.unit (s := S1x1024x1024) ![0, 512, 0] S1x256x1024.size inb_S1x1024x1024_S1x256x1024_0_512_0)) (View.ld E (Rect.unit (s := S1040x1024) ![512, 0] S272x256.size inb_S1040x1024_S272x256_512_0)) (View.ld x3 (Rect.unit (s := S1x4x256x256) ![0, 0, 0, 0] S1x1x256x256.size inb_S1x4x256x256_S1x1x256x256_0_0_0_0)) (View.ld x4 (Rect.unit (s := S1x4x256) ![0, 0, 0] S1x1x256.size inb_S1x4x256_S1x1x256_0_0_0))
  let n5 := k0_pay48 n1 n3
  let n6 := k0_pay54 n5 n0 (View.ld E (Rect.unit (s := S1040x1024) ![512, 256] S272x256.size inb_S1040x1024_S272x256_512_256)) (View.ld x3 (Rect.unit (s := S1x4x256x256) ![0, 1, 0, 0] S1x1x256x256.size inb_S1x4x256x256_S1x1x256x256_0_1_0_0)) (View.ld x4 (Rect.unit (s := S1x4x256) ![0, 1, 0] S1x1x256.size inb_S1x4x256_S1x1x256_0_1_0))
  let n7 := k0_pay57 n5 n0 (View.ld E (Rect.unit (s := S1040x1024) ![512, 512] S272x256.size inb_S1040x1024_S272x256_512_512)) (View.ld x3 (Rect.unit (s := S1x4x256x256) ![0, 2, 0, 0] S1x1x256x256.size inb_S1x4x256x256_S1x1x256x256_0_2_0_0)) (View.ld x4 (Rect.unit (s := S1x4x256) ![0, 2, 0] S1x1x256.size inb_S1x4x256_S1x1x256_0_2_0))
  let n8 := k0_pay60 n5 n0 (View.ld E (Rect.unit (s := S1040x1024) ![512, 768] S272x256.size inb_S1040x1024_S272x256_512_768)) (View.ld x3 (Rect.unit (s := S1x4x256x256) ![0, 3, 0, 0] S1x1x256x256.size inb_S1x4x256x256_S1x1x256x256_0_3_0_0)) (View.ld x4 (Rect.unit (s := S1x4x256) ![0, 3, 0] S1x1x256.size inb_S1x4x256_S1x1x256_0_3_0))
  let n9 := k0_pay63 n0 n4 n6 n7 n8 x5
  let n10 := k0_pay66 (View.ld x6 (Rect.unit (s := S1x4x1024) ![0, 0, 0] S1x1x1024.size inb_S1x4x1024_S1x1x1024_0_0_0))
  k0_pay68 n9 n10 (View.ld x6 (Rect.unit (s := S1x4x1024) ![0, 1, 0] S1x1x1024.size inb_S1x4x1024_S1x1x1024_0_1_0))

/-- The narrowed rows of the sub-tile at row 512. -/
theorem narrowT512_eq (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) :
    narrowT512 i E x0 x3 x4 x5 x6 = truncf .bf16 (firstT512 i E x0 x3 x4 x5 x6) (by decide) := rfl

/-- The body's text from there to the tile stored. -/
def restT512 (X : FVec F S256x1024 .f32) (Y : FVec F S256x1024 .bf16) (x2 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) : FVec F S1x256x1024 .f32 :=
  let n0 := k0_pay91 Y (View.ld x7 (Rect.unit (s := S1x1024x4096) ![0, 0, 3072] S1x1024x512.size inb_S1x1024x4096_S1x1024x512_0_0_3072))
  let n1 := k0_pay86 Y (View.ld x7 (Rect.unit (s := S1x1024x4096) ![0, 0, 2048] S1x1024x512.size inb_S1x1024x4096_S1x1024x512_0_0_2048))
  let n2 := k0_pay82 Y (View.ld x7 (Rect.unit (s := S1x1024x4096) ![0, 0, 1536] S1x1024x512.size inb_S1x1024x4096_S1x1024x512_0_0_1536))
  let n3 := k0_pay78 Y (View.ld x7 (Rect.unit (s := S1x1024x4096) ![0, 0, 1024] S1x1024x512.size inb_S1x1024x4096_S1x1024x512_0_0_1024))
  let n4 := k0_pay72 Y (View.ld x7 (Rect.unit (s := S1x1024x4096) ![0, 0, 512] S1x1024x512.size inb_S1x1024x4096_S1x1024x512_0_0_512))
  let n5 := k0_pay73 Y (View.ld x7 (Rect.unit (s := S1x1024x4096) ![0, 0, 0] S1x1024x512.size inb_S1x1024x4096_S1x1024x512_0_0_0)) (View.ld x8 (Rect.unit (s := S1x4096x1024) ![0, 0, 0] S1x512x1024.size inb_S1x4096x1024_S1x512x1024_0_0_0))
  let n6 := k0_pay79 n4 n5 (View.ld x8 (Rect.unit (s := S1x4096x1024) ![0, 512, 0] S1x512x1024.size inb_S1x4096x1024_S1x512x1024_0_512_0))
  let n7 := k0_pay83 n3 n6 (View.ld x8 (Rect.unit (s := S1x4096x1024) ![0, 1024, 0] S1x512x1024.size inb_S1x4096x1024_S1x512x1024_0_1024_0))
  let n8 := k0_pay87 n2 n7 (View.ld x8 (Rect.unit (s := S1x4096x1024) ![0, 1536, 0] S1x512x1024.size inb_S1x4096x1024_S1x512x1024_0_1536_0))
  let n9 := k0_pay92 Y n1 n8 (View.ld x7 (Rect.unit (s := S1x1024x4096) ![0, 0, 2560] S1x1024x512.size inb_S1x1024x4096_S1x1024x512_0_0_2560)) (View.ld x8 (Rect.unit (s := S1x4096x1024) ![0, 2048, 0] S1x512x1024.size inb_S1x4096x1024_S1x512x1024_0_2048_0)) (View.ld x8 (Rect.unit (s := S1x4096x1024) ![0, 2560, 0] S1x512x1024.size inb_S1x4096x1024_S1x512x1024_0_2560_0))
  let n10 := k0_pay93 n0 n9 (View.ld x8 (Rect.unit (s := S1x4096x1024) ![0, 3072, 0] S1x512x1024.size inb_S1x4096x1024_S1x512x1024_0_3072_0))
  let n11 := k0_pay96 Y (View.ld x7 (Rect.unit (s := S1x1024x4096) ![0, 0, 3584] S1x1024x512.size inb_S1x1024x4096_S1x1024x512_0_0_3584))
  let n12 := k0_pay97 X Y n10 n11 (View.ld x8 (Rect.unit (s := S1x4096x1024) ![0, 3584, 0] S1x512x1024.size inb_S1x4096x1024_S1x512x1024_0_3584_0)) x9 x10 (View.ld x2 (Rect.unit (s := S1x1x1024x256) ![0, 0, 512, 0] S1x1x256x256.size inb_S1x1x1024x256_S1x1x256x256_0_0_512_0)) x11
  let n13 := k0_pay98 (View.ld x6 (Rect.unit (s := S1x4x1024) ![0, 2, 0] S1x1x1024.size inb_S1x4x1024_S1x1x1024_0_2_0))
  let n14 := k0_pay99 (View.ld x6 (Rect.unit (s := S1x4x1024) ![0, 3, 0] S1x1x1024.size inb_S1x4x1024_S1x1x1024_0_3_0))
  let n15 := k0_pay100 X Y n10 n11 (View.ld x8 (Rect.unit (s := S1x4096x1024) ![0, 3584, 0] S1x512x1024.size inb_S1x4096x1024_S1x512x1024_0_3584_0)) x9 x10 (View.ld x2 (Rect.unit (s := S1x1x1024x256) ![0, 0, 512, 0] S1x1x256x256.size inb_S1x1x1024x256_S1x1x256x256_0_0_512_0)) x11
  k0_pay101 n12 n13 n14 n15

/-- The rest of the sub-tile at row 512, in the layer's words. -/
theorem restT512_eq (X : FVec F S256x1024 .f32) (x2 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    restT512 X (truncf .bf16 X (by decide)) x2 x6 x7 x8 x9 x10 x11 =
      shapeCast S1x256x1024 (normK (addf (addf (mulf (broadcast T256x1024 (Scalar.ofBits .f32 0x3FB504F3#32)) X) (ffK (truncf .bf16 X (by decide)) x7 x8)) (gateK (truncf .bf16 X (by decide)) (pRows x2 512 (by decide)) x9 x10 x11))
        (rowK x6 2 (by decide)) (rowK x6 3 (by decide))) (by decide) := rfl

/-- The sub-tile stored at row 512. -/
theorem tile_512 (i : grid0.Coords) (E : Vec F S1040x1024 .f32) (x0 : Vec F S1x1024x1024 .f32) (x2 : Vec F S1x1x1024x256 .f32) (x3 : Vec F S1x4x256x256 .bf16) (x4 : Vec F S1x4x256 .f32) (x5 : Vec F S1x1024 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    restT512 (firstT512 i E x0 x3 x4 x5 x6) (narrowT512 i E x0 x3 x4 x5 x6) x2 x6 x7 x8 x9 x10 x11 =
      shapeCast S1x256x1024 (tailK (mixK (posK (BitVec.ofNat 32 (i 1).val) (BitVec.ofNat 32 512)) (xRows x0 512 (by decide)) E 512 (by decide) x3 x4 x5) (pRows x2 512 (by decide)) x6 x7 x8 x9 x10 x11) (by decide) := by
  rw [narrowT512_eq, firstT512_eq]
  exact restT512_eq _ x2 x6 x7 x8 x9 x10 x11

/-- The body's text of the first norm of the sub-tile at row 768. -/
def firstT768 (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) : FVec F S256x1024 .f32 :=
  let n0 := k0_pay75 (View.ld x0 (Rect.unit (s := S1x1024x1024) ![0, 768, 0] S1x256x1024.size inb_S1x1024x1024_S1x256x1024_0_768_0))
  let n1 := k0_pay76 (BitVec.ofNat 32 (i 1).val) (View.ld x0 (Rect.unit (s := S1x1024x1024) ![0, 768, 0] S1x256x1024.size inb_S1x1024x1024_S1x256x1024_0_768_0)) (View.ld E (Rect.unit (s := S1040x1024) ![768, 0] S272x256.size inb_S1040x1024_S272x256_768_0))
  let n2 := k0_pay77 n1 (View.ld x3 (Rect.unit (s := S1x4x256x256) ![0, 0, 0, 0] S1x1x256x256.size inb_S1x4x256x256_S1x1x256x256_0_0_0_0)) (View.ld x4 (Rect.unit (s := S1x4x256) ![0, 0, 0] S1x1x256.size inb_S1x4x256_S1x1x256_0_0_0))
  let n3 := k0_pay74 (BitVec.ofNat 32 (i 1).val)
  let n4 := k0_pay80 n3 n0 (View.ld E (Rect.unit (s := S1040x1024) ![768, 256] S272x256.size inb_S1040x1024_S272x256_768_256)) (View.ld x3 (Rect.unit (s := S1x4x256x256) ![0, 1, 0, 0] S1x1x256x256.size inb_S1x4x256x256_S1x1x256x256_0_1_0_0))
  let n5 := k0_pay81 n4 (View.ld x4 (Rect.unit (s := S1x4x256) ![0, 1, 0] S1x1x256.size inb_S1x4x256_S1x1x256_0_1_0))
  let n6 := k0_pay84 n3 n0 (View.ld E (Rect.unit (s := S1040x1024) ![768, 512] S272x256.size inb_S1040x1024_S272x256_768_512)) (View.ld x3 (Rect.unit (s := S1x4x256x256) ![0, 2, 0, 0] S1x1x256x256.size inb_S1x4x256x256_S1x1x256x256_0_2_0_0))
  let n7 := k0_pay85 n6 (View.ld x4 (Rect.unit (s := S1x4x256) ![0, 2, 0] S1x1x256.size inb_S1x4x256_S1x1x256_0_2_0))
  let n8 := k0_pay88 n3 n0 (View.ld E (Rect.unit (s := S1040x1024) ![768, 768] S272x256.size inb_S1040x1024_S272x256_768_768))
  let n9 := k0_pay89 (View.ld x3 (Rect.unit (s := S1x4x256x256) ![0, 3, 0, 0] S1x1x256x256.size inb_S1x4x256x256_S1x1x256x256_0_3_0_0))
  let n10 := constant S256x256 .f32 0#32
  let n11 := k0_pay90 n0 n2 n5 n7 n8 n9 n10 (View.ld x4 (Rect.unit (s := S1x4x256) ![0, 3, 0] S1x1x256.size inb_S1x4x256_S1x1x256_0_3_0)) x5
  k0_pay94 n11 (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))

/-- The first part of the sub-tile at row 768, in the layer's words. -/
theorem firstT768_eq (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) :
    firstT768 i E x0 x3 x4 x5 x6 = normK (mixK (posK (BitVec.ofNat 32 (i 1).val) (BitVec.ofNat 32 768)) (xRows x0 768 (by decide)) E 768 (by decide) x3 x4 x5) (rowK x6 0 (by decide)) (rowK x6 1 (by decide)) := rfl

/-- The body's text of the same, narrowed. -/
def narrowT768 (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) : FVec F S256x1024 .bf16 :=
  let n0 := k0_pay75 (View.ld x0 (Rect.unit (s := S1x1024x1024) ![0, 768, 0] S1x256x1024.size inb_S1x1024x1024_S1x256x1024_0_768_0))
  let n1 := k0_pay76 (BitVec.ofNat 32 (i 1).val) (View.ld x0 (Rect.unit (s := S1x1024x1024) ![0, 768, 0] S1x256x1024.size inb_S1x1024x1024_S1x256x1024_0_768_0)) (View.ld E (Rect.unit (s := S1040x1024) ![768, 0] S272x256.size inb_S1040x1024_S272x256_768_0))
  let n2 := k0_pay77 n1 (View.ld x3 (Rect.unit (s := S1x4x256x256) ![0, 0, 0, 0] S1x1x256x256.size inb_S1x4x256x256_S1x1x256x256_0_0_0_0)) (View.ld x4 (Rect.unit (s := S1x4x256) ![0, 0, 0] S1x1x256.size inb_S1x4x256_S1x1x256_0_0_0))
  let n3 := k0_pay74 (BitVec.ofNat 32 (i 1).val)
  let n4 := k0_pay80 n3 n0 (View.ld E (Rect.unit (s := S1040x1024) ![768, 256] S272x256.size inb_S1040x1024_S272x256_768_256)) (View.ld x3 (Rect.unit (s := S1x4x256x256) ![0, 1, 0, 0] S1x1x256x256.size inb_S1x4x256x256_S1x1x256x256_0_1_0_0))
  let n5 := k0_pay81 n4 (View.ld x4 (Rect.unit (s := S1x4x256) ![0, 1, 0] S1x1x256.size inb_S1x4x256_S1x1x256_0_1_0))
  let n6 := k0_pay84 n3 n0 (View.ld E (Rect.unit (s := S1040x1024) ![768, 512] S272x256.size inb_S1040x1024_S272x256_768_512)) (View.ld x3 (Rect.unit (s := S1x4x256x256) ![0, 2, 0, 0] S1x1x256x256.size inb_S1x4x256x256_S1x1x256x256_0_2_0_0))
  let n7 := k0_pay85 n6 (View.ld x4 (Rect.unit (s := S1x4x256) ![0, 2, 0] S1x1x256.size inb_S1x4x256_S1x1x256_0_2_0))
  let n8 := k0_pay88 n3 n0 (View.ld E (Rect.unit (s := S1040x1024) ![768, 768] S272x256.size inb_S1040x1024_S272x256_768_768))
  let n9 := k0_pay89 (View.ld x3 (Rect.unit (s := S1x4x256x256) ![0, 3, 0, 0] S1x1x256x256.size inb_S1x4x256x256_S1x1x256x256_0_3_0_0))
  let n10 := constant S256x256 .f32 0#32
  let n11 := k0_pay90 n0 n2 n5 n7 n8 n9 n10 (View.ld x4 (Rect.unit (s := S1x4x256) ![0, 3, 0] S1x1x256.size inb_S1x4x256_S1x1x256_0_3_0)) x5
  k0_pay95 n11 (View.ld x6 (Rect.unit (s := S1x4x1024) ![0, 0, 0] S1x1x1024.size inb_S1x4x1024_S1x1x1024_0_0_0)) (View.ld x6 (Rect.unit (s := S1x4x1024) ![0, 1, 0] S1x1x1024.size inb_S1x4x1024_S1x1x1024_0_1_0))

/-- The narrowed rows of the sub-tile at row 768. -/
theorem narrowT768_eq (i : grid0.Coords) (E : Vec F S1040x1024 .f32) (x0 : Vec F S1x1024x1024 .f32) (x3 : Vec F S1x4x256x256 .bf16) (x4 : Vec F S1x4x256 .f32) (x5 : Vec F S1x1024 .f32) (x6 : Vec F S1x4x1024 .f32) :
    narrowT768 i E x0 x3 x4 x5 x6 = truncf .bf16 (firstT768 i E x0 x3 x4 x5 x6) (by decide) := rfl

/-- The body's text from there to the tile stored. -/
def restT768 (X : FVec F S256x1024 .f32) (Y : FVec F S256x1024 .bf16) (x2 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) : FVec F S1x256x1024 .f32 :=
  let n0 := k0_pay112 (View.ld x6 (Rect.unit (s := S1x4x1024) ![0, 2, 0] S1x1x1024.size inb_S1x4x1024_S1x1x1024_0_2_0))
  let n1 := k0_pay113 (View.ld x6 (Rect.unit (s := S1x4x1024) ![0, 3, 0] S1x1x1024.size inb_S1x4x1024_S1x1x1024_0_3_0))
  let n2 := k0_pay106 Y (View.ld x7 (Rect.unit (s := S1x1024x4096) ![0, 0, 2048] S1x1024x512.size inb_S1x1024x4096_S1x1024x512_0_0_2048))
  let n3 := k0_pay102 Y (View.ld x7 (Rect.unit (s := S1x1024x4096) ![0, 0, 512] S1x1024x512.size inb_S1x1024x4096_S1x1024x512_0_0_512))
  let n4 := k0_pay103 Y (View.ld x7 (Rect.unit (s := S1x1024x4096) ![0, 0, 0] S1x1024x512.size inb_S1x1024x4096_S1x1024x512_0_0_0)) (View.ld x8 (Rect.unit (s := S1x4096x1024) ![0, 0, 0] S1x512x1024.size inb_S1x4096x1024_S1x512x1024_0_0_0))
  let n5 := k0_pay104 Y (View.ld x7 (Rect.unit (s := S1x1024x4096) ![0, 0, 1024] S1x1024x512.size inb_S1x1024x4096_S1x1024x512_0_0_1024))
  let n6 := k0_pay107 Y n3 n4 n5 k0_pay105 (View.ld x8 (Rect.unit (s := S1x4096x1024) ![0, 512, 0] S1x512x1024.size inb_S1x4096x1024_S1x512x1024_0_512_0)) (View.ld x7 (Rect.unit (s := S1x1024x4096) ![0, 0, 1536] S1x1024x512.size inb_S1x1024x4096_S1x1024x512_0_0_1536)) (View.ld x8 (Rect.unit (s := S1x4096x1024) ![0, 1024, 0] S1x512x1024.size inb_S1x4096x1024_S1x512x1024_0_1024_0)) (View.ld x8 (Rect.unit (s := S1x4096x1024) ![0, 1536, 0] S1x512x1024.size inb_S1x4096x1024_S1x512x1024_0_1536_0))
  let n7 := k0_pay108 Y (View.ld x7 (Rect.unit (s := S1x1024x4096) ![0, 0, 2560] S1x1024x512.size inb_S1x1024x4096_S1x1024x512_0_0_2560))
  let n8 := k0_pay110 Y n2 n6 n7 k0_pay109 (View.ld x8 (Rect.unit (s := S1x4096x1024) ![0, 2048, 0] S1x512x1024.size inb_S1x4096x1024_S1x512x1024_0_2048_0)) (View.ld x7 (Rect.unit (s := S1x1024x4096) ![0, 0, 3072] S1x1024x512.size inb_S1x1024x4096_S1x1024x512_0_0_3072)) (View.ld x8 (Rect.unit (s := S1x4096x1024) ![0, 2560, 0] S1x512x1024.size inb_S1x4096x1024_S1x512x1024_0_2560_0)) (View.ld x8 (Rect.unit (s := S1x4096x1024) ![0, 3072, 0] S1x512x1024.size inb_S1x4096x1024_S1x512x1024_0_3072_0))
  let n9 := k0_pay111 Y (View.ld x7 (Rect.unit (s := S1x1024x4096) ![0, 0, 3584] S1x1024x512.size inb_S1x1024x4096_S1x1024x512_0_0_3584))
  let n10 := k0_pay114 X Y n8 n9 (View.ld x8 (Rect.unit (s := S1x4096x1024) ![0, 3584, 0] S1x512x1024.size inb_S1x4096x1024_S1x512x1024_0_3584_0)) x9 x10 (View.ld x2 (Rect.unit (s := S1x1x1024x256) ![0, 0, 768, 0] S1x1x256x256.size inb_S1x1x1024x256_S1x1x256x256_0_0_768_0)) x11
  let n11 := k0_pay115 X Y n8 n9 (View.ld x8 (Rect.unit (s := S1x4096x1024) ![0, 3584, 0] S1x512x1024.size inb_S1x4096x1024_S1x512x1024_0_3584_0)) x9 x10 (View.ld x2 (Rect.unit (s := S1x1x1024x256) ![0, 0, 768, 0] S1x1x256x256.size inb_S1x1x1024x256_S1x1x256x256_0_0_768_0)) x11
  k0_pay1 n0 n1 n10 n11

/-- The rest of the sub-tile at row 768, in the layer's words. -/
theorem restT768_eq (X : FVec F S256x1024 .f32) (x2 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    restT768 X (truncf .bf16 X (by decide)) x2 x6 x7 x8 x9 x10 x11 =
      shapeCast S1x256x1024 (normK (addf (addf (mulf (broadcast T256x1024 (Scalar.ofBits .f32 0x3FB504F3#32)) X) (ffK (truncf .bf16 X (by decide)) x7 x8)) (gateK (truncf .bf16 X (by decide)) (pRows x2 768 (by decide)) x9 x10 x11))
        (rowK x6 2 (by decide)) (rowK x6 3 (by decide))) (by decide) := rfl

/-- The sub-tile stored at row 768. -/
theorem tile_768 (i : grid0.Coords) (E : Vec F S1040x1024 .f32) (x0 : Vec F S1x1024x1024 .f32) (x2 : Vec F S1x1x1024x256 .f32) (x3 : Vec F S1x4x256x256 .bf16) (x4 : Vec F S1x4x256 .f32) (x5 : Vec F S1x1024 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    restT768 (firstT768 i E x0 x3 x4 x5 x6) (narrowT768 i E x0 x3 x4 x5 x6) x2 x6 x7 x8 x9 x10 x11 =
      shapeCast S1x256x1024 (tailK (mixK (posK (BitVec.ofNat 32 (i 1).val) (BitVec.ofNat 32 768)) (xRows x0 768 (by decide)) E 768 (by decide) x3 x4 x5) (pRows x2 768 (by decide)) x6 x7 x8 x9 x10 x11) (by decide) := by
  rw [narrowT768_eq, firstT768_eq]
  exact restT768_eq _ x2 x6 x7 x8 x9 x10 x11

/-- Loading a whole block of three axes gives the block. -/
theorem ld_all3 {e : EltTy} {a b c : ℕ} (x : Vec F ⟨3, ![a, b, c]⟩ e) (h : ∀ k, (![0, 0, 0] : Fin 3 → ℕ) k + (![a, b, c] : Fin 3 → ℕ) k ≤ (![a, b, c] : Fin 3 → ℕ) k) :
    View.ld x (Rect.unit (s := ⟨3, ![a, b, c]⟩) ![0, 0, 0] ![a, b, c] h) = x := by
  funext j
  refine congrArg x (funext fun k => Fin.ext ?_)
  match k with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- Loading a whole block of two axes gives the block. -/
theorem ld_all2 {e : EltTy} {a b : ℕ} (x : Vec F ⟨2, ![a, b]⟩ e) (h : ∀ k, (![0, 0] : Fin 2 → ℕ) k + (![a, b] : Fin 2 → ℕ) k ≤ (![a, b] : Fin 2 → ℕ) k) :
    View.ld x (Rect.unit (s := ⟨2, ![a, b]⟩) ![0, 0] ![a, b] h) = x := by
  funext j
  refine congrArg x (funext fun k => Fin.ext ?_)
  match k with
  | ⟨0, _⟩ => exact (Nat.zero_add _).trans (Nat.one_mul _)
  | ⟨1, _⟩ => exact (Nat.zero_add _).trans (Nat.one_mul _)

set_option maxHeartbeats 1000000 in
/-- What the body leaves in its output block: the four sub-tiles, last first. -/
theorem run_pieces (c : Dev nD) (i : grid0.Coords) (arg2 : Memref sig .tc .vmem S1x1024x1024 .f32) (harg2 : arg2.IsWhole) (arg3 : Memref sig .tc .vmem S1x16x1024 .f32) (harg3 : arg3.IsWhole) (arg4 : Memref sig .tc .vmem S1x1x1024x256 .f32) (harg4 : arg4.IsWhole) (arg5 : Memref sig .tc .vmem S1x4x256x256 .bf16) (harg5 : arg5.IsWhole) (arg6 : Memref sig .tc .vmem S1x4x256 .f32) (harg6 : arg6.IsWhole) (arg7 : Memref sig .tc .vmem S1x1024 .f32) (harg7 : arg7.IsWhole) (arg8 : Memref sig .tc .vmem S1x4x1024 .f32) (harg8 : arg8.IsWhole) (arg9 : Memref sig .tc .vmem S1x1024x4096 .bf16) (harg9 : arg9.IsWhole) (arg10 : Memref sig .tc .vmem S1x4096x1024 .bf16) (harg10 : arg10.IsWhole) (arg11 : Memref sig .tc .vmem S1x1024x1024 .bf16) (harg11 : arg11.IsWhole) (arg12 : Memref sig .tc .vmem S1x1x1024 .f32) (harg12 : arg12.IsWhole) (arg13 : Memref sig .tc .vmem S1x256x1024 .bf16) (harg13 : arg13.IsWhole) (arg14 : Memref sig .tc .vmem S1x1024x1024 .f32) (harg14 : arg14.IsWhole) (arg15 : Memref sig .tc .vmem S1040x1024 .f32) (harg15 : arg15.IsWhole) (x0 : Vec F S1x1024x1024 .f32) (x1 : Vec F S1x16x1024 .f32) (x2 : Vec F S1x1x1024x256 .f32) (x3 : Vec F S1x4x256x256 .bf16) (x4 : Vec F S1x4x256 .f32) (x5 : Vec F S1x1024 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1 = [⟨Rect.unit (s := S1x1024x1024) ![0, 768, 0] S1x256x1024.size inb_S1x1024x1024_S1x256x1024_0_768_0, tileV i x0 x1 x2 x3 x4 x5 x6 x7 x8 x9 x10 x11 768 (by decide) (by decide)⟩,
      ⟨Rect.unit (s := S1x1024x1024) ![0, 512, 0] S1x256x1024.size inb_S1x1024x1024_S1x256x1024_0_512_0, tileV i x0 x1 x2 x3 x4 x5 x6 x7 x8 x9 x10 x11 512 (by decide) (by decide)⟩,
      ⟨Rect.unit (s := S1x1024x1024) ![0, 256, 0] S1x256x1024.size inb_S1x1024x1024_S1x256x1024_0_256_0, tileV i x0 x1 x2 x3 x4 x5 x6 x7 x8 x9 x10 x11 256 (by decide) (by decide)⟩,
      ⟨Rect.unit (s := S1x1024x1024) ![0, 0, 0] S1x256x1024.size inb_S1x1024x1024_S1x256x1024_0_0_0, tileV i x0 x1 x2 x3 x4 x5 x6 x7 x8 x9 x10 x11 0 (by decide) (by decide)⟩] := by
  unfold kernelRun0_A
  dsimp only
  sl_unfold_words
  simp only [View.readCov_eq_canon', View.readAt_eq_ld, Memref.IsWhole.read_unread]
  have e3 : View.ld x1 (Rect.unit (s := S1x16x1024) ![0, 0, 0] S1x16x1024.size inb_S1x16x1024_S1x16x1024_0_0_0) = x1 := ld_all3 x1 _
  have e0 : View.ld x0 (Rect.unit (s := S1x1024x1024) ![0, 0, 0] S1x1024x1024.size inb_S1x1024x1024_S1x1024x1024_0_0_0) = x0 := ld_all3 x0 _
  have e5 : View.ld x5 (Rect.unit (s := S1x1024) ![0, 0] S1x1024.size inb_S1x1024_S1x1024_0_0) = x5 := ld_all2 x5 _
  have e9 : View.ld x9 (Rect.unit (s := S1x1024x1024) ![0, 0, 0] S1x1024x1024.size inb_S1x1024x1024_S1x1024x1024_0_0_0) = x9 := ld_all3 x9 _
  have e10 : View.ld x10 (Rect.unit (s := S1x1x1024) ![0, 0, 0] S1x1x1024.size inb_S1x1x1024_S1x1x1024_0_0_0) = x10 := ld_all3 x10 _
  have e11 : View.ld x11 (Rect.unit (s := S1x256x1024) ![0, 0, 0] S1x256x1024.size inb_S1x256x1024_S1x256x1024_0_0_0) = x11 := ld_all3 x11 _
  simp only [View.ld] at e0 e3 e5 e9 e10 e11
  rw [e3, e0, e5, e9, e10, e11]
  refine congrArg₂ List.cons ?_ (congrArg₂ List.cons ?_ (congrArg₂ List.cons ?_ (congrArg₂ List.cons ?_ rfl)))
  · exact congrArg (fun v => (⟨Rect.unit (s := S1x1024x1024) ![0, 768, 0] S1x256x1024.size inb_S1x1024x1024_S1x256x1024_0_768_0, v⟩ : View.Piece (Elt F) S1x1024x1024 .f32))
      (tile_768 i (extK i x0 x1) x0 x2 x3 x4 x5 x6 x7 x8 x9 x10 x11)
  · exact congrArg (fun v => (⟨Rect.unit (s := S1x1024x1024) ![0, 512, 0] S1x256x1024.size inb_S1x1024x1024_S1x256x1024_0_512_0, v⟩ : View.Piece (Elt F) S1x1024x1024 .f32))
      (tile_512 i (extK i x0 x1) x0 x2 x3 x4 x5 x6 x7 x8 x9 x10 x11)
  · exact congrArg (fun v => (⟨Rect.unit (s := S1x1024x1024) ![0, 256, 0] S1x256x1024.size inb_S1x1024x1024_S1x256x1024_0_256_0, v⟩ : View.Piece (Elt F) S1x1024x1024 .f32))
      (tile_256 i (extK i x0 x1) x0 x2 x3 x4 x5 x6 x7 x8 x9 x10 x11)
  · exact congrArg (fun v => (⟨Rect.unit (s := S1x1024x1024) ![0, 0, 0] S1x256x1024.size inb_S1x1024x1024_S1x256x1024_0_0_0, v⟩ : View.Piece (Elt F) S1x1024x1024 .f32))
      (tile_0 i (extK i x0 x1) x0 x2 x3 x4 x5 x6 x7 x8 x9 x10 x11)

end Cert.Tile

end
-- ==== Proof.Spec.lean ====
module

public import Idealize.ShloMosaic.Lib.Pointwise

/-! The layer's mathematics, row by row, over the extended reals. -/

@[expose] public section

noncomputable section

namespace Cert.Spec

open Idealize.ShloMosaic

/-- The mean of a row. -/
def mean (y : Fin 1024 → EReal) : EReal := Ideal.div (∑ k, y k) (Ideal.ofBits .f32 0x44800000#32)

/-- Its variance. -/
def var (y : Fin 1024 → EReal) : EReal := Ideal.div (∑ k, (y k - mean y) * (y k - mean y)) (Ideal.ofBits .f32 0x44800000#32)

/-- The layer norm of a row. -/
def ln (y g b : Fin 1024 → EReal) (c : Fin 1024) : EReal :=
  (y c - mean y) * Ideal.rsqrt (var y + Ideal.ofBits .f32 0x3727C5AC#32) * g c + b c

/-- A hidden unit's positive part, squared. -/
def act (x : Fin 1024 → EReal) (w1 : Fin 1024 → Fin 4096 → EReal) (h : Fin 4096) : EReal :=
  max (∑ k, x k * w1 k h) 0 * max (∑ k, x k * w1 k h) 0

/-- The feed-forward branch of a row. -/
def ff (x : Fin 1024 → EReal) (w1 : Fin 1024 → Fin 4096 → EReal) (w2 : Fin 4096 → Fin 1024 → EReal) (c : Fin 1024) : EReal :=
  ∑ h, act x w1 h * w2 h c

/-- The gated embedding of a row. -/
def gate (x : Fin 1024 → EReal) (gw : Fin 1024 → Fin 1024 → EReal) (gb : Fin 1024 → EReal) (p : Fin 256 → EReal) (pp : Fin 256 → Fin 1024 → EReal) (c : Fin 1024) : EReal :=
  Ideal.logistic ((∑ k, x k * gw k c) + gb c) * ∑ k, p k * pp k c

/-- From the mixer's sum of a row to the layer's row. -/
def tail (y g0 b0 g1 b1 : Fin 1024 → EReal) (w1 : Fin 1024 → Fin 4096 → EReal) (w2 : Fin 4096 → Fin 1024 → EReal) (gw : Fin 1024 → Fin 1024 → EReal)
    (gb : Fin 1024 → EReal) (p : Fin 256 → EReal) (pp : Fin 256 → Fin 1024 → EReal) : Fin 1024 → EReal :=
  ln (fun c => Ideal.ofBits .f32 0x3FB504F3#32 * ln y g0 b0 c + ff (ln y g0 b0) w1 w2 c + gate (ln y g0 b0) gw gb p pp c) g1 b1

/-- Column `k` of group `g`. -/
def col (g : Fin 4) (k : Fin 256) : Fin 1024 := ⟨256 * g.val + k.val, by omega⟩

/-- Group `g`'s window. -/
def winE (g : Fin 4) : EReal :=
  match g with
  | ⟨0, _⟩ => Ideal.ofBits .f32 0x40000000#32
  | ⟨1, _⟩ => Ideal.ofBits .f32 0x40800000#32
  | ⟨2, _⟩ => Ideal.ofBits .f32 0x41000000#32
  | ⟨3, _⟩ => Ideal.ofBits .f32 0x41800000#32

/-- One entry of a group of the mixer: from the group's row sums `s` and rows `x`, the rows counted `d`. -/
def group (s x : Fin 256 → EReal) (d : EReal) (w : Fin 256 → EReal) (b : EReal) : EReal :=
  (∑ k, (s k * Ideal.div 1 d - x k) * w k) + b

/-- Row `n` of a sequence with sixteen rows of zeros before it. -/
def padded (x : Fin 8192 → Fin 1024 → EReal) (n : ℕ) (c : Fin 1024) : EReal :=
  if h : 16 ≤ n ∧ n - 16 < 8192 then x ⟨n - 16, h.2⟩ c else 0

/-- The mixer's sum at row `R`, group `g`, column `c` of the group. -/
def mix (x : Fin 8192 → Fin 1024 → EReal) (pw : Fin 4 → Fin 256 → Fin 256 → EReal) (pb : Fin 4 → Fin 256 → EReal) (ps : Fin 1024 → EReal)
    (R : Fin 8192) (g : Fin 4) (c : Fin 256) : EReal :=
  Ideal.ofBits .f32 0x3FB504F3#32 * x R (col g c)
    + group (fun k => ∑ j ∈ Finset.range (2 ^ (g.val + 1)), padded x (R.val + 16 - j) (col g k)) (fun k => x R (col g k))
        (min (((R.val + 1 : ℕ) : ℝ) : EReal) (winE g)) (fun k => pw g k c) (pb g c) * ps (col g c)

/-- The mixer's sum at row `R`, all columns. -/
def mixRow (x : Fin 8192 → Fin 1024 → EReal) (pw : Fin 4 → Fin 256 → Fin 256 → EReal) (pb : Fin 4 → Fin 256 → EReal) (ps : Fin 1024 → EReal)
    (R : Fin 8192) (c : Fin 1024) : EReal :=
  mix x pw pb ps R ⟨c.val / 256, by omega⟩ ⟨c.val % 256, by omega⟩

/-- The whole row at a column of a group. -/
theorem mixRow_col (x : Fin 8192 → Fin 1024 → EReal) (pw : Fin 4 → Fin 256 → Fin 256 → EReal) (pb : Fin 4 → Fin 256 → EReal) (ps : Fin 1024 → EReal)
    (R : Fin 8192) (g : Fin 4) (c : Fin 256) : mixRow x pw pb ps R (col g c) = mix x pw pb ps R g c := by
  have h1 : (⟨(col g c).val / 256, by omega⟩ : Fin 4) = g := Fin.ext (by show (256 * g.val + c.val) / 256 = g.val; omega)
  have h2 : (⟨(col g c).val % 256, by omega⟩ : Fin 256) = c := Fin.ext (by show (256 * g.val + c.val) % 256 = c.val; omega)
  unfold mixRow
  rw [h1, h2]

/-- Every column is a column of a group. -/
theorem exists_col (c : Fin 1024) : ∃ g k, c = col g k :=
  ⟨⟨c.val / 256, by omega⟩, ⟨c.val % 256, by omega⟩, Fin.ext (by show c.val = 256 * (c.val / 256) + c.val % 256; omega)⟩

end Cert.Spec

end
-- ==== Proof.TailRead.lean ====
module

public import proofs.«01_k».proof.Proof.Vocab
public import proofs.«01_k».proof.Proof.Spec

/-! The vocabulary's norm, feed-forward and gate read at a row and a column. -/

@[expose] public section

noncomputable section

namespace Cert.Tile

open Idealize.ShloMosaic Idealize.ShloMosaic.TcCoe Idealize.ShloMosaic.Pointwise

/-- A load through a box reads at `x` the entry at the box's offset plus `x`. -/
theorem ld_at {S : Shape} {e : EltTy} (X : Vec Ideal S e) (off size : Fin S.rank → ℕ) (inb : ∀ a, off a + size a ≤ S.size a) (x : (Rect.unit off size inb).shape.Idx)
    (i : S.Idx) (hi : ∀ a, (i a : ℕ) = off a + x a) : View.ld (Val := Elt Ideal) X (Rect.unit off size inb) x = X i :=
  congrArg X (funext fun a => Fin.ext ((congrArg (off a + ·) (Nat.one_mul (x a).val)).trans (hi a).symm))

/-- The kernel's norm, entry by entry. -/
theorem normK_apply (y : FVec Ideal T256x1024 .f32) (g b : Vec Ideal T1x1x1024 .f32) (r : Fin 256) (c : Fin 1024) :
    normK y g b (ix2 r c) = Spec.ln (fun k => y (ix2 r k)) (fun k => g (ix3 0 0 k)) (fun k => b (ix3 0 0 k)) c := by
  pointwise [normK, Spec.ln, Spec.mean, Spec.var]

/-- A row of the norms' table. -/
theorem rowK_apply (x6 : Vec Ideal T1x4x1024 .f32) (k : ℕ) (hk : k < 4) (c : Fin 1024) : rowK x6 k hk (ix3 0 0 c) = x6 (ix3 0 ⟨k, hk⟩ c) := by
  refine ld_at x6 _ _ _ _ _ fun a => ?_
  match a with
  | ⟨0, _⟩ => rfl
  | ⟨1, _⟩ => rfl
  | ⟨2, _⟩ => exact (Nat.zero_add _).symm

/-- The hidden product, as a sum. -/
theorem hid_read (xb : FVec Ideal T256x1024 .bf16) (w : Vec Ideal T1x1024x512 .bf16) (r : Fin 256) (h : Fin 512) :
    matmul (φ₂ := .bf16) (DotDims.plain 256 1024 512) none xb (shapeCast T1024x512 w casts_w1) (constant T256x512 .f32 0x00000000#32) (ix2 r h)
      = ∑ k, xb (ix2 r k) * w (ix3 0 k h) := by
  pointwise

/-- A chunk's hidden entry. -/
theorem hidK_apply (xb : FVec Ideal T256x1024 .bf16) (x7 : Vec Ideal T1x1024x4096 .bf16) (o : ℕ) (ho : o + 512 ≤ 4096) (r : Fin 256) (h : Fin 512) :
    hidK xb x7 o ho (ix2 r h) = ∑ k, xb (ix2 r k) * x7 (ix3 0 k ⟨o + h.val, by omega⟩) := by
  refine (hid_read xb _ r h).trans (Finset.sum_congr rfl fun k _ => congrArg _ ?_)
  refine ld_at x7 _ _ _ _ _ fun a => ?_
  match a with
  | ⟨0, _⟩ => rfl
  | ⟨1, _⟩ => exact (Nat.zero_add _).symm
  | ⟨2, _⟩ => rfl

/-- The second product, as a sum. -/
theorem out_read (h : FVec Ideal T256x512 .f32) (w : Vec Ideal T1x512x1024 .bf16) (r : Fin 256) (c : Fin 1024) :
    matmul (φ₂ := .bf16) (DotDims.plain 256 512 1024) none (truncf .bf16 (mulf h h) (by decide)) (shapeCast T512x1024 w casts_w2) (constant T256x1024 .f32 0x00000000#32) (ix2 r c)
      = ∑ k, h (ix2 r k) * h (ix2 r k) * w (ix3 0 k c) := by
  pointwise

/-- The squared relu, entry by entry. -/
theorem relu_read (h : FVec Ideal T256x512 .f32) (r : Fin 256) (k : Fin 512) :
    maximumf h (broadcast T256x512 (Scalar.ofBits .f32 0x00000000#32)) (ix2 r k) = max (h (ix2 r k)) 0 := by
  pointwise

/-- A chunk's share of the feed-forward part. -/
theorem chunkK_apply (xb : FVec Ideal T256x1024 .bf16) (x7 : Vec Ideal T1x1024x4096 .bf16) (x8 : Vec Ideal T1x4096x1024 .bf16) (o : ℕ) (ho : o + 512 ≤ 4096)
    (r : Fin 256) (c : Fin 1024) :
    chunkK xb x7 x8 o ho (ix2 r c)
      = ∑ h : Fin 512, Spec.act (fun k => xb (ix2 r k)) (fun k h => x7 (ix3 0 k h)) ⟨o + h.val, by omega⟩ * x8 (ix3 0 ⟨o + h.val, by omega⟩ c) := by
  refine (out_read _ _ r c).trans (Finset.sum_congr rfl fun k _ => ?_)
  rw [relu_read, hidK_apply]
  refine congrArg _ ?_
  refine ld_at x8 _ _ _ _ _ fun a => ?_
  match a with
  | ⟨0, _⟩ => rfl
  | ⟨1, _⟩ => rfl
  | ⟨2, _⟩ => exact (Nat.zero_add _).symm

/-- A sum of 4096 terms is the sum of its eight runs of 512. -/
theorem sum_runs (f : Fin 4096 → EReal) :
    ((((((((∑ h : Fin 512, f ⟨0 + h.val, by omega⟩) + ∑ h : Fin 512, f ⟨512 + h.val, by omega⟩) + ∑ h : Fin 512, f ⟨1024 + h.val, by omega⟩)
      + ∑ h : Fin 512, f ⟨1536 + h.val, by omega⟩) + ∑ h : Fin 512, f ⟨2048 + h.val, by omega⟩) + ∑ h : Fin 512, f ⟨2560 + h.val, by omega⟩)
      + ∑ h : Fin 512, f ⟨3072 + h.val, by omega⟩) + ∑ h : Fin 512, f ⟨3584 + h.val, by omega⟩) = ∑ h, f h := by
  rw [Fin.sum_univ_tiles 8 512 (by decide) f, Fin.sum_univ_eight]
  rfl

/-- The feed-forward branch of a row of the tile. -/
theorem ffK_apply (xb : FVec Ideal T256x1024 .bf16) (x7 : Vec Ideal T1x1024x4096 .bf16) (x8 : Vec Ideal T1x4096x1024 .bf16) (r : Fin 256) (c : Fin 1024) :
    ffK xb x7 x8 (ix2 r c) = Spec.ff (fun k => xb (ix2 r k)) (fun k h => x7 (ix3 0 k h)) (fun h c => x8 (ix3 0 h c)) c := by
  pointwise [ffK]
  simp only [chunkK_apply]
  exact sum_runs fun h => Spec.act (fun k => xb (ix2 r k)) (fun k h => x7 (ix3 0 k h)) h * x8 (ix3 0 h c)

/-- The gated embedding of the kernel, entry by entry. -/
theorem gateK_apply (xb : FVec Ideal T256x1024 .bf16) (p : Vec Ideal T1x1x256x256 .f32) (x9 : Vec Ideal T1x1024x1024 .bf16) (x10 : Vec Ideal T1x1x1024 .f32) (x11 : Vec Ideal T1x256x1024 .bf16)
    (r : Fin 256) (c : Fin 1024) :
    gateK xb p x9 x10 x11 (ix2 r c)
      = Spec.gate (fun k => xb (ix2 r k)) (fun k c => x9 (ix3 0 k c)) (fun c => x10 (ix3 0 0 c)) (fun k => p (ix4 0 0 r k)) (fun k c => x11 (ix3 0 k c)) c := by
  pointwise [gateK, Spec.gate]

/-- The three summands of the second norm. -/
theorem sum_read (X : FVec Ideal T256x1024 .f32) (f g : FVec Ideal T256x1024 .f32) (r : Fin 256) (c : Fin 1024) :
    addf (addf (mulf (broadcast T256x1024 (Scalar.ofBits .f32 0x3FB504F3#32)) X) f) g (ix2 r c)
      = Ideal.ofBits .f32 0x3FB504F3#32 * X (ix2 r c) + f (ix2 r c) + g (ix2 r c) := by
  pointwise

/-- Narrowing keeps the value. -/
theorem narrow_read (X : FVec Ideal T256x1024 .f32) (j : T256x1024.Idx) : (truncf .bf16 X (by decide) : FVec Ideal T256x1024 .bf16) j = X j := by
  pointwise

/-- The whole tail of a row of the tile. -/
theorem tailK_apply (y : FVec Ideal T256x1024 .f32) (p : Vec Ideal T1x1x256x256 .f32) (x6 : Vec Ideal T1x4x1024 .f32) (x7 : Vec Ideal T1x1024x4096 .bf16) (x8 : Vec Ideal T1x4096x1024 .bf16)
    (x9 : Vec Ideal T1x1024x1024 .bf16) (x10 : Vec Ideal T1x1x1024 .f32) (x11 : Vec Ideal T1x256x1024 .bf16) (r : Fin 256) (c : Fin 1024) :
    tailK y p x6 x7 x8 x9 x10 x11 (ix2 r c)
      = Spec.tail (fun k => y (ix2 r k)) (fun k => x6 (ix3 0 0 k)) (fun k => x6 (ix3 0 1 k)) (fun k => x6 (ix3 0 2 k)) (fun k => x6 (ix3 0 3 k))
          (fun k h => x7 (ix3 0 k h)) (fun h c => x8 (ix3 0 h c)) (fun k c => x9 (ix3 0 k c)) (fun c => x10 (ix3 0 0 c)) (fun k => p (ix4 0 0 r k)) (fun k c => x11 (ix3 0 k c)) c := by
  unfold tailK
  rw [normK_apply]
  simp only [sum_read, ffK_apply, gateK_apply, narrow_read, normK_apply, rowK_apply]
  rfl

/-- The embedding's rows of a sub-tile. -/
theorem pRows_apply (x2 : Vec Ideal T1x1x1024x256 .f32) (o : ℕ) (ho : o + 256 ≤ 1024) (r : Fin 256) (k : Fin 256) :
    pRows x2 o ho (ix4 0 0 r k) = x2 (ix4 0 0 ⟨o + r.val, by omega⟩ k) := by
  refine ld_at x2 _ _ _ _ _ fun a => ?_
  match a with
  | ⟨0, _⟩ => rfl
  | ⟨1, _⟩ => rfl
  | ⟨2, _⟩ => rfl
  | ⟨3, _⟩ => exact (Nat.zero_add _).symm

/-- Dropping a leading axis of one. -/
theorem drop_read (v : Vec Ideal T1x256x1024 .f32) (r : Fin 256) (c : Fin 1024) : shapeCast T256x1024 v casts_x (ix2 r c) = v (ix3 0 r c) := by
  pointwise

/-- Adding a leading axis of one. -/
theorem add_read (v : FVec Ideal T256x1024 .f32) (r : Fin 256) (c : Fin 1024) : shapeCast T1x256x1024 v (by decide) (ix3 0 r c) = v (ix2 r c) := by
  pointwise

/-- The input's rows of a sub-tile. -/
theorem xRows_apply (x0 : Vec Ideal T1x1024x1024 .f32) (o : ℕ) (ho : o + 256 ≤ 1024) (r : Fin 256) (c : Fin 1024) :
    xRows x0 o ho (ix2 r c) = x0 (ix3 0 ⟨o + r.val, by omega⟩ c) := by
  refine (drop_read _ r c).trans ?_
  refine ld_at x0 _ _ _ _ _ fun a => ?_
  match a with
  | ⟨0, _⟩ => rfl
  | ⟨1, _⟩ => rfl
  | ⟨2, _⟩ => exact (Nat.zero_add _).symm

end Cert.Tile

end
-- ==== Proof.MixRead.lean ====
module

public import proofs.«01_k».proof.Proof.TailRead
public import Idealize.ShloMosaic.Lib.KernelVsHost

/-! The pooling mixer of the vocabulary read at a row and a column. -/

@[expose] public section

noncomputable section

namespace Cert.Tile

open Idealize.ShloMosaic Idealize.ShloMosaic.TcCoe Idealize.ShloMosaic.Pointwise Cert.Spec

/-- The tile `s` holds, at each row with `m - 1` rows before it, the sum of the last `m` rows of `e`. -/
def Sums (s : FVec Ideal T272x256 .f32) (e : ℕ → Fin 256 → EReal) (m : ℕ) : Prop :=
  ∀ (R : Fin 272) (k : Fin 256), m ≤ R.val + 1 → s (ix2 R k) = ∑ j ∈ Finset.range m, e (R.val - j) k

/-- One doubling step: a row and the row some rows before it. -/
theorem rollK_read (n : BitVec 32) (s : FVec Ideal T272x256 .f32) (R : Fin 272) (k : Fin 256) (hn : n.toNat ≤ R.val) :
    rollK n s (ix2 R k) = s (ix2 R k) + s (ix2 ⟨R.val - n.toNat, by omega⟩ k) := by
  refine congrArg (s (ix2 R k) + ·) ?_
  refine Idealize.ShloMosaic.dynamicRotate_apply (s := T272x256) 0 n s _ _ _ fun b => ?_
  match b with
  | ⟨0, _⟩ =>
    show R.val - n.toNat = (R.val + 272 - n.toNat % 272) % 272
    rw [Nat.mod_eq_of_lt (by omega : n.toNat < 272)]
    omega
  | ⟨1, _⟩ => rfl

/-- A roll by `m` doubles the window. -/
theorem Sums.roll {s : FVec Ideal T272x256 .f32} {e : ℕ → Fin 256 → EReal} {m : ℕ} (h : Sums s e m) (n : BitVec 32) (hn : n.toNat = m) :
    Sums (rollK n s) e (m + m) := by
  intro R k hR
  rw [rollK_read n s R k (by omega), h R k (by omega), h ⟨R.val - n.toNat, by omega⟩ k (by show m ≤ R.val - n.toNat + 1; omega), Finset.sum_range_add]
  refine congrArg _ (Finset.sum_congr rfl fun j _ => ?_)
  show e (R.val - n.toNat - j) k = e (R.val - (m + j)) k
  rw [hn, Nat.sub_sub]

/-- Row `n` of the extended tile. -/
def erow (E : Vec Ideal T1040x1024 .f32) (n : ℕ) (c : Fin 1024) : EReal := if h : n < 1040 then E (ix2 ⟨n, h⟩ c) else 0

/-- The rows themselves are sums over windows of one row. -/
theorem eRows_sums (E : Vec Ideal T1040x1024 .f32) (o q : ℕ) (ho : o + 272 ≤ 1040) (hq : q + 256 ≤ 1024) (g : Fin 4) (hg : 256 * g.val = q) :
    Sums (eRows E o q ho hq) (fun n k => erow E (o + n) (col g k)) 1 := by
  intro R k _
  rw [Finset.sum_range_one]
  show _ = erow E (o + (R.val - 0)) (col g k)
  unfold erow
  rw [dif_pos (show o + (R.val - 0) < 1040 by omega)]
  refine ld_at E _ _ _ _ _ fun a => ?_
  match a with
  | ⟨0, _⟩ => rfl
  | ⟨1, _⟩ => show 256 * g.val + k.val = q + k.val; omega

/-- A pooled row's entry. -/
theorem pooled_read (pos : FVec Ideal T256x1 .f32) (x : FVec Ideal T256x1024 .f32) (s : FVec Ideal T272x256 .f32) (w : BitVec 32) (q : ℕ) (hq : q + 256 ≤ 1024) (g : Fin 4) (hg : 256 * g.val = q)
    (r : Fin 256) (k : Fin 256) :
    (truncf .bf16 (subf (mulf (extractStridedSlice T256x256 ![16, 0] s (by decide))
          (broadcastTo T256x256 (divf (broadcast T256x1 (Scalar.ofBits .f32 0x3F800000#32)) (minimumf pos (broadcast T256x1 (Scalar.ofBits .f32 w)))) (by decide)))
        (extractStridedSlice T256x256 ![0, q] x (slices_cols q hq))) (by decide) : FVec Ideal T256x256 .bf16) (ix2 r k)
      = s (ix2 ⟨16 + r.val, by omega⟩ k) * Ideal.div 1 (min (pos (ix2 r 0)) (Ideal.ofBits .f32 w)) - x (ix2 r (col g k)) := by
  have hx : extractStridedSlice T256x256 ![0, q] x (slices_cols q hq) (ix2 r k) = x (ix2 r (col g k)) := by
    refine extractStridedSlice_apply ![0, q] x _ _ _ fun a => ?_
    match a with
    | ⟨0, _⟩ => exact (Nat.zero_add _).symm
    | ⟨1, _⟩ => show 256 * g.val + k.val = q + k.val; omega
  generalize extractStridedSlice T256x256 ![0, q] x (slices_cols q hq) = y at hx
  rw [← hx]
  pointwise

/-- A group's linear map, entry by entry. -/
theorem lin_read (u : FVec Ideal T256x256 .bf16) (w : Vec Ideal T1x1x256x256 .bf16) (b : Vec Ideal T1x1x256 .f32) (r c : Fin 256) :
    addf (matmul (φ₂ := .bf16) (DotDims.plain 256 256 256) none u (shapeCast T256x256 w casts_pw) (constant T256x256 .f32 0x00000000#32))
      (broadcastTo T256x256 (shapeCast T1x256 b casts_pb) (by decide)) (ix2 r c)
      = (∑ k, u (ix2 r k) * w (ix4 0 0 k c)) + b (ix3 0 0 c) := by
  pointwise

/-- A group's mixed entry. -/
theorem groupK_apply (pos : FVec Ideal T256x1 .f32) (x : FVec Ideal T256x1024 .f32) (s : FVec Ideal T272x256 .f32) (w : BitVec 32) (k q : ℕ) (hk : k < 4) (hq : q + 256 ≤ 1024)
    (x3 : Vec Ideal T1x4x256x256 .bf16) (x4 : Vec Ideal T1x4x256 .f32) (g : Fin 4) (hg : 256 * g.val = q) (hgk : g.val = k) (hw : winE g = Ideal.ofBits .f32 w)
    (e : ℕ → Fin 256 → EReal) (hs : Sums s e (2 ^ (g.val + 1))) (r c : Fin 256) :
    groupK pos x s w k q hk hq x3 x4 (ix2 r c)
      = group (fun k => ∑ j ∈ Finset.range (2 ^ (g.val + 1)), e (16 + r.val - j) k) (fun k => x (ix2 r (col g k))) (min (pos (ix2 r 0)) (winE g)) (fun k => x3 (ix4 0 g k c)) (x4 (ix3 0 g c)) := by
  unfold groupK
  rw [lin_read]
  unfold group
  have hm : 2 ^ (g.val + 1) ≤ 16 := (Nat.pow_le_pow_right (by decide) (by omega : g.val + 1 ≤ 4)).trans (by decide)
  congr 1
  · refine Finset.sum_congr rfl fun k' _ => ?_
    rw [pooled_read pos x s w q hq g hg, hs _ _ (by show _ ≤ 16 + r.val + 1; omega), hw]
    refine congrArg _ ?_
    refine ld_at x3 _ _ _ _ _ fun a => ?_
    match a with
    | ⟨0, _⟩ => rfl
    | ⟨1, _⟩ => exact hgk
    | ⟨2, _⟩ => exact (Nat.zero_add _).symm
    | ⟨3, _⟩ => exact (Nat.zero_add _).symm
  · refine ld_at x4 _ _ _ _ _ fun a => ?_
    match a with
    | ⟨0, _⟩ => rfl
    | ⟨1, _⟩ => exact hgk
    | ⟨2, _⟩ => exact (Nat.zero_add _).symm

/-- The four groups side by side, entry by entry. -/
theorem cat_read (a b c d : FVec Ideal T256x256 .f32) (g : Fin 4) (r k : Fin 256) :
    concatenate T256x1024 1 [⟨T256x256, a⟩, ⟨T256x256, b⟩, ⟨T256x256, c⟩, ⟨T256x256, d⟩] cats_groups (ix2 r (col g k))
      = (match g with | ⟨0, _⟩ => a | ⟨1, _⟩ => b | ⟨2, _⟩ => c | ⟨3, _⟩ => d) (ix2 r k) := by
  have side : ∀ b : Fin 2, b ≠ 1 → ((ix2 r k : T256x256.Idx) b).val = ((ix2 r (col g k) : T256x1024.Idx) b).val := by
    intro b hb
    match b with
    | ⟨0, _⟩ => rfl
    | ⟨1, _⟩ => exact absurd rfl hb
  match g with
  | ⟨0, _⟩ => exact concatenate_apply_piece (t := T256x1024) 1 _ _ _ 0 (by show 0 < 4; omega) T256x256 a rfl rfl 0 rfl (ix2 r k) side (by show 0 + k.val = 256 * 0 + k.val; omega)
  | ⟨1, _⟩ => exact concatenate_apply_piece (t := T256x1024) 1 _ _ _ 1 (by show 1 < 4; omega) T256x256 b rfl rfl 256 rfl (ix2 r k) side (by show 256 + k.val = 256 * 1 + k.val; omega)
  | ⟨2, _⟩ => exact concatenate_apply_piece (t := T256x1024) 1 _ _ _ 2 (by show 2 < 4; omega) T256x256 c rfl rfl 512 rfl (ix2 r k) side (by show 512 + k.val = 256 * 2 + k.val; omega)
  | ⟨3, _⟩ => exact concatenate_apply_piece (t := T256x1024) 1 _ _ _ 3 (by show 3 < 4; omega) T256x256 d rfl rfl 768 rfl (ix2 r k) side (by show 768 + k.val = 256 * 3 + k.val; omega)

/-- The scaled mix added to the row. -/
theorem outer_read (x m : FVec Ideal T256x1024 .f32) (x5 : Vec Ideal T1x1024 .f32) (r : Fin 256) (c : Fin 1024) :
    addf (mulf (broadcast T256x1024 (Scalar.ofBits .f32 0x3FB504F3#32)) x) (mulf m (broadcastTo T256x1024 (shapeCast T1x1024 x5 (by decide)) (by decide))) (ix2 r c)
      = Ideal.ofBits .f32 0x3FB504F3#32 * x (ix2 r c) + m (ix2 r c) * x5 (ix2 0 c) := by
  pointwise

/-- The mixer's sum at row `r`, column `c` of group `g`. -/
theorem mixK_apply (pos : FVec Ideal T256x1 .f32) (x : FVec Ideal T256x1024 .f32) (E : Vec Ideal T1040x1024 .f32) (o : ℕ) (ho : o + 272 ≤ 1040)
    (x3 : Vec Ideal T1x4x256x256 .bf16) (x4 : Vec Ideal T1x4x256 .f32) (x5 : Vec Ideal T1x1024 .f32) (g : Fin 4) (r c : Fin 256) :
    mixK pos x E o ho x3 x4 x5 (ix2 r (col g c))
      = Ideal.ofBits .f32 0x3FB504F3#32 * x (ix2 r (col g c))
        + group (fun k => ∑ j ∈ Finset.range (2 ^ (g.val + 1)), erow E (o + (16 + r.val - j)) (col g k)) (fun k => x (ix2 r (col g k))) (min (pos (ix2 r 0)) (winE g))
            (fun k => x3 (ix4 0 g k c)) (x4 (ix3 0 g c)) * x5 (ix2 0 (col g c)) := by
  unfold mixK
  rw [outer_read, cat_read]
  refine congrArg (fun z : EReal => Ideal.ofBits .f32 0x3FB504F3#32 * x (ix2 r (col g c)) + z * x5 (ix2 0 (col g c))) ?_
  match g with
  | ⟨0, _⟩ => exact groupK_apply pos x _ _ 0 0 _ _ x3 x4 0 rfl rfl rfl _ ((eRows_sums E o 0 ho _ 0 rfl).roll 1#32 rfl) r c
  | ⟨1, _⟩ => exact groupK_apply pos x _ _ 1 256 _ _ x3 x4 1 rfl rfl rfl _ (((eRows_sums E o 256 ho _ 1 rfl).roll 1#32 rfl).roll 2#32 rfl) r c
  | ⟨2, _⟩ => exact groupK_apply pos x _ _ 2 512 _ _ x3 x4 2 rfl rfl rfl _ ((((eRows_sums E o 512 ho _ 2 rfl).roll 1#32 rfl).roll 2#32 rfl).roll 4#32 rfl) r c
  | ⟨3, _⟩ => exact groupK_apply pos x _ _ 3 768 _ _ x3 x4 3 rfl rfl rfl _ (((((eRows_sums E o 768 ho _ 3 rfl).roll 1#32 rfl).roll 2#32 rfl).roll 4#32 rfl).roll 8#32 rfl) r c

/-- A number below two to the thirty-first, as a word read signed. -/
theorem toInt_word (n : ℕ) (h : n < 2147483648) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- A row's position is one more than its number. -/
theorem posK_apply (T o : ℕ) (hT : T < 8) (ho : o + 256 ≤ 1024) (r : Fin 256) :
    posK (F := Ideal) (BitVec.ofNat 32 T) (BitVec.ofNat 32 o) (ix2 r 0) = (((1024 * T + o + r.val + 1 : ℕ) : ℝ) : EReal) := by
  have e : (BitVec.ofNat 32 r.val + (BitVec.ofNat 32 T * 1024#32 + BitVec.ofNat 32 o + 1#32)) = BitVec.ofNat 32 (1024 * T + o + r.val + 1) := by
    apply BitVec.eq_of_toNat_eq
    simp only [BitVec.toNat_add, BitVec.toNat_mul, BitVec.toNat_ofNat]
    omega
  unfold posK
  pointwise
  show (((BitVec.ofNat 32 r.val + (BitVec.ofNat 32 T * 1024#32 + BitVec.ofNat 32 o + 1#32)).toInt : ℝ) : EReal) = _
  rw [e, toInt_word _ (by omega), Int.cast_natCast]

end Cert.Tile

end
-- ==== Proof.Arrays.lean ====
module

public import proofs.«01_k».proof.Proof.Gen.KernelIdeal.Value
public import Idealize.ShloMosaic.Lib.StableHlo.ReadAt
public import Idealize.ShloMosaic.Lib.Pointwise

/-! What the host lines before the call leave in the arrays the call stages, at an index. -/

@[expose] public section

noncomputable section

namespace Cert.Tile

open Cert.KernelIdeal Cert.KernelIdeal.Gen Idealize.ShloMosaic Idealize.ShloMosaic.TcCoe Idealize.SL.Sem Idealize.ShloMosaic.Pointwise

variable (m : (ℓ : Loc nD τ sig) → Buf (Elt Ideal) ℓ) (c : Dev nD)

/-- The first norm's gain in the packed table. -/
theorem V_ln0 (l : Fin 2) (k : Fin 1024) : V m c main_v12 (ix3 l (0 : Fin 4) k) = m ((c : Thread nD τ).loc main_arg2) (ix3 l (0 : Fin 2) k) := by
  unfold V
  after_reads_at
  rw [StableHlo.unary_result]
  after_reads_at

/-- The first norm's offset in the packed table. -/
theorem V_ln1 (l : Fin 2) (k : Fin 1024) : V m c main_v12 (ix3 l (1 : Fin 4) k) = m ((c : Thread nD τ).loc main_arg3) (ix3 l (0 : Fin 2) k) := by
  unfold V
  after_reads_at
  rw [StableHlo.unary_result]
  after_reads_at

/-- The second norm's gain in the packed table. -/
theorem V_ln2 (l : Fin 2) (k : Fin 1024) : V m c main_v12 (ix3 l (2 : Fin 4) k) = m ((c : Thread nD τ).loc main_arg2) (ix3 l (1 : Fin 2) k) := by
  unfold V
  after_reads_at
  rw [StableHlo.unary_result]
  after_reads_at

/-- The second norm's offset in the packed table. -/
theorem V_ln3 (l : Fin 2) (k : Fin 1024) : V m c main_v12 (ix3 l (3 : Fin 4) k) = m ((c : Thread nD τ).loc main_arg3) (ix3 l (1 : Fin 2) k) := by
  unfold V
  after_reads_at
  rw [StableHlo.unary_result]
  after_reads_at

/-- The cast first feed-forward matrix is the argument. -/
theorem V_w1 (j : S2x1024x4096.Idx) : V m c main_v13 j = m ((c : Thread nD τ).loc main_arg7) j := by
  unfold V
  after_reads_at

/-- The cast second feed-forward matrix is the argument. -/
theorem V_w2 (j : S2x4096x1024.Idx) : V m c main_v14 j = m ((c : Thread nD τ).loc main_arg8) j := by
  unfold V
  after_reads_at

/-- The cast gate matrix is the argument. -/
theorem V_gw (j : S2x1024x1024.Idx) : V m c main_v15 j = m ((c : Thread nD τ).loc main_arg9) j := by
  unfold V
  after_reads_at

/-- The cast embedding matrix is the argument. -/
theorem V_pp (j : S2x256x1024.Idx) : V m c main_v17 j = m ((c : Thread nD τ).loc main_arg11) j := by
  unfold V
  after_reads_at

/-- The cast pooling matrices are the argument. -/
theorem V_pw (j : S1x4x256x256.Idx) : V m c main_v18 j = m ((c : Thread nD τ).loc main_arg4) j := by
  unfold V
  after_reads_at

/-- The gate's offset, with its added axis. -/
theorem V_gb (l : Fin 2) (k : Fin 1024) : V m c main_v16 (ix3 l (0 : Fin 1) k) = m ((c : Thread nD τ).loc main_arg10) (ix2 l k) := by
  unfold V
  after_reads_at

/-- The pooling scale, with its added axis. -/
theorem V_ps (k : Fin 1024) : V m c main_v20 (ix2 (0 : Fin 1) k) = m ((c : Thread nD τ).loc main_arg6) (ix2 (0 : Fin 1) k) := by
  unfold V
  after_reads_at

end Cert.Tile

end
-- ==== Proof.KernelValue.lean ====
module

public import proofs.«01_k».proof.Proof.Pieces
public import proofs.«01_k».proof.Proof.MixRead
public import proofs.«01_k».proof.Proof.Arrays
public import Idealize.ShloMosaic.Lib.Pipeline.ValueKit.Geometry

/-! What the kernel leaves in its result, row by row. -/

@[expose] public section

noncomputable section

namespace Cert.Tile

open Cert.KernelIdeal Cert.KernelIdeal.Gen Idealize.ShloMosaic Idealize.ShloMosaic.TcCoe Idealize.SL.Sem Idealize.ShloMosaic.Pointwise

/-- The body of the scratch holds the tile's own rows. -/
theorem pay3_read (x0 : Vec Ideal S1x1024x1024 .f32) (r c : Fin 1024) : k0_pay3 x0 (ix2 r c) = x0 (ix3 0 r c) := by
  pointwise [k0_pay3]

/-- The halo of a sequence's first tile is zero. -/
theorem pay2_read_zero (i : grid0.Coords) (hT : (i 1).val = 0) (x1 : Vec Ideal S1x16x1024 .f32) (r : Fin 16) (c : Fin 1024) : k0_pay2 i x1 (ix2 r c) = 0 := by
  unfold k0_pay2
  rw [hT]
  pointwise

/-- The halo of a later tile is the block before it. -/
theorem pay2_read_pos (i : grid0.Coords) (hT : 0 < (i 1).val) (x1 : Vec Ideal S1x16x1024 .f32) (r : Fin 16) (c : Fin 1024) :
    k0_pay2 i x1 (ix2 r c) = x1 (ix3 0 r c) := by
  have hne : Scalar.cmpi .eq (BitVec.ofNat 32 (i 1).val) 0#32 = 0#1 := by
    have hlt : (i 1).val < 8 := (i 1).isLt
    generalize (i 1).val = n at *
    interval_cases n <;> rfl
  unfold k0_pay2
  rw [hne]
  pointwise

/-- The extended tile's first rows are the halo. -/
theorem extK_low (i : grid0.Coords) (x0 : Vec Ideal S1x1024x1024 .f32) (x1 : Vec Ideal S1x16x1024 .f32) (n : Fin 16) (c : Fin 1024) :
    extK i x0 x1 (ix2 ⟨n.val, by omega⟩ c) = k0_pay2 i x1 (ix2 n c) := by
  unfold extK extL
  rw [View.canon_cons_of_not_mem _ _ (fun h => by
    have h0 := (Rect.mem_set_unit (s := S1040x1024) (off := ![16, 0]) (size := S1024x1024.size) (inb := inb_S1040x1024_S1024x1024_16_0)).mp h 0
    have : (16 : ℕ) ≤ n.val := h0.1
    omega)]
  have e : (ix2 ⟨n.val, by omega⟩ c : S1040x1024.Idx) = (Rect.unit (s := S1040x1024) ![0, 0] S16x1024.size inb_S1040x1024_S16x1024_0_0).emb (ix2 n c) := by
    funext a
    apply Fin.ext
    match a with
    | ⟨0, _⟩ => show n.val = 0 + 1 * n.val; omega
    | ⟨1, _⟩ => show c.val = 0 + 1 * c.val; omega
  rw [e]
  exact View.canon_cons_emb _ _ _ _

/-- The extended tile's other rows are the tile. -/
theorem extK_high (i : grid0.Coords) (x0 : Vec Ideal S1x1024x1024 .f32) (x1 : Vec Ideal S1x16x1024 .f32) (n : Fin 1024) (c : Fin 1024) :
    extK i x0 x1 (ix2 ⟨16 + n.val, by omega⟩ c) = x0 (ix3 0 n c) := by
  unfold extK extL
  have e : (ix2 ⟨16 + n.val, by omega⟩ c : S1040x1024.Idx) = (Rect.unit (s := S1040x1024) ![16, 0] S1024x1024.size inb_S1040x1024_S1024x1024_16_0).emb (ix2 n c) := by
    funext a
    apply Fin.ext
    match a with
    | ⟨0, _⟩ => show 16 + n.val = 16 + 1 * n.val; omega
    | ⟨1, _⟩ => show c.val = 0 + 1 * c.val; omega
  rw [e]
  exact (View.canon_cons_emb _ _ _ _).trans (pay3_read x0 n c)

/-- Row `n` of the scratch is row `1024 T + n` of the padded sequence. -/
theorem extK_padded (i : grid0.Coords) (x0 : Vec Ideal S1x1024x1024 .f32) (x1 : Vec Ideal S1x16x1024 .f32) (X : Fin 8192 → Fin 1024 → EReal)
    (hT : (i 1).val < 8)
    (hx0 : ∀ (r c : Fin 1024), x0 (ix3 0 r c) = X ⟨1024 * (i 1).val + r.val, by omega⟩ c)
    (hx1 : 0 < (i 1).val → ∀ (r : Fin 16) (c : Fin 1024), x1 (ix3 0 r c) = X ⟨1024 * (i 1).val - 16 + r.val, by omega⟩ c) (n : ℕ) (hn : n < 1040) (c : Fin 1024) :
    erow (extK i x0 x1) n c = Spec.padded X (1024 * (i 1).val + n) c := by
  unfold erow Spec.padded
  rw [dif_pos hn]
  by_cases h16 : n < 16
  · rw [show (ix2 ⟨n, hn⟩ c : S1040x1024.Idx) = ix2 ⟨(⟨n, h16⟩ : Fin 16).val, by omega⟩ c from rfl, extK_low]
    rcases Nat.eq_zero_or_pos (i 1).val with h0 | h0
    · rw [pay2_read_zero i h0, dif_neg (by omega)]
    · rw [pay2_read_pos i h0, hx1 h0, dif_pos (by omega)]
      exact congrArg (X · c) (Fin.ext (by show 1024 * (i 1).val - 16 + n = 1024 * (i 1).val + n - 16; omega))
  · have e : (ix2 ⟨n, hn⟩ c : S1040x1024.Idx) = ix2 ⟨16 + (⟨n - 16, by omega⟩ : Fin 1024).val, by show 16 + (n - 16) < 1040; omega⟩ c :=
      congrArg (ix2 · c) (Fin.ext (by show n = 16 + (n - 16); omega))
    rw [e, extK_high, hx0, dif_pos (by omega)]
    exact congrArg (X · c) (Fin.ext (by show 1024 * (i 1).val + (n - 16) = 1024 * (i 1).val + n - 16; omega))

/-- The mixer's sum of a sub-tile is the sequence's. -/
theorem mixK_row (i : grid0.Coords) (x0 : Vec Ideal S1x1024x1024 .f32) (x1 : Vec Ideal S1x16x1024 .f32) (X : Fin 8192 → Fin 1024 → EReal)
    (x3 : Vec Ideal S1x4x256x256 .bf16) (x4 : Vec Ideal S1x4x256 .f32) (x5 : Vec Ideal S1x1024 .f32)
    (hT : (i 1).val < 8)
    (hx0 : ∀ (r c : Fin 1024), x0 (ix3 0 r c) = X ⟨1024 * (i 1).val + r.val, by omega⟩ c)
    (hx1 : 0 < (i 1).val → ∀ (r : Fin 16) (c : Fin 1024), x1 (ix3 0 r c) = X ⟨1024 * (i 1).val - 16 + r.val, by omega⟩ c)
    (o : ℕ) (ho : o + 256 ≤ 1024) (ho' : o + 272 ≤ 1040) (r : Fin 256) (c : Fin 1024) :
    mixK (posK (BitVec.ofNat 32 (i 1).val) (BitVec.ofNat 32 o)) (xRows x0 o ho) (extK i x0 x1) o ho' x3 x4 x5 (ix2 r c)
      = Spec.mixRow X (fun g k c => x3 (ix4 0 g k c)) (fun g c => x4 (ix3 0 g c)) (fun c => x5 (ix2 0 c)) ⟨1024 * (i 1).val + o + r.val, by omega⟩ c := by
  obtain ⟨g, k, rfl⟩ := Spec.exists_col c
  have hx : ∀ c, xRows x0 o ho (ix2 r c) = X ⟨1024 * (i 1).val + o + r.val, by omega⟩ c := fun c => by
    rw [xRows_apply, hx0]
    exact congrArg (X · c) (Fin.ext (by show 1024 * (i 1).val + (o + r.val) = 1024 * (i 1).val + o + r.val; omega))
  have hs : ∀ k' : Fin 256, (∑ j ∈ Finset.range (2 ^ (g.val + 1)), erow (extK i x0 x1) (o + (16 + r.val - j)) (Spec.col g k'))
      = ∑ j ∈ Finset.range (2 ^ (g.val + 1)), Spec.padded X (1024 * (i 1).val + o + r.val + 16 - j) (Spec.col g k') := fun k' =>
    Finset.sum_congr rfl fun j hj => by
      have hj16 : j < 16 := by
        have h1 := Finset.mem_range.mp hj
        have h2 : 2 ^ (g.val + 1) ≤ 2 ^ 4 := Nat.pow_le_pow_right (by omega) (by omega)
        omega
      rw [extK_padded i x0 x1 X hT hx0 hx1 _ (by omega)]
      exact congrArg (Spec.padded X · (Spec.col g k')) (by omega)
  rw [Spec.mixRow_col, mixK_apply, posK_apply _ _ hT ho]
  unfold Spec.mix
  simp only [hx, hs]

/-- A sub-tile as stored is the layer's rows. -/
theorem tileV_read (i : grid0.Coords) (x0 : Vec Ideal S1x1024x1024 .f32) (x1 : Vec Ideal S1x16x1024 .f32) (x2 : Vec Ideal S1x1x1024x256 .f32) (x3 : Vec Ideal S1x4x256x256 .bf16)
    (x4 : Vec Ideal S1x4x256 .f32) (x5 : Vec Ideal S1x1024 .f32) (x6 : Vec Ideal S1x4x1024 .f32) (x7 : Vec Ideal S1x1024x4096 .bf16) (x8 : Vec Ideal S1x4096x1024 .bf16)
    (x9 : Vec Ideal S1x1024x1024 .bf16) (x10 : Vec Ideal S1x1x1024 .f32) (x11 : Vec Ideal S1x256x1024 .bf16) (X : Fin 8192 → Fin 1024 → EReal)
    (hT : (i 1).val < 8)
    (hx0 : ∀ (r c : Fin 1024), x0 (ix3 0 r c) = X ⟨1024 * (i 1).val + r.val, by omega⟩ c)
    (hx1 : 0 < (i 1).val → ∀ (r : Fin 16) (c : Fin 1024), x1 (ix3 0 r c) = X ⟨1024 * (i 1).val - 16 + r.val, by omega⟩ c)
    (o : ℕ) (ho : o + 256 ≤ 1024) (ho' : o + 272 ≤ 1040) (r : Fin 256) (c : Fin 1024) :
    tileV i x0 x1 x2 x3 x4 x5 x6 x7 x8 x9 x10 x11 o ho ho' (ix3 0 r c)
      = Spec.tail (Spec.mixRow X (fun g k c => x3 (ix4 0 g k c)) (fun g c => x4 (ix3 0 g c)) (fun c => x5 (ix2 0 c)) ⟨1024 * (i 1).val + o + r.val, by omega⟩)
          (fun k => x6 (ix3 0 0 k)) (fun k => x6 (ix3 0 1 k)) (fun k => x6 (ix3 0 2 k)) (fun k => x6 (ix3 0 3 k))
          (fun k h => x7 (ix3 0 k h)) (fun h c => x8 (ix3 0 h c)) (fun k c => x9 (ix3 0 k c)) (fun c => x10 (ix3 0 0 c)) (fun k => x2 (ix4 0 0 ⟨o + r.val, by omega⟩ k))
          (fun k c => x11 (ix3 0 k c)) c := by
  unfold tileV
  rw [add_read, tailK_apply]
  have e1 : (fun k => mixK (posK (BitVec.ofNat 32 (i 1).val) (BitVec.ofNat 32 o)) (xRows x0 o ho) (extK i x0 x1) o ho' x3 x4 x5 (ix2 r k))
      = Spec.mixRow X (fun g k c => x3 (ix4 0 g k c)) (fun g c => x4 (ix3 0 g c)) (fun c => x5 (ix2 0 c)) ⟨1024 * (i 1).val + o + r.val, by omega⟩ :=
    funext fun k => mixK_row i x0 x1 X x3 x4 x5 hT hx0 hx1 o ho ho' r k
  rw [e1]
  simp only [pRows_apply]

/-- The layer over its arrays. -/
def outRow (x : Vec Ideal S2x8192x1024 .f32) (p : Vec Ideal S2x2x8192x256 .f32) (lg lb : Vec Ideal S2x2x1024 .f32) (pw : Vec Ideal S1x4x256x256 .f32) (pb : Vec Ideal S1x4x256 .f32)
    (ps : Vec Ideal S1x1024 .f32) (w1 : Vec Ideal S2x1024x4096 .f32) (w2 : Vec Ideal S2x4096x1024 .f32) (gw : Vec Ideal S2x1024x1024 .f32) (gb : Vec Ideal S2x1024 .f32)
    (pp : Vec Ideal S2x256x1024 .f32) (b : Fin 2) (R : Fin 8192) : Fin 1024 → EReal :=
  Spec.tail (Spec.mixRow (fun R c => x (ix3 b R c)) (fun g k c => pw (ix4 0 g k c)) (fun g c => pb (ix3 0 g c)) (fun c => ps (ix2 0 c)) R)
    (fun k => lg (ix3 0 0 k)) (fun k => lb (ix3 0 0 k)) (fun k => lg (ix3 0 1 k)) (fun k => lb (ix3 0 1 k))
    (fun k h => w1 (ix3 0 k h)) (fun h c => w2 (ix3 0 h c)) (fun k c => gw (ix3 0 k c)) (fun c => gb (ix2 0 c)) (fun k => p (ix4 0 b R k)) (fun k c => pp (ix3 0 k c))

section Blocks

variable (m : (ℓ : Loc nD τ sig) → Buf (Elt Ideal) ℓ) (c : Dev nD)

/-- The output's block at a grid point. -/
theorem ix_out : ∀ t : Fin cfg0.N, win0_12.index t = ![(grid0.coords t 0).val, (grid0.coords t 1).val, 0] := (by decide +kernel : ∀ t : Fin grid0.N, _)
/-- The input's block at a grid point. -/
theorem ix_x : ∀ t : Fin cfg0.N, win0_0.index t = ![(grid0.coords t 0).val, (grid0.coords t 1).val, 0] := (by decide +kernel : ∀ t : Fin grid0.N, _)
/-- The halo's block at a grid point. -/
theorem ix_halo : ∀ t : Fin cfg0.N, win0_1.index t = ![(grid0.coords t 0).val, 64 * (grid0.coords t 1).val - 1, 0] := (by decide +kernel : ∀ t : Fin grid0.N, _)
/-- The embedding's block at a grid point. -/
theorem ix_p : ∀ t : Fin cfg0.N, win0_2.index t = ![0, (grid0.coords t 0).val, (grid0.coords t 1).val, 0] := (by decide +kernel : ∀ t : Fin grid0.N, _)
/-- Operand 3 is one block. -/
theorem ix_3 : ∀ t : Fin cfg0.N, win0_3.index t = ![0, 0, 0, 0] := (by decide +kernel : ∀ t : Fin grid0.N, _)
/-- Operand 4 is one block. -/
theorem ix_4 : ∀ t : Fin cfg0.N, win0_4.index t = ![0, 0, 0] := (by decide +kernel : ∀ t : Fin grid0.N, _)
/-- Operand 5 is one block. -/
theorem ix_5 : ∀ t : Fin cfg0.N, win0_5.index t = ![0, 0] := (by decide +kernel : ∀ t : Fin grid0.N, _)
/-- Operand 6 is one block. -/
theorem ix_6 : ∀ t : Fin cfg0.N, win0_6.index t = ![0, 0, 0] := (by decide +kernel : ∀ t : Fin grid0.N, _)
/-- Operand 7 is one block. -/
theorem ix_7 : ∀ t : Fin cfg0.N, win0_7.index t = ![0, 0, 0] := (by decide +kernel : ∀ t : Fin grid0.N, _)
/-- Operand 8 is one block. -/
theorem ix_8 : ∀ t : Fin cfg0.N, win0_8.index t = ![0, 0, 0] := (by decide +kernel : ∀ t : Fin grid0.N, _)
/-- Operand 9 is one block. -/
theorem ix_9 : ∀ t : Fin cfg0.N, win0_9.index t = ![0, 0, 0] := (by decide +kernel : ∀ t : Fin grid0.N, _)
/-- Operand 10 is one block. -/
theorem ix_10 : ∀ t : Fin cfg0.N, win0_10.index t = ![0, 0, 0] := (by decide +kernel : ∀ t : Fin grid0.N, _)
/-- Operand 11 is one block. -/
theorem ix_11 : ∀ t : Fin cfg0.N, win0_11.index t = ![0, 0, 0] := (by decide +kernel : ∀ t : Fin grid0.N, _)

/-- The tile's number is below eight. -/
theorem lt8 (t : Fin cfg0.N) : (grid0.coords t 1).val < 8 := (grid0.coords t 1).isLt
/-- The batch's number is below two. -/
theorem lt2 (t : Fin cfg0.N) : (grid0.coords t 0).val < 2 := (grid0.coords t 0).isLt

/-- An entry of the input's block. -/
theorem blk_x (t : Fin cfg0.N) (r k : Fin 1024) :
    iblk m c 0 t (ix3 0 r k) = m ((c : Thread nD τ).loc main_arg0) (ix3 ⟨(grid0.coords t 0).val, lt2 t⟩ ⟨1024 * (grid0.coords t 1).val + r.val, by have := lt8 t; omega⟩ k) := by
  blk_simp [iblk]
  rw [V_main_arg0]
  refine congrArg _ ?_
  blk_ext [ix_x]

/-- An entry of the halo's block. -/
theorem blk_halo (t : Fin cfg0.N) (h : 0 < (grid0.coords t 1).val) (r : Fin 16) (k : Fin 1024) :
    iblk m c 1 t (ix3 0 r k) = m ((c : Thread nD τ).loc main_arg0) (ix3 ⟨(grid0.coords t 0).val, lt2 t⟩ ⟨1024 * (grid0.coords t 1).val - 16 + r.val, by have := lt8 t; omega⟩ k) := by
  blk_simp [iblk]
  rw [V_main_arg0]
  refine congrArg _ ?_
  blk_ext [ix_halo]

/-- An entry of the embedding's block. -/
theorem blk_p (t : Fin cfg0.N) (r : Fin 1024) (k : Fin 256) :
    iblk m c 2 t (ix4 0 0 r k) = m ((c : Thread nD τ).loc main_arg1) (ix4 0 ⟨(grid0.coords t 0).val, lt2 t⟩ ⟨1024 * (grid0.coords t 1).val + r.val, by have := lt8 t; omega⟩ k) := by
  blk_simp [iblk]
  rw [V_main_arg1]
  refine congrArg _ ?_
  blk_ext [ix_p]

/-- An entry of the pooling matrices' block. -/
theorem blk_pw (t : Fin cfg0.N) (g : Fin 4) (k l : Fin 256) : iblk m c 3 t (ix4 0 g k l) = m ((c : Thread nD τ).loc main_arg4) (ix4 0 g k l) := by
  blk_simp [iblk]
  rw [V_pw]
  refine congrArg _ ?_
  blk_ext [ix_3]

/-- An entry of the pooling offsets' block. -/
theorem blk_pb (t : Fin cfg0.N) (g : Fin 4) (k : Fin 256) : iblk m c 4 t (ix3 0 g k) = m ((c : Thread nD τ).loc main_arg5) (ix3 0 g k) := by
  blk_simp [iblk]
  rw [V_main_arg5]
  refine congrArg _ ?_
  blk_ext [ix_4]

/-- An entry of the pooling scale's block. -/
theorem blk_ps (t : Fin cfg0.N) (k : Fin 1024) : iblk m c 5 t (ix2 0 k) = m ((c : Thread nD τ).loc main_arg6) (ix2 0 k) := by
  blk_simp [iblk]
  refine Eq.trans (congrArg (V m c main_v20) (?_ : _ = ix2 (0 : Fin 1) k)) (V_ps m c k)
  blk_ext [ix_5]

/-- An entry of the norms' block. -/
theorem blk_ln (t : Fin cfg0.N) (g : Fin 4) (k : Fin 1024) : iblk m c 6 t (ix3 0 g k) = V m c main_v12 (ix3 (0 : Fin 2) g k) := by
  blk_simp [iblk]
  refine congrArg _ ?_
  blk_ext [ix_6]

/-- An entry of the first feed-forward matrix's block. -/
theorem blk_w1 (t : Fin cfg0.N) (k : Fin 1024) (h : Fin 4096) : iblk m c 7 t (ix3 0 k h) = m ((c : Thread nD τ).loc main_arg7) (ix3 0 k h) := by
  blk_simp [iblk]
  rw [V_w1]
  refine congrArg _ ?_
  blk_ext [ix_7]

/-- An entry of the second feed-forward matrix's block. -/
theorem blk_w2 (t : Fin cfg0.N) (h : Fin 4096) (k : Fin 1024) : iblk m c 8 t (ix3 0 h k) = m ((c : Thread nD τ).loc main_arg8) (ix3 0 h k) := by
  blk_simp [iblk]
  rw [V_w2]
  refine congrArg _ ?_
  blk_ext [ix_8]

/-- An entry of the gate matrix's block. -/
theorem blk_gw (t : Fin cfg0.N) (h k : Fin 1024) : iblk m c 9 t (ix3 0 h k) = m ((c : Thread nD τ).loc main_arg9) (ix3 0 h k) := by
  blk_simp [iblk]
  rw [V_gw]
  refine congrArg _ ?_
  blk_ext [ix_9]

/-- An entry of the gate offset's block. -/
theorem blk_gb (t : Fin cfg0.N) (k : Fin 1024) : iblk m c 10 t (ix3 0 0 k) = m ((c : Thread nD τ).loc main_arg10) (ix2 0 k) := by
  blk_simp [iblk]
  refine Eq.trans (congrArg (V m c main_v16) (?_ : _ = ix3 (0 : Fin 2) (0 : Fin 1) k)) (V_gb m c 0 k)
  blk_ext [ix_10]

/-- An entry of the embedding matrix's block. -/
theorem blk_pp (t : Fin cfg0.N) (h : Fin 256) (k : Fin 1024) : iblk m c 11 t (ix3 0 h k) = m ((c : Thread nD τ).loc main_arg11) (ix3 0 h k) := by
  blk_simp [iblk]
  rw [V_pp]
  refine congrArg _ ?_
  blk_ext [ix_11]

/-- The row of the layer at batch `b`, row `R`, from the memory's arrays. -/
def memRow (b : Fin 2) (R : Fin 8192) : Fin 1024 → EReal :=
  outRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) b R

/-- A sub-tile at a grid point is rows of the layer. -/
theorem tile_at (t : Fin cfg0.N) (o : ℕ) (ho : o + 256 ≤ 1024) (ho' : o + 272 ≤ 1040) (r : Fin 256) (k : Fin 1024) :
    tileV (grid0.coords t) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) o ho ho' (ix3 0 r k)
      = memRow m c ⟨(grid0.coords t 0).val, lt2 t⟩ ⟨1024 * (grid0.coords t 1).val + o + r.val, by have := lt8 t; omega⟩ k := by
  rw [tileV_read (grid0.coords t) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (fun R c' => m ((c : Thread nD τ).loc main_arg0) (ix3 ⟨(grid0.coords t 0).val, lt2 t⟩ R c')) (lt8 t)
        (fun r' c' => blk_x m c t r' c') (fun h r' c' => blk_halo m c t h r' c') o ho ho' r k]
  have e2 : (fun k => iblk m c 2 t (ix4 0 0 ⟨o + r.val, by omega⟩ k)) = fun k => m ((c : Thread nD τ).loc main_arg1) (ix4 0 ⟨(grid0.coords t 0).val, lt2 t⟩ ⟨1024 * (grid0.coords t 1).val + o + r.val, by have := lt8 t; omega⟩ k) :=
    funext fun k => (blk_p m c t ⟨o + r.val, by omega⟩ k).trans
      (congrArg (fun R => m ((c : Thread nD τ).loc main_arg1) (ix4 0 ⟨(grid0.coords t 0).val, lt2 t⟩ R k)) (Fin.ext (by show 1024 * (grid0.coords t 1).val + (o + r.val) = 1024 * (grid0.coords t 1).val + o + r.val; omega)))
  have e3 : (fun g k c' => iblk m c 3 t (ix4 0 g k c')) = fun g k c' => m ((c : Thread nD τ).loc main_arg4) (ix4 0 g k c') := by funext g k c'; exact blk_pw m c t g k c'
  have e4 : (fun g c' => iblk m c 4 t (ix3 0 g c')) = fun g c' => m ((c : Thread nD τ).loc main_arg5) (ix3 0 g c') := by funext g c'; exact blk_pb m c t g c'
  have e5 : (fun c' => iblk m c 5 t (ix2 0 c')) = fun c' => m ((c : Thread nD τ).loc main_arg6) (ix2 0 c') := by funext c'; exact blk_ps m c t c'
  have e60 : (fun c' => iblk m c 6 t (ix3 0 0 c')) = fun c' => m ((c : Thread nD τ).loc main_arg2) (ix3 0 0 c') := by funext c'; exact (blk_ln m c t 0 c').trans (V_ln0 m c 0 c')
  have e61 : (fun c' => iblk m c 6 t (ix3 0 1 c')) = fun c' => m ((c : Thread nD τ).loc main_arg3) (ix3 0 0 c') := by funext c'; exact (blk_ln m c t 1 c').trans (V_ln1 m c 0 c')
  have e62 : (fun c' => iblk m c 6 t (ix3 0 2 c')) = fun c' => m ((c : Thread nD τ).loc main_arg2) (ix3 0 1 c') := by funext c'; exact (blk_ln m c t 2 c').trans (V_ln2 m c 0 c')
  have e63 : (fun c' => iblk m c 6 t (ix3 0 3 c')) = fun c' => m ((c : Thread nD τ).loc main_arg3) (ix3 0 1 c') := by funext c'; exact (blk_ln m c t 3 c').trans (V_ln3 m c 0 c')
  have e7 : (fun k h => iblk m c 7 t (ix3 0 k h)) = fun k h => m ((c : Thread nD τ).loc main_arg7) (ix3 0 k h) := by funext k h; exact blk_w1 m c t k h
  have e8 : (fun k h => iblk m c 8 t (ix3 0 k h)) = fun k h => m ((c : Thread nD τ).loc main_arg8) (ix3 0 k h) := by funext k h; exact blk_w2 m c t k h
  have e9 : (fun k h => iblk m c 9 t (ix3 0 k h)) = fun k h => m ((c : Thread nD τ).loc main_arg9) (ix3 0 k h) := by funext k h; exact blk_gw m c t k h
  have e10 : (fun c' => iblk m c 10 t (ix3 0 0 c')) = fun c' => m ((c : Thread nD τ).loc main_arg10) (ix2 0 c') := by funext c'; exact blk_gb m c t c'
  have e11 : (fun k h => iblk m c 11 t (ix3 0 k h)) = fun k h => m ((c : Thread nD τ).loc main_arg11) (ix3 0 k h) := by funext k h; exact blk_pp m c t k h
  rw [e2, e3, e4, e5, e60, e61, e62, e63, e7, e8, e9, e10, e11]
  rfl

/-- The layer as an array. -/
def outArr : Vec Ideal S2x8192x1024 .f32 := fun j => memRow m c (j 0) (j 1) (j 2)

/-- What the body leaves of a block, at a row of one of its sub-tiles. -/
theorem canon_piece (t : Fin cfg0.N) (o : ℕ) (ho : o + 256 ≤ 1024) (ho' : o + 272 ≤ 1040) (inb : ∀ a, (![0, o, 0] : Fin 3 → ℕ) a + S1x256x1024.size a ≤ S1x1024x1024.size a)
    (x : S1x256x1024.Idx) :
    tileV (grid0.coords t) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) o ho ho' x
      = outArr m c ((win0_12.blk t).view.emb ((Rect.unit (s := S1x1024x1024) ![0, o, 0] S1x256x1024.size inb).emb x)) := by
  obtain ⟨r, k, rfl⟩ : ∃ (r : Fin 256) (k : Fin 1024), x = ix3 0 r k := ⟨x 1, x 2, by
    funext a
    match a with
    | ⟨0, _⟩ => exact Subsingleton.elim (α := Fin 1) _ _
    | ⟨1, _⟩ => rfl
    | ⟨2, _⟩ => rfl⟩
  have e : (win0_12.blk t).view.emb ((Rect.unit (s := S1x1024x1024) ![0, o, 0] S1x256x1024.size inb).emb (ix3 0 r k))
      = (ix3 ⟨(grid0.coords t 0).val, lt2 t⟩ ⟨1024 * (grid0.coords t 1).val + o + r.val, by have := lt8 t; omega⟩ k : S2x8192x1024.Idx) := by
    have e' : (Rect.unit (s := S1x1024x1024) ![0, o, 0] S1x256x1024.size inb).emb (ix3 0 r k) = (ix3 0 ⟨o + r.val, by omega⟩ k : S1x1024x1024.Idx) := by
      funext a
      apply Fin.ext
      match a with
      | ⟨0, _⟩ => rfl
      | ⟨1, _⟩ => show o + 1 * r.val = o + r.val; omega
      | ⟨2, _⟩ => show 0 + 1 * k.val = k.val; omega
    rw [e']
    blk_ext [ix_out]
  rw [tile_at, e]
  rfl

/-- The result array after the call is the layer. -/
theorem final : (dats m 0 c).arrAt 12 cfg0.N = outArr m c := by
  refine (dats m 0 c).arrAt_eq_of_covers 12 _ (by decide +kernel) fun t hf y => ?_
  blk_simp
  rw [after0_12]
  unfold outsAt0 out0_A_12
  rw [View.read_writes_junk_eq_canon]
  refine View.canon_apply_of_pieces (fun y => outArr m c ((win0_12.blk t).view.emb y)) _ ?_ y (cover0_A_12 ..)
  rw [run_pieces]
  intro p hp x
  simp only [List.mem_cons, List.not_mem_nil, or_false] at hp
  rcases hp with rfl | rfl | rfl | rfl
  · exact canon_piece m c t 768 (by decide) (by decide) inb_S1x1024x1024_S1x256x1024_0_768_0 x
  · exact canon_piece m c t 512 (by decide) (by decide) inb_S1x1024x1024_S1x256x1024_0_512_0 x
  · exact canon_piece m c t 256 (by decide) (by decide) inb_S1x1024x1024_S1x256x1024_0_256_0 x
  · exact canon_piece m c t 0 (by decide) (by decide) inb_S1x1024x1024_S1x256x1024_0_0_0 x

end Blocks

end Cert.Tile

end
-- ==== Proof.RefTail.lean ====
module

public import proofs.«01_k».proof.Proof.Spec
public import proofs.«01_k».proof.Proof.Gen.ReferenceIdeal.Read

/-! The reference's norms, feed-forward branch and gate, read at a row and a column. -/

@[expose] public section

noncomputable section

namespace Cert.RefRead

open Cert.ReferenceIdeal Cert.ReferenceIdeal.Read Idealize.ShloMosaic Idealize.ShloMosaic.TcCoe Idealize.ShloMosaic.Pointwise

variable (x0 : Vec Ideal S2x8192x1024 .f32) (x1 : Vec Ideal S2x2x8192x256 .f32) (x2 x3 : Vec Ideal S2x2x1024 .f32) (x4 : Vec Ideal S1x4x256x256 .f32) (x5 : Vec Ideal S1x4x256 .f32)
  (x6 : Vec Ideal S1x1024 .f32) (x7 : Vec Ideal S2x1024x4096 .f32) (x8 : Vec Ideal S2x4096x1024 .f32) (x9 : Vec Ideal S2x1024x1024 .f32) (x10 : Vec Ideal S2x1024 .f32)
  (x11 : Vec Ideal S2x256x1024 .f32)

/-- The first norm's entry. -/
theorem norm1 (b : Fin 2) (R : Fin 8192) (c : Fin 1024) :
    val_main_v102 x0 x2 x3 x4 x5 x6 (ix3 b R c)
      = Spec.ln (fun k => val_main_v74 x0 x4 x5 x6 (ix3 b R k)) (fun k => x2 (ix3 0 0 k)) (fun k => x3 (ix3 0 0 k)) c := by
  unfold val_main_v102 val_main_v99 val_main_v101 val_main_v100 val_main_v98 val_main_v97 val_main_v96 val_main_v95 val_main_v94 val_main_v93 val_main_v92 val_main_v91 val_main_v90
    val_main_v89 val_main_v88 val_main_v87 val_main_v86 val_main_v85 val_main_v84 val_main_v83 val_main_v82 val_main_v81 val_main_v80 val_main_v79 val_main_v78 val_main_v77 val_main_v76 val_main_v75
    val_main_cst_8 val_main_cst_9 val_main_cst_10 val_main_cst_11 val_main_cst_12
  generalize val_main_v74 x0 x4 x5 x6 = Y
  pointwise [Spec.ln, Spec.mean, Spec.var]

/-- The second norm's entry. -/
theorem norm2 (b : Fin 2) (R : Fin 8192) (c : Fin 1024) :
    val_main_v162 x0 x1 x2 x3 x4 x5 x6 x7 x8 x9 x10 x11 (ix3 b R c)
      = Spec.ln (fun k => val_main_v134 x0 x1 x2 x3 x4 x5 x6 x7 x8 x9 x10 x11 (ix3 b R k)) (fun k => x2 (ix3 0 1 k)) (fun k => x3 (ix3 0 1 k)) c := by
  unfold val_main_v162 val_main_v159 val_main_v161 val_main_v160 val_main_v158 val_main_v157 val_main_v156 val_main_v155 val_main_v154 val_main_v153 val_main_v152 val_main_v151 val_main_v150
    val_main_v149 val_main_v148 val_main_v147 val_main_v146 val_main_v145 val_main_v144 val_main_v143 val_main_v142 val_main_v141 val_main_v140 val_main_v139 val_main_v138 val_main_v137 val_main_v136 val_main_v135
    val_main_cst_16 val_main_cst_17 val_main_cst_18 val_main_cst_19 val_main_cst_20
  generalize val_main_v134 x0 x1 x2 x3 x4 x5 x6 x7 x8 x9 x10 x11 = Y
  pointwise [Spec.ln, Spec.mean, Spec.var]

/-- The feed-forward part's entry. -/
theorem ff_read (b : Fin 2) (R : Fin 8192) (c : Fin 1024) :
    val_main_v110 x0 x2 x3 x4 x5 x6 x7 x8 (ix3 b R c)
      = Spec.ff (fun k => val_main_v102 x0 x2 x3 x4 x5 x6 (ix3 b R k)) (fun k h => x7 (ix3 0 k h)) (fun h c => x8 (ix3 0 h c)) c := by
  unfold val_main_v110 val_main_v109 val_main_v108 val_main_v107 val_main_v106 val_main_v105 val_main_v104 val_main_v103 val_main_call5_v0 val_main_call5_cst
  generalize val_main_v102 x0 x2 x3 x4 x5 x6 = Y
  pointwise [Spec.ff, Spec.act]

/-- The gated embedding's entry. -/
theorem gate_read (b : Fin 2) (R : Fin 8192) (c : Fin 1024) :
    val_main_v130 x0 x1 x2 x3 x4 x5 x6 x9 x10 x11 (ix3 b R c)
      = Spec.gate (fun k => val_main_v102 x0 x2 x3 x4 x5 x6 (ix3 b R k)) (fun k c => x9 (ix3 0 k c)) (fun c => x10 (ix2 0 c)) (fun k => x1 (ix4 0 b R k)) (fun k c => x11 (ix3 0 k c)) c := by
  unfold val_main_v130 val_main_v129 val_main_v128 val_main_v127 val_main_v126 val_main_v125 val_main_v124 val_main_v123 val_main_v122 val_main_v121 val_main_v120 val_main_v119 val_main_v118
    val_main_v117 val_main_v116 val_main_v115 val_main_v114 val_main_v113 val_main_v112 val_main_v111 val_main_cst_13 val_main_cst_14
  generalize val_main_v102 x0 x2 x3 x4 x5 x6 = Y
  pointwise [Spec.gate]
  rfl

/-- The layer's result from its mix. -/
theorem tail_read (b : Fin 2) (R : Fin 8192) (c : Fin 1024) :
    val_main_v162 x0 x1 x2 x3 x4 x5 x6 x7 x8 x9 x10 x11 (ix3 b R c)
      = Spec.tail (fun k => val_main_v74 x0 x4 x5 x6 (ix3 b R k)) (fun k => x2 (ix3 0 0 k)) (fun k => x3 (ix3 0 0 k)) (fun k => x2 (ix3 0 1 k)) (fun k => x3 (ix3 0 1 k))
          (fun k h => x7 (ix3 0 k h)) (fun h c => x8 (ix3 0 h c)) (fun k c => x9 (ix3 0 k c)) (fun c => x10 (ix2 0 c)) (fun k => x1 (ix4 0 b R k)) (fun k c => x11 (ix3 0 k c)) c := by
  have e : (fun k => val_main_v102 x0 x2 x3 x4 x5 x6 (ix3 b R k)) = Spec.ln (fun k => val_main_v74 x0 x4 x5 x6 (ix3 b R k)) (fun k => x2 (ix3 0 0 k)) (fun k => x3 (ix3 0 0 k)) :=
    funext fun k => norm1 x0 x2 x3 x4 x5 x6 b R k
  have e2 : (fun k => val_main_v134 x0 x1 x2 x3 x4 x5 x6 x7 x8 x9 x10 x11 (ix3 b R k))
      = fun k => Ideal.ofBits .f32 0x3FB504F3#32 * val_main_v102 x0 x2 x3 x4 x5 x6 (ix3 b R k) + val_main_v110 x0 x2 x3 x4 x5 x6 x7 x8 (ix3 b R k)
          + val_main_v130 x0 x1 x2 x3 x4 x5 x6 x9 x10 x11 (ix3 b R k) := by
    funext k
    unfold val_main_v134 val_main_v133 val_main_v132 val_main_v131 val_main_cst_15
    generalize val_main_v102 x0 x2 x3 x4 x5 x6 = Y
    generalize val_main_v110 x0 x2 x3 x4 x5 x6 x7 x8 = Z
    generalize val_main_v130 x0 x1 x2 x3 x4 x5 x6 x9 x10 x11 = W
    pointwise
  rw [norm2, e2]
  simp only [ff_read, gate_read, e]
  unfold Spec.tail
  simp only [norm1]

end Cert.RefRead

end
-- ==== Proof.RefMix.lean ====
module

public import proofs.«01_k».proof.Proof.MixRead
public import proofs.«01_k».proof.Proof.Gen.ReferenceIdeal.Read

/-! The reference's pooling mixer, read at a row and a column. -/

@[expose] public section

noncomputable section

namespace Cert.RefRead

open Cert.ReferenceIdeal Cert.ReferenceIdeal.Read Idealize.ShloMosaic Idealize.ShloMosaic.TcCoe Idealize.ShloMosaic.Pointwise

variable (x0 : Vec Ideal S2x8192x1024 .f32) (x4 : Vec Ideal S1x4x256x256 .f32) (x5 : Vec Ideal S1x4x256 .f32) (x6 : Vec Ideal S1x1024 .f32)

/-- The input by groups. -/
theorem x_read (b : Fin 2) (R : Fin 8192) (g : Fin 4) (k : Fin 256) : val_main_v3 x0 (ix4 b R g k) = x0 (ix3 b R (Spec.col g k)) := by
  rw [val_main_v3_apply]
  refine congrArg x0 (funext fun a => Fin.ext ?_)
  have h0 := b.isLt
  have h1 := R.isLt
  have h2 := g.isLt
  have h3 := k.isLt
  match a with
  | ⟨0, _⟩ => show (((b.val * 8192 + R.val) * 4 + g.val) * 256 + k.val) / 8388608 = b.val; omega
  | ⟨1, _⟩ => show (((b.val * 8192 + R.val) * 4 + g.val) * 256 + k.val) / 1024 % 8192 = R.val; omega
  | ⟨2, _⟩ => show (((b.val * 8192 + R.val) * 4 + g.val) * 256 + k.val) % 1024 = 256 * g.val + k.val; omega

/-- The residual and the scaled mix. -/
theorem outer74 (b : Fin 2) (R : Fin 8192) (g : Fin 4) (c : Fin 256) :
    val_main_v74 x0 x4 x5 x6 (ix3 b R (Spec.col g c))
      = Ideal.ofBits .f32 0x3FB504F3#32 * x0 (ix3 b R (Spec.col g c)) + val_main_v67 x0 x4 x5 (ix4 b R g c) * x6 (ix2 0 (Spec.col g c)) := by
  unfold val_main_v74 val_main_v73 val_main_v72 val_main_v71 val_main_v70 val_main_v69 val_main_v2 val_main_cst_7
  pointwise
  rw [val_main_v68_apply]
  have e : idx_main_v68 (ix3 b R (Spec.col g c)) = ix4 b R g c := by
    funext a
    apply Fin.ext
    have h0 := b.isLt
    have h1 := R.isLt
    have h2 := g.isLt
    have h3 := c.isLt
    match a with
    | ⟨0, _⟩ => show ((b.val * 8192 + R.val) * 1024 + (256 * g.val + c.val)) / 8388608 = b.val; omega
    | ⟨1, _⟩ => show ((b.val * 8192 + R.val) * 1024 + (256 * g.val + c.val)) / 1024 % 8192 = R.val; omega
    | ⟨2, _⟩ => show ((b.val * 8192 + R.val) * 1024 + (256 * g.val + c.val)) / 256 % 4 = g.val; omega
    | ⟨3, _⟩ => show ((b.val * 8192 + R.val) * 1024 + (256 * g.val + c.val)) % 256 = c.val; omega
  rw [e]

/-- A row's position, counted from one. -/
theorem pos9 (R : Fin 8192) : val_main_v9 (F := Ideal) (ix3 0 R 0) = (((R.val + 1 : ℕ) : ℝ) : EReal) := by
  unfold val_main_v9 val_main_v8 val_main_v7 val_main_v6 val_main_v5 val_main_c
  pointwise
  have e : 1#32 + BitVec.ofNat 32 R.val = BitVec.ofNat 32 (R.val + 1) := by
    apply BitVec.eq_of_toNat_eq
    simp only [BitVec.toNat_add, BitVec.toNat_ofNat]
    omega
  show (((1#32 + BitVec.ofNat 32 R.val).toInt : ℝ) : EReal) = _
  rw [e, Cert.Tile.toInt_word _ (by omega), Int.cast_natCast]

/-- The groups' product, as a sum. -/
theorem dot67 (b : Fin 2) (R : Fin 8192) (g : Fin 4) (c : Fin 256) :
    val_main_v67 x0 x4 x5 (ix4 b R g c) = (∑ k : Fin 256, x4 (ix4 0 g k c) * val_main_v62 x0 (ix4 b R g k)) + x5 (ix3 0 g c) := by
  unfold val_main_v67 val_main_v66 val_main_v65 val_main_v64 val_main_v63 val_main_v1 val_main_v0
  generalize val_main_v62 x0 = Y
  pointwise

/-- The coordinates of an entry's row-major position. -/
theorem rows_val (b : Fin 2) (R : Fin 8192) (k : Fin 256) :
    ((b.val * 8192 + R.val) * 256 + k.val) / 2097152 = b.val ∧ ((b.val * 8192 + R.val) * 256 + k.val) / 256 % 8192 = R.val ∧ ((b.val * 8192 + R.val) * 256 + k.val) % 256 = k.val := by
  have h0 := b.isLt
  have h1 := R.isLt
  have h3 := k.isLt
  omega

/-- The running sums of group 0. -/
theorem sums0 (b : Fin 2) (R : Fin 8192) (k : Fin 256) : val_main_v11 x0 (ix3 b R k) = val_main_v4 x0 (ix4 b R 0 k) := by
  rw [val_main_v11_apply, val_main_v10_apply]
  obtain ⟨e0, e1, e3⟩ := rows_val b R k
  refine congrArg (val_main_v4 x0) (funext fun a => Fin.ext ?_)
  match a with
  | ⟨0, _⟩ => exact e0
  | ⟨1, _⟩ => exact e1
  | ⟨2, _⟩ => rfl
  | ⟨3, _⟩ => exact e3

/-- The rows' own sums of group 0. -/
theorem own0 (b : Fin 2) (R : Fin 8192) (k : Fin 256) : val_main_v20 x0 (ix3 b R k) = val_main_v3 x0 (ix4 b R 0 k) := by
  rw [val_main_v20_apply, val_main_v19_apply]
  obtain ⟨e0, e1, e3⟩ := rows_val b R k
  refine congrArg (val_main_v3 x0) (funext fun a => Fin.ext ?_)
  match a with
  | ⟨0, _⟩ => exact e0
  | ⟨1, _⟩ => exact e1
  | ⟨2, _⟩ => rfl
  | ⟨3, _⟩ => exact e3

/-- The sums up to the window's start of group 0. -/
theorem before0 (b : Fin 2) (R : Fin 8192) (k : Fin 256) :
    val_main_v13 x0 (ix3 b R k) = if 2 ≤ R.val then val_main_v4 x0 (ix4 b ⟨R.val - 2, by omega⟩ 0 k) else 0 := by
  rw [val_main_v13_apply]
  unfold val_main_v12
  split
  · next h =>
    refine (pad_apply_of_inside _ _ _ _ _ _ _ _ (ix3 b ⟨R.val - 2, by omega⟩ k) fun a => ?_).trans (sums0 x0 b ⟨R.val - 2, by omega⟩ k)
    match a with
    | ⟨0, _⟩ => show b.val = 0 + b.val * 1; omega
    | ⟨1, _⟩ => show R.val = 2 + (R.val - 2) * 1; omega
    | ⟨2, _⟩ => show k.val = 0 + k.val * 1; omega
  · next h =>
    refine (pad_apply_of_not_inside _ _ _ _ _ _ _ _ (1 : Fin 3) fun hin => h hin.1).trans ?_
    rw [val_main_call1_v0_apply]
    show (((0#32 : BitVec 32).toInt : ℝ) : EReal) = 0
    simp

/-- The pooled rows of group 0. -/
theorem stage0 (b : Fin 2) (R : Fin 8192) (k : Fin 256) :
    val_main_v21 x0 (ix3 b R k)
      = Ideal.div (val_main_v4 x0 (ix4 b R 0 k) - (if 2 ≤ R.val then val_main_v4 x0 (ix4 b ⟨R.val - 2, by omega⟩ 0 k) else 0))
          (min (((R.val + 1 : ℕ) : ℝ) : EReal) (Ideal.ofBits .f32 0x40000000#32)) - val_main_v3 x0 (ix4 b R 0 k) := by
  rw [val_main_v21_apply, val_main_v18_apply, val_main_v14_apply, val_main_v17_apply, val_main_v16_apply, own0, sums0, before0,
    show idx_main_v17 (ix3 b R k) = ix3 0 R 0 from funext fun a => by match a with | ⟨0, _⟩ => rfl | ⟨1, _⟩ => rfl | ⟨2, _⟩ => rfl, pos9]
  rfl

/-- Group 0 in the stacked array. -/
theorem stack0 (b : Fin 2) (R : Fin 8192) (k : Fin 256) : val_main_v62 x0 (ix4 b R 0 k) = val_main_v21 x0 (ix3 b R k) := by
  unfold val_main_v62
  refine Eq.trans (concatenate_apply_piece (t := S2x8192x4x256) (2 : Fin 4)
    [⟨S2x8192x1x256, val_main_v58 x0⟩, ⟨S2x8192x1x256, val_main_v59 x0⟩, ⟨S2x8192x1x256, val_main_v60 x0⟩, ⟨S2x8192x1x256, val_main_v61 x0⟩] _ _ 0 (show 0 < 4 by decide) S2x8192x1x256 (val_main_v58 x0) rfl rfl 0 rfl (ix4 b R 0 k) (fun a ha => ?_) rfl) ?_
  · match a with
    | ⟨0, _⟩ => rfl
    | ⟨1, _⟩ => rfl
    | ⟨2, _⟩ => exact absurd rfl ha
    | ⟨3, _⟩ => rfl
  · rw [val_main_v58_apply]
    exact congrArg _ (funext fun a => by match a with | ⟨0, _⟩ => rfl | ⟨1, _⟩ => rfl | ⟨2, _⟩ => rfl)

/-- The running sums of group 1. -/
theorem sums1 (b : Fin 2) (R : Fin 8192) (k : Fin 256) : val_main_v23 x0 (ix3 b R k) = val_main_v4 x0 (ix4 b R 1 k) := by
  rw [val_main_v23_apply, val_main_v22_apply]
  obtain ⟨e0, e1, e3⟩ := rows_val b R k
  refine congrArg (val_main_v4 x0) (funext fun a => Fin.ext ?_)
  match a with
  | ⟨0, _⟩ => exact e0
  | ⟨1, _⟩ => exact e1
  | ⟨2, _⟩ => rfl
  | ⟨3, _⟩ => exact e3

/-- The rows' own sums of group 1. -/
theorem own1 (b : Fin 2) (R : Fin 8192) (k : Fin 256) : val_main_v32 x0 (ix3 b R k) = val_main_v3 x0 (ix4 b R 1 k) := by
  rw [val_main_v32_apply, val_main_v31_apply]
  obtain ⟨e0, e1, e3⟩ := rows_val b R k
  refine congrArg (val_main_v3 x0) (funext fun a => Fin.ext ?_)
  match a with
  | ⟨0, _⟩ => exact e0
  | ⟨1, _⟩ => exact e1
  | ⟨2, _⟩ => rfl
  | ⟨3, _⟩ => exact e3

/-- The sums up to the window's start of group 1. -/
theorem before1 (b : Fin 2) (R : Fin 8192) (k : Fin 256) :
    val_main_v25 x0 (ix3 b R k) = if 4 ≤ R.val then val_main_v4 x0 (ix4 b ⟨R.val - 4, by omega⟩ 1 k) else 0 := by
  rw [val_main_v25_apply]
  unfold val_main_v24
  split
  · next h =>
    refine (pad_apply_of_inside _ _ _ _ _ _ _ _ (ix3 b ⟨R.val - 4, by omega⟩ k) fun a => ?_).trans (sums1 x0 b ⟨R.val - 4, by omega⟩ k)
    match a with
    | ⟨0, _⟩ => show b.val = 0 + b.val * 1; omega
    | ⟨1, _⟩ => show R.val = 4 + (R.val - 4) * 1; omega
    | ⟨2, _⟩ => show k.val = 0 + k.val * 1; omega
  · next h =>
    refine (pad_apply_of_not_inside _ _ _ _ _ _ _ _ (1 : Fin 3) fun hin => h hin.1).trans ?_
    rw [val_main_call2_v0_apply]
    show (((0#32 : BitVec 32).toInt : ℝ) : EReal) = 0
    simp

/-- The pooled rows of group 1. -/
theorem stage1 (b : Fin 2) (R : Fin 8192) (k : Fin 256) :
    val_main_v33 x0 (ix3 b R k)
      = Ideal.div (val_main_v4 x0 (ix4 b R 1 k) - (if 4 ≤ R.val then val_main_v4 x0 (ix4 b ⟨R.val - 4, by omega⟩ 1 k) else 0))
          (min (((R.val + 1 : ℕ) : ℝ) : EReal) (Ideal.ofBits .f32 0x40800000#32)) - val_main_v3 x0 (ix4 b R 1 k) := by
  rw [val_main_v33_apply, val_main_v30_apply, val_main_v26_apply, val_main_v29_apply, val_main_v28_apply, own1, sums1, before1,
    show idx_main_v29 (ix3 b R k) = ix3 0 R 0 from funext fun a => by match a with | ⟨0, _⟩ => rfl | ⟨1, _⟩ => rfl | ⟨2, _⟩ => rfl, pos9]
  rfl

/-- Group 1 in the stacked array. -/
theorem stack1 (b : Fin 2) (R : Fin 8192) (k : Fin 256) : val_main_v62 x0 (ix4 b R 1 k) = val_main_v33 x0 (ix3 b R k) := by
  unfold val_main_v62
  refine Eq.trans (concatenate_apply_piece (t := S2x8192x4x256) (2 : Fin 4)
    [⟨S2x8192x1x256, val_main_v58 x0⟩, ⟨S2x8192x1x256, val_main_v59 x0⟩, ⟨S2x8192x1x256, val_main_v60 x0⟩, ⟨S2x8192x1x256, val_main_v61 x0⟩] _ _ 1 (show 1 < 4 by decide) S2x8192x1x256 (val_main_v59 x0) rfl rfl 1 rfl (ix4 b R 0 k) (fun a ha => ?_) rfl) ?_
  · match a with
    | ⟨0, _⟩ => rfl
    | ⟨1, _⟩ => rfl
    | ⟨2, _⟩ => exact absurd rfl ha
    | ⟨3, _⟩ => rfl
  · rw [val_main_v59_apply]
    exact congrArg _ (funext fun a => by match a with | ⟨0, _⟩ => rfl | ⟨1, _⟩ => rfl | ⟨2, _⟩ => rfl)

/-- The running sums of group 2. -/
theorem sums2 (b : Fin 2) (R : Fin 8192) (k : Fin 256) : val_main_v35 x0 (ix3 b R k) = val_main_v4 x0 (ix4 b R 2 k) := by
  rw [val_main_v35_apply, val_main_v34_apply]
  obtain ⟨e0, e1, e3⟩ := rows_val b R k
  refine congrArg (val_main_v4 x0) (funext fun a => Fin.ext ?_)
  match a with
  | ⟨0, _⟩ => exact e0
  | ⟨1, _⟩ => exact e1
  | ⟨2, _⟩ => rfl
  | ⟨3, _⟩ => exact e3

/-- The rows' own sums of group 2. -/
theorem own2 (b : Fin 2) (R : Fin 8192) (k : Fin 256) : val_main_v44 x0 (ix3 b R k) = val_main_v3 x0 (ix4 b R 2 k) := by
  rw [val_main_v44_apply, val_main_v43_apply]
  obtain ⟨e0, e1, e3⟩ := rows_val b R k
  refine congrArg (val_main_v3 x0) (funext fun a => Fin.ext ?_)
  match a with
  | ⟨0, _⟩ => exact e0
  | ⟨1, _⟩ => exact e1
  | ⟨2, _⟩ => rfl
  | ⟨3, _⟩ => exact e3

/-- The sums up to the window's start of group 2. -/
theorem before2 (b : Fin 2) (R : Fin 8192) (k : Fin 256) :
    val_main_v37 x0 (ix3 b R k) = if 8 ≤ R.val then val_main_v4 x0 (ix4 b ⟨R.val - 8, by omega⟩ 2 k) else 0 := by
  rw [val_main_v37_apply]
  unfold val_main_v36
  split
  · next h =>
    refine (pad_apply_of_inside _ _ _ _ _ _ _ _ (ix3 b ⟨R.val - 8, by omega⟩ k) fun a => ?_).trans (sums2 x0 b ⟨R.val - 8, by omega⟩ k)
    match a with
    | ⟨0, _⟩ => show b.val = 0 + b.val * 1; omega
    | ⟨1, _⟩ => show R.val = 8 + (R.val - 8) * 1; omega
    | ⟨2, _⟩ => show k.val = 0 + k.val * 1; omega
  · next h =>
    refine (pad_apply_of_not_inside _ _ _ _ _ _ _ _ (1 : Fin 3) fun hin => h hin.1).trans ?_
    rw [val_main_call3_v0_apply]
    show (((0#32 : BitVec 32).toInt : ℝ) : EReal) = 0
    simp

/-- The pooled rows of group 2. -/
theorem stage2 (b : Fin 2) (R : Fin 8192) (k : Fin 256) :
    val_main_v45 x0 (ix3 b R k)
      = Ideal.div (val_main_v4 x0 (ix4 b R 2 k) - (if 8 ≤ R.val then val_main_v4 x0 (ix4 b ⟨R.val - 8, by omega⟩ 2 k) else 0))
          (min (((R.val + 1 : ℕ) : ℝ) : EReal) (Ideal.ofBits .f32 0x41000000#32)) - val_main_v3 x0 (ix4 b R 2 k) := by
  rw [val_main_v45_apply, val_main_v42_apply, val_main_v38_apply, val_main_v41_apply, val_main_v40_apply, own2, sums2, before2,
    show idx_main_v41 (ix3 b R k) = ix3 0 R 0 from funext fun a => by match a with | ⟨0, _⟩ => rfl | ⟨1, _⟩ => rfl | ⟨2, _⟩ => rfl, pos9]
  rfl

/-- Group 2 in the stacked array. -/
theorem stack2 (b : Fin 2) (R : Fin 8192) (k : Fin 256) : val_main_v62 x0 (ix4 b R 2 k) = val_main_v45 x0 (ix3 b R k) := by
  unfold val_main_v62
  refine Eq.trans (concatenate_apply_piece (t := S2x8192x4x256) (2 : Fin 4)
    [⟨S2x8192x1x256, val_main_v58 x0⟩, ⟨S2x8192x1x256, val_main_v59 x0⟩, ⟨S2x8192x1x256, val_main_v60 x0⟩, ⟨S2x8192x1x256, val_main_v61 x0⟩] _ _ 2 (show 2 < 4 by decide) S2x8192x1x256 (val_main_v60 x0) rfl rfl 2 rfl (ix4 b R 0 k) (fun a ha => ?_) rfl) ?_
  · match a with
    | ⟨0, _⟩ => rfl
    | ⟨1, _⟩ => rfl
    | ⟨2, _⟩ => exact absurd rfl ha
    | ⟨3, _⟩ => rfl
  · rw [val_main_v60_apply]
    exact congrArg _ (funext fun a => by match a with | ⟨0, _⟩ => rfl | ⟨1, _⟩ => rfl | ⟨2, _⟩ => rfl)

/-- The running sums of group 3. -/
theorem sums3 (b : Fin 2) (R : Fin 8192) (k : Fin 256) : val_main_v47 x0 (ix3 b R k) = val_main_v4 x0 (ix4 b R 3 k) := by
  rw [val_main_v47_apply, val_main_v46_apply]
  obtain ⟨e0, e1, e3⟩ := rows_val b R k
  refine congrArg (val_main_v4 x0) (funext fun a => Fin.ext ?_)
  match a with
  | ⟨0, _⟩ => exact e0
  | ⟨1, _⟩ => exact e1
  | ⟨2, _⟩ => rfl
  | ⟨3, _⟩ => exact e3

/-- The rows' own sums of group 3. -/
theorem own3 (b : Fin 2) (R : Fin 8192) (k : Fin 256) : val_main_v56 x0 (ix3 b R k) = val_main_v3 x0 (ix4 b R 3 k) := by
  rw [val_main_v56_apply, val_main_v55_apply]
  obtain ⟨e0, e1, e3⟩ := rows_val b R k
  refine congrArg (val_main_v3 x0) (funext fun a => Fin.ext ?_)
  match a with
  | ⟨0, _⟩ => exact e0
  | ⟨1, _⟩ => exact e1
  | ⟨2, _⟩ => rfl
  | ⟨3, _⟩ => exact e3

/-- The sums up to the window's start of group 3. -/
theorem before3 (b : Fin 2) (R : Fin 8192) (k : Fin 256) :
    val_main_v49 x0 (ix3 b R k) = if 16 ≤ R.val then val_main_v4 x0 (ix4 b ⟨R.val - 16, by omega⟩ 3 k) else 0 := by
  rw [val_main_v49_apply]
  unfold val_main_v48
  split
  · next h =>
    refine (pad_apply_of_inside _ _ _ _ _ _ _ _ (ix3 b ⟨R.val - 16, by omega⟩ k) fun a => ?_).trans (sums3 x0 b ⟨R.val - 16, by omega⟩ k)
    match a with
    | ⟨0, _⟩ => show b.val = 0 + b.val * 1; omega
    | ⟨1, _⟩ => show R.val = 16 + (R.val - 16) * 1; omega
    | ⟨2, _⟩ => show k.val = 0 + k.val * 1; omega
  · next h =>
    refine (pad_apply_of_not_inside _ _ _ _ _ _ _ _ (1 : Fin 3) fun hin => h hin.1).trans ?_
    rw [val_main_call4_v0_apply]
    show (((0#32 : BitVec 32).toInt : ℝ) : EReal) = 0
    simp

/-- The pooled rows of group 3. -/
theorem stage3 (b : Fin 2) (R : Fin 8192) (k : Fin 256) :
    val_main_v57 x0 (ix3 b R k)
      = Ideal.div (val_main_v4 x0 (ix4 b R 3 k) - (if 16 ≤ R.val then val_main_v4 x0 (ix4 b ⟨R.val - 16, by omega⟩ 3 k) else 0))
          (min (((R.val + 1 : ℕ) : ℝ) : EReal) (Ideal.ofBits .f32 0x41800000#32)) - val_main_v3 x0 (ix4 b R 3 k) := by
  rw [val_main_v57_apply, val_main_v54_apply, val_main_v50_apply, val_main_v53_apply, val_main_v52_apply, own3, sums3, before3,
    show idx_main_v53 (ix3 b R k) = ix3 0 R 0 from funext fun a => by match a with | ⟨0, _⟩ => rfl | ⟨1, _⟩ => rfl | ⟨2, _⟩ => rfl, pos9]
  rfl

/-- Group 3 in the stacked array. -/
theorem stack3 (b : Fin 2) (R : Fin 8192) (k : Fin 256) : val_main_v62 x0 (ix4 b R 3 k) = val_main_v57 x0 (ix3 b R k) := by
  unfold val_main_v62
  refine Eq.trans (concatenate_apply_piece (t := S2x8192x4x256) (2 : Fin 4)
    [⟨S2x8192x1x256, val_main_v58 x0⟩, ⟨S2x8192x1x256, val_main_v59 x0⟩, ⟨S2x8192x1x256, val_main_v60 x0⟩, ⟨S2x8192x1x256, val_main_v61 x0⟩] _ _ 3 (show 3 < 4 by decide) S2x8192x1x256 (val_main_v61 x0) rfl rfl 3 rfl (ix4 b R 0 k) (fun a ha => ?_) rfl) ?_
  · match a with
    | ⟨0, _⟩ => rfl
    | ⟨1, _⟩ => rfl
    | ⟨2, _⟩ => exact absurd rfl ha
    | ⟨3, _⟩ => rfl
  · rw [val_main_v61_apply]
    exact congrArg _ (funext fun a => by match a with | ⟨0, _⟩ => rfl | ⟨1, _⟩ => rfl | ⟨2, _⟩ => rfl)

end Cert.RefRead

end
-- ==== Proof.RefSum.lean ====
module

public import proofs.«01_k».proof.Proof.RefMix

/-! The reference's running sums and the pooled windows they give. -/

@[expose] public section

noncomputable section

namespace Cert.RefRead

open Cert.ReferenceIdeal Cert.ReferenceIdeal.Read Idealize.ShloMosaic Idealize.ShloMosaic.TcCoe Idealize.ShloMosaic.Pointwise

/-- The shape of the running sum's window. -/
abbrev WinS : Shape := ⟨4, ![1, 8192, 1, 1]⟩

/-- The window's positions are its rows. -/
def winRows : Fin 8192 ≃ WinS.Idx where
  toFun i := ix4 0 i 0 0
  invFun j := j 1
  left_inv _ := rfl
  right_inv j := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- A left fold of additions is a sum. -/
theorem foldl_add {n : ℕ} (f : Fin n → EReal) (v : EReal) : (List.finRange n).foldl (fun r i => r + f i) v = v + ∑ i, f i := by
  rw [← List.sum_ofFn, List.ofFn_eq_map]
  generalize List.finRange n = l
  induction l generalizing v with
  | nil => simp
  | cons a l ih => rw [List.foldl_cons, ih, List.map_cons, List.sum_cons, add_assoc]

/-- A sequence's row by number, zero beyond its end. -/
def seqRow (x : Fin 8192 → Fin 1024 → EReal) (n : ℕ) (c : Fin 1024) : EReal := if h : n < 8192 then x ⟨n, h⟩ c else 0

/-- Rows counted from the window's end sum as the rows counted from the start. -/
theorem window_sum (f : ℕ → EReal) (R : ℕ) (hR : R < 8192) :
    (∑ i : Fin 8192, if 8191 ≤ R + i.val then f (R + i.val - 8191) else 0) = ∑ n ∈ Finset.range (R + 1), f n := by
  rw [Fin.sum_univ_eq_sum_range (fun i => if 8191 ≤ R + i then f (R + i - 8191) else 0) 8192]
  rw [show 8192 = (8191 - R) + (R + 1) by omega, Finset.sum_range_add, Finset.sum_eq_zero (fun i hi => if_neg (by have := Finset.mem_range.mp hi; omega)), zero_add]
  refine Finset.sum_congr rfl fun i _ => ?_
  rw [if_pos (by omega)]
  exact congrArg f (by omega)

/-- A sum over windows is the sum over a window's positions. -/
theorem windows_sum {s t : Shape} (window strides lo hi : Fin s.rank → ℕ) (x : s.Idx → EReal) (h : s.ReduceWindows window strides lo hi t) (j : t.Idx) :
    Ideal.hostReduceWindowAdd window strides lo hi h x 0 j
      = ∑ q : Shape.Idx ⟨s.rank, window⟩, if hin : ∀ a, lo a ≤ (j (a.cast h.1.symm)).val * strides a + (q a).val ∧ (j (a.cast h.1.symm)).val * strides a + (q a).val - lo a < s.size a then
          x (fun a => ⟨(j (a.cast h.1.symm)).val * strides a + (q a).val - lo a, (hin a).2⟩) else 0 := by
  unfold Ideal.hostReduceWindowAdd Host.reduceWindow
  dsimp only
  rw [foldl_add, zero_add]
  refine Eq.trans (Finset.sum_congr rfl fun i _ => ?_) (Equiv.sum_comp (Shape.rowMajor ⟨s.rank, window⟩).symm (fun q => if hin : ∀ a, lo a ≤ (j (a.cast h.1.symm)).val * strides a + (q a).val ∧ (j (a.cast h.1.symm)).val * strides a + (q a).val - lo a < s.size a then
          x (fun a => ⟨(j (a.cast h.1.symm)).val * strides a + (q a).val - lo a, (hin a).2⟩) else 0))
  split <;> rfl

/-- The running sum of a column. -/
theorem cumsum_read (x0 : Vec Ideal S2x8192x1024 .f32) (b : Fin 2) (R : Fin 8192) (g : Fin 4) (k : Fin 256) :
    val_main_v4 x0 (ix4 b R g k) = ∑ n ∈ Finset.range (R.val + 1), seqRow (fun R c => x0 (ix3 b R c)) n (Spec.col g k) := by
  unfold val_main_v4 Host.reduceWindowAdd
  have hv : val_main_call0_call0_v0 (F := Ideal) (Shape.Idx.first Gen.h_S_) = 0 := by
    unfold val_main_call0_call0_v0 val_main_call0_call0_cst
    pointwise
  rw [Ideal.hostReduceWindowAdd_def, hv, windows_sum, ← window_sum _ _ R.isLt]
  refine Eq.trans (Equiv.sum_comp winRows _).symm ?_
  refine Finset.sum_congr rfl fun i _ => ?_
  have h0 := b.isLt
  have h1 := R.isLt
  have h2 := g.isLt
  have h3 := k.isLt
  have hi := i.isLt
  by_cases h : 8191 ≤ R.val + i.val
  · rw [if_pos h]
    refine (dif_pos fun a => ?_).trans ?_
    · match a with
      | ⟨0, _⟩ => show 0 ≤ b.val * 1 + 0 ∧ b.val * 1 + 0 - 0 < 2; omega
      | ⟨1, _⟩ => show 8191 ≤ R.val * 1 + i.val ∧ R.val * 1 + i.val - 8191 < 8192; omega
      | ⟨2, _⟩ => show 0 ≤ g.val * 1 + 0 ∧ g.val * 1 + 0 - 0 < 4; omega
      | ⟨3, _⟩ => show 0 ≤ k.val * 1 + 0 ∧ k.val * 1 + 0 - 0 < 256; omega
    · refine Eq.trans (congrArg (val_main_v3 x0) (?_ : _ = ix4 b ⟨R.val + i.val - 8191, by omega⟩ g k)) ?_
      · funext a
        apply Fin.ext
        match a with
        | ⟨0, _⟩ => show b.val * 1 + 0 - 0 = b.val; omega
        | ⟨1, _⟩ => show R.val * 1 + i.val - 8191 = R.val + i.val - 8191; omega
        | ⟨2, _⟩ => show g.val * 1 + 0 - 0 = g.val; omega
        | ⟨3, _⟩ => show k.val * 1 + 0 - 0 = k.val; omega
      · rw [x_read]
        unfold seqRow
        rw [dif_pos]
  · rw [if_neg h]
    refine dif_neg fun hin => h ?_
    have h1 := (hin (1 : Fin 4)).1
    have h2 : 8191 ≤ R.val * 1 + i.val := h1
    omega

/-- The rows up to `R` are the rows before the window and the window. -/
theorem range_window (f : ℕ → EReal) (R w : ℕ) :
    (∑ n ∈ Finset.range (R + 1), f n) = (∑ n ∈ Finset.range (R + 1 - w), f n) + ∑ j ∈ Finset.range w, if j ≤ R then f (R - j) else 0 := by
  induction w with
  | zero => simp
  | succ w ih =>
    rw [ih, Finset.sum_range_succ _ w]
    by_cases h : w ≤ R
    · rw [if_pos h, show R + 1 - w = (R - w) + 1 by omega, Finset.sum_range_succ, show R + 1 - (w + 1) = R - w by omega, add_assoc, add_comm (f (R - w)), ]
    · rw [if_neg h, add_zero, show R + 1 - (w + 1) = R + 1 - w by omega]

/-- A sum of finite values is finite. -/
theorem finite_sum (f : ℕ → EReal) (hf : ∀ n, ∃ r : ℝ, f n = r) (n : ℕ) : ∃ r : ℝ, ∑ i ∈ Finset.range n, f i = r := by
  induction n with
  | zero => exact ⟨0, by simp⟩
  | succ n ih =>
    obtain ⟨r, hr⟩ := ih
    obtain ⟨q, hq⟩ := hf n
    exact ⟨r + q, by rw [Finset.sum_range_succ, hr, hq, EReal.coe_add]⟩

/-- A real added and taken away again changes nothing. -/
theorem add_sub_real (r : ℝ) (y : EReal) : (r : EReal) + y - r = y := by
  induction y with
  | bot => simp
  | top => simp
  | coe q => rw [← EReal.coe_add, ← EReal.coe_sub, add_sub_cancel_left]

/-- The difference of the running sums is the window. -/
theorem window_read (X : Fin 8192 → Fin 1024 → EReal) (hX : ∀ n c, ∃ r : ℝ, X n c = r) (R : Fin 8192) (c : Fin 1024) (w : ℕ) (hw : w ≤ 16) (D : EReal)
    (hD : D = ∑ n ∈ Finset.range (R.val + 1 - w), seqRow X n c) :
    (∑ n ∈ Finset.range (R.val + 1), seqRow X n c) - D = ∑ j ∈ Finset.range w, Spec.padded X (R.val + 16 - j) c := by
  have hf : ∀ n, ∃ r : ℝ, seqRow X n c = r := fun n => by
    unfold seqRow
    split
    · exact hX _ _
    · exact ⟨0, by simp⟩
  obtain ⟨r, hr⟩ := finite_sum (fun n => seqRow X n c) hf (R.val + 1 - w)
  rw [range_window (fun n => seqRow X n c) R.val w, hD, hr, add_sub_real]
  refine Finset.sum_congr rfl fun j hj => ?_
  have hj := Finset.mem_range.mp hj
  have hR := R.isLt
  unfold seqRow Spec.padded
  by_cases h : j ≤ R.val
  · rw [if_pos h, dif_pos (by omega), dif_pos (by omega)]
    exact congrArg (X · c) (Fin.ext (by show R.val - j = R.val + 16 - j - 16; omega))
  · rw [if_neg h, dif_neg (by omega)]

/-- The reference's second running sum. -/
theorem before_read (x0 : Vec Ideal S2x8192x1024 .f32) (b : Fin 2) (R : Fin 8192) (g : Fin 4) (k : Fin 256) (w : ℕ) :
    (if w ≤ R.val then val_main_v4 x0 (ix4 b ⟨R.val - w, by omega⟩ g k) else 0) = ∑ n ∈ Finset.range (R.val + 1 - w), seqRow (fun R c => x0 (ix3 b R c)) n (Spec.col g k) := by
  split
  · next h =>
    rw [cumsum_read]
    exact congrArg (fun n => ∑ i ∈ Finset.range n, seqRow (fun R c => x0 (ix3 b R c)) i (Spec.col g k)) (by show R.val - w + 1 = R.val + 1 - w; omega)
  · next h => rw [show R.val + 1 - w = 0 by omega, Finset.sum_range_zero]

/-- Division as a product with the inverse. -/
theorem div_inv (a d : EReal) (hd : d ≠ 0) : Ideal.div a d = a * Ideal.div 1 d := by
  unfold Ideal.div
  rw [if_neg hd, if_neg hd, one_mul]

/-- A window's length as the smaller of position and width. -/
theorem pos_min (R : ℕ) (b : BitVec 32) (hb : Ideal.ofBits .f32 b ≠ 0) : min (((R + 1 : ℕ) : ℝ) : EReal) (Ideal.ofBits .f32 b) ≠ 0 := by
  rcases min_choice ((((R + 1 : ℕ) : ℝ) : EReal)) (Ideal.ofBits .f32 b) with h | h <;> rw [h]
  · exact_mod_cast Nat.succ_ne_zero R
  · exact hb

/-- A normal number is not zero. -/
theorem normal_ne (b : BitVec 32) (h255 : (b.extractLsb' 23 8).toNat ≠ 255) (h0 : (b.extractLsb' 23 8).toNat ≠ 0) : Ideal.ofBits .f32 b ≠ 0 := by
  show Ideal.ieee 8 23 b ≠ 0
  unfold Ideal.ieee
  dsimp only
  rw [if_neg (show ¬ (b.extractLsb' 23 8).toNat = 2 ^ 8 - 1 from h255), if_neg h0]
  intro h
  have h' := EReal.coe_eq_zero.mp h
  revert h'
  refine mul_ne_zero (mul_ne_zero ?_ ?_) (zpow_ne_zero _ two_ne_zero)
  · split <;> norm_num
  · exact_mod_cast (by omega : 2 ^ 23 + (b.extractLsb' 0 23).toNat ≠ 0)

/-- A window's average less the row's own entry, from the two running sums. -/
theorem avg_read (x0 : Vec Ideal S2x8192x1024 .f32) (hX : ∀ j, ∃ r : ℝ, x0 j = r) (b : Fin 2) (R : Fin 8192) (g : Fin 4) (k : Fin 256)
    (w : ℕ) (d : EReal) (hw : w ≤ 16) (hd : min (((R.val + 1 : ℕ) : ℝ) : EReal) d ≠ 0) :
    Ideal.div (val_main_v4 x0 (ix4 b R g k) - (if w ≤ R.val then val_main_v4 x0 (ix4 b ⟨R.val - w, by omega⟩ g k) else 0))
        (min (((R.val + 1 : ℕ) : ℝ) : EReal) d) - val_main_v3 x0 (ix4 b R g k)
      = (∑ j ∈ Finset.range w, Spec.padded (fun R c => x0 (ix3 b R c)) (R.val + 16 - j) (Spec.col g k))
          * Ideal.div 1 (min (((R.val + 1 : ℕ) : ℝ) : EReal) d) - x0 (ix3 b R (Spec.col g k)) := by
  rw [before_read, cumsum_read, window_read (fun R c => x0 (ix3 b R c)) (fun _ _ => hX _) R _ w hw _ rfl, div_inv _ _ hd, x_read]

/-- A group's entry of the reference is the entry of the mixer. -/
theorem group_read (x0 : Vec Ideal S2x8192x1024 .f32) (hX : ∀ j, ∃ r : ℝ, x0 j = r) (b : Fin 2) (R : Fin 8192) (g : Fin 4) (k : Fin 256) :
    val_main_v62 x0 (ix4 b R g k)
      = (∑ j ∈ Finset.range (2 ^ (g.val + 1)), Spec.padded (fun R c => x0 (ix3 b R c)) (R.val + 16 - j) (Spec.col g k))
          * Ideal.div 1 (min (((R.val + 1 : ℕ) : ℝ) : EReal) (Spec.winE g)) - x0 (ix3 b R (Spec.col g k)) := by
  match g with
  | ⟨0, h⟩ => rw [show (⟨0, h⟩ : Fin 4) = 0 from rfl, stack0, stage0]; exact avg_read x0 hX b R 0 k 2 _ (by omega) (pos_min _ _ (normal_ne _ (by decide) (by decide)))
  | ⟨1, h⟩ => rw [show (⟨1, h⟩ : Fin 4) = 1 from rfl, stack1, stage1]; exact avg_read x0 hX b R 1 k 4 _ (by omega) (pos_min _ _ (normal_ne _ (by decide) (by decide)))
  | ⟨2, h⟩ => rw [show (⟨2, h⟩ : Fin 4) = 2 from rfl, stack2, stage2]; exact avg_read x0 hX b R 2 k 8 _ (by omega) (pos_min _ _ (normal_ne _ (by decide) (by decide)))
  | ⟨3, h⟩ => rw [show (⟨3, h⟩ : Fin 4) = 3 from rfl, stack3, stage3]; exact avg_read x0 hX b R 3 k 16 _ (by omega) (pos_min _ _ (normal_ne _ (by decide) (by decide)))

/-- The mixer's sum of the reference, row by row. -/
theorem mix_read (x0 : Vec Ideal S2x8192x1024 .f32) (x4 : Vec Ideal S1x4x256x256 .f32) (x5 : Vec Ideal S1x4x256 .f32) (x6 : Vec Ideal S1x1024 .f32)
    (hX : ∀ j, ∃ r : ℝ, x0 j = r) (b : Fin 2) (R : Fin 8192) (c : Fin 1024) :
    val_main_v74 x0 x4 x5 x6 (ix3 b R c)
      = Spec.mixRow (fun R c => x0 (ix3 b R c)) (fun g k c => x4 (ix4 0 g k c)) (fun g c => x5 (ix3 0 g c)) (fun c => x6 (ix2 0 c)) R c := by
  obtain ⟨g, k, rfl⟩ := Spec.exists_col c
  rw [Spec.mixRow_col, outer74, dot67]
  unfold Spec.mix Spec.group
  refine congrArg (fun z => Ideal.ofBits .f32 0x3FB504F3#32 * x0 (ix3 b R (Spec.col g k)) + (z + x5 (ix3 0 g k)) * x6 (ix2 0 (Spec.col g k))) ?_
  refine Finset.sum_congr rfl fun l _ => ?_
  rw [group_read x0 hX, mul_comm]

end Cert.RefRead

end
-- ==== Proof.Finite.lean ====
module

public import proofs.«01_k».proof.Defs
public import proofs.«01_k».proof.Proof.Gen.Pre_finite_inputs
public import Idealize.ShloMosaic.Lib.ReduceAll
public import Idealize.ShloMosaic.Lib.Pointwise.Select

/-! What the precondition says: every entry of the block's input is a real number. -/

@[expose] public section

noncomputable section

namespace Cert.Tile

open Idealize.ShloMosaic

/-- The bits of the bound are infinity. -/
theorem inf_bits : Ideal.ofBits .f32 0x7F800000#32 = ⊤ := by
  show Ideal.ieee 8 23 0x7F800000#32 = ⊤
  unfold Ideal.ieee
  dsimp only
  rw [if_pos (by decide), if_pos (by decide), if_neg (by decide)]

/-- An extended real whose absolute value is below infinity is a real number. -/
theorem real_of_abs (x : EReal) (h : max x (-x) < ⊤) : ∃ r : ℝ, x = r := by
  induction x with
  | bot => simp at h
  | top => simp at h
  | coe r => exact ⟨r, rfl⟩

/-- Under the precondition every entry of the first argument is a real number. -/
theorem finite_of_pre (m : (ℓ : Loc Cert.KernelIdeal.nD Cert.KernelIdeal.τ Cert.KernelIdeal.sig) → Buf (Elt Ideal) ℓ)
    (h : Cert.Pre_KernelIdeal_finite_inputs (hPre_finite_inputs := Cert.Pre_finite_inputs.Gen.facts) m) (c : Dev Cert.KernelIdeal.nD)
    (j : Cert.KernelIdeal.S2x8192x1024.Idx) :
    ∃ r : ℝ, @Eq EReal ((m ((c.tc : Thread Cert.KernelIdeal.nD Cert.KernelIdeal.τ).loc Cert.KernelIdeal.main_arg0) : Vec Ideal Cert.KernelIdeal.S2x8192x1024 .f32) j) r := by
  have e := congrFun (h c) (fun a => a.elim0)
  haveI : Subsingleton Cert.Pre_finite_inputs.S_.Idx := ⟨fun a b => funext fun i => i.elim0⟩
  have e' := Host.reduce_andi_all _ _ _ _ _ e j
  refine real_of_abs _ ?_
  have e2 := (Ideal.cmp_olt_eq_one _ _).mp e'
  exact lt_of_lt_of_eq e2 inf_bits

end Cert.Tile

end
-- ==== Proof.Equal.lean ====
module

public import proofs.«01_k».proof.Proof.KernelValue
public import proofs.«01_k».proof.Proof.RefTail
public import proofs.«01_k».proof.Proof.RefSum
public import proofs.«01_k».proof.Proof.Finite
public import proofs.«01_k».proof.Proof.Gen.ReferenceIdeal.Run
public import Idealize.ShloMosaic.Lib.Quiescent

/-! The kernel's array and the reference's are the same layer. -/

@[expose] public section

noncomputable section

namespace Cert.Tile

open Idealize.ShloMosaic Idealize.ShloMosaic.TcCoe Idealize.SL.Sem

/-- The reference's result, entry by entry, for an input of real numbers. -/
theorem ref_row (x0 : Vec Ideal Cert.ReferenceIdeal.S2x8192x1024 .f32) (x1 : Vec Ideal Cert.ReferenceIdeal.S2x2x8192x256 .f32) (x2 x3 : Vec Ideal Cert.ReferenceIdeal.S2x2x1024 .f32)
    (x4 : Vec Ideal Cert.ReferenceIdeal.S1x4x256x256 .f32) (x5 : Vec Ideal Cert.ReferenceIdeal.S1x4x256 .f32) (x6 : Vec Ideal Cert.ReferenceIdeal.S1x1024 .f32)
    (x7 : Vec Ideal Cert.ReferenceIdeal.S2x1024x4096 .f32) (x8 : Vec Ideal Cert.ReferenceIdeal.S2x4096x1024 .f32) (x9 : Vec Ideal Cert.ReferenceIdeal.S2x1024x1024 .f32)
    (x10 : Vec Ideal Cert.ReferenceIdeal.S2x1024 .f32) (x11 : Vec Ideal Cert.ReferenceIdeal.S2x256x1024 .f32)
    (hX : ∀ j, ∃ r : ℝ, @Eq EReal (x0 j) r) (b : Fin 2) (R : Fin 8192) (c : Fin 1024) :
    Cert.ReferenceIdeal.Read.val_main_v162 x0 x1 x2 x3 x4 x5 x6 x7 x8 x9 x10 x11 (ix3 b R c) = outRow x0 x1 x2 x3 x4 x5 x6 x7 x8 x9 x10 x11 b R c := by
  refine (Cert.RefRead.tail_read x0 x1 x2 x3 x4 x5 x6 x7 x8 x9 x10 x11 b R c).trans ?_
  unfold outRow
  rw [show (fun k => Cert.ReferenceIdeal.Read.val_main_v74 x0 x4 x5 x6 (ix3 b R k))
      = Spec.mixRow (fun R c => x0 (ix3 b R c)) (fun g k c => x4 (ix4 0 g k c)) (fun g c => x5 (ix3 0 g c)) (fun c => x6 (ix2 0 c)) R from
    funext fun k => Cert.RefRead.mix_read x0 x4 x5 x6 hX b R k]

/-- Both programs end with the same result. -/
theorem equal : Cert.algebraic_KernelIdeal_ReferenceIdeal_pre_finite_inputs (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => outArr m c, (θ_run Cert.KernelIdeal.defs _ _).mono (fun _ h c => ⟨(h c).1.trans (final m c), (h c).2⟩) (Cert.KernelIdeal.Value.run_blocks m ρ), ?_⟩
  refine (θ_run Cert.ReferenceIdeal.defs _ _).mono (fun _ h c => ⟨((h c).1.trans (Cert.ReferenceIdeal.Read.val_main_v162_eq _)).trans ?_, (h c).2⟩)
    (Cert.ReferenceIdeal.Value.run (F := Ideal) m' ρ')
  obtain ⟨h0, h1, h2, h3, h4, h5, h6, h7, h8, h9, h10, h11⟩ := hagree c
  show Cert.ReferenceIdeal.Read.val_main_v162 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = outArr m c
  rw [h0, h1, h2, h3, h4, h5, h6, h7, h8, h9, h10, h11]
  funext j
  rw [show j = ix3 (j 0) (j 1) (j 2) from funext fun a => match a with | ⟨0, _⟩ => rfl | ⟨1, _⟩ => rfl | ⟨2, _⟩ => rfl]
  exact ref_row _ _ _ _ _ _ _ _ _ _ _ _ (finite_of_pre m hpre c) (j 0) (j 1) (j 2)

/-- The reference runs, keeps its arguments and has no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Tile

end
-- ==== Proof.Vocab2.lean ====
module

public import proofs.«01_k».proof.Proof.Vocab

/-! The vocabulary of the second layer's mixer: the gated, normalised heads of one sub-tile of 256 rows, by the output
matrix. -/

@[expose] public section

noncomputable section

namespace Cert.Tile

open Idealize.ShloMosaic Idealize.ShloMosaic.TcCoe

variable {F : FTy → Type} [FloatOps F]

abbrev T256x128 : Shape := ⟨2, ![256, 128]⟩
abbrev T1x256x128 : Shape := ⟨3, ![1, 256, 128]⟩

/-- A head loses its leading axis. -/
theorem casts_head : T1x256x128.ShapeCasts T256x128 := by decide
/-- The heads side by side fill a row. -/
theorem cats_heads : Shape.Concatenates [T256x128, T256x128, T256x128, T256x128, T256x128, T256x128, T256x128, T256x128] T256x1024 1 := by decide

/-- One head of the tile over the root of its mean square. -/
def rmsK (v : Vec F T1x256x128 .bf16) : FVec F T256x128 .f32 :=
  let y : FVec F T256x128 .f32 := extf .f32 (shapeCast T256x128 v casts_head) (by decide)
  mulf y (broadcastTo T256x128 (rsqrt (addf (divf (shapeCast T256x1 (multiReduction .add [1] T256 (mulf y y) 0x00000000#32 (by decide) (.inl rfl) rfl) (by decide)) (broadcast T256x1 (Scalar.ofBits .f32 0x43000000#32)))
    (broadcast T256x1 (Scalar.ofBits .f32 0x358637BD#32)))) (by decide))

/-- Head `q / 128` of rows `o … o + 255`, columns `q … q + 127`. -/
def headK (x0 : Vec F T1x1024x1024 .bf16) (o q : ℕ) (ho : o + 256 ≤ 1024) (hq : q + 128 ≤ 1024) : FVec F T256x128 .f32 :=
  rmsK (View.ld x0 (Rect.unit (s := T1x1024x1024) ![0, o, q] T1x256x128.size (by intro a; match a with | ⟨0, _⟩ => exact Nat.le_refl _ | ⟨1, _⟩ => exact ho | ⟨2, _⟩ => exact hq)))

/-- Rows `o … o + 255` of a narrow staged tile. -/
def nRows (x1 : Vec F T1x1024x1024 .bf16) (o : ℕ) (ho : o + 256 ≤ 1024) : FVec F T256x1024 .bf16 :=
  shapeCast T256x1024 (View.ld x1 (Rect.unit (s := T1x1024x1024) ![0, o, 0] T1x256x1024.size (by intro a; match a with | ⟨0, _⟩ => exact Nat.le_refl _ | ⟨1, _⟩ => exact ho | ⟨2, _⟩ => exact Nat.le_refl _))) casts_x

/-- The heads side by side. -/
def headsK (x0 : Vec F T1x1024x1024 .bf16) (o : ℕ) (ho : o + 256 ≤ 1024) : FVec F T256x1024 .f32 :=
  concatenate T256x1024 1
    [⟨T256x128, headK x0 o 0 ho (by decide)⟩, ⟨T256x128, headK x0 o 128 ho (by decide)⟩, ⟨T256x128, headK x0 o 256 ho (by decide)⟩, ⟨T256x128, headK x0 o 384 ho (by decide)⟩,
     ⟨T256x128, headK x0 o 512 ho (by decide)⟩, ⟨T256x128, headK x0 o 640 ho (by decide)⟩, ⟨T256x128, headK x0 o 768 ho (by decide)⟩, ⟨T256x128, headK x0 o 896 ho (by decide)⟩]
    cats_heads

/-- The heads, scaled by the norm's weights and gated. -/
def gatedK (y : FVec F T256x1024 .f32) (zb : FVec F T256x1024 .bf16) (x4 : Vec F T1x1024 .f32) : FVec F T256x1024 .f32 :=
  let z : FVec F T256x1024 .f32 := extf .f32 zb (by decide)
  mulf (mulf y (broadcastTo T256x1024 (shapeCast T1x1024 x4 (by decide)) (by decide))) (mulf z (logistic z))

/-- A tile by the output matrix. -/
def outK (y : FVec F T256x1024 .f32) (x5 : Vec F T1x1024x1024 .bf16) : FVec F T256x1024 .f32 :=
  matmul (DotDims.plain 256 1024 1024) none (truncf .bf16 y (by decide)) (shapeCast T1024x1024 x5 (by decide)) (constant T256x1024 .f32 0x00000000#32)

/-- The mixer of rows `o … o + 255`. -/
def gmixK (x0 x1 : Vec F T1x1024x1024 .bf16) (x4 : Vec F T1x1024 .f32) (x5 : Vec F T1x1024x1024 .bf16) (o : ℕ) (ho : o + 256 ≤ 1024) : FVec F T256x1024 .f32 :=
  outK (gatedK (headsK x0 o ho) (nRows x1 o ho) x4) x5

/-- The scaled residual plus the mixer. -/
def gsumK (x0 x1 : Vec F T1x1024x1024 .bf16) (x2 : Vec F T1x1024x1024 .f32) (x4 : Vec F T1x1024 .f32) (x5 : Vec F T1x1024x1024 .bf16) (o : ℕ) (ho : o + 256 ≤ 1024) : FVec F T256x1024 .f32 :=
  addf (mulf (broadcast T256x1024 (Scalar.ofBits .f32 0x3FB504F3#32)) (xRows x2 o ho)) (gmixK x0 x1 x4 x5 o ho)

end Cert.Tile

end
-- ==== Proof.Pieces2.lean ====
module

public import proofs.«01_k».proof.Proof.Vocab2
public import proofs.«01_k».proof.Proof.Gen.Kernel2Ideal.Value

/-! The pieces the second layer's body leaves of its block, in the vocabulary of a sub-tile. -/

@[expose] public section

noncomputable section

namespace Cert.Tile2

open Cert.Tile Cert.Kernel2Ideal Cert.Kernel2Ideal.Gen Idealize.ShloMosaic Idealize.ShloMosaic.TcCoe

variable {F : FTy → Type} [FloatOps F]

/-- The mixer of the sub-tile at row 0. -/
theorem mix_0 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    (k0_pay136 x0 x1 x2 x3 x4 x5 x6 x7 x8 x9 x10 x11) = gmixK x0 x1 (View.ld x4 r0_9) (View.ld x5 r0_10) 0 (by decide) := rfl

/-- The first norm of the sub-tile at row 0, from its mixer. -/
theorem norm_0 (A : FVec F S256x1024 .f32) (x2 : Vec F S1x1024x1024 .f32) (x6 : Vec F S1x4x1024 .f32) :
    k0_pay12 A (View.ld x2 r0_0) (View.ld x6 r0_11) (View.ld x6 r0_12) = normK (addf (mulf (broadcast T256x1024 (Scalar.ofBits .f32 0x3FB504F3#32)) (xRows x2 0 (by decide))) A) (rowK x6 0 (by decide)) (rowK x6 1 (by decide)) := rfl

/-- The same, narrowed. -/
theorem narrow_0 (A : FVec F S256x1024 .f32) (x2 : Vec F S1x1024x1024 .f32) (x6 : Vec F S1x4x1024 .f32) :
    k0_pay13 A (View.ld x2 r0_0) (View.ld x6 r0_11) (View.ld x6 r0_12) = truncf .bf16 (k0_pay12 A (View.ld x2 r0_0) (View.ld x6 r0_11) (View.ld x6 r0_12)) (by decide) := rfl

/-- The first hidden units, from the narrowed norm. -/
theorem hid_0 (A : FVec F S256x1024 .f32) (x2 : Vec F S1x1024x1024 .f32) (x6 : Vec F S1x4x1024 .f32) (x7 : Vec F S1x1024x4096 .bf16) :
    k0_pay14 A (View.ld x2 r0_0) (View.ld x6 r0_11) (View.ld x6 r0_12) (View.ld x7 r0_14) = hidK (k0_pay13 A (View.ld x2 r0_0) (View.ld x6 r0_11) (View.ld x6 r0_12)) x7 512 (by decide) := rfl

/-- Their positive part. -/
theorem act_0 (A : FVec F S256x1024 .f32) (x2 : Vec F S1x1024x1024 .f32) (x6 : Vec F S1x4x1024 .f32) (x7 : Vec F S1x1024x4096 .bf16) :
    k0_pay15 A (View.ld x2 r0_0) (View.ld x6 r0_11) (View.ld x6 r0_12) (View.ld x7 r0_13) = maximumf (hidK (k0_pay13 A (View.ld x2 r0_0) (View.ld x6 r0_11) (View.ld x6 r0_12)) x7 0 (by decide)) (broadcast S256x512 (Scalar.ofBits .f32 0x00000000#32)) := rfl

/-- From the first norm of the sub-tile at row 0 to the piece stored. -/
theorem rest_0 (X : FVec F S256x1024 .f32) (Y : FVec F S256x1024 .bf16) (x3 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay49 (k0_pay45 (View.ld x6 r0_41)) (k0_pay46 (View.ld x6 r0_42)) (k0_pay47 X Y (k0_pay40 (k0_pay36 Y (View.ld x7 r0_33)) (k0_pay37 (k0_pay31 (k0_pay26 (k0_pay20 Y (View.ld x7 r0_19)) (k0_pay21 (hidK Y x7 512 (by decide)) (k0_pay16 (maximumf (hidK Y x7 0 (by decide)) (broadcast S256x512 (Scalar.ofBits .f32 0x00000000#32))) (View.ld x8 r0_15)) (View.ld x8 r0_20)) (k0_pay25 (F := F)) (View.ld x8 r0_24)) (k0_pay30 (k0_pay24 Y (View.ld x7 r0_23))) (View.ld x8 r0_28)) (k0_pay34 Y (View.ld x7 r0_31)) (k0_pay35 (k0_pay29 Y (View.ld x7 r0_27))) (View.ld x8 r0_32) (View.ld x8 r0_34)) (View.ld x8 r0_36)) (k0_pay43 Y (k0_pay39 (View.ld x7 r0_35)) (constant S256x512 .f32 0x00000000#32)) (k0_pay44 (View.ld x8 r0_37)) (View.ld x9 r0_10) (View.ld x10 r0_38) (View.ld x3 r0_39) (View.ld x11 r0_40)) (k0_pay48 X Y (k0_pay40 (k0_pay36 Y (View.ld x7 r0_33)) (k0_pay37 (k0_pay31 (k0_pay26 (k0_pay20 Y (View.ld x7 r0_19)) (k0_pay21 (hidK Y x7 512 (by decide)) (k0_pay16 (maximumf (hidK Y x7 0 (by decide)) (broadcast S256x512 (Scalar.ofBits .f32 0x00000000#32))) (View.ld x8 r0_15)) (View.ld x8 r0_20)) (k0_pay25 (F := F)) (View.ld x8 r0_24)) (k0_pay30 (k0_pay24 Y (View.ld x7 r0_23))) (View.ld x8 r0_28)) (k0_pay34 Y (View.ld x7 r0_31)) (k0_pay35 (k0_pay29 Y (View.ld x7 r0_27))) (View.ld x8 r0_32) (View.ld x8 r0_34)) (View.ld x8 r0_36)) (k0_pay43 Y (k0_pay39 (View.ld x7 r0_35)) (constant S256x512 .f32 0x00000000#32)) (k0_pay44 (View.ld x8 r0_37)) (View.ld x9 r0_10) (View.ld x10 r0_38) (View.ld x3 r0_39) (View.ld x11 r0_40))
      = shapeCast S1x256x1024 (normK (addf (addf (mulf (broadcast T256x1024 (Scalar.ofBits .f32 0x3FB504F3#32)) X) (ffK Y x7 x8)) (gateK Y (pRows x3 0 (by decide)) (View.ld x9 r0_10) (View.ld x10 r0_38) (View.ld x11 r0_40)))
        (rowK x6 2 (by decide)) (rowK x6 3 (by decide))) (by decide) := rfl

/-- The piece at row 0 is the sub-tile. -/
theorem tile_0 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay49 (k0_pay45 (View.ld x6 r0_41)) (k0_pay46 (View.ld x6 r0_42)) (k0_pay47 (k0_pay137 x0 x1 x2 x3 x4 x5 x6 x7 x8 x9 x10 x11) (k0_pay138 x0 x1 x2 x3 x4 x5 x6 x7 x8 x9 x10 x11) (k0_pay140 x0 x1 x2 x3 x4 x5 x6 x7 x8 x9 x10 x11) (k0_pay142 x0 x1 x2 x3 x4 x5 x6 x7 x8 x9 x10 x11) (k0_pay143 x0 x1 x2 x3 x4 x5 x6 x7 x8 x9 x10 x11) (View.ld x9 r0_10) (View.ld x10 r0_38) (View.ld x3 r0_39) (View.ld x11 r0_40)) (k0_pay48 (k0_pay137 x0 x1 x2 x3 x4 x5 x6 x7 x8 x9 x10 x11) (k0_pay138 x0 x1 x2 x3 x4 x5 x6 x7 x8 x9 x10 x11) (k0_pay140 x0 x1 x2 x3 x4 x5 x6 x7 x8 x9 x10 x11) (k0_pay142 x0 x1 x2 x3 x4 x5 x6 x7 x8 x9 x10 x11) (k0_pay143 x0 x1 x2 x3 x4 x5 x6 x7 x8 x9 x10 x11) (View.ld x9 r0_10) (View.ld x10 r0_38) (View.ld x3 r0_39) (View.ld x11 r0_40))
      = shapeCast S1x256x1024 (tailK (gsumK x0 x1 x2 (View.ld x4 r0_9) (View.ld x5 r0_10) 0 (by decide)) (pRows x3 0 (by decide)) x6 x7 x8 (View.ld x9 r0_10) (View.ld x10 r0_38) (View.ld x11 r0_40)) (by decide) := by
  refine (?_ : _ = k0_pay49 (k0_pay45 (View.ld x6 r0_41)) (k0_pay46 (View.ld x6 r0_42)) (k0_pay47 (k0_pay12 (k0_pay136 x0 x1 x2 x3 x4 x5 x6 x7 x8 x9 x10 x11) (View.ld x2 r0_0) (View.ld x6 r0_11) (View.ld x6 r0_12)) (k0_pay13 (k0_pay136 x0 x1 x2 x3 x4 x5 x6 x7 x8 x9 x10 x11) (View.ld x2 r0_0) (View.ld x6 r0_11) (View.ld x6 r0_12)) (k0_pay40 (k0_pay36 (k0_pay13 (k0_pay136 x0 x1 x2 x3 x4 x5 x6 x7 x8 x9 x10 x11) (View.ld x2 r0_0) (View.ld x6 r0_11) (View.ld x6 r0_12)) (View.ld x7 r0_33)) (k0_pay37 (k0_pay31 (k0_pay26 (k0_pay20 (k0_pay13 (k0_pay136 x0 x1 x2 x3 x4 x5 x6 x7 x8 x9 x10 x11) (View.ld x2 r0_0) (View.ld x6 r0_11) (View.ld x6 r0_12)) (View.ld x7 r0_19)) (k0_pay21 (k0_pay14 (k0_pay136 x0 x1 x2 x3 x4 x5 x6 x7 x8 x9 x10 x11) (View.ld x2 r0_0) (View.ld x6 r0_11) (View.ld x6 r0_12) (View.ld x7 r0_14)) (k0_pay16 (k0_pay15 (k0_pay136 x0 x1 x2 x3 x4 x5 x6 x7 x8 x9 x10 x11) (View.ld x2 r0_0) (View.ld x6 r0_11) (View.ld x6 r0_12) (View.ld x7 r0_13)) (View.ld x8 r0_15)) (View.ld x8 r0_20)) (k0_pay25 (F := F)) (View.ld x8 r0_24)) (k0_pay30 (k0_pay24 (k0_pay13 (k0_pay136 x0 x1 x2 x3 x4 x5 x6 x7 x8 x9 x10 x11) (View.ld x2 r0_0) (View.ld x6 r0_11) (View.ld x6 r0_12)) (View.ld x7 r0_23))) (View.ld x8 r0_28)) (k0_pay34 (k0_pay13 (k0_pay136 x0 x1 x2 x3 x4 x5 x6 x7 x8 x9 x10 x11) (View.ld x2 r0_0) (View.ld x6 r0_11) (View.ld x6 r0_12)) (View.ld x7 r0_31)) (k0_pay35 (k0_pay29 (k0_pay13 (k0_pay136 x0 x1 x2 x3 x4 x5 x6 x7 x8 x9 x10 x11) (View.ld x2 r0_0) (View.ld x6 r0_11) (View.ld x6 r0_12)) (View.ld x7 r0_27))) (View.ld x8 r0_32) (View.ld x8 r0_34)) (View.ld x8 r0_36)) (k0_pay43 (k0_pay13 (k0_pay136 x0 x1 x2 x3 x4 x5 x6 x7 x8 x9 x10 x11) (View.ld x2 r0_0) (View.ld x6 r0_11) (View.ld x6 r0_12)) (k0_pay39 (View.ld x7 r0_35)) (constant S256x512 .f32 0x00000000#32)) (k0_pay44 (View.ld x8 r0_37)) (View.ld x9 r0_10) (View.ld x10 r0_38) (View.ld x3 r0_39) (View.ld x11 r0_40)) (k0_pay48 (k0_pay12 (k0_pay136 x0 x1 x2 x3 x4 x5 x6 x7 x8 x9 x10 x11) (View.ld x2 r0_0) (View.ld x6 r0_11) (View.ld x6 r0_12)) (k0_pay13 (k0_pay136 x0 x1 x2 x3 x4 x5 x6 x7 x8 x9 x10 x11) (View.ld x2 r0_0) (View.ld x6 r0_11) (View.ld x6 r0_12)) (k0_pay40 (k0_pay36 (k0_pay13 (k0_pay136 x0 x1 x2 x3 x4 x5 x6 x7 x8 x9 x10 x11) (View.ld x2 r0_0) (View.ld x6 r0_11) (View.ld x6 r0_12)) (View.ld x7 r0_33)) (k0_pay37 (k0_pay31 (k0_pay26 (k0_pay20 (k0_pay13 (k0_pay136 x0 x1 x2 x3 x4 x5 x6 x7 x8 x9 x10 x11) (View.ld x2 r0_0) (View.ld x6 r0_11) (View.ld x6 r0_12)) (View.ld x7 r0_19)) (k0_pay21 (k0_pay14 (k0_pay136 x0 x1 x2 x3 x4 x5 x6 x7 x8 x9 x10 x11) (View.ld x2 r0_0) (View.ld x6 r0_11) (View.ld x6 r0_12) (View.ld x7 r0_14)) (k0_pay16 (k0_pay15 (k0_pay136 x0 x1 x2 x3 x4 x5 x6 x7 x8 x9 x10 x11) (View.ld x2 r0_0) (View.ld x6 r0_11) (View.ld x6 r0_12) (View.ld x7 r0_13)) (View.ld x8 r0_15)) (View.ld x8 r0_20)) (k0_pay25 (F := F)) (View.ld x8 r0_24)) (k0_pay30 (k0_pay24 (k0_pay13 (k0_pay136 x0 x1 x2 x3 x4 x5 x6 x7 x8 x9 x10 x11) (View.ld x2 r0_0) (View.ld x6 r0_11) (View.ld x6 r0_12)) (View.ld x7 r0_23))) (View.ld x8 r0_28)) (k0_pay34 (k0_pay13 (k0_pay136 x0 x1 x2 x3 x4 x5 x6 x7 x8 x9 x10 x11) (View.ld x2 r0_0) (View.ld x6 r0_11) (View.ld x6 r0_12)) (View.ld x7 r0_31)) (k0_pay35 (k0_pay29 (k0_pay13 (k0_pay136 x0 x1 x2 x3 x4 x5 x6 x7 x8 x9 x10 x11) (View.ld x2 r0_0) (View.ld x6 r0_11) (View.ld x6 r0_12)) (View.ld x7 r0_27))) (View.ld x8 r0_32) (View.ld x8 r0_34)) (View.ld x8 r0_36)) (k0_pay43 (k0_pay13 (k0_pay136 x0 x1 x2 x3 x4 x5 x6 x7 x8 x9 x10 x11) (View.ld x2 r0_0) (View.ld x6 r0_11) (View.ld x6 r0_12)) (k0_pay39 (View.ld x7 r0_35)) (constant S256x512 .f32 0x00000000#32)) (k0_pay44 (View.ld x8 r0_37)) (View.ld x9 r0_10) (View.ld x10 r0_38) (View.ld x3 r0_39) (View.ld x11 r0_40))).trans ?_
  · rfl
  · rw [hid_0, act_0, rest_0, narrow_0, norm_0, mix_0]
    rfl

/-- The mixer of the sub-tile at row 256. -/
theorem mix_256 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    (k0_pay139 x0 x1 x2 x3 x4 x5 x6 x7 x8 x9 x10 x11) = gsumK x0 x1 x2 (View.ld x4 r0_9) (View.ld x5 r0_10) 256 (by decide) := rfl

/-- The first norm of the sub-tile at row 256, from the mixer's sum. -/
theorem norm_256 (A : FVec F S256x1024 .f32) (x6 : Vec F S1x4x1024 .f32) :
    k0_pay41 A (View.ld x6 r0_11) (View.ld x6 r0_12) = normK A (rowK x6 0 (by decide)) (rowK x6 1 (by decide)) := rfl

/-- The same, narrowed. -/
theorem narrow_256 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) : (k0_pay141 x0 x1 x2 x3 x4 x5 x6 x7 x8 x9 x10 x11) = truncf .bf16 (k0_pay41 (k0_pay139 x0 x1 x2 x3 x4 x5 x6 x7 x8 x9 x10 x11) (View.ld x6 r0_11) (View.ld x6 r0_12)) (by decide) := rfl

/-- From the first norm of the sub-tile at row 256 to the piece stored. -/
theorem rest_256 (X : FVec F S256x1024 .f32) (Y : FVec F S256x1024 .bf16) (x3 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay86 X (k0_pay84 (k0_pay79 Y (View.ld x7 r0_35)) (k0_pay80 Y (k0_pay74 Y (View.ld x7 r0_31)) (k0_pay75 (k0_pay70 Y (View.ld x7 r0_27)) (k0_pay71 (k0_pay63 Y (View.ld x7 r0_23)) (k0_pay64 (k0_pay57 Y (View.ld x7 r0_19)) (k0_pay58 (k0_pay50 Y (View.ld x7 r0_14)) (k0_pay51 Y (View.ld x7 r0_13) (View.ld x8 r0_15)) (View.ld x8 r0_20)) (View.ld x8 r0_24)) (View.ld x8 r0_28)) (View.ld x8 r0_32)) (k0_pay77 (View.ld x7 r0_33)) (constant S256x512 .f32 0x00000000#32) (View.ld x8 r0_34) (View.ld x8 r0_36)) (View.ld x8 r0_37)) (k0_pay85 Y (View.ld x9 r0_10) (View.ld x10 r0_38)) (View.ld x3 r0_52) (View.ld x11 r0_40) (View.ld x6 r0_41) (View.ld x6 r0_42)
      = shapeCast S1x256x1024 (normK (addf (addf (mulf (broadcast T256x1024 (Scalar.ofBits .f32 0x3FB504F3#32)) X) (ffK Y x7 x8)) (gateK Y (pRows x3 256 (by decide)) (View.ld x9 r0_10) (View.ld x10 r0_38) (View.ld x11 r0_40)))
        (rowK x6 2 (by decide)) (rowK x6 3 (by decide))) (by decide) := rfl

/-- The piece at row 256 is the sub-tile. -/
theorem tile_256 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay86 (k0_pay41 (k0_pay139 x0 x1 x2 x3 x4 x5 x6 x7 x8 x9 x10 x11) (View.ld x6 r0_11) (View.ld x6 r0_12)) (k0_pay84 (k0_pay79 (k0_pay141 x0 x1 x2 x3 x4 x5 x6 x7 x8 x9 x10 x11) (View.ld x7 r0_35)) (k0_pay80 (k0_pay141 x0 x1 x2 x3 x4 x5 x6 x7 x8 x9 x10 x11) (k0_pay74 (k0_pay141 x0 x1 x2 x3 x4 x5 x6 x7 x8 x9 x10 x11) (View.ld x7 r0_31)) (k0_pay75 (k0_pay70 (k0_pay141 x0 x1 x2 x3 x4 x5 x6 x7 x8 x9 x10 x11) (View.ld x7 r0_27)) (k0_pay71 (k0_pay63 (k0_pay141 x0 x1 x2 x3 x4 x5 x6 x7 x8 x9 x10 x11) (View.ld x7 r0_23)) (k0_pay64 (k0_pay57 (k0_pay141 x0 x1 x2 x3 x4 x5 x6 x7 x8 x9 x10 x11) (View.ld x7 r0_19)) (k0_pay58 (k0_pay50 (k0_pay141 x0 x1 x2 x3 x4 x5 x6 x7 x8 x9 x10 x11) (View.ld x7 r0_14)) (k0_pay51 (k0_pay141 x0 x1 x2 x3 x4 x5 x6 x7 x8 x9 x10 x11) (View.ld x7 r0_13) (View.ld x8 r0_15)) (View.ld x8 r0_20)) (View.ld x8 r0_24)) (View.ld x8 r0_28)) (View.ld x8 r0_32)) (k0_pay77 (View.ld x7 r0_33)) (constant S256x512 .f32 0x00000000#32) (View.ld x8 r0_34) (View.ld x8 r0_36)) (View.ld x8 r0_37)) (k0_pay85 (k0_pay141 x0 x1 x2 x3 x4 x5 x6 x7 x8 x9 x10 x11) (View.ld x9 r0_10) (View.ld x10 r0_38)) (View.ld x3 r0_52) (View.ld x11 r0_40) (View.ld x6 r0_41) (View.ld x6 r0_42)
      = shapeCast S1x256x1024 (tailK (gsumK x0 x1 x2 (View.ld x4 r0_9) (View.ld x5 r0_10) 256 (by decide)) (pRows x3 256 (by decide)) x6 x7 x8 (View.ld x9 r0_10) (View.ld x10 r0_38) (View.ld x11 r0_40)) (by decide) := by
  rw [rest_256, narrow_256, norm_256, mix_256]
  rfl

/-- The mixer of the sub-tile at row 512. -/
theorem mix_512 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    (k0_pay144 x0 x1 x2 x3 x4 x5 x6 x7 x8 x9 x10 x11) = gsumK x0 x1 x2 (View.ld x4 r0_9) (View.ld x5 r0_10) 512 (by decide) := rfl

/-- The first norm of the sub-tile at row 512, from the mixer's sum. -/
theorem norm_512 (A : FVec F S256x1024 .f32) (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay82 A (k0_pay145 x0 x1 x2 x3 x4 x5 x6 x7 x8 x9 x10 x11) (View.ld x6 r0_12) = normK A (rowK x6 0 (by decide)) (rowK x6 1 (by decide)) := rfl

/-- The same, narrowed. -/
theorem narrow_512 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) : (k0_pay146 x0 x1 x2 x3 x4 x5 x6 x7 x8 x9 x10 x11) = truncf .bf16 (k0_pay82 (k0_pay144 x0 x1 x2 x3 x4 x5 x6 x7 x8 x9 x10 x11) (k0_pay145 x0 x1 x2 x3 x4 x5 x6 x7 x8 x9 x10 x11) (View.ld x6 r0_12)) (by decide) := rfl

/-- From the first norm of the sub-tile at row 512 to the piece stored. -/
theorem rest_512 (X : FVec F S256x1024 .f32) (Y : FVec F S256x1024 .bf16) (x3 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay124 (k0_pay122 X Y (k0_pay115 Y (View.ld x7 r0_35)) (k0_pay116 (k0_pay112 Y (View.ld x7 r0_33)) (k0_pay113 Y (k0_pay107 Y (View.ld x7 r0_27)) (k0_pay108 (k0_pay101 Y (View.ld x7 r0_23)) (k0_pay102 (k0_pay95 Y (View.ld x7 r0_19)) (k0_pay96 (k0_pay87 Y (View.ld x7 r0_14)) (k0_pay88 Y (View.ld x7 r0_13) (View.ld x8 r0_15)) (View.ld x8 r0_20)) (View.ld x8 r0_24)) (View.ld x8 r0_28)) (View.ld x7 r0_31) (View.ld x8 r0_32) (View.ld x8 r0_34)) (View.ld x8 r0_36)) (View.ld x8 r0_37) (View.ld x9 r0_10) (View.ld x10 r0_38) (View.ld x3 r0_62) (View.ld x11 r0_40)) (k0_pay123 (View.ld x6 r0_41)) (View.ld x6 r0_42)
      = shapeCast S1x256x1024 (normK (addf (addf (mulf (broadcast T256x1024 (Scalar.ofBits .f32 0x3FB504F3#32)) X) (ffK Y x7 x8)) (gateK Y (pRows x3 512 (by decide)) (View.ld x9 r0_10) (View.ld x10 r0_38) (View.ld x11 r0_40)))
        (rowK x6 2 (by decide)) (rowK x6 3 (by decide))) (by decide) := rfl

/-- The piece at row 512 is the sub-tile. -/
theorem tile_512 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay124 (k0_pay122 (k0_pay82 (k0_pay144 x0 x1 x2 x3 x4 x5 x6 x7 x8 x9 x10 x11) (k0_pay145 x0 x1 x2 x3 x4 x5 x6 x7 x8 x9 x10 x11) (View.ld x6 r0_12)) (k0_pay146 x0 x1 x2 x3 x4 x5 x6 x7 x8 x9 x10 x11) (k0_pay115 (k0_pay146 x0 x1 x2 x3 x4 x5 x6 x7 x8 x9 x10 x11) (View.ld x7 r0_35)) (k0_pay116 (k0_pay112 (k0_pay146 x0 x1 x2 x3 x4 x5 x6 x7 x8 x9 x10 x11) (View.ld x7 r0_33)) (k0_pay113 (k0_pay146 x0 x1 x2 x3 x4 x5 x6 x7 x8 x9 x10 x11) (k0_pay107 (k0_pay146 x0 x1 x2 x3 x4 x5 x6 x7 x8 x9 x10 x11) (View.ld x7 r0_27)) (k0_pay108 (k0_pay101 (k0_pay146 x0 x1 x2 x3 x4 x5 x6 x7 x8 x9 x10 x11) (View.ld x7 r0_23)) (k0_pay102 (k0_pay95 (k0_pay146 x0 x1 x2 x3 x4 x5 x6 x7 x8 x9 x10 x11) (View.ld x7 r0_19)) (k0_pay96 (k0_pay87 (k0_pay146 x0 x1 x2 x3 x4 x5 x6 x7 x8 x9 x10 x11) (View.ld x7 r0_14)) (k0_pay88 (k0_pay146 x0 x1 x2 x3 x4 x5 x6 x7 x8 x9 x10 x11) (View.ld x7 r0_13) (View.ld x8 r0_15)) (View.ld x8 r0_20)) (View.ld x8 r0_24)) (View.ld x8 r0_28)) (View.ld x7 r0_31) (View.ld x8 r0_32) (View.ld x8 r0_34)) (View.ld x8 r0_36)) (View.ld x8 r0_37) (View.ld x9 r0_10) (View.ld x10 r0_38) (View.ld x3 r0_62) (View.ld x11 r0_40)) (k0_pay123 (View.ld x6 r0_41)) (View.ld x6 r0_42)
      = shapeCast S1x256x1024 (tailK (gsumK x0 x1 x2 (View.ld x4 r0_9) (View.ld x5 r0_10) 512 (by decide)) (pRows x3 512 (by decide)) x6 x7 x8 (View.ld x9 r0_10) (View.ld x10 r0_38) (View.ld x11 r0_40)) (by decide) := by
  rw [rest_512, narrow_512, norm_512, mix_512]
  rfl

/-- The mixer of the sub-tile at row 768. -/
theorem mix_768 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    (k0_pay114 (k0_pay89 (View.ld x1 r0_53)) (k0_pay90 (View.ld x0 r0_54)) (k0_pay94 (k0_pay91 (View.ld x0 r0_55)) (k0_pay92 (View.ld x0 r0_55)) (k0_pay93 (F := F))) (k0_pay97 (View.ld x0 r0_56)) (k0_pay100 (k0_pay98 (View.ld x0 r0_57)) (k0_pay99 (View.ld x0 r0_57)) (Scalar.ofBits .f32 0x358637BD#32)) (k0_pay103 (View.ld x0 r0_58)) (k0_pay106 (k0_pay104 (View.ld x0 r0_59)) (k0_pay105 (View.ld x0 r0_59))) (k0_pay109 (View.ld x0 r0_60)) (k0_pay110 (View.ld x0 r0_61)) (k0_pay111 (View.ld x0 r0_61)) (View.ld x4 r0_9) (View.ld x5 r0_10)) = gmixK x0 x1 (View.ld x4 r0_9) (View.ld x5 r0_10) 768 (by decide) := rfl

/-- The first norm of the sub-tile at row 768, from its mixer. -/
theorem norm_768 (A : FVec F S256x1024 .f32) (x2 : Vec F S1x1024x1024 .f32) (x6 : Vec F S1x4x1024 .f32) :
    k0_pay120 (k0_pay117 (View.ld x6 r0_12)) (k0_pay118 A (View.ld x2 r0_53)) (k0_pay119 (View.ld x6 r0_11)) = normK (addf (mulf (broadcast T256x1024 (Scalar.ofBits .f32 0x3FB504F3#32)) (xRows x2 768 (by decide))) A) (rowK x6 0 (by decide)) (rowK x6 1 (by decide)) := rfl

/-- The same, narrowed. -/
theorem narrow_768 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) : (k0_pay151 x0 x1 x2 x3 x4 x5 x6 x7 x8 x9 x10 x11) = truncf .bf16 (k0_pay150 x0 x1 x2 x3 x4 x5 x6 x7 x8 x9 x10 x11) (by decide) := rfl

/-- From the first norm of the sub-tile at row 768 to the piece stored. -/
theorem rest_768 (X : FVec F S256x1024 .f32) (Y : FVec F S256x1024 .bf16) (x3 : Vec F S1x1x1024x256 .f32) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay135 (k0_pay131 X Y (k0_pay129 Y (View.ld x7 r0_35)) (k0_pay130 Y (k0_pay127 Y (View.ld x7 r0_27)) (k0_pay128 Y (k0_pay125 Y (View.ld x7 r0_14)) (k0_pay126 Y (View.ld x7 r0_13) (View.ld x8 r0_15)) (View.ld x7 r0_19) (View.ld x8 r0_20) (View.ld x7 r0_23) (View.ld x8 r0_24) (View.ld x8 r0_28)) (View.ld x7 r0_31) (View.ld x8 r0_32) (View.ld x7 r0_33) (View.ld x8 r0_34) (View.ld x8 r0_36)) (View.ld x8 r0_37) (View.ld x9 r0_10) (View.ld x10 r0_38) (View.ld x3 r0_63) (View.ld x11 r0_40)) (k0_pay132 (View.ld x6 r0_41)) (k0_pay133 (View.ld x6 r0_42)) (k0_pay134 X Y (k0_pay129 Y (View.ld x7 r0_35)) (k0_pay130 Y (k0_pay127 Y (View.ld x7 r0_27)) (k0_pay128 Y (k0_pay125 Y (View.ld x7 r0_14)) (k0_pay126 Y (View.ld x7 r0_13) (View.ld x8 r0_15)) (View.ld x7 r0_19) (View.ld x8 r0_20) (View.ld x7 r0_23) (View.ld x8 r0_24) (View.ld x8 r0_28)) (View.ld x7 r0_31) (View.ld x8 r0_32) (View.ld x7 r0_33) (View.ld x8 r0_34) (View.ld x8 r0_36)) (View.ld x8 r0_37) (View.ld x9 r0_10) (View.ld x10 r0_38) (View.ld x3 r0_63) (View.ld x11 r0_40))
      = shapeCast S1x256x1024 (normK (addf (addf (mulf (broadcast T256x1024 (Scalar.ofBits .f32 0x3FB504F3#32)) X) (ffK Y x7 x8)) (gateK Y (pRows x3 768 (by decide)) (View.ld x9 r0_10) (View.ld x10 r0_38) (View.ld x11 r0_40)))
        (rowK x6 2 (by decide)) (rowK x6 3 (by decide))) (by decide) := rfl

/-- The piece at row 768 is the sub-tile. -/
theorem tile_768 (x0 : Vec F S1x1024x1024 .bf16) (x1 : Vec F S1x1024x1024 .bf16) (x2 : Vec F S1x1024x1024 .f32) (x3 : Vec F S1x1x1024x256 .f32) (x4 : Vec F S1x1024 .f32) (x5 : Vec F S1x1024x1024 .bf16) (x6 : Vec F S1x4x1024 .f32) (x7 : Vec F S1x1024x4096 .bf16) (x8 : Vec F S1x4096x1024 .bf16) (x9 : Vec F S1x1024x1024 .bf16) (x10 : Vec F S1x1x1024 .f32) (x11 : Vec F S1x256x1024 .bf16) :
    k0_pay135 (k0_pay131 (k0_pay150 x0 x1 x2 x3 x4 x5 x6 x7 x8 x9 x10 x11) (k0_pay151 x0 x1 x2 x3 x4 x5 x6 x7 x8 x9 x10 x11) (k0_pay152 x0 x1 x2 x3 x4 x5 x6 x7 x8 x9 x10 x11) (k0_pay153 x0 x1 x2 x3 x4 x5 x6 x7 x8 x9 x10 x11) (View.ld x8 r0_37) (View.ld x9 r0_10) (View.ld x10 r0_38) (View.ld x3 r0_63) (View.ld x11 r0_40)) (k0_pay132 (View.ld x6 r0_41)) (k0_pay133 (View.ld x6 r0_42)) (k0_pay134 (k0_pay150 x0 x1 x2 x3 x4 x5 x6 x7 x8 x9 x10 x11) (k0_pay151 x0 x1 x2 x3 x4 x5 x6 x7 x8 x9 x10 x11) (k0_pay152 x0 x1 x2 x3 x4 x5 x6 x7 x8 x9 x10 x11) (k0_pay153 x0 x1 x2 x3 x4 x5 x6 x7 x8 x9 x10 x11) (View.ld x8 r0_37) (View.ld x9 r0_10) (View.ld x10 r0_38) (View.ld x3 r0_63) (View.ld x11 r0_40))
      = shapeCast S1x256x1024 (tailK (gsumK x0 x1 x2 (View.ld x4 r0_9) (View.ld x5 r0_10) 768 (by decide)) (pRows x3 768 (by decide)) x6 x7 x8 (View.ld x9 r0_10) (View.ld x10 r0_38) (View.ld x11 r0_40)) (by decide) := by
  refine (rest_768 _ _ x3 x6 x7 x8 x9 x10 x11).trans ?_
  rw [narrow_768, show (k0_pay150 x0 x1 x2 x3 x4 x5 x6 x7 x8 x9 x10 x11) = _ from (norm_768 _ x2 x6).trans (congrArg (fun A => normK (addf (mulf (broadcast T256x1024 (Scalar.ofBits .f32 0x3FB504F3#32)) (xRows x2 768 (by decide))) A) (rowK x6 0 (by decide)) (rowK x6 1 (by decide))) (mix_768 x0 x1 x2 x3 x4 x5 x6 x7 x8 x9 x10 x11))]
  rfl

end Cert.Tile2

end
-- ==== Proof.Spec2.lean ====
module

public import proofs.«01_k».proof.Proof.Spec

/-! The second layer's mixer, row by row, over the extended reals. -/

@[expose] public section

noncomputable section

namespace Cert.Spec

open Idealize.ShloMosaic

/-- Column `l` of head `h`. -/
def hcol (h : Fin 8) (l : Fin 128) : Fin 1024 := ⟨128 * h.val + l.val, by omega⟩

/-- A head's row over the root of its mean square. -/
def rms (o : Fin 128 → EReal) (l : Fin 128) : EReal :=
  o l * Ideal.rsqrt (Ideal.div (∑ k, o k * o k) (Ideal.ofBits .f32 0x43000000#32) + Ideal.ofBits .f32 0x358637BD#32)

/-- A head's normalised row, weighted and gated. -/
def gatedHead (o z : Fin 1024 → EReal) (nw : Fin 128 → EReal) (h : Fin 8) (l : Fin 128) : EReal :=
  rms (fun k => o (hcol h k)) l * nw l * (z (hcol h l) * Ideal.logistic (z (hcol h l)))

/-- All heads of a row. -/
def gated (o z : Fin 1024 → EReal) (nw : Fin 128 → EReal) (c : Fin 1024) : EReal :=
  gatedHead o z nw ⟨c.val / 128, by omega⟩ ⟨c.val % 128, by omega⟩

/-- The whole row at a column of a head. -/
theorem gated_col (o z : Fin 1024 → EReal) (nw : Fin 128 → EReal) (h : Fin 8) (l : Fin 128) : gated o z nw (hcol h l) = gatedHead o z nw h l := by
  have h1 : (⟨(hcol h l).val / 128, by omega⟩ : Fin 8) = h := Fin.ext (by show (128 * h.val + l.val) / 128 = h.val; omega)
  have h2 : (⟨(hcol h l).val % 128, by omega⟩ : Fin 128) = l := Fin.ext (by show (128 * h.val + l.val) % 128 = l.val; omega)
  unfold gated
  rw [h1, h2]

/-- Every column is a column of a head. -/
theorem exists_hcol (c : Fin 1024) : ∃ h l, c = hcol h l :=
  ⟨⟨c.val / 128, by omega⟩, ⟨c.val % 128, by omega⟩, Fin.ext (by show c.val = 128 * (c.val / 128) + c.val % 128; omega)⟩

/-- The scaled residual plus the mixer, of a row. -/
def gdnSum (o z x : Fin 1024 → EReal) (nw : Fin 128 → EReal) (w : Fin 1024 → Fin 1024 → EReal) (c : Fin 1024) : EReal :=
  Ideal.ofBits .f32 0x3FB504F3#32 * x c + ∑ k, gated o z nw k * w k c

end Cert.Spec

end
-- ==== Proof.GdnRead.lean ====
module

public import proofs.«01_k».proof.Proof.TailRead
public import proofs.«01_k».proof.Proof.Vocab2
public import proofs.«01_k».proof.Proof.Spec2

/-! The second layer's mixer of the vocabulary read at a row and a column. -/

@[expose] public section

noncomputable section

namespace Cert.Tile

open Idealize.ShloMosaic Idealize.ShloMosaic.TcCoe Idealize.ShloMosaic.Pointwise Cert.Spec

/-- One head's row over the root of its mean square. -/
theorem rmsK_apply (v : Vec Ideal T1x256x128 .bf16) (r : Fin 256) (l : Fin 128) : rmsK v (ix2 r l) = rms (fun k => v (ix3 0 r k)) l := by
  pointwise [rmsK, rms]

/-- The same of the staged tile. -/
theorem headK_apply (x0 : Vec Ideal T1x1024x1024 .bf16) (o q : ℕ) (ho : o + 256 ≤ 1024) (hq : q + 128 ≤ 1024) (h : Fin 8) (hh : 128 * h.val = q) (r : Fin 256) (l : Fin 128) :
    headK x0 o q ho hq (ix2 r l) = rms (fun k => x0 (ix3 0 ⟨o + r.val, by omega⟩ (hcol h k))) l := by
  unfold headK
  rw [rmsK_apply]
  refine congrArg (fun f => rms f l) (funext fun k => ?_)
  refine ld_at x0 _ _ _ _ _ fun a => ?_
  match a with
  | ⟨0, _⟩ => rfl
  | ⟨1, _⟩ => rfl
  | ⟨2, _⟩ => show 128 * h.val + k.val = q + k.val; omega

/-- The heads side by side, at a column of a head. -/
theorem headsK_apply (x0 : Vec Ideal T1x1024x1024 .bf16) (o : ℕ) (ho : o + 256 ≤ 1024) (h : Fin 8) (r : Fin 256) (l : Fin 128) :
    headsK x0 o ho (ix2 r (hcol h l)) = rms (fun k => x0 (ix3 0 ⟨o + r.val, by omega⟩ (hcol h k))) l := by
  have side : ∀ b : Fin 2, b ≠ 1 → ((ix2 r l : T256x128.Idx) b).val = ((ix2 r (hcol h l) : T256x1024.Idx) b).val := by
    intro b hb
    match b with
    | ⟨0, _⟩ => rfl
    | ⟨1, _⟩ => exact absurd rfl hb
  unfold headsK
  match h with
  | ⟨0, _⟩ => exact (concatenate_apply_piece (t := T256x1024) 1 _ _ _ 0 (by show 0 < 8; omega) T256x128 (headK x0 o 0 ho (by decide)) rfl rfl 0 rfl (ix2 r l) side (by show 0 + l.val = 128 * 0 + l.val; omega)).trans (headK_apply x0 o 0 ho _ 0 rfl r l)
  | ⟨1, _⟩ => exact (concatenate_apply_piece (t := T256x1024) 1 _ _ _ 1 (by show 1 < 8; omega) T256x128 (headK x0 o 128 ho (by decide)) rfl rfl 128 rfl (ix2 r l) side (by show 128 + l.val = 128 * 1 + l.val; omega)).trans (headK_apply x0 o 128 ho _ 1 rfl r l)
  | ⟨2, _⟩ => exact (concatenate_apply_piece (t := T256x1024) 1 _ _ _ 2 (by show 2 < 8; omega) T256x128 (headK x0 o 256 ho (by decide)) rfl rfl 256 rfl (ix2 r l) side (by show 256 + l.val = 128 * 2 + l.val; omega)).trans (headK_apply x0 o 256 ho _ 2 rfl r l)
  | ⟨3, _⟩ => exact (concatenate_apply_piece (t := T256x1024) 1 _ _ _ 3 (by show 3 < 8; omega) T256x128 (headK x0 o 384 ho (by decide)) rfl rfl 384 rfl (ix2 r l) side (by show 384 + l.val = 128 * 3 + l.val; omega)).trans (headK_apply x0 o 384 ho _ 3 rfl r l)
  | ⟨4, _⟩ => exact (concatenate_apply_piece (t := T256x1024) 1 _ _ _ 4 (by show 4 < 8; omega) T256x128 (headK x0 o 512 ho (by decide)) rfl rfl 512 rfl (ix2 r l) side (by show 512 + l.val = 128 * 4 + l.val; omega)).trans (headK_apply x0 o 512 ho _ 4 rfl r l)
  | ⟨5, _⟩ => exact (concatenate_apply_piece (t := T256x1024) 1 _ _ _ 5 (by show 5 < 8; omega) T256x128 (headK x0 o 640 ho (by decide)) rfl rfl 640 rfl (ix2 r l) side (by show 640 + l.val = 128 * 5 + l.val; omega)).trans (headK_apply x0 o 640 ho _ 5 rfl r l)
  | ⟨6, _⟩ => exact (concatenate_apply_piece (t := T256x1024) 1 _ _ _ 6 (by show 6 < 8; omega) T256x128 (headK x0 o 768 ho (by decide)) rfl rfl 768 rfl (ix2 r l) side (by show 768 + l.val = 128 * 6 + l.val; omega)).trans (headK_apply x0 o 768 ho _ 6 rfl r l)
  | ⟨7, _⟩ => exact (concatenate_apply_piece (t := T256x1024) 1 _ _ _ 7 (by show 7 < 8; omega) T256x128 (headK x0 o 896 ho (by decide)) rfl rfl 896 rfl (ix2 r l) side (by show 896 + l.val = 128 * 7 + l.val; omega)).trans (headK_apply x0 o 896 ho _ 7 rfl r l)

/-- Rows of a narrow staged tile. -/
theorem nRows_apply (x1 : Vec Ideal T1x1024x1024 .bf16) (o : ℕ) (ho : o + 256 ≤ 1024) (r : Fin 256) (c : Fin 1024) :
    nRows x1 o ho (ix2 r c) = x1 (ix3 0 ⟨o + r.val, by omega⟩ c) := xRows_apply x1 o ho r c

/-- The weights and the gate at an entry. -/
theorem gatedK_apply (y : FVec Ideal T256x1024 .f32) (zb : FVec Ideal T256x1024 .bf16) (x4 : Vec Ideal T1x1024 .f32) (r : Fin 256) (c : Fin 1024) :
    gatedK y zb x4 (ix2 r c) = y (ix2 r c) * x4 (ix2 0 c) * (zb (ix2 r c) * Ideal.logistic (zb (ix2 r c))) := by
  pointwise [gatedK]

/-- The output matrix at an entry. -/
theorem outK_apply (y : FVec Ideal T256x1024 .f32) (x5 : Vec Ideal T1x1024x1024 .bf16) (r : Fin 256) (c : Fin 1024) :
    outK y x5 (ix2 r c) = ∑ k, y (ix2 r k) * x5 (ix3 0 k c) := by
  pointwise [outK]

/-- A scaled tile plus a tile. -/
theorem scaled_read (x y : FVec Ideal T256x1024 .f32) (r : Fin 256) (c : Fin 1024) :
    addf (mulf (broadcast T256x1024 (Scalar.ofBits .f32 0x3FB504F3#32)) x) y (ix2 r c) = Ideal.ofBits .f32 0x3FB504F3#32 * x (ix2 r c) + y (ix2 r c) := by
  pointwise

/-- The scaled residual plus the mixer, at a row and a column; the staged weights repeat a head's `nw`. -/
theorem gsumK_apply (x0 x1 : Vec Ideal T1x1024x1024 .bf16) (x2 : Vec Ideal T1x1024x1024 .f32) (x4 : Vec Ideal T1x1024 .f32) (x5 : Vec Ideal T1x1024x1024 .bf16) (nw : Fin 128 → EReal)
    (hnw : ∀ h l, x4 (ix2 0 (hcol h l)) = nw l) (o : ℕ) (ho : o + 256 ≤ 1024) (r : Fin 256) (c : Fin 1024) :
    gsumK x0 x1 x2 x4 x5 o ho (ix2 r c)
      = gdnSum (fun k => x0 (ix3 0 ⟨o + r.val, by omega⟩ k)) (fun k => x1 (ix3 0 ⟨o + r.val, by omega⟩ k)) (fun k => x2 (ix3 0 ⟨o + r.val, by omega⟩ k)) nw (fun k c => x5 (ix3 0 k c)) c := by
  unfold gsumK gmixK gdnSum
  rw [scaled_read, outK_apply, xRows_apply]
  refine congrArg _ (Finset.sum_congr rfl fun k _ => ?_)
  refine congrArg (fun z : EReal => z * x5 (ix3 0 k c)) ?_
  obtain ⟨h, l, rfl⟩ := exists_hcol k
  rw [gatedK_apply, gated_col, headsK_apply, nRows_apply, hnw]
  rfl

end Cert.Tile

end
-- ==== Proof.Arrays2.lean ====
module

public import proofs.«01_k».proof.Proof.Spec2
public import proofs.«01_k».proof.Proof.Gen.Kernel2Ideal.Value
public import Idealize.ShloMosaic.Lib.StableHlo.ReadAt
public import Idealize.ShloMosaic.Lib.Pointwise

/-! What the host lines before the second call leave in the arrays the call stages, at an index. -/

@[expose] public section

noncomputable section

namespace Cert.Tile2

open Cert.Kernel2Ideal Cert.Kernel2Ideal.Gen Idealize.ShloMosaic Idealize.ShloMosaic.TcCoe Idealize.SL.Sem Idealize.ShloMosaic.Pointwise

variable (m : (ℓ : Loc nD τ sig) → Buf (Elt Ideal) ℓ) (c : Dev nD)

/-- Norm row 0 is the first gain. -/
theorem V_ln0 (l : Fin 2) (k : Fin 1024) : V m c main_v12 (ix3 l (0 : Fin 4) k) = m ((c : Thread nD τ).loc main_arg4) (ix3 l (0 : Fin 2) k) := by
  unfold V
  after_reads_at
  rw [StableHlo.unary_result]
  after_reads_at

/-- Norm row 1 is the first offset. -/
theorem V_ln1 (l : Fin 2) (k : Fin 1024) : V m c main_v12 (ix3 l (1 : Fin 4) k) = m ((c : Thread nD τ).loc main_arg5) (ix3 l (0 : Fin 2) k) := by
  unfold V
  after_reads_at
  rw [StableHlo.unary_result]
  after_reads_at

/-- Norm row 2 is the second gain. -/
theorem V_ln2 (l : Fin 2) (k : Fin 1024) : V m c main_v12 (ix3 l (2 : Fin 4) k) = m ((c : Thread nD τ).loc main_arg4) (ix3 l (1 : Fin 2) k) := by
  unfold V
  after_reads_at
  rw [StableHlo.unary_result]
  after_reads_at

/-- Norm row 3 is the second offset. -/
theorem V_ln3 (l : Fin 2) (k : Fin 1024) : V m c main_v12 (ix3 l (3 : Fin 4) k) = m ((c : Thread nD τ).loc main_arg5) (ix3 l (1 : Fin 2) k) := by
  unfold V
  after_reads_at
  rw [StableHlo.unary_result]
  after_reads_at

/-- The first weights, narrowed. -/
theorem V_w1 (j : S2x1024x4096.Idx) : V m c main_v13 j = m ((c : Thread nD τ).loc main_arg8) j := by
  unfold V
  after_reads_at

/-- The second weights, narrowed. -/
theorem V_w2 (j : S2x4096x1024.Idx) : V m c main_v14 j = m ((c : Thread nD τ).loc main_arg9) j := by
  unfold V
  after_reads_at

/-- The gate's weights, narrowed. -/
theorem V_gw (j : S2x1024x1024.Idx) : V m c main_v15 j = m ((c : Thread nD τ).loc main_arg10) j := by
  unfold V
  after_reads_at

/-- The embedding's weights, narrowed. -/
theorem V_pp (j : S2x256x1024.Idx) : V m c main_v17 j = m ((c : Thread nD τ).loc main_arg12) j := by
  unfold V
  after_reads_at

/-- The output matrix, narrowed. -/
theorem V_wo (j : S1x1024x1024.Idx) : V m c main_v23 j = m ((c : Thread nD τ).loc main_arg7) j := by
  unfold V
  after_reads_at

/-- The gate's offset. -/
theorem V_gb (l : Fin 2) (k : Fin 1024) : V m c main_v16 (ix3 l (0 : Fin 1) k) = m ((c : Thread nD τ).loc main_arg11) (ix2 l k) := by
  unfold V
  after_reads_at

/-- The heads' weights, repeated for each head. -/
theorem V_nw (h : Fin 8) (l : Fin 128) : V m c main_v22 (ix2 (0 : Fin 1) (Spec.hcol h l)) = m ((c : Thread nD τ).loc main_arg6) (ix2 (0 : Fin 1) l) := by
  unfold V
  after_reads_at
  have h2 := l.isLt
  refine congrArg (m ((c : Thread nD τ).loc main_arg6)) (funext fun a => Fin.ext ?_)
  match a with
  | ⟨0, _⟩ => rfl
  | ⟨1, _⟩ => show (128 * h.val + l.val) % 128 = l.val; omega

end Cert.Tile2

end
-- ==== Proof.KernelValue2.lean ====
module

public import proofs.«01_k».proof.Proof.Pieces
public import proofs.«01_k».proof.Proof.Pieces2
public import proofs.«01_k».proof.Proof.GdnRead
public import proofs.«01_k».proof.Proof.Arrays2
public import Idealize.ShloMosaic.Lib.Pipeline.ValueKit.Geometry

/-! What the second kernel leaves in its result, row by row. -/

@[expose] public section

noncomputable section

namespace Cert.Tile2

open Cert.Tile Cert.Kernel2Ideal Cert.Kernel2Ideal.Gen Idealize.ShloMosaic Idealize.ShloMosaic.TcCoe Idealize.SL.Sem Idealize.ShloMosaic.Pointwise

/-- A sub-tile as stored. -/
def tileV (x0 x1 : Vec Ideal S1x1024x1024 .bf16) (x2 : Vec Ideal S1x1024x1024 .f32) (x3 : Vec Ideal S1x1x1024x256 .f32) (x4 : Vec Ideal S1x1024 .f32) (x5 : Vec Ideal S1x1024x1024 .bf16)
    (x6 : Vec Ideal S1x4x1024 .f32) (x7 : Vec Ideal S1x1024x4096 .bf16) (x8 : Vec Ideal S1x4096x1024 .bf16) (x9 : Vec Ideal S1x1024x1024 .bf16) (x10 : Vec Ideal S1x1x1024 .f32)
    (x11 : Vec Ideal S1x256x1024 .bf16) (o : ℕ) (ho : o + 256 ≤ 1024) : Vec Ideal S1x256x1024 .f32 :=
  shapeCast S1x256x1024 (tailK (gsumK x0 x1 x2 x4 x5 o ho) (pRows x3 o ho) x6 x7 x8 x9 x10 x11) (by decide)

/-- A sub-tile from whole loads of the blocks it takes whole. -/
theorem tileV_of (x0 x1 : Vec Ideal S1x1024x1024 .bf16) (x2 : Vec Ideal S1x1024x1024 .f32) (x3 : Vec Ideal S1x1x1024x256 .f32) (x4 : Vec Ideal S1x1024 .f32) (x5 : Vec Ideal S1x1024x1024 .bf16)
    (x6 : Vec Ideal S1x4x1024 .f32) (x7 : Vec Ideal S1x1024x4096 .bf16) (x8 : Vec Ideal S1x4096x1024 .bf16) (x9 : Vec Ideal S1x1024x1024 .bf16) (x10 : Vec Ideal S1x1x1024 .f32)
    (x11 : Vec Ideal S1x256x1024 .bf16) (o : ℕ) (ho : o + 256 ≤ 1024) :
    (shapeCast S1x256x1024 (tailK (gsumK x0 x1 x2 (View.ld x4 r0_9) (View.ld x5 r0_10) o ho) (pRows x3 o ho) x6 x7 x8 (View.ld x9 r0_10) (View.ld x10 r0_38) (View.ld x11 r0_40)) (by decide) : Vec Ideal S1x256x1024 .f32)
      = tileV x0 x1 x2 x3 x4 x5 x6 x7 x8 x9 x10 x11 o ho := by
  have l4 : View.ld x4 r0_9 = x4 := ld_all2 _ _
  have l5 : View.ld x5 r0_10 = x5 := ld_all3 _ _
  have l9 : View.ld x9 r0_10 = x9 := ld_all3 _ _
  have l10 : View.ld x10 r0_38 = x10 := ld_all3 _ _
  have l11 : View.ld x11 r0_40 = x11 := ld_all3 _ _
  rw [l4, l5, l9, l10, l11]
  rfl

/-- A sub-tile as stored is the layer's rows. -/
theorem tileV_read (x0 x1 : Vec Ideal S1x1024x1024 .bf16) (x2 : Vec Ideal S1x1024x1024 .f32) (x3 : Vec Ideal S1x1x1024x256 .f32) (x4 : Vec Ideal S1x1024 .f32) (x5 : Vec Ideal S1x1024x1024 .bf16)
    (x6 : Vec Ideal S1x4x1024 .f32) (x7 : Vec Ideal S1x1024x4096 .bf16) (x8 : Vec Ideal S1x4096x1024 .bf16) (x9 : Vec Ideal S1x1024x1024 .bf16) (x10 : Vec Ideal S1x1x1024 .f32)
    (x11 : Vec Ideal S1x256x1024 .bf16) (nw : Fin 128 → EReal) (hnw : ∀ h l, x4 (ix2 0 (Spec.hcol h l)) = nw l) (o : ℕ) (ho : o + 256 ≤ 1024) (r : Fin 256) (c : Fin 1024) :
    tileV x0 x1 x2 x3 x4 x5 x6 x7 x8 x9 x10 x11 o ho (ix3 0 r c)
      = Spec.tail (Spec.gdnSum (fun k => x0 (ix3 0 ⟨o + r.val, by omega⟩ k)) (fun k => x1 (ix3 0 ⟨o + r.val, by omega⟩ k)) (fun k => x2 (ix3 0 ⟨o + r.val, by omega⟩ k)) nw (fun k c => x5 (ix3 0 k c)))
          (fun k => x6 (ix3 0 0 k)) (fun k => x6 (ix3 0 1 k)) (fun k => x6 (ix3 0 2 k)) (fun k => x6 (ix3 0 3 k))
          (fun k h => x7 (ix3 0 k h)) (fun h c => x8 (ix3 0 h c)) (fun k c => x9 (ix3 0 k c)) (fun c => x10 (ix3 0 0 c)) (fun k => x3 (ix4 0 0 ⟨o + r.val, by omega⟩ k))
          (fun k c => x11 (ix3 0 k c)) c := by
  unfold tileV
  rw [add_read, tailK_apply]
  rw [show (fun k => gsumK x0 x1 x2 x4 x5 o ho (ix2 r k)) = _ from funext fun k => gsumK_apply x0 x1 x2 x4 x5 nw hnw o ho r k]
  simp only [pRows_apply]

/-- The layer over its arrays. -/
def outRow (o z : Vec Ideal S2x8192x1024 .bf16) (x : Vec Ideal S2x8192x1024 .f32) (p : Vec Ideal S2x2x8192x256 .f32) (lg lb : Vec Ideal S2x2x1024 .f32) (nw : Vec Ideal S1x128 .f32)
    (wo : Vec Ideal S1x1024x1024 .f32) (w1 : Vec Ideal S2x1024x4096 .f32) (w2 : Vec Ideal S2x4096x1024 .f32) (gw : Vec Ideal S2x1024x1024 .f32) (gb : Vec Ideal S2x1024 .f32)
    (pp : Vec Ideal S2x256x1024 .f32) (b : Fin 2) (R : Fin 8192) : Fin 1024 → EReal :=
  Spec.tail (Spec.gdnSum (fun k => o (ix3 b R k)) (fun k => z (ix3 b R k)) (fun k => x (ix3 b R k)) (fun l => nw (ix2 0 l)) (fun k c => wo (ix3 0 k c)))
    (fun k => lg (ix3 1 0 k)) (fun k => lb (ix3 1 0 k)) (fun k => lg (ix3 1 1 k)) (fun k => lb (ix3 1 1 k))
    (fun k h => w1 (ix3 1 k h)) (fun h c => w2 (ix3 1 h c)) (fun k c => gw (ix3 1 k c)) (fun c => gb (ix2 1 c)) (fun k => p (ix4 1 b R k)) (fun k c => pp (ix3 1 k c))

section Blocks

variable (m : (ℓ : Loc nD τ sig) → Buf (Elt Ideal) ℓ) (c : Dev nD)

/-- The block of window 12 at a grid point. -/
theorem ix_out : ∀ t : Fin cfg0.N, win0_12.index t = ![(grid0.coords t 0).val, (grid0.coords t 1).val, 0] := (by decide +kernel : ∀ t : Fin grid0.N, _)

/-- The block of window 0 at a grid point. -/
theorem ix_o : ∀ t : Fin cfg0.N, win0_0.index t = ![(grid0.coords t 0).val, (grid0.coords t 1).val, 0] := (by decide +kernel : ∀ t : Fin grid0.N, _)

/-- The block of window 1 at a grid point. -/
theorem ix_z : ∀ t : Fin cfg0.N, win0_1.index t = ![(grid0.coords t 0).val, (grid0.coords t 1).val, 0] := (by decide +kernel : ∀ t : Fin grid0.N, _)

/-- The block of window 2 at a grid point. -/
theorem ix_x : ∀ t : Fin cfg0.N, win0_2.index t = ![(grid0.coords t 0).val, (grid0.coords t 1).val, 0] := (by decide +kernel : ∀ t : Fin grid0.N, _)

/-- The block of window 3 at a grid point. -/
theorem ix_p : ∀ t : Fin cfg0.N, win0_3.index t = ![1, (grid0.coords t 0).val, (grid0.coords t 1).val, 0] := (by decide +kernel : ∀ t : Fin grid0.N, _)

/-- The block of window 4 at a grid point. -/
theorem ix_nw : ∀ t : Fin cfg0.N, win0_4.index t = ![0, 0] := (by decide +kernel : ∀ t : Fin grid0.N, _)

/-- The block of window 5 at a grid point. -/
theorem ix_wo : ∀ t : Fin cfg0.N, win0_5.index t = ![0, 0, 0] := (by decide +kernel : ∀ t : Fin grid0.N, _)

/-- The block of window 6 at a grid point. -/
theorem ix_ln : ∀ t : Fin cfg0.N, win0_6.index t = ![1, 0, 0] := (by decide +kernel : ∀ t : Fin grid0.N, _)

/-- The block of window 7 at a grid point. -/
theorem ix_w1 : ∀ t : Fin cfg0.N, win0_7.index t = ![1, 0, 0] := (by decide +kernel : ∀ t : Fin grid0.N, _)

/-- The block of window 8 at a grid point. -/
theorem ix_w2 : ∀ t : Fin cfg0.N, win0_8.index t = ![1, 0, 0] := (by decide +kernel : ∀ t : Fin grid0.N, _)

/-- The block of window 9 at a grid point. -/
theorem ix_gw : ∀ t : Fin cfg0.N, win0_9.index t = ![1, 0, 0] := (by decide +kernel : ∀ t : Fin grid0.N, _)

/-- The block of window 10 at a grid point. -/
theorem ix_gb : ∀ t : Fin cfg0.N, win0_10.index t = ![1, 0, 0] := (by decide +kernel : ∀ t : Fin grid0.N, _)

/-- The block of window 11 at a grid point. -/
theorem ix_pp : ∀ t : Fin cfg0.N, win0_11.index t = ![1, 0, 0] := (by decide +kernel : ∀ t : Fin grid0.N, _)

/-- The grid has eight row tiles. -/
theorem lt8 (t : Fin cfg0.N) : (grid0.coords t 1).val < 8 := (grid0.coords t 1).isLt

/-- The grid has two sequences. -/
theorem lt2 (t : Fin cfg0.N) : (grid0.coords t 0).val < 2 := (grid0.coords t 0).isLt

/-- The staged rows of argument 0. -/
theorem blk_o (t : Fin cfg0.N) (r k : Fin 1024) :
    iblk m c 0 t (ix3 0 r k) = m ((c : Thread nD τ).loc main_arg0) (ix3 ⟨(grid0.coords t 0).val, lt2 t⟩ ⟨1024 * (grid0.coords t 1).val + r.val, by have := lt8 t; omega⟩ k) := by
  blk_simp [iblk]
  rw [V_main_arg0]
  refine congrArg _ ?_
  blk_ext [ix_o]

/-- The staged rows of argument 1. -/
theorem blk_z (t : Fin cfg0.N) (r k : Fin 1024) :
    iblk m c 1 t (ix3 0 r k) = m ((c : Thread nD τ).loc main_arg1) (ix3 ⟨(grid0.coords t 0).val, lt2 t⟩ ⟨1024 * (grid0.coords t 1).val + r.val, by have := lt8 t; omega⟩ k) := by
  blk_simp [iblk]
  rw [V_main_arg1]
  refine congrArg _ ?_
  blk_ext [ix_z]

/-- The staged rows of argument 2. -/
theorem blk_x (t : Fin cfg0.N) (r k : Fin 1024) :
    iblk m c 2 t (ix3 0 r k) = m ((c : Thread nD τ).loc main_arg2) (ix3 ⟨(grid0.coords t 0).val, lt2 t⟩ ⟨1024 * (grid0.coords t 1).val + r.val, by have := lt8 t; omega⟩ k) := by
  blk_simp [iblk]
  rw [V_main_arg2]
  refine congrArg _ ?_
  blk_ext [ix_x]

/-- The staged rows of the embedding. -/
theorem blk_p (t : Fin cfg0.N) (r : Fin 1024) (k : Fin 256) :
    iblk m c 3 t (ix4 0 0 r k) = m ((c : Thread nD τ).loc main_arg3) (ix4 1 ⟨(grid0.coords t 0).val, lt2 t⟩ ⟨1024 * (grid0.coords t 1).val + r.val, by have := lt8 t; omega⟩ k) := by
  blk_simp [iblk]
  rw [V_main_arg3]
  refine congrArg _ ?_
  blk_ext [ix_p]

/-- The staged weights of the heads. -/
theorem blk_nw (t : Fin cfg0.N) (h : Fin 8) (l : Fin 128) : iblk m c 4 t (ix2 0 (Spec.hcol h l)) = m ((c : Thread nD τ).loc main_arg6) (ix2 0 l) := by
  blk_simp [iblk]
  refine Eq.trans (congrArg (V m c main_v22) (?_ : _ = ix2 (0 : Fin 1) (Spec.hcol h l))) (V_nw m c h l)
  blk_ext [ix_nw]

/-- The staged norm rows. -/
theorem blk_ln (t : Fin cfg0.N) (g : Fin 4) (k : Fin 1024) : iblk m c 6 t (ix3 0 g k) = V m c main_v12 (ix3 (1 : Fin 2) g k) := by
  blk_simp [iblk]
  refine congrArg _ ?_
  blk_ext [ix_ln]

/-- The staged offset of the gate. -/
theorem blk_gb (t : Fin cfg0.N) (k : Fin 1024) : iblk m c 10 t (ix3 0 0 k) = m ((c : Thread nD τ).loc main_arg11) (ix2 1 k) := by
  blk_simp [iblk]
  refine Eq.trans (congrArg (V m c main_v16) (?_ : _ = ix3 (1 : Fin 2) (0 : Fin 1) k)) (V_gb m c 1 k)
  blk_ext [ix_gb]

/-- The staged matrix of argument 7. -/
theorem blk_wo (t : Fin cfg0.N) (h : Fin 1024) (k : Fin 1024) : iblk m c 5 t (ix3 0 h k) = m ((c : Thread nD τ).loc main_arg7) (ix3 0 h k) := by
  blk_simp [iblk]
  rw [V_wo]
  refine congrArg _ ?_
  blk_ext [ix_wo]

/-- The staged matrix of argument 8. -/
theorem blk_w1 (t : Fin cfg0.N) (h : Fin 1024) (k : Fin 4096) : iblk m c 7 t (ix3 0 h k) = m ((c : Thread nD τ).loc main_arg8) (ix3 1 h k) := by
  blk_simp [iblk]
  rw [V_w1]
  refine congrArg _ ?_
  blk_ext [ix_w1]

/-- The staged matrix of argument 9. -/
theorem blk_w2 (t : Fin cfg0.N) (h : Fin 4096) (k : Fin 1024) : iblk m c 8 t (ix3 0 h k) = m ((c : Thread nD τ).loc main_arg9) (ix3 1 h k) := by
  blk_simp [iblk]
  rw [V_w2]
  refine congrArg _ ?_
  blk_ext [ix_w2]

/-- The staged matrix of argument 10. -/
theorem blk_gw (t : Fin cfg0.N) (h : Fin 1024) (k : Fin 1024) : iblk m c 9 t (ix3 0 h k) = m ((c : Thread nD τ).loc main_arg10) (ix3 1 h k) := by
  blk_simp [iblk]
  rw [V_gw]
  refine congrArg _ ?_
  blk_ext [ix_gw]

/-- The staged matrix of argument 12. -/
theorem blk_pp (t : Fin cfg0.N) (h : Fin 256) (k : Fin 1024) : iblk m c 11 t (ix3 0 h k) = m ((c : Thread nD τ).loc main_arg12) (ix3 1 h k) := by
  blk_simp [iblk]
  rw [V_pp]
  refine congrArg _ ?_
  blk_ext [ix_pp]

/-- The row of the layer at batch `b`, row `R`, from the memory's arrays. -/
def memRow (b : Fin 2) (R : Fin 8192) : Fin 1024 → EReal :=
  outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b R

/-- A sub-tile at a grid point is rows of the layer. -/
theorem tile_at (t : Fin cfg0.N) (o : ℕ) (ho : o + 256 ≤ 1024) (r : Fin 256) (k : Fin 1024) :
    tileV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) o ho (ix3 0 r k)
      = memRow m c ⟨(grid0.coords t 0).val, lt2 t⟩ ⟨1024 * (grid0.coords t 1).val + o + r.val, by have := lt8 t; omega⟩ k := by
  rw [tileV_read (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun l => m ((c : Thread nD τ).loc main_arg6) (ix2 0 l)) (fun h l => blk_nw m c t h l) o ho r k]
  have e0 : (fun k => iblk m c 0 t (ix3 0 ⟨o + r.val, by omega⟩ k)) = fun k => m ((c : Thread nD τ).loc main_arg0) (ix3 ⟨(grid0.coords t 0).val, lt2 t⟩ ⟨1024 * (grid0.coords t 1).val + o + r.val, by have := lt8 t; omega⟩ k) :=
    funext fun k => (blk_o m c t ⟨o + r.val, by omega⟩ k).trans (congrArg (fun R => m ((c : Thread nD τ).loc main_arg0) (ix3 ⟨(grid0.coords t 0).val, lt2 t⟩ R k)) (Fin.ext (by show 1024 * (grid0.coords t 1).val + (o + r.val) = 1024 * (grid0.coords t 1).val + o + r.val; omega)))
  have e1 : (fun k => iblk m c 1 t (ix3 0 ⟨o + r.val, by omega⟩ k)) = fun k => m ((c : Thread nD τ).loc main_arg1) (ix3 ⟨(grid0.coords t 0).val, lt2 t⟩ ⟨1024 * (grid0.coords t 1).val + o + r.val, by have := lt8 t; omega⟩ k) :=
    funext fun k => (blk_z m c t ⟨o + r.val, by omega⟩ k).trans (congrArg (fun R => m ((c : Thread nD τ).loc main_arg1) (ix3 ⟨(grid0.coords t 0).val, lt2 t⟩ R k)) (Fin.ext (by show 1024 * (grid0.coords t 1).val + (o + r.val) = 1024 * (grid0.coords t 1).val + o + r.val; omega)))
  have e2 : (fun k => iblk m c 2 t (ix3 0 ⟨o + r.val, by omega⟩ k)) = fun k => m ((c : Thread nD τ).loc main_arg2) (ix3 ⟨(grid0.coords t 0).val, lt2 t⟩ ⟨1024 * (grid0.coords t 1).val + o + r.val, by have := lt8 t; omega⟩ k) :=
    funext fun k => (blk_x m c t ⟨o + r.val, by omega⟩ k).trans (congrArg (fun R => m ((c : Thread nD τ).loc main_arg2) (ix3 ⟨(grid0.coords t 0).val, lt2 t⟩ R k)) (Fin.ext (by show 1024 * (grid0.coords t 1).val + (o + r.val) = 1024 * (grid0.coords t 1).val + o + r.val; omega)))
  have e3 : (fun k => iblk m c 3 t (ix4 0 0 ⟨o + r.val, by omega⟩ k)) = fun k => m ((c : Thread nD τ).loc main_arg3) (ix4 1 ⟨(grid0.coords t 0).val, lt2 t⟩ ⟨1024 * (grid0.coords t 1).val + o + r.val, by have := lt8 t; omega⟩ k) :=
    funext fun k => (blk_p m c t ⟨o + r.val, by omega⟩ k).trans (congrArg (fun R => m ((c : Thread nD τ).loc main_arg3) (ix4 1 ⟨(grid0.coords t 0).val, lt2 t⟩ R k)) (Fin.ext (by show 1024 * (grid0.coords t 1).val + (o + r.val) = 1024 * (grid0.coords t 1).val + o + r.val; omega)))
  have e60 : (fun c' => iblk m c 6 t (ix3 0 0 c')) = fun c' => m ((c : Thread nD τ).loc main_arg4) (ix3 1 0 c') := by funext c'; exact (blk_ln m c t 0 c').trans (V_ln0 m c 1 c')
  have e61 : (fun c' => iblk m c 6 t (ix3 0 1 c')) = fun c' => m ((c : Thread nD τ).loc main_arg5) (ix3 1 0 c') := by funext c'; exact (blk_ln m c t 1 c').trans (V_ln1 m c 1 c')
  have e62 : (fun c' => iblk m c 6 t (ix3 0 2 c')) = fun c' => m ((c : Thread nD τ).loc main_arg4) (ix3 1 1 c') := by funext c'; exact (blk_ln m c t 2 c').trans (V_ln2 m c 1 c')
  have e63 : (fun c' => iblk m c 6 t (ix3 0 3 c')) = fun c' => m ((c : Thread nD τ).loc main_arg5) (ix3 1 1 c') := by funext c'; exact (blk_ln m c t 3 c').trans (V_ln3 m c 1 c')
  have e5 : (fun k h => iblk m c 5 t (ix3 0 k h)) = fun k h => m ((c : Thread nD τ).loc main_arg7) (ix3 0 k h) := by funext k h; exact blk_wo m c t k h
  have e7 : (fun k h => iblk m c 7 t (ix3 0 k h)) = fun k h => m ((c : Thread nD τ).loc main_arg8) (ix3 1 k h) := by funext k h; exact blk_w1 m c t k h
  have e8 : (fun k h => iblk m c 8 t (ix3 0 k h)) = fun k h => m ((c : Thread nD τ).loc main_arg9) (ix3 1 k h) := by funext k h; exact blk_w2 m c t k h
  have e9 : (fun k h => iblk m c 9 t (ix3 0 k h)) = fun k h => m ((c : Thread nD τ).loc main_arg10) (ix3 1 k h) := by funext k h; exact blk_gw m c t k h
  have e11 : (fun k h => iblk m c 11 t (ix3 0 k h)) = fun k h => m ((c : Thread nD τ).loc main_arg12) (ix3 1 k h) := by funext k h; exact blk_pp m c t k h
  have e10 : (fun c' => iblk m c 10 t (ix3 0 0 c')) = fun c' => m ((c : Thread nD τ).loc main_arg11) (ix2 1 c') := by funext c'; exact blk_gb m c t c'
  rw [e0, e1, e2, e3, e5, e60, e61, e62, e63, e7, e8, e9, e10, e11]
  rfl

/-- The layer as an array. -/
def outArr : Vec Ideal S2x8192x1024 .f32 := fun j => memRow m c (j 0) (j 1) (j 2)

/-- What the body leaves of a block, at a row of one of its sub-tiles. -/
theorem canon_piece (t : Fin cfg0.N) (o : ℕ) (ho : o + 256 ≤ 1024) (inb : ∀ a, (![0, o, 0] : Fin 3 → ℕ) a + S1x256x1024.size a ≤ S1x1024x1024.size a)
    (x : S1x256x1024.Idx) :
    tileV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) o ho x
      = outArr m c ((win0_12.blk t).view.emb ((Rect.unit (s := S1x1024x1024) ![0, o, 0] S1x256x1024.size inb).emb x)) := by
  obtain ⟨r, k, rfl⟩ : ∃ (r : Fin 256) (k : Fin 1024), x = ix3 0 r k := ⟨x 1, x 2, by
    funext a
    match a with
    | ⟨0, _⟩ => exact Subsingleton.elim (α := Fin 1) _ _
    | ⟨1, _⟩ => rfl
    | ⟨2, _⟩ => rfl⟩
  have e : (win0_12.blk t).view.emb ((Rect.unit (s := S1x1024x1024) ![0, o, 0] S1x256x1024.size inb).emb (ix3 0 r k))
      = (ix3 ⟨(grid0.coords t 0).val, lt2 t⟩ ⟨1024 * (grid0.coords t 1).val + o + r.val, by have := lt8 t; omega⟩ k : S2x8192x1024.Idx) := by
    have e' : (Rect.unit (s := S1x1024x1024) ![0, o, 0] S1x256x1024.size inb).emb (ix3 0 r k) = (ix3 0 ⟨o + r.val, by omega⟩ k : S1x1024x1024.Idx) := by
      funext a
      apply Fin.ext
      match a with
      | ⟨0, _⟩ => rfl
      | ⟨1, _⟩ => show o + 1 * r.val = o + r.val; omega
      | ⟨2, _⟩ => show 0 + 1 * k.val = k.val; omega
    rw [e']
    blk_ext [ix_out]
  rw [tile_at, e]
  rfl

/-- The result array after the call is the layer. -/
theorem final : (dats m 0 c).arrAt 12 cfg0.N = outArr m c := by
  refine (dats m 0 c).arrAt_eq_of_covers 12 _ (by decide +kernel) fun t hf y => ?_
  blk_simp
  rw [after0_12]
  unfold out0_12
  refine View.canon_apply_of_pieces (fun y => outArr m c ((win0_12.blk t).view.emb y)) _ ?_ y (cover0_12 ..)
  rw [tile_0, tile_256, tile_512, tile_768]
  intro p hp x
  simp only [List.mem_cons, List.not_mem_nil, or_false] at hp
  rcases hp with rfl | rfl | rfl | rfl
  · exact (congrFun (tileV_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) 768 (by decide)) x).trans (canon_piece m c t 768 (by decide) inb_S1x1024x1024_S1x256x1024_0_768_0 x)
  · exact (congrFun (tileV_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) 512 (by decide)) x).trans (canon_piece m c t 512 (by decide) inb_S1x1024x1024_S1x256x1024_0_512_0 x)
  · exact (congrFun (tileV_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) 256 (by decide)) x).trans (canon_piece m c t 256 (by decide) inb_S1x1024x1024_S1x256x1024_0_256_0 x)
  · exact (congrFun (tileV_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) 0 (by decide)) x).trans (canon_piece m c t 0 (by decide) inb_S1x1024x1024_S1x256x1024_0_0_0 x)

end Blocks

end Cert.Tile2

end
-- ==== Proof.RefTail2.lean ====
module

public import proofs.«01_k».proof.Proof.Spec
public import proofs.«01_k».proof.Proof.Gen.Reference2Ideal.Read

/-! The second reference's norms, feed-forward branch and gate, read at a row and a column. -/

@[expose] public section

noncomputable section

namespace Cert.RefRead2

open Cert.Reference2Ideal Cert.Reference2Ideal.Read Idealize.ShloMosaic Idealize.ShloMosaic.TcCoe Idealize.ShloMosaic.Pointwise

variable (x0 x1 : Vec Ideal S2x8192x1024 .bf16) (x2 : Vec Ideal S2x8192x1024 .f32) (x3 : Vec Ideal S2x2x8192x256 .f32) (x4 x5 : Vec Ideal S2x2x1024 .f32) (x6 : Vec Ideal S1x128 .f32)
  (x7 : Vec Ideal S1x1024x1024 .f32) (x8 : Vec Ideal S2x1024x4096 .f32) (x9 : Vec Ideal S2x4096x1024 .f32) (x10 : Vec Ideal S2x1024x1024 .f32) (x11 : Vec Ideal S2x1024 .f32)
  (x12 : Vec Ideal S2x256x1024 .f32)

/-- The first norm is the layer norm of the mixer's sum, with the second layer's first gain and offset. -/
theorem norm1 (b : Fin 2) (R : Fin 8192) (c : Fin 1024) :
    val_main_v53 x0 x1 x2 x4 x5 x6 x7 (ix3 b R c)
      = Spec.ln (fun k => val_main_v25 x0 x1 x2 x6 x7 (ix3 b R k)) (fun k => x4 (ix3 1 0 k)) (fun k => x5 (ix3 1 0 k)) c := by
  unfold val_main_v53 val_main_v52 val_main_v51 val_main_v50 val_main_v49 val_main_v48 val_main_v47 val_main_v46 val_main_v45 val_main_v44 val_main_v43 val_main_cst_7 val_main_v42 val_main_v41 val_main_v40 val_main_v39 val_main_cst_6 val_main_v38 val_main_v37 val_main_cst_5 val_main_v36 val_main_v35 val_main_v34 val_main_v33 val_main_v32 val_main_cst_4 val_main_v31 val_main_v30 val_main_cst_3 val_main_v29 val_main_v28 val_main_v27 val_main_v26
  generalize val_main_v25 x0 x1 x2 x6 x7 = Y
  pointwise [Spec.ln, Spec.mean, Spec.var]

/-- The second norm is the layer norm of the branches' sum, with the second layer's second gain and offset. -/
theorem norm2 (b : Fin 2) (R : Fin 8192) (c : Fin 1024) :
    val_main_v113 x0 x1 x2 x3 x4 x5 x6 x7 x8 x9 x10 x11 x12 (ix3 b R c)
      = Spec.ln (fun k => val_main_v85 x0 x1 x2 x3 x4 x5 x6 x7 x8 x9 x10 x11 x12 (ix3 b R k)) (fun k => x4 (ix3 1 1 k)) (fun k => x5 (ix3 1 1 k)) c := by
  unfold val_main_v113 val_main_v112 val_main_v111 val_main_v110 val_main_v109 val_main_v108 val_main_v107 val_main_v106 val_main_v105 val_main_v104 val_main_v103 val_main_cst_15 val_main_v102 val_main_v101 val_main_v100 val_main_v99 val_main_cst_14 val_main_v98 val_main_v97 val_main_cst_13 val_main_v96 val_main_v95 val_main_v94 val_main_v93 val_main_v92 val_main_cst_12 val_main_v91 val_main_v90 val_main_cst_11 val_main_v89 val_main_v88 val_main_v87 val_main_v86
  generalize val_main_v85 x0 x1 x2 x3 x4 x5 x6 x7 x8 x9 x10 x11 x12 = Y
  pointwise [Spec.ln, Spec.mean, Spec.var]

/-- The feed-forward branch. -/
theorem ff_read (b : Fin 2) (R : Fin 8192) (c : Fin 1024) :
    val_main_v61 x0 x1 x2 x4 x5 x6 x7 x8 x9 (ix3 b R c)
      = Spec.ff (fun k => val_main_v53 x0 x1 x2 x4 x5 x6 x7 (ix3 b R k)) (fun k h => x8 (ix3 1 k h)) (fun h c => x9 (ix3 1 h c)) c := by
  unfold val_main_v61 val_main_v60 val_main_v59 val_main_call1_v0 val_main_call1_cst val_main_v58 val_main_v57 val_main_v56 val_main_v55 val_main_v54
  generalize val_main_v53 x0 x1 x2 x4 x5 x6 x7 = Y
  pointwise [Spec.ff, Spec.act]

/-- The gated embedding. -/
theorem gate_read (b : Fin 2) (R : Fin 8192) (c : Fin 1024) :
    val_main_v81 x0 x1 x2 x3 x4 x5 x6 x7 x10 x11 x12 (ix3 b R c)
      = Spec.gate (fun k => val_main_v53 x0 x1 x2 x4 x5 x6 x7 (ix3 b R k)) (fun k c => x10 (ix3 1 k c)) (fun c => x11 (ix2 1 c)) (fun k => x3 (ix4 1 b R k)) (fun k c => x12 (ix3 1 k c)) c := by
  unfold val_main_v81 val_main_v80 val_main_v79 val_main_v78 val_main_v77 val_main_v76 val_main_v75 val_main_v74 val_main_cst_9 val_main_v73 val_main_v72 val_main_cst_8 val_main_v71 val_main_v70 val_main_v69 val_main_v68 val_main_v67 val_main_v66 val_main_v65 val_main_v64 val_main_v63 val_main_v62
  generalize val_main_v53 x0 x1 x2 x4 x5 x6 x7 = Y
  pointwise [Spec.gate]
  rfl

/-- From the mixer's sum to the result. -/
theorem tail_read (b : Fin 2) (R : Fin 8192) (c : Fin 1024) :
    val_main_v113 x0 x1 x2 x3 x4 x5 x6 x7 x8 x9 x10 x11 x12 (ix3 b R c)
      = Spec.tail (fun k => val_main_v25 x0 x1 x2 x6 x7 (ix3 b R k)) (fun k => x4 (ix3 1 0 k)) (fun k => x5 (ix3 1 0 k)) (fun k => x4 (ix3 1 1 k)) (fun k => x5 (ix3 1 1 k))
          (fun k h => x8 (ix3 1 k h)) (fun h c => x9 (ix3 1 h c)) (fun k c => x10 (ix3 1 k c)) (fun c => x11 (ix2 1 c)) (fun k => x3 (ix4 1 b R k)) (fun k c => x12 (ix3 1 k c)) c := by
  have e : (fun k => val_main_v53 x0 x1 x2 x4 x5 x6 x7 (ix3 b R k)) = Spec.ln (fun k => val_main_v25 x0 x1 x2 x6 x7 (ix3 b R k)) (fun k => x4 (ix3 1 0 k)) (fun k => x5 (ix3 1 0 k)) :=
    funext fun k => norm1 x0 x1 x2 x4 x5 x6 x7 b R k
  have e2 : (fun k => val_main_v85 x0 x1 x2 x3 x4 x5 x6 x7 x8 x9 x10 x11 x12 (ix3 b R k))
      = fun k => Ideal.ofBits .f32 0x3FB504F3#32 * val_main_v53 x0 x1 x2 x4 x5 x6 x7 (ix3 b R k) + val_main_v61 x0 x1 x2 x4 x5 x6 x7 x8 x9 (ix3 b R k)
          + val_main_v81 x0 x1 x2 x3 x4 x5 x6 x7 x10 x11 x12 (ix3 b R k) := by
    funext k
    unfold val_main_v85 val_main_v84 val_main_v83 val_main_v82 val_main_cst_10
    generalize val_main_v53 x0 x1 x2 x4 x5 x6 x7 = Y
    generalize val_main_v61 x0 x1 x2 x4 x5 x6 x7 x8 x9 = Z
    generalize val_main_v81 x0 x1 x2 x3 x4 x5 x6 x7 x10 x11 x12 = W
    pointwise
  rw [norm2, e2]
  simp only [ff_read, gate_read, e]
  unfold Spec.tail
  simp only [norm1]

end Cert.RefRead2

end
-- ==== Proof.RefGdn.lean ====
module

public import proofs.«01_k».proof.Proof.Spec2
public import proofs.«01_k».proof.Proof.RefTail2

/-! The second reference's gated heads and their output matrix, read at a row and a column. -/

@[expose] public section

noncomputable section

namespace Cert.RefRead2

open Cert.Reference2Ideal Cert.Reference2Ideal.Read Idealize.ShloMosaic Idealize.ShloMosaic.TcCoe Idealize.ShloMosaic.Pointwise

variable (x0 x1 : Vec Ideal S2x8192x1024 .bf16) (x2 : Vec Ideal S2x8192x1024 .f32) (x6 : Vec Ideal S1x128 .f32) (x7 : Vec Ideal S1x1024x1024 .f32)

/-- The rows split into heads. -/
theorem o_read (b : Fin 2) (R : Fin 8192) (h : Fin 8) (l : Fin 128) : val_main_v2 x0 (ix4 b R h l) = x0 (ix3 b R (Spec.hcol h l)) := by
  rw [val_main_v2_apply]
  refine congrArg x0 (funext fun a => Fin.ext ?_)
  have h0 := b.isLt
  have h1 := R.isLt
  have h2 := h.isLt
  have h3 := l.isLt
  match a with
  | ⟨0, _⟩ => show (((b.val * 8192 + R.val) * 8 + h.val) * 128 + l.val) / 8388608 = b.val; omega
  | ⟨1, _⟩ => show (((b.val * 8192 + R.val) * 8 + h.val) * 128 + l.val) / 1024 % 8192 = R.val; omega
  | ⟨2, _⟩ => show (((b.val * 8192 + R.val) * 8 + h.val) * 128 + l.val) % 1024 = 128 * h.val + l.val; omega

/-- The gate's rows split into heads. -/
theorem z_read (b : Fin 2) (R : Fin 8192) (h : Fin 8) (l : Fin 128) : val_main_v4 x1 (ix4 b R h l) = x1 (ix3 b R (Spec.hcol h l)) := o_read x1 b R h l

/-- The gated heads before they are joined. -/
theorem head_read (b : Fin 2) (R : Fin 8192) (h : Fin 8) (l : Fin 128) :
    val_main_v20 x0 x1 x6 (ix4 b R h l) = Spec.gatedHead (fun c => x0 (ix3 b R c)) (fun c => x1 (ix3 b R c)) (fun l => x6 (ix2 0 l)) h l := by
  unfold Spec.gatedHead Spec.rms
  simp only [← o_read x0 b R, ← z_read x1 b R]
  unfold val_main_v20 val_main_v19 val_main_call0_v5 val_main_call0_v4 val_main_call0_cst_0 val_main_call0_v3 val_main_call0_v2 val_main_call0_cst val_main_call0_v1 val_main_call0_v0
    val_main_v18 val_main_v17 val_main_v16 val_main_v15 val_main_v14 val_main_v13 val_main_v12 val_main_v11 val_main_cst_1 val_main_v10 val_main_v9 val_main_cst_0 val_main_v8 val_main_v7 val_main_cst
    val_main_v6 val_main_v5 val_main_v3 val_main_v0
  generalize val_main_v2 x0 = Y
  generalize val_main_v4 x1 = Z
  pointwise
  rfl

/-- The gated heads joined. -/
theorem gated_read (b : Fin 2) (R : Fin 8192) (k : Fin 1024) :
    val_main_v21 x0 x1 x6 (ix3 b R k) = Spec.gated (fun c => x0 (ix3 b R c)) (fun c => x1 (ix3 b R c)) (fun l => x6 (ix2 0 l)) k := by
  obtain ⟨h, l, rfl⟩ := Spec.exists_hcol k
  rw [Spec.gated_col, ← head_read, val_main_v21_apply]
  refine congrArg (val_main_v20 x0 x1 x6) (funext fun a => Fin.ext ?_)
  have h0 := b.isLt
  have h1 := R.isLt
  have h2 := h.isLt
  have h3 := l.isLt
  match a with
  | ⟨0, _⟩ => show ((b.val * 8192 + R.val) * 1024 + (128 * h.val + l.val)) / 8388608 = b.val; omega
  | ⟨1, _⟩ => show ((b.val * 8192 + R.val) * 1024 + (128 * h.val + l.val)) / 1024 % 8192 = R.val; omega
  | ⟨2, _⟩ => show ((b.val * 8192 + R.val) * 1024 + (128 * h.val + l.val)) / 128 % 8 = h.val; omega
  | ⟨3, _⟩ => show ((b.val * 8192 + R.val) * 1024 + (128 * h.val + l.val)) % 128 = l.val; omega

/-- The scaled residual plus the mixer. -/
theorem sum_read (b : Fin 2) (R : Fin 8192) (c : Fin 1024) :
    val_main_v25 x0 x1 x2 x6 x7 (ix3 b R c)
      = Spec.gdnSum (fun c => x0 (ix3 b R c)) (fun c => x1 (ix3 b R c)) (fun c => x2 (ix3 b R c)) (fun l => x6 (ix2 0 l)) (fun k c => x7 (ix3 0 k c)) c := by
  unfold Spec.gdnSum
  simp only [← gated_read]
  unfold val_main_v25 val_main_v24 val_main_v23 val_main_cst_2 val_main_v22 val_main_v1
  generalize val_main_v21 x0 x1 x6 = Y
  pointwise

end Cert.RefRead2

end
-- ==== Proof.Equal2.lean ====
module

public import proofs.«01_k».proof.Proof.KernelValue2
public import proofs.«01_k».proof.Proof.RefGdn
public import proofs.«01_k».proof.Defs
public import proofs.«01_k».proof.Proof.Gen.Reference2Ideal.Run
public import Idealize.ShloMosaic.Lib.Quiescent

/-! The second kernel's array and the second reference's are the same layer. -/

@[expose] public section

noncomputable section

namespace Cert.Tile2

open Idealize.ShloMosaic Idealize.ShloMosaic.TcCoe Idealize.SL.Sem

/-- The reference's result, entry by entry. -/
theorem ref_row (x0 x1 : Vec Ideal Cert.Reference2Ideal.S2x8192x1024 .bf16) (x2 : Vec Ideal Cert.Reference2Ideal.S2x8192x1024 .f32) (x3 : Vec Ideal Cert.Reference2Ideal.S2x2x8192x256 .f32) (x4 x5 : Vec Ideal Cert.Reference2Ideal.S2x2x1024 .f32)
    (x6 : Vec Ideal Cert.Reference2Ideal.S1x128 .f32) (x7 : Vec Ideal Cert.Reference2Ideal.S1x1024x1024 .f32) (x8 : Vec Ideal Cert.Reference2Ideal.S2x1024x4096 .f32) (x9 : Vec Ideal Cert.Reference2Ideal.S2x4096x1024 .f32)
    (x10 : Vec Ideal Cert.Reference2Ideal.S2x1024x1024 .f32) (x11 : Vec Ideal Cert.Reference2Ideal.S2x1024 .f32) (x12 : Vec Ideal Cert.Reference2Ideal.S2x256x1024 .f32) (b : Fin 2) (R : Fin 8192) (c : Fin 1024) :
    Cert.Reference2Ideal.Read.val_main_v113 x0 x1 x2 x3 x4 x5 x6 x7 x8 x9 x10 x11 x12 (ix3 b R c) = outRow x0 x1 x2 x3 x4 x5 x6 x7 x8 x9 x10 x11 x12 b R c := by
  refine (Cert.RefRead2.tail_read x0 x1 x2 x3 x4 x5 x6 x7 x8 x9 x10 x11 x12 b R c).trans ?_
  unfold outRow
  rw [show (fun k => Cert.Reference2Ideal.Read.val_main_v25 x0 x1 x2 x6 x7 (ix3 b R k))
      = Spec.gdnSum (fun k => x0 (ix3 b R k)) (fun k => x1 (ix3 b R k)) (fun k => x2 (ix3 b R k)) (fun l => x6 (ix2 0 l)) (fun k c => x7 (ix3 0 k c)) from
    funext fun k => Cert.RefRead2.sum_read x0 x1 x2 x6 x7 b R k]

/-- Both programs end with the same result. -/
theorem equal : Cert.algebraic_Kernel2Ideal_Reference2Ideal (hKernel2Ideal := Cert.Kernel2Ideal.Gen.facts) (hReference2Ideal := Cert.Reference2Ideal.Gen.facts) := by
  intro m ρ m' ρ' hpre hagree
  refine ⟨fun c => outArr m c, (θ_run Cert.Kernel2Ideal.defs _ _).mono (fun _ h c => ⟨(h c).1.trans (final m c), (h c).2⟩) (Cert.Kernel2Ideal.Value.run_blocks m ρ), ?_⟩
  refine (θ_run Cert.Reference2Ideal.defs _ _).mono (fun _ h c => ⟨((h c).1.trans (Cert.Reference2Ideal.Read.val_main_v113_eq _)).trans ?_, (h c).2⟩)
    (Cert.Reference2Ideal.Value.run (F := Ideal) m' ρ')
  obtain ⟨h0, h1, h2, h3, h4, h5, h6, h7, h8, h9, h10, h11, h12⟩ := hagree c
  show Cert.Reference2Ideal.Read.val_main_v113 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10))
      (m' ((c.tc : Thread Cert.Reference2Ideal.nD Cert.Reference2Ideal.τ).loc Cert.Reference2Ideal.main_arg11))
      (m' ((c.tc : Thread Cert.Reference2Ideal.nD Cert.Reference2Ideal.τ).loc Cert.Reference2Ideal.main_arg12)) = outArr m c
  rw [h0, h1, h2, h3, h4, h5, h6, h7, h8, h9, h10, h11, h12]
  funext j
  rw [show j = ix3 (j 0) (j 1) (j 2) from funext fun a => match a with | ⟨0, _⟩ => rfl | ⟨1, _⟩ => rfl | ⟨2, _⟩ => rfl]
  exact ref_row _ _ _ _ _ _ _ _ _ _ _ _ _ (j 0) (j 1) (j 2)

/-- The reference runs, keeps its arguments and has no semaphore. -/
theorem frame_ref : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Tile2

end
-- ==== Proof.Vocab3.lean ====
module

public import proofs.«01_k».proof.Proof.Vocab

/-! The vocabulary of the projection kernel's body: what one sub-tile of 256 rows by 256 columns is computed by, as
functions of the staged blocks and of the rows carried from the tile before, for any float values. -/

@[expose] public section

noncomputable section

namespace Cert.Tile3

open Cert.Tile Idealize.ShloMosaic Idealize.ShloMosaic.TcCoe

variable {F : FTy → Type} [FloatOps F]

abbrev T8x256 : Shape := ⟨2, ![8, 256]⟩
abbrev T264x256 : Shape := ⟨2, ![264, 256]⟩
abbrev T256x128 : Shape := ⟨2, ![256, 128]⟩
abbrev T128x256 : Shape := ⟨2, ![128, 256]⟩
abbrev T512x128 : Shape := ⟨2, ![512, 128]⟩
abbrev T512x512 : Shape := ⟨2, ![512, 512]⟩
abbrev T1024x128 : Shape := ⟨2, ![1024, 128]⟩
abbrev T1024x256 : Shape := ⟨2, ![1024, 256]⟩
abbrev T128x1024 : Shape := ⟨2, ![128, 1024]⟩
abbrev T1x128 : Shape := ⟨2, ![1, 128]⟩
abbrev T1x8x256 : Shape := ⟨3, ![1, 8, 256]⟩
abbrev T3x8x1024 : Shape := ⟨3, ![3, 8, 1024]⟩
abbrev T1x4x3072 : Shape := ⟨3, ![1, 4, 3072]⟩
abbrev T1x256x128 : Shape := ⟨3, ![1, 256, 128]⟩
abbrev T1x256x256 : Shape := ⟨3, ![1, 256, 256]⟩
abbrev T1x1024x256 : Shape := ⟨3, ![1, 1024, 256]⟩
abbrev T1x1024x3072 : Shape := ⟨3, ![1, 1024, 3072]⟩

/-- 256 rows from a tile of 512 rows of 1024 columns. -/
theorem rows1024 (o : ℕ) (ho : o + 256 ≤ 512) : T512x1024.Slices ![o, 0] T256x1024 :=
  ⟨rfl, by intro a; match a with | ⟨0, _⟩ => exact ho | ⟨1, _⟩ => exact Nat.le_refl _⟩
/-- 256 rows from a tile of 512 rows of 128 columns. -/
theorem rows128 (o : ℕ) (ho : o + 256 ≤ 512) : T512x128.Slices ![o, 0] T256x128 :=
  ⟨rfl, by intro a; match a with | ⟨0, _⟩ => exact ho | ⟨1, _⟩ => exact Nat.le_refl _⟩
/-- One head of a sub-tile. -/
theorem headCols (h : ℕ) (hh : h + 128 ≤ 256) : T256x256.Slices ![0, h] T256x128 :=
  ⟨rfl, by intro a; match a with | ⟨0, _⟩ => exact Nat.le_refl _ | ⟨1, _⟩ => exact hh⟩
/-- Eight rows and 256 rows make 264. -/
theorem catExt : Shape.Concatenates [T8x256, T256x256] T264x256 0 := by decide

/-- The staged tile, narrowed. -/
def xbK (x0 : Vec F T1x512x1024 .f32) : FVec F T512x1024 .bf16 := truncf .bf16 (shapeCast T512x1024 x0 (by decide)) (by decide)

/-- Columns `q … q + 255` of the staged weights. -/
def wCols (x1 : Vec F T1x1024x3072 .bf16) (q : ℕ) (hq : q + 256 ≤ 3072) : Vec F T1x1024x256 .bf16 :=
  View.ld x1 (Rect.unit (s := T1x1024x3072) ![0, 0, q] T1x1024x256.size (by intro a; match a with | ⟨0, _⟩ => exact Nat.le_refl _ | ⟨1, _⟩ => exact Nat.le_refl _ | ⟨2, _⟩ => exact hq))

/-- Columns `q … q + 255` of the staged gate weights. -/
def zCols (x2 : Vec F T1x1024x1024 .bf16) (q : ℕ) (hq : q + 256 ≤ 1024) : Vec F T1x1024x256 .bf16 :=
  View.ld x2 (Rect.unit (s := T1x1024x1024) ![0, 0, q] T1x1024x256.size (by intro a; match a with | ⟨0, _⟩ => exact Nat.le_refl _ | ⟨1, _⟩ => exact Nat.le_refl _ | ⟨2, _⟩ => exact hq))

/-- Columns `q … q + 255` of a spreading matrix. -/
def eCols (x8 : Vec F T128x1024 .bf16) (q : ℕ) (hq : q + 256 ≤ 1024) : Vec F T128x256 .bf16 :=
  View.ld x8 (Rect.unit (s := T128x1024) ![0, q] T128x256.size (by intro a; match a with | ⟨0, _⟩ => exact Nat.le_refl _ | ⟨1, _⟩ => exact hq))

/-- Tap `j` of the convolution at columns `q … q + 255`. -/
def tapRow (x3 : Vec F T1x4x3072 .f32) (j q : ℕ) (hj : j < 4) (hq : q + 256 ≤ 3072) : Vec F T1x1x256 .f32 :=
  View.ld x3 (Rect.unit (s := T1x4x3072) ![0, j, q] T1x1x256.size (by intro a; match a with | ⟨0, _⟩ => exact Nat.le_refl _ | ⟨1, _⟩ => exact hj | ⟨2, _⟩ => exact hq))

/-- The carried rows of part `p`, columns `q … q + 255`. -/
def carRow (C : Vec F T3x8x1024 .f32) (p q : ℕ) (hp : p < 3) (hq : q + 256 ≤ 1024) : Vec F T1x8x256 .f32 :=
  View.ld C (Rect.unit (s := T3x8x1024) ![p, 0, q] T1x8x256.size (by intro a; match a with | ⟨0, _⟩ => exact hp | ⟨1, _⟩ => exact Nat.le_refl _ | ⟨2, _⟩ => exact hq))

/-- Rows `o … o + 255` of the tile by 256 columns of a matrix. -/
def projK (x0 : Vec F T1x512x1024 .f32) (w : Vec F T1x1024x256 .bf16) (o : ℕ) (ho : o + 256 ≤ 512) : FVec F T256x256 .f32 :=
  matmul (DotDims.plain 256 1024 256) none (extractStridedSlice T256x1024 ![o, 0] (xbK x0) (rows1024 o ho)) (shapeCast T1024x256 w (by decide)) (constant T256x256 .f32 0x00000000#32)

/-- The eight rows before a sub-tile, then the sub-tile. -/
def extK (C : Vec F T1x8x256 .f32) (P : FVec F T256x256 .f32) : FVec F T264x256 .f32 :=
  concatenate T264x256 0 [⟨T8x256, shapeCast T8x256 C (by decide)⟩, ⟨T256x256, P⟩] catExt

/-- The sub-tile's rows `n` rows earlier. -/
def backK (n : BitVec 32) (C : Vec F T1x8x256 .f32) (P : FVec F T256x256 .f32) : FVec F T256x256 .f32 :=
  extractStridedSlice T256x256 ![8, 0] (dynamicRotate 0 n none (extK C P) (by decide)) (by decide)

/-- A tap spread over the rows. -/
def tapK (w : Vec F T1x1x256 .f32) : FVec F T256x256 .f32 := broadcastTo T256x256 (shapeCast T1x256 w (by decide)) (by decide)

/-- The convolution of a sub-tile along its rows. -/
def convK (C : Vec F T1x8x256 .f32) (P : FVec F T256x256 .f32) (w0 w1 w2 w3 : Vec F T1x1x256 .f32) : FVec F T256x256 .f32 :=
  addf (addf (addf (mulf P (tapK w3)) (mulf (backK 3#32 C P) (tapK w0))) (mulf (backK 2#32 C P) (tapK w1))) (mulf (backK 1#32 C P) (tapK w2))

/-- The convolution by its own logistic. -/
def actK (C : Vec F T1x8x256 .f32) (P : FVec F T256x256 .f32) (x3 : Vec F T1x4x3072 .f32) (q : ℕ) (hq : q + 256 ≤ 3072) : FVec F T256x256 .f32 :=
  let y : FVec F T256x256 .f32 := convK C P (tapRow x3 0 q (by decide) hq) (tapRow x3 1 q (by decide) hq) (tapRow x3 2 q (by decide) hq) (tapRow x3 3 q (by decide) hq)
  mulf y (logistic y)

/-- The last eight rows of a sub-tile. -/
def lastK (P : FVec F T256x256 .f32) : Vec F T1x8x256 .f32 := shapeCast T1x8x256 (extractStridedSlice T8x256 ![248, 0] P (by decide)) (by decide)

/-- The first sub-tile's activation, from the rows carried in. -/
def actA (x0 : Vec F T1x512x1024 .f32) (x1 : Vec F T1x1024x3072 .bf16) (x3 : Vec F T1x4x3072 .f32) (C : Vec F T3x8x1024 .f32) (p q s : ℕ) (hp : p < 3) (hq : q + 256 ≤ 1024) (hs : s + 256 ≤ 3072) : FVec F T256x256 .f32 :=
  actK (carRow C p q hp hq) (projK x0 (wCols x1 s hs) 0 (by decide)) x3 s hs

/-- The second sub-tile's activation, from the last rows of the first. -/
def actB (x0 : Vec F T1x512x1024 .f32) (x1 : Vec F T1x1024x3072 .bf16) (x3 : Vec F T1x4x3072 .f32) (s : ℕ) (hs : s + 256 ≤ 3072) : FVec F T256x256 .f32 :=
  actK (lastK (projK x0 (wCols x1 s hs) 0 (by decide))) (projK x0 (wCols x1 s hs) 256 (by decide)) x3 s hs

/-- One head scaled by the inverse root of its squares' sum and by a factor. -/
def headK (A : FVec F T256x256 .f32) (h : ℕ) (hh : h + 128 ≤ 256) (s : BitVec 32) : FVec F T1x256x128 .bf16 :=
  let a : FVec F T256x128 .f32 := extractStridedSlice T256x128 ![0, h] A (headCols h hh)
  let r : FVec F T256x1 .f32 := rsqrt (addf (shapeCast T256x1 (multiReduction .add [1] T256 (mulf a a) 0x00000000#32 (by decide) (.inl rfl) rfl) (by decide)) (broadcast T256x1 (Scalar.ofBits .f32 0x358637BD#32)))
  shapeCast T1x256x128 (truncf .bf16 (mulf a (broadcastTo T256x128 (mulf r (broadcast T256x1 (Scalar.ofBits .f32 s))) (by decide))) (by decide)) (by decide)

/-- A sub-tile as stored, narrowed. -/
def wideK (A : FVec F T256x256 .f32) : FVec F T1x256x256 .bf16 := shapeCast T1x256x256 (truncf .bf16 A (by decide)) (by decide)

/-- The two small projections of the tile, side by side in its lanes. -/
def baK (x0 : Vec F T1x512x1024 .f32) (x4 : Vec F T1024x128 .bf16) : FVec F T512x128 .f32 :=
  matmul (DotDims.plain 512 1024 128) none (xbK x0) (shapeCast T1024x128 x4 (by decide)) (constant T512x128 .f32 0x00000000#32)

/-- Their logistic. -/
def betaK (x0 : Vec F T1x512x1024 .f32) (x4 : Vec F T1024x128 .bf16) : FVec F T512x128 .bf16 := truncf .bf16 (logistic (baK x0 x4)) (by decide)

/-- The decay's logarithm. -/
def gK (x0 : Vec F T1x512x1024 .f32) (x4 : Vec F T1024x128 .bf16) (x5 x6 : Vec F T1x128 .f32) : FVec F T512x128 .f32 :=
  let t : FVec F T512x128 .f32 := addf (baK x0 x4) (broadcastTo T512x128 (shapeCast T1x128 x6 (by decide)) (by decide))
  mulf (broadcastTo T512x128 (subf (broadcast T1x128 (Scalar.ofBits .f32 0x00000000#32)) (exp (shapeCast T1x128 x5 (by decide)))) (by decide))
    (addf (maximumf t (broadcast T512x128 (Scalar.ofBits .f32 0x00000000#32))) (log1p (exp (subf (broadcast T512x128 (Scalar.ofBits .f32 0x00000000#32)) (absf t)))))

/-- A tile's narrowed value. -/
def hiK (g : FVec F T512x128 .f32) : FVec F T512x128 .bf16 := truncf .bf16 g (by decide)
/-- What narrowing leaves out, narrowed. -/
def loK (g : FVec F T512x128 .f32) : FVec F T512x128 .bf16 := truncf .bf16 (subf g (extf .f32 (hiK g) (by decide))) (by decide)

/-- The running sums of a tile, by the triangle. -/
def gcK (g : FVec F T512x128 .f32) (x7 : Vec F T512x512 .bf16) : FVec F T512x128 .f32 :=
  addf (matmul (DotDims.plain 512 512 128) none (shapeCast T512x512 x7 (by decide)) (hiK g) (constant T512x128 .f32 0x00000000#32))
    (matmul (DotDims.plain 512 512 128) none (shapeCast T512x512 x7 (by decide)) (loK g) (constant T512x128 .f32 0x00000000#32))

/-- 256 rows of a lane tile spread over 256 columns. -/
def spreadK (u : FVec F T512x128 .bf16) (o : ℕ) (ho : o + 256 ≤ 512) (e : Vec F T128x256 .bf16) : FVec F T256x256 .f32 :=
  matmul (DotDims.plain 256 128 256) none (extractStridedSlice T256x128 ![o, 0] u (rows128 o ho)) (shapeCast T128x256 e (by decide)) (constant T256x256 .f32 0x00000000#32)

/-- The running sums spread, as stored. -/
def gcOut (x0 : Vec F T1x512x1024 .f32) (x4 : Vec F T1024x128 .bf16) (x5 x6 : Vec F T1x128 .f32) (x7 : Vec F T512x512 .bf16) (x9 : Vec F T128x1024 .bf16) (o q : ℕ) (ho : o + 256 ≤ 512) (hq : q + 256 ≤ 1024) : FVec F T1x256x256 .f32 :=
  shapeCast T1x256x256 (addf (spreadK (hiK (gcK (gK x0 x4 x5 x6) x7)) o ho (eCols x9 q hq)) (spreadK (loK (gcK (gK x0 x4 x5 x6) x7)) o ho (eCols x9 q hq))) (by decide)

end Cert.Tile3

end
-- ==== Proof.Pieces3.lean ====
module

public import proofs.«01_k».proof.Proof.Vocab3
public import proofs.«01_k».proof.Proof.Pieces
public import proofs.«01_k».proof.Proof.Gen.Kernel3Ideal.Value

/-! The pieces the projection kernel's body leaves of its blocks, in the vocabulary of a sub-tile. -/

@[expose] public section

set_option maxRecDepth 65536

noncomputable section

namespace Cert.Tile3

open Cert.Tile (ld_all2 ld_all3)
open Cert.Kernel3Ideal Cert.Kernel3Ideal.Gen Idealize.ShloMosaic Idealize.ShloMosaic.TcCoe

variable {F : FTy → Type} [FloatOps F]

/-- Read where it was just written, a buffer gives what was written. -/
theorem canon_self {S : Shape} {e : EltTy} (r : Rect S) (w : r.shape.Idx → Elt F e) (L : List (View.Piece (Elt F) S e)) :
    (fun j => View.canon (⟨r, w⟩ :: L) (r.idx j)) = w := funext fun j => View.canon_cons_emb r w L j

/-- Carried rows read away from a later write are as they were before it. -/
theorem canon_skip (p q p' q' : ℕ) (h : ∀ a, (![p, 0, q] : Fin 3 → ℕ) a + (![1, 8, 256] : Fin 3 → ℕ) a ≤ S3x8x1024.size a) (h' : ∀ a, (![p', 0, q'] : Fin 3 → ℕ) a + (![1, 8, 256] : Fin 3 → ℕ) a ≤ S3x8x1024.size a)
    (w : (Rect.unit (s := S3x8x1024) ![p, 0, q] ![1, 8, 256] h).shape.Idx → Elt F .f32) (L : List (View.Piece (Elt F) S3x8x1024 .f32)) (hd : p ≠ p' ∨ q + 256 ≤ q' ∨ q' + 256 ≤ q) :
    (fun j => View.canon (⟨Rect.unit (s := S3x8x1024) ![p, 0, q] ![1, 8, 256] h, w⟩ :: L) ((Rect.unit (s := S3x8x1024) ![p', 0, q'] ![1, 8, 256] h').idx j))
      = fun j => View.canon L ((Rect.unit (s := S3x8x1024) ![p', 0, q'] ![1, 8, 256] h').idx j) := by
  funext j
  refine View.canon_cons_of_not_mem _ _ fun hm => ?_
  have hm := (Rect.mem_set_unit (s := S3x8x1024) (off := ![p, 0, q]) (size := ![1, 8, 256]) (inb := h)).mp hm
  have h0 := hm 0
  have h2 := hm 2
  have j0 : (j 0).val < 1 := (j 0).isLt
  have j2 : (j 2).val < 256 := (j 2).isLt
  have a0 : p ≤ p' + 1 * (j 0).val ∧ p' + 1 * (j 0).val < p + 1 := h0
  have a2 : q ≤ q' + 1 * (j 2).val ∧ q' + 1 * (j 2).val < q + 256 := h2
  omega

/-- Carried rows read right after the whole was written. -/
theorem canon_zero (p q : ℕ) (h : ∀ a, (![p, 0, q] : Fin 3 → ℕ) a + (![1, 8, 256] : Fin 3 → ℕ) a ≤ S3x8x1024.size a) (h0 : ∀ a, (![0, 0, 0] : Fin 3 → ℕ) a + (![3, 8, 1024] : Fin 3 → ℕ) a ≤ S3x8x1024.size a) (w : Vec F S3x8x1024 .f32) :
    (fun j => View.canon [⟨Rect.unit (s := S3x8x1024) ![0, 0, 0] ![3, 8, 1024] h0, w⟩] ((Rect.unit (s := S3x8x1024) ![p, 0, q] ![1, 8, 256] h).idx j))
      = View.ld w (Rect.unit (s := S3x8x1024) ![p, 0, q] ![1, 8, 256] h) := by
  funext j
  have e : ∀ y : S3x8x1024.Idx, y = (Rect.unit (s := S3x8x1024) ![0, 0, 0] ![3, 8, 1024] h0).emb y := fun y => by
    funext a
    apply Fin.ext
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  show View.canon _ _ = w _
  exact (congrArg _ (e _)).trans (View.canon_cons_emb _ _ _ _)

/-- The pieces of the query block, last first. -/
def qL (x0 : Vec F S1x512x1024 .f32) (x1 : Vec F S1x1024x3072 .bf16) (x3 : Vec F S1x4x3072 .f32) (C : Vec F S3x8x1024 .f32) : List (View.Piece (Elt F) S1x512x1024 .bf16) :=
  [⟨Rect.unit (s := S1x512x1024) ![0, 256, 896] S1x256x128.size inb_S1x512x1024_S1x256x128_0_256_896, headK (actB x0 x1 x3 768 (by decide)) 128 (by decide) 0x3DB504F3#32⟩,
   ⟨Rect.unit (s := S1x512x1024) ![0, 256, 768] S1x256x128.size inb_S1x512x1024_S1x256x128_0_256_768, headK (actB x0 x1 x3 768 (by decide)) 0 (by decide) 0x3DB504F3#32⟩,
   ⟨Rect.unit (s := S1x512x1024) ![0, 0, 896] S1x256x128.size inb_S1x512x1024_S1x256x128_0_0_896, headK (actA x0 x1 x3 C 0 768 768 (by decide) (by decide) (by decide)) 128 (by decide) 0x3DB504F3#32⟩,
   ⟨Rect.unit (s := S1x512x1024) ![0, 0, 768] S1x256x128.size inb_S1x512x1024_S1x256x128_0_0_768, headK (actA x0 x1 x3 C 0 768 768 (by decide) (by decide) (by decide)) 0 (by decide) 0x3DB504F3#32⟩,
   ⟨Rect.unit (s := S1x512x1024) ![0, 256, 640] S1x256x128.size inb_S1x512x1024_S1x256x128_0_256_640, headK (actB x0 x1 x3 512 (by decide)) 128 (by decide) 0x3DB504F3#32⟩,
   ⟨Rect.unit (s := S1x512x1024) ![0, 256, 512] S1x256x128.size inb_S1x512x1024_S1x256x128_0_256_512, headK (actB x0 x1 x3 512 (by decide)) 0 (by decide) 0x3DB504F3#32⟩,
   ⟨Rect.unit (s := S1x512x1024) ![0, 0, 640] S1x256x128.size inb_S1x512x1024_S1x256x128_0_0_640, headK (actA x0 x1 x3 C 0 512 512 (by decide) (by decide) (by decide)) 128 (by decide) 0x3DB504F3#32⟩,
   ⟨Rect.unit (s := S1x512x1024) ![0, 0, 512] S1x256x128.size inb_S1x512x1024_S1x256x128_0_0_512, headK (actA x0 x1 x3 C 0 512 512 (by decide) (by decide) (by decide)) 0 (by decide) 0x3DB504F3#32⟩,
   ⟨Rect.unit (s := S1x512x1024) ![0, 256, 384] S1x256x128.size inb_S1x512x1024_S1x256x128_0_256_384, headK (actB x0 x1 x3 256 (by decide)) 128 (by decide) 0x3DB504F3#32⟩,
   ⟨Rect.unit (s := S1x512x1024) ![0, 256, 256] S1x256x128.size inb_S1x512x1024_S1x256x128_0_256_256, headK (actB x0 x1 x3 256 (by decide)) 0 (by decide) 0x3DB504F3#32⟩,
   ⟨Rect.unit (s := S1x512x1024) ![0, 0, 384] S1x256x128.size inb_S1x512x1024_S1x256x128_0_0_384, headK (actA x0 x1 x3 C 0 256 256 (by decide) (by decide) (by decide)) 128 (by decide) 0x3DB504F3#32⟩,
   ⟨Rect.unit (s := S1x512x1024) ![0, 0, 256] S1x256x128.size inb_S1x512x1024_S1x256x128_0_0_256, headK (actA x0 x1 x3 C 0 256 256 (by decide) (by decide) (by decide)) 0 (by decide) 0x3DB504F3#32⟩,
   ⟨Rect.unit (s := S1x512x1024) ![0, 256, 128] S1x256x128.size inb_S1x512x1024_S1x256x128_0_256_128, headK (actB x0 x1 x3 0 (by decide)) 128 (by decide) 0x3DB504F3#32⟩,
   ⟨Rect.unit (s := S1x512x1024) ![0, 256, 0] S1x256x128.size inb_S1x512x1024_S1x256x128_0_256_0, headK (actB x0 x1 x3 0 (by decide)) 0 (by decide) 0x3DB504F3#32⟩,
   ⟨Rect.unit (s := S1x512x1024) ![0, 0, 128] S1x256x128.size inb_S1x512x1024_S1x256x128_0_0_128, headK (actA x0 x1 x3 C 0 0 0 (by decide) (by decide) (by decide)) 128 (by decide) 0x3DB504F3#32⟩,
   ⟨Rect.unit (s := S1x512x1024) ![0, 0, 0] S1x256x128.size inb_S1x512x1024_S1x256x128_0_0_0, headK (actA x0 x1 x3 C 0 0 0 (by decide) (by decide) (by decide)) 0 (by decide) 0x3DB504F3#32⟩]

/-- The pieces of the key block, last first. -/
def kL (x0 : Vec F S1x512x1024 .f32) (x1 : Vec F S1x1024x3072 .bf16) (x3 : Vec F S1x4x3072 .f32) (C : Vec F S3x8x1024 .f32) : List (View.Piece (Elt F) S1x512x1024 .bf16) :=
  [⟨Rect.unit (s := S1x512x1024) ![0, 256, 896] S1x256x128.size inb_S1x512x1024_S1x256x128_0_256_896, headK (actB x0 x1 x3 1792 (by decide)) 128 (by decide) 0x3F800000#32⟩,
   ⟨Rect.unit (s := S1x512x1024) ![0, 256, 768] S1x256x128.size inb_S1x512x1024_S1x256x128_0_256_768, headK (actB x0 x1 x3 1792 (by decide)) 0 (by decide) 0x3F800000#32⟩,
   ⟨Rect.unit (s := S1x512x1024) ![0, 0, 896] S1x256x128.size inb_S1x512x1024_S1x256x128_0_0_896, headK (actA x0 x1 x3 C 1 768 1792 (by decide) (by decide) (by decide)) 128 (by decide) 0x3F800000#32⟩,
   ⟨Rect.unit (s := S1x512x1024) ![0, 0, 768] S1x256x128.size inb_S1x512x1024_S1x256x128_0_0_768, headK (actA x0 x1 x3 C 1 768 1792 (by decide) (by decide) (by decide)) 0 (by decide) 0x3F800000#32⟩,
   ⟨Rect.unit (s := S1x512x1024) ![0, 256, 640] S1x256x128.size inb_S1x512x1024_S1x256x128_0_256_640, headK (actB x0 x1 x3 1536 (by decide)) 128 (by decide) 0x3F800000#32⟩,
   ⟨Rect.unit (s := S1x512x1024) ![0, 256, 512] S1x256x128.size inb_S1x512x1024_S1x256x128_0_256_512, headK (actB x0 x1 x3 1536 (by decide)) 0 (by decide) 0x3F800000#32⟩,
   ⟨Rect.unit (s := S1x512x1024) ![0, 0, 640] S1x256x128.size inb_S1x512x1024_S1x256x128_0_0_640, headK (actA x0 x1 x3 C 1 512 1536 (by decide) (by decide) (by decide)) 128 (by decide) 0x3F800000#32⟩,
   ⟨Rect.unit (s := S1x512x1024) ![0, 0, 512] S1x256x128.size inb_S1x512x1024_S1x256x128_0_0_512, headK (actA x0 x1 x3 C 1 512 1536 (by decide) (by decide) (by decide)) 0 (by decide) 0x3F800000#32⟩,
   ⟨Rect.unit (s := S1x512x1024) ![0, 256, 384] S1x256x128.size inb_S1x512x1024_S1x256x128_0_256_384, headK (actB x0 x1 x3 1280 (by decide)) 128 (by decide) 0x3F800000#32⟩,
   ⟨Rect.unit (s := S1x512x1024) ![0, 256, 256] S1x256x128.size inb_S1x512x1024_S1x256x128_0_256_256, headK (actB x0 x1 x3 1280 (by decide)) 0 (by decide) 0x3F800000#32⟩,
   ⟨Rect.unit (s := S1x512x1024) ![0, 0, 384] S1x256x128.size inb_S1x512x1024_S1x256x128_0_0_384, headK (actA x0 x1 x3 C 1 256 1280 (by decide) (by decide) (by decide)) 128 (by decide) 0x3F800000#32⟩,
   ⟨Rect.unit (s := S1x512x1024) ![0, 0, 256] S1x256x128.size inb_S1x512x1024_S1x256x128_0_0_256, headK (actA x0 x1 x3 C 1 256 1280 (by decide) (by decide) (by decide)) 0 (by decide) 0x3F800000#32⟩,
   ⟨Rect.unit (s := S1x512x1024) ![0, 256, 128] S1x256x128.size inb_S1x512x1024_S1x256x128_0_256_128, headK (actB x0 x1 x3 1024 (by decide)) 128 (by decide) 0x3F800000#32⟩,
   ⟨Rect.unit (s := S1x512x1024) ![0, 256, 0] S1x256x128.size inb_S1x512x1024_S1x256x128_0_256_0, headK (actB x0 x1 x3 1024 (by decide)) 0 (by decide) 0x3F800000#32⟩,
   ⟨Rect.unit (s := S1x512x1024) ![0, 0, 128] S1x256x128.size inb_S1x512x1024_S1x256x128_0_0_128, headK (actA x0 x1 x3 C 1 0 1024 (by decide) (by decide) (by decide)) 128 (by decide) 0x3F800000#32⟩,
   ⟨Rect.unit (s := S1x512x1024) ![0, 0, 0] S1x256x128.size inb_S1x512x1024_S1x256x128_0_0_0, headK (actA x0 x1 x3 C 1 0 1024 (by decide) (by decide) (by decide)) 0 (by decide) 0x3F800000#32⟩]

/-- The pieces of the value block, last first. -/
def vL (x0 : Vec F S1x512x1024 .f32) (x1 : Vec F S1x1024x3072 .bf16) (x3 : Vec F S1x4x3072 .f32) (C : Vec F S3x8x1024 .f32) : List (View.Piece (Elt F) S1x512x1024 .bf16) :=
  [⟨Rect.unit (s := S1x512x1024) ![0, 256, 768] S1x256x256.size inb_S1x512x1024_S1x256x256_0_256_768, wideK (actB x0 x1 x3 2816 (by decide))⟩,
   ⟨Rect.unit (s := S1x512x1024) ![0, 0, 768] S1x256x256.size inb_S1x512x1024_S1x256x256_0_0_768, wideK (actA x0 x1 x3 C 2 768 2816 (by decide) (by decide) (by decide))⟩,
   ⟨Rect.unit (s := S1x512x1024) ![0, 256, 512] S1x256x256.size inb_S1x512x1024_S1x256x256_0_256_512, wideK (actB x0 x1 x3 2560 (by decide))⟩,
   ⟨Rect.unit (s := S1x512x1024) ![0, 0, 512] S1x256x256.size inb_S1x512x1024_S1x256x256_0_0_512, wideK (actA x0 x1 x3 C 2 512 2560 (by decide) (by decide) (by decide))⟩,
   ⟨Rect.unit (s := S1x512x1024) ![0, 256, 256] S1x256x256.size inb_S1x512x1024_S1x256x256_0_256_256, wideK (actB x0 x1 x3 2304 (by decide))⟩,
   ⟨Rect.unit (s := S1x512x1024) ![0, 0, 256] S1x256x256.size inb_S1x512x1024_S1x256x256_0_0_256, wideK (actA x0 x1 x3 C 2 256 2304 (by decide) (by decide) (by decide))⟩,
   ⟨Rect.unit (s := S1x512x1024) ![0, 256, 0] S1x256x256.size inb_S1x512x1024_S1x256x256_0_256_0, wideK (actB x0 x1 x3 2048 (by decide))⟩,
   ⟨Rect.unit (s := S1x512x1024) ![0, 0, 0] S1x256x256.size inb_S1x512x1024_S1x256x256_0_0_0, wideK (actA x0 x1 x3 C 2 0 2048 (by decide) (by decide) (by decide))⟩]

/-- The pieces of the output gate block, last first. -/
def zL (x0 : Vec F S1x512x1024 .f32) (x2 : Vec F S1x1024x1024 .bf16) : List (View.Piece (Elt F) S1x512x1024 .bf16) :=
  [⟨Rect.unit (s := S1x512x1024) ![0, 256, 768] S1x256x256.size inb_S1x512x1024_S1x256x256_0_256_768, wideK (projK x0 (zCols x2 768 (by decide)) 256 (by decide))⟩,
   ⟨Rect.unit (s := S1x512x1024) ![0, 0, 768] S1x256x256.size inb_S1x512x1024_S1x256x256_0_0_768, wideK (projK x0 (zCols x2 768 (by decide)) 0 (by decide))⟩,
   ⟨Rect.unit (s := S1x512x1024) ![0, 256, 512] S1x256x256.size inb_S1x512x1024_S1x256x256_0_256_512, wideK (projK x0 (zCols x2 512 (by decide)) 256 (by decide))⟩,
   ⟨Rect.unit (s := S1x512x1024) ![0, 0, 512] S1x256x256.size inb_S1x512x1024_S1x256x256_0_0_512, wideK (projK x0 (zCols x2 512 (by decide)) 0 (by decide))⟩,
   ⟨Rect.unit (s := S1x512x1024) ![0, 256, 256] S1x256x256.size inb_S1x512x1024_S1x256x256_0_256_256, wideK (projK x0 (zCols x2 256 (by decide)) 256 (by decide))⟩,
   ⟨Rect.unit (s := S1x512x1024) ![0, 0, 256] S1x256x256.size inb_S1x512x1024_S1x256x256_0_0_256, wideK (projK x0 (zCols x2 256 (by decide)) 0 (by decide))⟩,
   ⟨Rect.unit (s := S1x512x1024) ![0, 256, 0] S1x256x256.size inb_S1x512x1024_S1x256x256_0_256_0, wideK (projK x0 (zCols x2 0 (by decide)) 256 (by decide))⟩,
   ⟨Rect.unit (s := S1x512x1024) ![0, 0, 0] S1x256x256.size inb_S1x512x1024_S1x256x256_0_0_0, wideK (projK x0 (zCols x2 0 (by decide)) 0 (by decide))⟩]

/-- The pieces of the write gate block, last first. -/
def bL (x0 : Vec F S1x512x1024 .f32) (x4 : Vec F S1024x128 .bf16) (x8 : Vec F S128x1024 .bf16) : List (View.Piece (Elt F) S1x512x1024 .bf16) :=
  [⟨Rect.unit (s := S1x512x1024) ![0, 256, 768] S1x256x256.size inb_S1x512x1024_S1x256x256_0_256_768, wideK (spreadK (betaK x0 x4) 256 (by decide) (eCols x8 768 (by decide)))⟩,
   ⟨Rect.unit (s := S1x512x1024) ![0, 0, 768] S1x256x256.size inb_S1x512x1024_S1x256x256_0_0_768, wideK (spreadK (betaK x0 x4) 0 (by decide) (eCols x8 768 (by decide)))⟩,
   ⟨Rect.unit (s := S1x512x1024) ![0, 256, 512] S1x256x256.size inb_S1x512x1024_S1x256x256_0_256_512, wideK (spreadK (betaK x0 x4) 256 (by decide) (eCols x8 512 (by decide)))⟩,
   ⟨Rect.unit (s := S1x512x1024) ![0, 0, 512] S1x256x256.size inb_S1x512x1024_S1x256x256_0_0_512, wideK (spreadK (betaK x0 x4) 0 (by decide) (eCols x8 512 (by decide)))⟩,
   ⟨Rect.unit (s := S1x512x1024) ![0, 256, 256] S1x256x256.size inb_S1x512x1024_S1x256x256_0_256_256, wideK (spreadK (betaK x0 x4) 256 (by decide) (eCols x8 256 (by decide)))⟩,
   ⟨Rect.unit (s := S1x512x1024) ![0, 0, 256] S1x256x256.size inb_S1x512x1024_S1x256x256_0_0_256, wideK (spreadK (betaK x0 x4) 0 (by decide) (eCols x8 256 (by decide)))⟩,
   ⟨Rect.unit (s := S1x512x1024) ![0, 256, 0] S1x256x256.size inb_S1x512x1024_S1x256x256_0_256_0, wideK (spreadK (betaK x0 x4) 256 (by decide) (eCols x8 0 (by decide)))⟩,
   ⟨Rect.unit (s := S1x512x1024) ![0, 0, 0] S1x256x256.size inb_S1x512x1024_S1x256x256_0_0_0, wideK (spreadK (betaK x0 x4) 0 (by decide) (eCols x8 0 (by decide)))⟩]

/-- The pieces of the decay block, last first. -/
def gL (x0 : Vec F S1x512x1024 .f32) (x4 : Vec F S1024x128 .bf16) (x5 x6 : Vec F S1x128 .f32) (x7 : Vec F S512x512 .bf16) (x9 : Vec F S128x1024 .bf16) : List (View.Piece (Elt F) S1x512x1024 .f32) :=
  [⟨Rect.unit (s := S1x512x1024) ![0, 256, 768] S1x256x256.size inb_S1x512x1024_S1x256x256_0_256_768, gcOut x0 x4 x5 x6 x7 x9 256 768 (by decide) (by decide)⟩,
   ⟨Rect.unit (s := S1x512x1024) ![0, 0, 768] S1x256x256.size inb_S1x512x1024_S1x256x256_0_0_768, gcOut x0 x4 x5 x6 x7 x9 0 768 (by decide) (by decide)⟩,
   ⟨Rect.unit (s := S1x512x1024) ![0, 256, 512] S1x256x256.size inb_S1x512x1024_S1x256x256_0_256_512, gcOut x0 x4 x5 x6 x7 x9 256 512 (by decide) (by decide)⟩,
   ⟨Rect.unit (s := S1x512x1024) ![0, 0, 512] S1x256x256.size inb_S1x512x1024_S1x256x256_0_0_512, gcOut x0 x4 x5 x6 x7 x9 0 512 (by decide) (by decide)⟩,
   ⟨Rect.unit (s := S1x512x1024) ![0, 256, 256] S1x256x256.size inb_S1x512x1024_S1x256x256_0_256_256, gcOut x0 x4 x5 x6 x7 x9 256 256 (by decide) (by decide)⟩,
   ⟨Rect.unit (s := S1x512x1024) ![0, 0, 256] S1x256x256.size inb_S1x512x1024_S1x256x256_0_0_256, gcOut x0 x4 x5 x6 x7 x9 0 256 (by decide) (by decide)⟩,
   ⟨Rect.unit (s := S1x512x1024) ![0, 256, 0] S1x256x256.size inb_S1x512x1024_S1x256x256_0_256_0, gcOut x0 x4 x5 x6 x7 x9 256 0 (by decide) (by decide)⟩,
   ⟨Rect.unit (s := S1x512x1024) ![0, 0, 0] S1x256x256.size inb_S1x512x1024_S1x256x256_0_0_0, gcOut x0 x4 x5 x6 x7 x9 0 0 (by decide) (by decide)⟩]

/-- The pieces of the carried rows, last first, over what was there. -/
def cL (x0 : Vec F S1x512x1024 .f32) (x1 : Vec F S1x1024x3072 .bf16) (Z : List (View.Piece (Elt F) S3x8x1024 .f32)) : List (View.Piece (Elt F) S3x8x1024 .f32) :=
  ⟨Rect.unit (s := S3x8x1024) ![2, 0, 768] S1x8x256.size inb_S3x8x1024_S1x8x256_2_0_768, lastK (projK x0 (wCols x1 2816 (by decide)) 256 (by decide))⟩ ::
  ⟨Rect.unit (s := S3x8x1024) ![2, 0, 768] S1x8x256.size inb_S3x8x1024_S1x8x256_2_0_768, lastK (projK x0 (wCols x1 2816 (by decide)) 0 (by decide))⟩ ::
  ⟨Rect.unit (s := S3x8x1024) ![2, 0, 512] S1x8x256.size inb_S3x8x1024_S1x8x256_2_0_512, lastK (projK x0 (wCols x1 2560 (by decide)) 256 (by decide))⟩ ::
  ⟨Rect.unit (s := S3x8x1024) ![2, 0, 512] S1x8x256.size inb_S3x8x1024_S1x8x256_2_0_512, lastK (projK x0 (wCols x1 2560 (by decide)) 0 (by decide))⟩ ::
  ⟨Rect.unit (s := S3x8x1024) ![2, 0, 256] S1x8x256.size inb_S3x8x1024_S1x8x256_2_0_256, lastK (projK x0 (wCols x1 2304 (by decide)) 256 (by decide))⟩ ::
  ⟨Rect.unit (s := S3x8x1024) ![2, 0, 256] S1x8x256.size inb_S3x8x1024_S1x8x256_2_0_256, lastK (projK x0 (wCols x1 2304 (by decide)) 0 (by decide))⟩ ::
  ⟨Rect.unit (s := S3x8x1024) ![2, 0, 0] S1x8x256.size inb_S3x8x1024_S1x8x256_2_0_0, lastK (projK x0 (wCols x1 2048 (by decide)) 256 (by decide))⟩ ::
  ⟨Rect.unit (s := S3x8x1024) ![2, 0, 0] S1x8x256.size inb_S3x8x1024_S1x8x256_2_0_0, lastK (projK x0 (wCols x1 2048 (by decide)) 0 (by decide))⟩ ::
  ⟨Rect.unit (s := S3x8x1024) ![1, 0, 768] S1x8x256.size inb_S3x8x1024_S1x8x256_1_0_768, lastK (projK x0 (wCols x1 1792 (by decide)) 256 (by decide))⟩ ::
  ⟨Rect.unit (s := S3x8x1024) ![1, 0, 768] S1x8x256.size inb_S3x8x1024_S1x8x256_1_0_768, lastK (projK x0 (wCols x1 1792 (by decide)) 0 (by decide))⟩ ::
  ⟨Rect.unit (s := S3x8x1024) ![1, 0, 512] S1x8x256.size inb_S3x8x1024_S1x8x256_1_0_512, lastK (projK x0 (wCols x1 1536 (by decide)) 256 (by decide))⟩ ::
  ⟨Rect.unit (s := S3x8x1024) ![1, 0, 512] S1x8x256.size inb_S3x8x1024_S1x8x256_1_0_512, lastK (projK x0 (wCols x1 1536 (by decide)) 0 (by decide))⟩ ::
  ⟨Rect.unit (s := S3x8x1024) ![1, 0, 256] S1x8x256.size inb_S3x8x1024_S1x8x256_1_0_256, lastK (projK x0 (wCols x1 1280 (by decide)) 256 (by decide))⟩ ::
  ⟨Rect.unit (s := S3x8x1024) ![1, 0, 256] S1x8x256.size inb_S3x8x1024_S1x8x256_1_0_256, lastK (projK x0 (wCols x1 1280 (by decide)) 0 (by decide))⟩ ::
  ⟨Rect.unit (s := S3x8x1024) ![1, 0, 0] S1x8x256.size inb_S3x8x1024_S1x8x256_1_0_0, lastK (projK x0 (wCols x1 1024 (by decide)) 256 (by decide))⟩ ::
  ⟨Rect.unit (s := S3x8x1024) ![1, 0, 0] S1x8x256.size inb_S3x8x1024_S1x8x256_1_0_0, lastK (projK x0 (wCols x1 1024 (by decide)) 0 (by decide))⟩ ::
  ⟨Rect.unit (s := S3x8x1024) ![0, 0, 768] S1x8x256.size inb_S3x8x1024_S1x8x256_0_0_768, lastK (projK x0 (wCols x1 768 (by decide)) 256 (by decide))⟩ ::
  ⟨Rect.unit (s := S3x8x1024) ![0, 0, 768] S1x8x256.size inb_S3x8x1024_S1x8x256_0_0_768, lastK (projK x0 (wCols x1 768 (by decide)) 0 (by decide))⟩ ::
  ⟨Rect.unit (s := S3x8x1024) ![0, 0, 512] S1x8x256.size inb_S3x8x1024_S1x8x256_0_0_512, lastK (projK x0 (wCols x1 512 (by decide)) 256 (by decide))⟩ ::
  ⟨Rect.unit (s := S3x8x1024) ![0, 0, 512] S1x8x256.size inb_S3x8x1024_S1x8x256_0_0_512, lastK (projK x0 (wCols x1 512 (by decide)) 0 (by decide))⟩ ::
  ⟨Rect.unit (s := S3x8x1024) ![0, 0, 256] S1x8x256.size inb_S3x8x1024_S1x8x256_0_0_256, lastK (projK x0 (wCols x1 256 (by decide)) 256 (by decide))⟩ ::
  ⟨Rect.unit (s := S3x8x1024) ![0, 0, 256] S1x8x256.size inb_S3x8x1024_S1x8x256_0_0_256, lastK (projK x0 (wCols x1 256 (by decide)) 0 (by decide))⟩ ::
  ⟨Rect.unit (s := S3x8x1024) ![0, 0, 0] S1x8x256.size inb_S3x8x1024_S1x8x256_0_0_0, lastK (projK x0 (wCols x1 0 (by decide)) 256 (by decide))⟩ ::
  ⟨Rect.unit (s := S3x8x1024) ![0, 0, 0] S1x8x256.size inb_S3x8x1024_S1x8x256_0_0_0, lastK (projK x0 (wCols x1 0 (by decide)) 0 (by decide))⟩ :: Z

set_option maxHeartbeats 4000000 in
/-- The query pieces a first tile of a sequence leaves. -/
theorem q_A  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) :
    ((kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1) = qL x0 x1 x3 k0_pay2 := by
  unfold kernelRun0_A
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The key pieces a first tile of a sequence leaves. -/
theorem k_A  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) :
    ((kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1) = kL x0 x1 x3 k0_pay2 := by
  unfold kernelRun0_A
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The value pieces a first tile of a sequence leaves. -/
theorem v_A  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) :
    ((kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1) = vL x0 x1 x3 k0_pay2 := by
  unfold kernelRun0_A
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The output gate pieces a first tile of a sequence leaves. -/
theorem z_A  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) :
    ((kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.1) = zL x0 x2 := by
  unfold kernelRun0_A
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The write gate pieces a first tile of a sequence leaves. -/
theorem beta_A  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) :
    ((kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.1) = bL x0 x4 x8 := by
  unfold kernelRun0_A
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The decay pieces a first tile of a sequence leaves. -/
theorem decay_A  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) :
    ((kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.1) = gL x0 x4 x5 x6 x7 x9 := by
  unfold kernelRun0_A
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The carried pieces a first tile of a sequence leaves. -/
theorem carry_A  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) :
    ((kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.1) = cL x0 x1 [⟨Rect.unit (s := S3x8x1024) ![0, 0, 0] S3x8x1024.size inb_S3x8x1024_S3x8x1024_0_0_0, k0_pay2⟩] := by
  unfold kernelRun0_A
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The query pieces a later tile of a sequence leaves. -/
theorem q_B  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : ¬cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) (xs0 : Vec F S3x8x1024 .f32) :
    ((kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).1) = qL x0 x1 x3 xs0 := by
  unfold kernelRun0_B
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The key pieces a later tile of a sequence leaves. -/
theorem k_B  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : ¬cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) (xs0 : Vec F S3x8x1024 .f32) :
    ((kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.1) = kL x0 x1 x3 xs0 := by
  unfold kernelRun0_B
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The value pieces a later tile of a sequence leaves. -/
theorem v_B  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : ¬cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) (xs0 : Vec F S3x8x1024 .f32) :
    ((kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.1) = vL x0 x1 x3 xs0 := by
  unfold kernelRun0_B
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The output gate pieces a later tile of a sequence leaves. -/
theorem z_B  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : ¬cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) (xs0 : Vec F S3x8x1024 .f32) :
    ((kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.2.1) = zL x0 x2 := by
  unfold kernelRun0_B
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The write gate pieces a later tile of a sequence leaves. -/
theorem beta_B  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : ¬cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) (xs0 : Vec F S3x8x1024 .f32) :
    ((kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.2.2.1) = bL x0 x4 x8 := by
  unfold kernelRun0_B
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The decay pieces a later tile of a sequence leaves. -/
theorem decay_B  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : ¬cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) (xs0 : Vec F S3x8x1024 .f32) :
    ((kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.2.2.2.1) = gL x0 x4 x5 x6 x7 x9 := by
  unfold kernelRun0_B
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

set_option maxHeartbeats 4000000 in
/-- The carried pieces a later tile of a sequence leaves. -/
theorem carry_B  (c : Dev nD) (i : grid0.Coords) (arg2 : Memref sig .tc .vmem S1x512x1024 .f32) (harg2 : arg2.IsWhole) (arg3 : Memref sig .tc .vmem S1x1024x3072 .bf16) (harg3 : arg3.IsWhole) (arg4 : Memref sig .tc .vmem S1x1024x1024 .bf16) (harg4 : arg4.IsWhole) (arg5 : Memref sig .tc .vmem S1x4x3072 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S1x512x1024 .bf16) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .f32) (harg17 : arg17.IsWhole) (arg18 : Memref sig .tc .vmem S3x8x1024 .f32) (harg18 : arg18.IsWhole) (hc0 : ¬cond0_0 i)
    (x0 : Vec F S1x512x1024 .f32) (x1 : Vec F S1x1024x3072 .bf16) (x2 : Vec F S1x1024x1024 .bf16) (x3 : Vec F S1x4x3072 .f32) (x4 : Vec F S1024x128 .bf16) (x5 : Vec F S1x128 .f32) (x6 : Vec F S1x128 .f32) (x7 : Vec F S512x512 .bf16) (x8 : Vec F S128x1024 .bf16) (x9 : Vec F S128x1024 .bf16) (xs0 : Vec F S3x8x1024 .f32) :
    ((kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.2.2.2.2.1) = cL x0 x1 [] := by
  unfold kernelRun0_B
  dsimp only
  sl_unfold_words
  simp only [View.readCov_eq_canon', View.readAt_eq_ld, Memref.IsWhole.read_unread]
  have e0 : View.ld x0 (Rect.unit (s := S1x512x1024) ![0, 0, 0] S1x512x1024.size inb_S1x512x1024_S1x512x1024_0_0_0) = x0 := ld_all3 x0 _
  have e4 : View.ld x4 (Rect.unit (s := S1024x128) ![0, 0] S1024x128.size inb_S1024x128_S1024x128_0_0) = x4 := ld_all2 x4 _
  have e5 : View.ld x5 (Rect.unit (s := S1x128) ![0, 0] S1x128.size inb_S1x128_S1x128_0_0) = x5 := ld_all2 x5 _
  have e6 : View.ld x6 (Rect.unit (s := S1x128) ![0, 0] S1x128.size inb_S1x128_S1x128_0_0) = x6 := ld_all2 x6 _
  have e7 : View.ld x7 (Rect.unit (s := S512x512) ![0, 0] S512x512.size inb_S512x512_S512x512_0_0) = x7 := ld_all2 x7 _
  simp only [e0, e4, e5, e6, e7, canon_self, canon_skip, canon_zero, ne_eq, Nat.reduceAdd, Nat.reduceLeDiff, Nat.reduceEqDiff, not_false_eq_true, not_true_eq_false, true_or, or_true, false_or, or_false]
  rfl

end Cert.Tile3

end
-- ==== Proof.Spec3.lean ====
module

public import proofs.«01_k».proof.Proof.Spec2

/-! The projection's mathematics, entry by entry, over the extended reals. -/

@[expose] public section

noncomputable section

namespace Cert.Spec

open Idealize.ShloMosaic

/-- Row `n` of a sequence with eight rows of zeros before it. -/
def before (f : Fin 8192 → EReal) (n : ℕ) : EReal := if h : 8 ≤ n ∧ n - 8 < 8192 then f ⟨n - 8, h.2⟩ else 0

/-- The convolution by four taps, of the rows `n - 3 … n` counted with eight rows before them. -/
def conv4 (f : ℕ → EReal) (w : Fin 4 → EReal) (n : ℕ) : EReal := f (n + 5) * w 0 + f (n + 6) * w 1 + f (n + 7) * w 2 + f (n + 8) * w 3

/-- A value by its logistic. -/
def swish (y : EReal) : EReal := y * Ideal.logistic y

/-- Column `c` of the projection at row `R`. -/
def proj (x : Fin 8192 → Fin 1024 → EReal) (w : Fin 1024 → Fin 4112 → EReal) (c : Fin 4112) (R : Fin 8192) : EReal := ∑ k, x R k * w k c

/-- Column `c` of the convolved projection at row `R`, activated. -/
def act3 (x : Fin 8192 → Fin 1024 → EReal) (w : Fin 1024 → Fin 4112 → EReal) (cw : Fin 4 → Fin 3072 → EReal) (c : Fin 3072) (R : Fin 8192) : EReal :=
  swish (conv4 (before (proj x w ⟨c.val, by omega⟩)) (fun j => cw j c) R.val)

/-- Column `c` of part `p` of the 3072 columns. -/
def part (p : Fin 3) (c : Fin 1024) : Fin 3072 := ⟨1024 * p.val + c.val, by omega⟩

/-- A head's row over the root of its squares' sum. -/
def l2 (a : Fin 128 → EReal) (l : Fin 128) : EReal := a l * Ideal.rsqrt ((∑ k, a k * a k) + Ideal.ofBits .f32 0x358637BD#32)

/-- The softplus of a number. -/
def softplus (t : EReal) : EReal := max t 0 + Ideal.log1p (Ideal.exp (-(max t (-t))))

/-- The decay's logarithm, from the logarithm of its rate and the projected step with its offset. -/
def decay (a t : EReal) : EReal := -(Ideal.exp a) * softplus t

/-- A sequence's row by number, zero beyond its end. -/
def rowN (f : Fin 8192 → EReal) (n : ℕ) : EReal := if h : n < 8192 then f ⟨n, h⟩ else 0

/-- The running sum within a chunk of 64 rows. -/
def chunkSum (f : Fin 8192 → EReal) (R : Fin 8192) : EReal := ∑ n ∈ Finset.range (R.val % 64 + 1), rowN f (64 * (R.val / 64) + n)

/-- The logistic of column `4096 + h`. -/
def betaAt (x : Fin 8192 → Fin 1024 → EReal) (w : Fin 1024 → Fin 4112 → EReal) (h : Fin 8) (R : Fin 8192) : EReal :=
  Ideal.logistic (proj x w ⟨4096 + h.val, by omega⟩ R)

/-- The decay's logarithm of head `h` at row `R`. -/
def decayAt (x : Fin 8192 → Fin 1024 → EReal) (w : Fin 1024 → Fin 4112 → EReal) (a d : Fin 8 → EReal) (h : Fin 8) (R : Fin 8192) : EReal :=
  decay (a h) (proj x w ⟨4104 + h.val, by omega⟩ R + d h)

/-- A query's entry. -/
def qAt (x : Fin 8192 → Fin 1024 → EReal) (w : Fin 1024 → Fin 4112 → EReal) (cw : Fin 4 → Fin 3072 → EReal) (R : Fin 8192) (h : Fin 8) (l : Fin 128) : EReal :=
  l2 (fun l => act3 x w cw (part 0 (hcol h l)) R) l * Ideal.ofBits .f32 0x3DB504F3#32

/-- A key's entry. -/
def kAt (x : Fin 8192 → Fin 1024 → EReal) (w : Fin 1024 → Fin 4112 → EReal) (cw : Fin 4 → Fin 3072 → EReal) (R : Fin 8192) (h : Fin 8) (l : Fin 128) : EReal :=
  l2 (fun l => act3 x w cw (part 1 (hcol h l)) R) l

/-- The head of a column. -/
def headOf (c : Fin 1024) : Fin 8 := ⟨c.val / 128, by omega⟩

/-- Its place in the head. -/
def laneOf (c : Fin 1024) : Fin 128 := ⟨c.val % 128, by omega⟩

/-- A column is its place in its head. -/
theorem hcol_of (c : Fin 1024) : hcol (headOf c) (laneOf c) = c := Fin.ext (by show 128 * (c.val / 128) + c.val % 128 = c.val; omega)

end Cert.Spec

end
-- ==== Proof.ProjRead.lean ====
module

public import proofs.«01_k».proof.Proof.TailRead
public import proofs.«01_k».proof.Proof.Vocab3
public import proofs.«01_k».proof.Proof.Spec3
public import Idealize.ShloMosaic.Lib.KernelVsHost

/-! The projection kernel's vocabulary read at a row and a column. -/

@[expose] public section

noncomputable section

namespace Cert.Tile3

open Cert.Tile Cert.Spec Idealize.ShloMosaic Idealize.ShloMosaic.TcCoe Idealize.ShloMosaic.Pointwise

/-- A loaded piece of the weights at an entry. -/
theorem wCols_apply (x1 : Vec Ideal T1x1024x3072 .bf16) (q : ℕ) (hq : q + 256 ≤ 3072) (k : Fin 1024) (c : Fin 256) :
    wCols x1 q hq (ix3 0 k c) = x1 (ix3 0 k ⟨q + c.val, by omega⟩) := by
  refine ld_at x1 _ _ _ _ _ fun a => ?_
  match a with
  | ⟨0, _⟩ => rfl
  | ⟨1, _⟩ => exact (Nat.zero_add _).symm
  | ⟨2, _⟩ => rfl

/-- A loaded piece of the gate's weights at an entry. -/
theorem zCols_apply (x2 : Vec Ideal T1x1024x1024 .bf16) (q : ℕ) (hq : q + 256 ≤ 1024) (k : Fin 1024) (c : Fin 256) :
    zCols x2 q hq (ix3 0 k c) = x2 (ix3 0 k ⟨q + c.val, by omega⟩) := by
  refine ld_at x2 _ _ _ _ _ fun a => ?_
  match a with
  | ⟨0, _⟩ => rfl
  | ⟨1, _⟩ => exact (Nat.zero_add _).symm
  | ⟨2, _⟩ => rfl

/-- A loaded piece of a spreading matrix at an entry. -/
theorem eCols_apply (x8 : Vec Ideal T128x1024 .bf16) (q : ℕ) (hq : q + 256 ≤ 1024) (k : Fin 128) (c : Fin 256) :
    eCols x8 q hq (ix2 k c) = x8 (ix2 k ⟨q + c.val, by omega⟩) := by
  refine ld_at x8 _ _ _ _ _ fun a => ?_
  match a with
  | ⟨0, _⟩ => exact (Nat.zero_add _).symm
  | ⟨1, _⟩ => rfl

/-- A loaded tap at an entry. -/
theorem tapRow_apply (x3 : Vec Ideal T1x4x3072 .f32) (j q : ℕ) (hj : j < 4) (hq : q + 256 ≤ 3072) (c : Fin 256) :
    tapRow x3 j q hj hq (ix3 0 0 c) = x3 (ix3 0 ⟨j, hj⟩ ⟨q + c.val, by omega⟩) := by
  refine ld_at x3 _ _ _ _ _ fun a => ?_
  match a with
  | ⟨0, _⟩ => rfl
  | ⟨1, _⟩ => rfl
  | ⟨2, _⟩ => rfl

/-- A loaded carried row at an entry. -/
theorem carRow_apply (C : Vec Ideal T3x8x1024 .f32) (p q : ℕ) (hp : p < 3) (hq : q + 256 ≤ 1024) (i : Fin 8) (c : Fin 256) :
    carRow C p q hp hq (ix3 0 i c) = C (ix3 ⟨p, hp⟩ i ⟨q + c.val, by omega⟩) := by
  refine ld_at C _ _ _ _ _ fun a => ?_
  match a with
  | ⟨0, _⟩ => rfl
  | ⟨1, _⟩ => exact (Nat.zero_add _).symm
  | ⟨2, _⟩ => rfl

/-- The narrowed tile at an entry. -/
theorem xbK_apply (x0 : Vec Ideal T1x512x1024 .f32) (r : Fin 512) (k : Fin 1024) : xbK x0 (ix2 r k) = x0 (ix3 0 r k) := by
  pointwise [xbK]

/-- Rows of a narrowed tile at an entry. -/
theorem rows_apply (X : FVec Ideal T512x1024 .bf16) (o : ℕ) (ho : o + 256 ≤ 512) (r : Fin 256) (k : Fin 1024) :
    extractStridedSlice T256x1024 ![o, 0] X (rows1024 o ho) (ix2 r k) = X (ix2 ⟨o + r.val, by omega⟩ k) := by
  refine extractStridedSlice_apply ![o, 0] X _ _ _ fun a => ?_
  match a with
  | ⟨0, _⟩ => rfl
  | ⟨1, _⟩ => exact (Nat.zero_add _).symm

/-- A product of a tile with loaded weights at an entry. -/
theorem dot_read (y : FVec Ideal T256x1024 .bf16) (w : Vec Ideal T1x1024x256 .bf16) (r c : Fin 256) :
    matmul (φ₂ := .bf16) (DotDims.plain 256 1024 256) none y (shapeCast T1024x256 w (by decide)) (constant T256x256 .f32 0x00000000#32) (ix2 r c) = ∑ k, y (ix2 r k) * w (ix3 0 k c) := by
  pointwise

/-- A product of rows of the tile at an entry. -/
theorem projK_apply (x0 : Vec Ideal T1x512x1024 .f32) (w : Vec Ideal T1x1024x256 .bf16) (o : ℕ) (ho : o + 256 ≤ 512) (r c : Fin 256) :
    projK x0 w o ho (ix2 r c) = ∑ k, x0 (ix3 0 ⟨o + r.val, by omega⟩ k) * w (ix3 0 k c) := by
  refine (dot_read _ w r c).trans (Finset.sum_congr rfl fun k _ => ?_)
  rw [rows_apply (xbK x0) o ho r k, xbK_apply]

/-- The carried rows as eight rows. -/
theorem eight_read (C : Vec Ideal T1x8x256 .f32) (i : Fin 8) (c : Fin 256) : shapeCast T8x256 C (by decide) (ix2 i c) = C (ix3 0 i c) := by
  pointwise

/-- The sub-tile with the eight rows before it, at an entry. -/
theorem extK_apply (C : Vec Ideal T1x8x256 .f32) (P : FVec Ideal T256x256 .f32) (f : ℕ → EReal) (c : Fin 256) (hC : ∀ i : Fin 8, C (ix3 0 i c) = f i.val)
    (hP : ∀ r : Fin 256, P (ix2 r c) = f (8 + r.val)) (R : Fin 264) : extK C P (ix2 R c) = f R.val := by
  unfold extK
  by_cases h : R.val < 8
  · refine (concatenate_apply_piece (t := T264x256) 0 _ _ _ 0 (by show 0 < 2; omega) T8x256 (shapeCast T8x256 C (by decide)) rfl rfl 0 rfl (ix2 ⟨R.val, h⟩ c) (fun b hb => ?_) (by show 0 + R.val = R.val; omega)).trans ?_
    · match b with
      | ⟨0, _⟩ => exact absurd rfl hb
      | ⟨1, _⟩ => rfl
    · rw [eight_read, hC]
  · refine (concatenate_apply_piece (t := T264x256) 0 _ _ _ 1 (by show 1 < 2; omega) T256x256 P rfl rfl 8 rfl (ix2 ⟨R.val - 8, by omega⟩ c) (fun b hb => ?_) (by show 8 + (R.val - 8) = R.val; omega)).trans ?_
    · match b with
      | ⟨0, _⟩ => exact absurd rfl hb
      | ⟨1, _⟩ => rfl
    · rw [hP]
      exact congrArg f (by show 8 + (R.val - 8) = R.val; omega)

/-- Rows `n` earlier, at an entry. -/
theorem backK_apply (n : BitVec 32) (hn : n.toNat ≤ 8) (C : Vec Ideal T1x8x256 .f32) (P : FVec Ideal T256x256 .f32) (f : ℕ → EReal) (c : Fin 256) (hC : ∀ i : Fin 8, C (ix3 0 i c) = f i.val)
    (hP : ∀ r : Fin 256, P (ix2 r c) = f (8 + r.val)) (r : Fin 256) : backK n C P (ix2 r c) = f (8 + r.val - n.toNat) := by
  unfold backK
  refine (extractStridedSlice_apply (t := T256x256) ![8, 0] _ _ (ix2 r c) (ix2 ⟨8 + r.val, by omega⟩ c) fun a => ?_).trans ?_
  · match a with
    | ⟨0, _⟩ => rfl
    | ⟨1, _⟩ => exact (Nat.zero_add _).symm
  refine (Idealize.ShloMosaic.dynamicRotate_apply (s := T264x256) 0 n _ _ (ix2 ⟨8 + r.val, by omega⟩ c) (ix2 ⟨8 + r.val - n.toNat, by omega⟩ c) fun b => ?_).trans ?_
  · match b with
    | ⟨0, _⟩ =>
      show 8 + r.val - n.toNat = (8 + r.val + 264 - n.toNat % 264) % 264
      rw [Nat.mod_eq_of_lt (by omega : n.toNat < 264)]
      omega
    | ⟨1, _⟩ => rfl
  · exact extK_apply C P f c hC hP _

/-- The convolution's sum at an entry. -/
theorem conv_read (P b3 b2 b1 : FVec Ideal T256x256 .f32) (w0 w1 w2 w3 : Vec Ideal T1x1x256 .f32) (r c : Fin 256) :
    addf (addf (addf (mulf P (tapK w3)) (mulf b3 (tapK w0))) (mulf b2 (tapK w1))) (mulf b1 (tapK w2)) (ix2 r c)
      = P (ix2 r c) * w3 (ix3 0 0 c) + b3 (ix2 r c) * w0 (ix3 0 0 c) + b2 (ix2 r c) * w1 (ix3 0 0 c) + b1 (ix2 r c) * w2 (ix3 0 0 c) := by
  pointwise [tapK]

/-- A tile by its logistic at an entry. -/
theorem swish_read (y : FVec Ideal T256x256 .f32) (r c : Fin 256) : mulf y (logistic y) (ix2 r c) = swish (y (ix2 r c)) := by
  pointwise [swish]

/-- The activation of a sub-tile at an entry. -/
theorem actK_apply (C : Vec Ideal T1x8x256 .f32) (P : FVec Ideal T256x256 .f32) (x3 : Vec Ideal T1x4x3072 .f32) (q : ℕ) (hq : q + 256 ≤ 3072) (f : ℕ → EReal) (n : ℕ) (c : Fin 256)
    (hC : ∀ i : Fin 8, C (ix3 0 i c) = f (n + i.val)) (hP : ∀ r : Fin 256, P (ix2 r c) = f (n + 8 + r.val)) (r : Fin 256) :
    actK C P x3 q hq (ix2 r c) = swish (conv4 f (fun j => x3 (ix3 0 j ⟨q + c.val, by omega⟩)) (n + r.val)) := by
  have hP' : ∀ r : Fin 256, P (ix2 r c) = (fun i => f (n + i)) (8 + r.val) := fun r => (hP r).trans (congrArg f (by omega))
  unfold actK convK
  rw [swish_read, conv_read, tapRow_apply, tapRow_apply, tapRow_apply, tapRow_apply, hP r,
    backK_apply 3#32 (by decide) C P (fun i => f (n + i)) c hC hP', backK_apply 2#32 (by decide) C P (fun i => f (n + i)) c hC hP', backK_apply 1#32 (by decide) C P (fun i => f (n + i)) c hC hP']
  refine congrArg swish ?_
  unfold conv4
  have e3 : n + (8 + r.val - (3#32).toNat) = n + r.val + 5 := by show n + (8 + r.val - 3) = _; omega
  have e2 : n + (8 + r.val - (2#32).toNat) = n + r.val + 6 := by show n + (8 + r.val - 2) = _; omega
  have e1 : n + (8 + r.val - (1#32).toNat) = n + r.val + 7 := by show n + (8 + r.val - 1) = _; omega
  rw [e3, e2, e1, show n + 8 + r.val = n + r.val + 8 by omega]
  show f (n + r.val + 8) * x3 (ix3 0 3 _) + f (n + r.val + 5) * x3 (ix3 0 0 _) + f (n + r.val + 6) * x3 (ix3 0 1 _) + f (n + r.val + 7) * x3 (ix3 0 2 _) = _
  rw [add_comm, add_comm (f (n + r.val + 8) * _), add_right_comm, ← add_assoc, add_comm, add_assoc]
  abel

/-- The last rows of a sub-tile at an entry. -/
theorem lastK_apply (P : FVec Ideal T256x256 .f32) (i : Fin 8) (c : Fin 256) : lastK P (ix3 0 i c) = P (ix2 ⟨248 + i.val, by omega⟩ c) := by
  pointwise [lastK]

/-- A head of a sub-tile over the root of its squares' sum, at an entry. -/
theorem headK_apply (A : FVec Ideal T256x256 .f32) (h : ℕ) (hh : h + 128 ≤ 256) (s : BitVec 32) (r : Fin 256) (l : Fin 128) :
    headK A h hh s (ix3 0 r l) = l2 (fun l => A (ix2 r ⟨h + l.val, by omega⟩)) l * Ideal.ofBits .f32 s := by
  have hx : ∀ l : Fin 128, A (ix2 r ⟨h + l.val, by omega⟩) = extractStridedSlice T256x128 ![0, h] A (headCols h hh) (ix2 r l) := fun l => by
    refine (extractStridedSlice_apply ![0, h] A _ _ _ fun a => ?_).symm
    match a with
    | ⟨0, _⟩ => exact (Nat.zero_add _).symm
    | ⟨1, _⟩ => rfl
  unfold l2
  simp only [hx]
  rw [mul_assoc]
  unfold headK
  generalize extractStridedSlice T256x128 ![0, h] A (headCols h hh) = y
  pointwise

/-- A sub-tile as stored at an entry. -/
theorem wideK_apply (A : FVec Ideal T256x256 .f32) (r c : Fin 256) : wideK A (ix3 0 r c) = A (ix2 r c) := by
  pointwise [wideK]

/-- The small projections at an entry. -/
theorem baK_apply (x0 : Vec Ideal T1x512x1024 .f32) (x4 : Vec Ideal T1024x128 .bf16) (r : Fin 512) (l : Fin 128) :
    baK x0 x4 (ix2 r l) = ∑ k, x0 (ix3 0 r k) * x4 (ix2 k l) := by
  pointwise [baK, xbK]

/-- Their logistic at an entry. -/
theorem betaK_apply (x0 : Vec Ideal T1x512x1024 .f32) (x4 : Vec Ideal T1024x128 .bf16) (r : Fin 512) (l : Fin 128) :
    betaK x0 x4 (ix2 r l) = Ideal.logistic (∑ k, x0 (ix3 0 r k) * x4 (ix2 k l)) := by
  rw [← baK_apply]
  unfold betaK
  generalize baK x0 x4 = y
  pointwise

/-- The decay's logarithm at an entry. -/
theorem gK_apply (x0 : Vec Ideal T1x512x1024 .f32) (x4 : Vec Ideal T1024x128 .bf16) (x5 x6 : Vec Ideal T1x128 .f32) (r : Fin 512) (l : Fin 128) :
    gK x0 x4 x5 x6 (ix2 r l) = decay (x5 (ix2 0 l)) ((∑ k, x0 (ix3 0 r k) * x4 (ix2 k l)) + x6 (ix2 0 l)) := by
  rw [← baK_apply]
  unfold gK
  generalize baK x0 x4 = y
  unfold decay softplus
  rw [← zero_sub (Ideal.exp (x5 (ix2 0 l))), ← zero_sub (max (y (ix2 r l) + x6 (ix2 0 l)) _)]
  pointwise
  rfl

/-- A product of a square matrix with a tile, at an entry. -/
theorem tri_read (x7 : Vec Ideal T512x512 .bf16) (u : FVec Ideal T512x128 .bf16) (r : Fin 512) (l : Fin 128) :
    matmul (φ₁ := .bf16) (DotDims.plain 512 512 128) none (shapeCast T512x512 x7 (by decide)) u (constant T512x128 .f32 0x00000000#32) (ix2 r l) = ∑ k, x7 (ix2 r k) * u (ix2 k l) := by
  pointwise

/-- The narrowed value over the extended reals. -/
theorem hiK_apply (g : FVec Ideal T512x128 .f32) (i : T512x128.Idx) : hiK g i = g i := rfl

/-- What is left out over the extended reals. -/
theorem loK_apply (g : FVec Ideal T512x128 .f32) (i : T512x128.Idx) : loK g i = g i - g i := rfl

/-- The running sums at an entry. -/
theorem gcK_apply (g : FVec Ideal T512x128 .f32) (x7 : Vec Ideal T512x512 .bf16) (r : Fin 512) (l : Fin 128) :
    gcK g x7 (ix2 r l) = (∑ k, x7 (ix2 r k) * g (ix2 k l)) + ∑ k, x7 (ix2 r k) * (g (ix2 k l) - g (ix2 k l)) := by
  show matmul (φ₁ := .bf16) (DotDims.plain 512 512 128) none (shapeCast T512x512 x7 (by decide)) (hiK g) (constant T512x128 .f32 0x00000000#32) (ix2 r l)
    + matmul (φ₁ := .bf16) (DotDims.plain 512 512 128) none (shapeCast T512x512 x7 (by decide)) (loK g) (constant T512x128 .f32 0x00000000#32) (ix2 r l) = _
  rw [tri_read, tri_read]
  rfl

/-- Rows of a lane tile spread, at an entry. -/
theorem spreadK_apply (u : FVec Ideal T512x128 .bf16) (o : ℕ) (ho : o + 256 ≤ 512) (e : Vec Ideal T128x256 .bf16) (r c : Fin 256) :
    spreadK u o ho e (ix2 r c) = ∑ k, u (ix2 ⟨o + r.val, by omega⟩ k) * e (ix2 k c) := by
  have hx : ∀ k, u (ix2 ⟨o + r.val, by omega⟩ k) = extractStridedSlice T256x128 ![o, 0] u (rows128 o ho) (ix2 r k) := fun k => by
    refine (extractStridedSlice_apply ![o, 0] u _ _ _ fun a => ?_).symm
    match a with
    | ⟨0, _⟩ => rfl
    | ⟨1, _⟩ => exact (Nat.zero_add _).symm
  simp only [hx]
  unfold spreadK
  generalize extractStridedSlice T256x128 ![o, 0] u (rows128 o ho) = y
  pointwise

/-- The running sums spread, at an entry. -/
theorem gcOut_apply (x0 : Vec Ideal T1x512x1024 .f32) (x4 : Vec Ideal T1024x128 .bf16) (x5 x6 : Vec Ideal T1x128 .f32) (x7 : Vec Ideal T512x512 .bf16) (x9 : Vec Ideal T128x1024 .bf16) (o q : ℕ)
    (ho : o + 256 ≤ 512) (hq : q + 256 ≤ 1024) (r c : Fin 256) :
    gcOut x0 x4 x5 x6 x7 x9 o q ho hq (ix3 0 r c)
      = (∑ k, gcK (gK x0 x4 x5 x6) x7 (ix2 ⟨o + r.val, by omega⟩ k) * x9 (ix2 k ⟨q + c.val, by omega⟩))
        + ∑ k, (gcK (gK x0 x4 x5 x6) x7 (ix2 ⟨o + r.val, by omega⟩ k) - gcK (gK x0 x4 x5 x6) x7 (ix2 ⟨o + r.val, by omega⟩ k)) * x9 (ix2 k ⟨q + c.val, by omega⟩) := by
  have h : gcOut x0 x4 x5 x6 x7 x9 o q ho hq (ix3 0 r c)
      = spreadK (hiK (gcK (gK x0 x4 x5 x6) x7)) o ho (eCols x9 q hq) (ix2 r c) + spreadK (loK (gcK (gK x0 x4 x5 x6) x7)) o ho (eCols x9 q hq) (ix2 r c) := by
    unfold gcOut
    generalize spreadK (hiK (gcK (gK x0 x4 x5 x6) x7)) o ho (eCols x9 q hq) = a
    generalize spreadK (loK (gcK (gK x0 x4 x5 x6) x7)) o ho (eCols x9 q hq) = b
    pointwise
  rw [h, spreadK_apply, spreadK_apply]
  simp only [eCols_apply, hiK_apply, loK_apply]

end Cert.Tile3

end
-- ==== Proof.Sums3.lean ====
module

public import proofs.«01_k».proof.Proof.Spec3

/-! Sums of the projection over the extended reals: decays are never positive, so a sum of them plus what narrowing
leaves out is the sum itself, and a masked sum over a tile is a chunk's running sum. -/

@[expose] public section

noncomputable section

namespace Cert.Spec

open Idealize.ShloMosaic

/-- A value that is not positive infinity, plus the difference of itself with itself, is itself. -/
theorem add_sub_self' (g : EReal) (h : g ≠ ⊤) : g + (g - g) = g := by
  induction g using EReal.rec with
  | bot => simp
  | top => exact absurd rfl h
  | coe r => rw [← EReal.coe_sub, ← EReal.coe_add]; congr 1; ring

/-- The exponential is not negative. -/
theorem exp_nonneg (t : EReal) : 0 ≤ Ideal.exp t := by
  induction t using EReal.rec with
  | bot => exact le_refl _
  | top => exact le_top
  | coe r => exact EReal.coe_nonneg.2 (Real.exp_pos r).le

/-- The logarithm of one and a value that is not negative is not negative. -/
theorem log1p_nonneg (t : EReal) (h : 0 ≤ t) : 0 ≤ Ideal.log1p t := by
  induction t using EReal.rec with
  | bot => exact absurd h (by simp)
  | top =>
    show 0 ≤ Ideal.log (1 + ⊤)
    rw [EReal.add_top_of_ne_bot (by exact EReal.coe_ne_bot 1)]
    exact le_top
  | coe r =>
    have hr : 0 ≤ r := EReal.coe_nonneg.1 h
    show 0 ≤ Ideal.log (((1 : ℝ) : EReal) + (r : EReal))
    rw [← EReal.coe_add]
    show (0 : EReal) ≤ if 1 + r ≤ 0 then ⊥ else ((Real.log (1 + r) : ℝ) : EReal)
    rw [if_neg (by linarith)]
    exact EReal.coe_nonneg.2 (Real.log_nonneg (by linarith))

/-- A decay's logarithm is not positive. -/
theorem decay_nonpos (a t : EReal) : decay a t ≤ 0 := by
  unfold decay
  have h : 0 ≤ Ideal.exp a * softplus t := mul_nonneg (exp_nonneg a) (add_nonneg (le_max_right _ _) (log1p_nonneg _ (exp_nonneg _)))
  rw [EReal.neg_mul]
  have := EReal.neg_le_neg_iff.2 h
  rwa [neg_zero] at this

/-- Nor is it positive infinity. -/
theorem ne_top_of_nonpos {g : EReal} (h : g ≤ 0) : g ≠ ⊤ := fun e => by rw [e] at h; exact absurd h (by simp)

/-- A masked sum, and the masked sum of what narrowing leaves out. -/
theorem masked_sum {n : ℕ} (P : Fin n → Prop) [DecidablePred P] (g : Fin n → EReal) (hg : ∀ k, g k ≤ 0) :
    (∑ k, (if P k then 1 else 0 : EReal) * g k) + ∑ k, (if P k then 1 else 0 : EReal) * (g k - g k) = ∑ k, if P k then g k else 0 := by
  rw [← Finset.sum_add_distrib]
  refine Finset.sum_congr rfl fun k _ => ?_
  by_cases h : P k
  · rw [if_pos h, if_pos h, one_mul, one_mul, add_sub_self' _ (ne_top_of_nonpos (hg k))]
  · rw [if_neg h, if_neg h, zero_mul, zero_mul, add_zero]

/-- A sum against one lane. -/
theorem lane_sum {n : ℕ} (P : Fin n → Prop) [DecidablePred P] (g : Fin n → EReal) (k0 : Fin n) (h : ∀ k, P k ↔ k = k0) : ∑ k, g k * (if P k then 1 else 0 : EReal) = g k0 := by
  rw [Finset.sum_eq_single k0]
  · rw [if_pos ((h k0).2 rfl), mul_one]
  · intro k _ hk
    rw [if_neg fun q => hk ((h k).1 q), mul_zero]
  · exact fun q => absurd (Finset.mem_univ _) q

/-- The masked sum of a tile's row is its chunk's running sum. -/
theorem chunk_of_mask (f : Fin 8192 → EReal) (T : Fin 16) (r : Fin 512) :
    (∑ k : Fin 512, if k.val ≤ r.val ∧ r.val / 64 = k.val / 64 then f ⟨512 * T.val + k.val, by omega⟩ else 0) = chunkSum f ⟨512 * T.val + r.val, by omega⟩ := by
  rw [← Finset.sum_filter]
  unfold chunkSum
  refine Finset.sum_bij (fun k _ => k.val - 64 * (r.val / 64)) ?_ ?_ ?_ ?_
  · intro k hk
    have h := (Finset.mem_filter.1 hk).2
    refine Finset.mem_range.2 ?_
    show k.val - 64 * (r.val / 64) < (512 * T.val + r.val) % 64 + 1
    omega
  · intro k hk k' hk' e
    have h := (Finset.mem_filter.1 hk).2
    have h' := (Finset.mem_filter.1 hk').2
    have e : k.val - 64 * (r.val / 64) = k'.val - 64 * (r.val / 64) := e
    exact Fin.ext (by omega)
  · intro n hn
    have hn : n < (512 * T.val + r.val) % 64 + 1 := Finset.mem_range.1 hn
    refine ⟨⟨64 * (r.val / 64) + n, by omega⟩, Finset.mem_filter.2 ⟨Finset.mem_univ _, ?_⟩, ?_⟩
    · show 64 * (r.val / 64) + n ≤ r.val ∧ r.val / 64 = (64 * (r.val / 64) + n) / 64
      omega
    · show 64 * (r.val / 64) + n - 64 * (r.val / 64) = n
      omega
  · intro k hk
    have h := (Finset.mem_filter.1 hk).2
    have e : 64 * ((512 * T.val + r.val) / 64) + (k.val - 64 * (r.val / 64)) = 512 * T.val + k.val := by omega
    show _ = rowN f (64 * ((512 * T.val + r.val) / 64) + (k.val - 64 * (r.val / 64)))
    rw [e]
    unfold rowN
    rw [dif_pos (show 512 * T.val + k.val < 8192 by omega)]

/-- A chunk's running sum of values that are not positive is not positive. -/
theorem chunk_nonpos (f : Fin 8192 → EReal) (hf : ∀ R, f R ≤ 0) (R : Fin 8192) : chunkSum f R ≤ 0 := by
  refine Finset.sum_nonpos fun n _ => ?_
  unfold rowN
  split
  · exact hf _
  · exact le_refl _

/-- A row counted with eight before it. -/
theorem before_row (f : Fin 8192 → EReal) (R : Fin 8192) (n : ℕ) (h : n = R.val + 8) : before f n = f R := by
  subst h
  exact (dif_pos (by omega)).trans (congrArg f (Fin.ext (by show R.val + 8 - 8 = R.val; omega)))

/-- Before the sequence there are zeros. -/
theorem before_zero (f : Fin 8192 → EReal) (n : ℕ) (h : n < 8) : before f n = 0 := dif_neg (by omega)

end Cert.Spec

end
-- ==== Proof.TileRead3.lean ====
module

public import proofs.«01_k».proof.Proof.Pieces3
public import proofs.«01_k».proof.Proof.ProjRead
public import proofs.«01_k».proof.Proof.Sums3

/-! What the projection kernel leaves of a tile, at an entry, from what its staged blocks hold. -/

@[expose] public section

noncomputable section

namespace Cert.Tile3

open Cert.Tile Cert.Spec Cert.Kernel3Ideal Cert.Kernel3Ideal.Gen Idealize.ShloMosaic Idealize.ShloMosaic.TcCoe Idealize.ShloMosaic.Pointwise

/-- What the staged blocks of tile `T` hold: its rows, the weights, the taps, the lanes of the small projections, the triangle and the two spreading matrices. -/
structure Staged (x : Fin 8192 → Fin 1024 → EReal) (w : Fin 1024 → Fin 4112 → EReal) (cw : Fin 4 → Fin 3072 → EReal) (a d : Fin 8 → EReal) (T : Fin 16)
    (x0 : Vec Ideal S1x512x1024 .f32) (x1 : Vec Ideal S1x1024x3072 .bf16) (x2 : Vec Ideal S1x1024x1024 .bf16) (x3 : Vec Ideal S1x4x3072 .f32) (x4 : Vec Ideal S1024x128 .bf16)
    (x5 x6 : Vec Ideal S1x128 .f32) (x7 : Vec Ideal S512x512 .bf16) (x8 x9 : Vec Ideal S128x1024 .bf16) : Prop where
  h0 : ∀ (r : Fin 512) (k : Fin 1024), x0 (ix3 0 r k) = x ⟨512 * T.val + r.val, by omega⟩ k
  h1 : ∀ (k : Fin 1024) (c : Fin 3072), x1 (ix3 0 k c) = w k ⟨c.val, by omega⟩
  h2 : ∀ (k : Fin 1024) (c : Fin 1024), x2 (ix3 0 k c) = w k ⟨3072 + c.val, by omega⟩
  h3 : ∀ (j : Fin 4) (c : Fin 3072), x3 (ix3 0 j c) = cw j c
  h4 : ∀ (k : Fin 1024) (l : Fin 128) (h : l.val < 16), x4 (ix2 k l) = w k ⟨4096 + l.val, by omega⟩
  h5 : ∀ h : Fin 8, x5 (ix2 0 ⟨8 + h.val, by omega⟩) = a h
  h6 : ∀ h : Fin 8, x6 (ix2 0 ⟨8 + h.val, by omega⟩) = d h
  h7 : ∀ r k : Fin 512, x7 (ix2 r k) = (if k.val ≤ r.val ∧ r.val / 64 = k.val / 64 then 1 else 0 : EReal)
  h8 : ∀ (l : Fin 128) (k : Fin 1024), x8 (ix2 l k) = (if l.val = k.val / 128 then 1 else 0 : EReal)
  h9 : ∀ (l : Fin 128) (k : Fin 1024), x9 (ix2 l k) = (if l.val = k.val / 128 + 8 then 1 else 0 : EReal)

variable {x : Fin 8192 → Fin 1024 → EReal} {w : Fin 1024 → Fin 4112 → EReal} {cw : Fin 4 → Fin 3072 → EReal} {a d : Fin 8 → EReal} {T : Fin 16}
  {x0 : Vec Ideal S1x512x1024 .f32} {x1 : Vec Ideal S1x1024x3072 .bf16} {x2 : Vec Ideal S1x1024x1024 .bf16} {x3 : Vec Ideal S1x4x3072 .f32} {x4 : Vec Ideal S1024x128 .bf16} {x5 x6 : Vec Ideal S1x128 .f32} {x7 : Vec Ideal S512x512 .bf16} {x8 x9 : Vec Ideal S128x1024 .bf16}
  (H : Staged x w cw a d T x0 x1 x2 x3 x4 x5 x6 x7 x8 x9)

include H

/-- A product of rows of the tile by staged columns is rows of the projection. -/
theorem proj_tile (W : Vec Ideal T1x1024x256 .bf16) (C : Fin 4112) (c : Fin 256) (hW : ∀ k, W (ix3 0 k c) = w k C) (o : ℕ) (ho : o + 256 ≤ 512) (r : Fin 256) :
    projK x0 W o ho (ix2 r c) = proj x w C ⟨512 * T.val + (o + r.val), by omega⟩ := by
  rw [projK_apply]
  exact Finset.sum_congr rfl fun k _ => by rw [H.h0, hW]

/-- At the columns of the three parts. -/
theorem proj_cols (s : ℕ) (hs : s + 256 ≤ 3072) (o : ℕ) (ho : o + 256 ≤ 512) (r c : Fin 256) :
    projK x0 (wCols x1 s hs) o ho (ix2 r c) = proj x w ⟨s + c.val, by omega⟩ ⟨512 * T.val + (o + r.val), by omega⟩ :=
  proj_tile H _ ⟨s + c.val, by omega⟩ c (fun k => (wCols_apply x1 s hs k c).trans (H.h1 k ⟨s + c.val, by omega⟩)) o ho r

/-- A sub-tile's activation, the eight rows before it given. -/
theorem act_tile (C : Vec Ideal T1x8x256 .f32) (s : ℕ) (hs : s + 256 ≤ 3072) (o : ℕ) (ho : o + 256 ≤ 512) (c : Fin 256)
    (hC : ∀ i : Fin 8, C (ix3 0 i c) = before (proj x w ⟨s + c.val, by omega⟩) (512 * T.val + o + i.val)) (cc : Fin 3072) (hcc : cc.val = s + c.val) (r : Fin 256) :
    actK C (projK x0 (wCols x1 s hs) o ho) x3 s hs (ix2 r c) = act3 x w cw cc ⟨512 * T.val + (o + r.val), by omega⟩ := by
  rw [show cc = ⟨s + c.val, by omega⟩ from Fin.ext hcc]
  rw [actK_apply C _ x3 s hs (before (proj x w ⟨s + c.val, by omega⟩)) (512 * T.val + o) c hC
    (fun r => (proj_cols H s hs o ho r c).trans (before_row _ _ _ (by show 512 * T.val + o + 8 + r.val = 512 * T.val + (o + r.val) + 8; omega)).symm) r]
  have e : (fun j => x3 (ix3 0 j ⟨s + c.val, by omega⟩)) = fun j => cw j ⟨s + c.val, by omega⟩ := funext fun j => H.h3 j _
  rw [e]
  show _ = swish (conv4 _ _ (512 * T.val + (o + r.val)))
  rw [show 512 * T.val + o + r.val = 512 * T.val + (o + r.val) from by omega]

/-- The second sub-tile's activation. -/
theorem actB_tile (p : Fin 3) (q s : ℕ) (hq : q + 256 ≤ 1024) (hs : s + 256 ≤ 3072) (e : s = 1024 * p.val + q) (r c : Fin 256) :
    actB x0 x1 x3 s hs (ix2 r c) = act3 x w cw (part p ⟨q + c.val, by omega⟩) ⟨512 * T.val + (256 + r.val), by omega⟩ := by
  refine act_tile H _ s hs 256 (by decide) c (fun i => ?_) _ (by show 1024 * p.val + (q + c.val) = s + c.val; omega) r
  rw [lastK_apply, proj_cols H s hs 0 (by decide)]
  exact (before_row _ _ _ (by show 512 * T.val + 256 + i.val = 512 * T.val + (0 + (248 + i.val)) + 8; omega)).symm

/-- The first sub-tile's activation. -/
theorem actA_tile {C : Vec Ideal S3x8x1024 .f32} (hC : ∀ (p : Fin 3) (i : Fin 8) (c : Fin 1024), C (ix3 p i c) = before (proj x w ⟨1024 * p.val + c.val, by omega⟩) (512 * T.val + i.val))
    (p : Fin 3) (q s : ℕ) (hq : q + 256 ≤ 1024) (hs : s + 256 ≤ 3072) (e : s = 1024 * p.val + q) (r c : Fin 256) :
    actA x0 x1 x3 C p.val q s p.isLt hq hs (ix2 r c) = act3 x w cw (part p ⟨q + c.val, by omega⟩) ⟨512 * T.val + (0 + r.val), by omega⟩ := by
  refine act_tile H _ s hs 0 (by decide) c (fun i => ?_) _ (by show 1024 * p.val + (q + c.val) = s + c.val; omega) r
  rw [carRow_apply C p.val q p.isLt hq i c]
  refine (hC p i ⟨q + c.val, by omega⟩).trans ?_
  have e' : (⟨1024 * p.val + (q + c.val), by omega⟩ : Fin 4112) = ⟨s + c.val, by omega⟩ := Fin.ext (by show 1024 * p.val + (q + c.val) = s + c.val; omega)
  exact congrArg (fun C => before (proj x w C) (512 * T.val + i.val)) e'

omit H in
/-- A head of a sub-tile, as an entry of the block it is stored in. -/
theorem head_piece (A : FVec Ideal T256x256 .f32) (p : Fin 3) (o q h s : ℕ) (ho : o + 256 ≤ 512) (hq : q + 256 ≤ 1024) (hh : h + 128 ≤ 256) (es : s = q + h) (hd : s % 128 = 0) (sc : BitVec 32)
    (inb : ∀ a, (![0, o, s] : Fin 3 → ℕ) a + S1x256x128.size a ≤ S1x512x1024.size a)
    (hA : ∀ r c : Fin 256, A (ix2 r c) = act3 x w cw (part p ⟨q + c.val, by omega⟩) ⟨512 * T.val + (o + r.val), by omega⟩) (j : S1x256x128.Idx) :
    headK A h hh sc j = (fun y : S1x512x1024.Idx => l2 (fun l => act3 x w cw (part p (hcol (headOf (y 2)) l)) ⟨512 * T.val + (y 1).val, by have h1 : (y 1).val < 512 := (y 1).isLt; omega⟩) (laneOf (y 2)) * Ideal.ofBits .f32 sc)
      ((Rect.unit (s := S1x512x1024) ![0, o, s] S1x256x128.size inb).emb j) := by
  obtain ⟨r, l, rfl⟩ : ∃ (r : Fin 256) (l : Fin 128), j = ix3 0 r l := ⟨j 1, j 2, by
    funext a
    match a with
    | ⟨0, _⟩ => exact Subsingleton.elim (α := Fin 1) _ _
    | ⟨1, _⟩ => rfl
    | ⟨2, _⟩ => rfl⟩
  have e : (Rect.unit (s := S1x512x1024) ![0, o, s] S1x256x128.size inb).emb (ix3 0 r l) = (ix3 0 ⟨o + r.val, by omega⟩ ⟨s + l.val, by omega⟩ : S1x512x1024.Idx) := by
    funext a
    apply Fin.ext
    match a with
    | ⟨0, _⟩ => rfl
    | ⟨1, _⟩ => show o + 1 * r.val = o + r.val; omega
    | ⟨2, _⟩ => show s + 1 * l.val = s + l.val; omega
  rw [e, headK_apply]
  have el : laneOf ⟨s + l.val, by omega⟩ = l := Fin.ext (by show (s + l.val) % 128 = l.val; omega)
  have eA : (fun l : Fin 128 => A (ix2 r ⟨h + l.val, by omega⟩)) = fun l' => act3 x w cw (part p (hcol (headOf ⟨s + l.val, by omega⟩) l')) ⟨512 * T.val + (o + r.val), by omega⟩ := funext fun l' => by
    rw [hA r ⟨h + l'.val, by omega⟩]
    have ec : (⟨q + (h + l'.val), by omega⟩ : Fin 1024) = hcol (headOf ⟨s + l.val, by omega⟩) l' := Fin.ext (by show q + (h + l'.val) = 128 * ((s + l.val) / 128) + l'.val; omega)
    exact congrArg (fun c => act3 x w cw (part p c) _) ec
  rw [eA]
  show _ = l2 _ (laneOf ⟨s + l.val, by omega⟩) * _
  rw [el]
  rfl

omit H in
/-- A sub-tile, as entries of the block it is stored in. -/
theorem wide_piece {e : EltTy} (A : S1x256x256.Idx → Elt Ideal e) (o s : ℕ) (ho : o + 256 ≤ 512) (hs : s + 256 ≤ 1024) (inb : ∀ a, (![0, o, s] : Fin 3 → ℕ) a + S1x256x256.size a ≤ S1x512x1024.size a)
    (G : Fin 8192 → Fin 1024 → Elt Ideal e) (hA : ∀ r c : Fin 256, A (ix3 0 r c) = G ⟨512 * T.val + (o + r.val), by omega⟩ ⟨s + c.val, by omega⟩) (j : S1x256x256.Idx) :
    A j = (fun y : S1x512x1024.Idx => G ⟨512 * T.val + (y 1).val, by have h1 : (y 1).val < 512 := (y 1).isLt; omega⟩ (y 2)) ((Rect.unit (s := S1x512x1024) ![0, o, s] S1x256x256.size inb).emb j) := by
  obtain ⟨r, l, rfl⟩ : ∃ (r : Fin 256) (l : Fin 256), j = ix3 0 r l := ⟨j 1, j 2, by
    funext a
    match a with
    | ⟨0, _⟩ => exact Subsingleton.elim (α := Fin 1) _ _
    | ⟨1, _⟩ => rfl
    | ⟨2, _⟩ => rfl⟩
  have e : (Rect.unit (s := S1x512x1024) ![0, o, s] S1x256x256.size inb).emb (ix3 0 r l) = (ix3 0 ⟨o + r.val, by omega⟩ ⟨s + l.val, by omega⟩ : S1x512x1024.Idx) := by
    funext a
    apply Fin.ext
    match a with
    | ⟨0, _⟩ => rfl
    | ⟨1, _⟩ => show o + 1 * r.val = o + r.val; omega
    | ⟨2, _⟩ => show s + 1 * l.val = s + l.val; omega
  rw [e, hA]
  rfl

/-- The gate's columns. -/
theorem z_tile (o q : ℕ) (ho : o + 256 ≤ 512) (hq : q + 256 ≤ 1024) (r c : Fin 256) :
    wideK (projK x0 (zCols x2 q hq) o ho) (ix3 0 r c) = proj x w ⟨3072 + (q + c.val), by omega⟩ ⟨512 * T.val + (o + r.val), by omega⟩ := by
  rw [wideK_apply]
  exact proj_tile H _ ⟨3072 + (q + c.val), by omega⟩ c (fun k => (zCols_apply x2 q hq k c).trans (H.h2 k ⟨q + c.val, by omega⟩)) o ho r

/-- The small projections at a lane that is used. -/
theorem small_tile (r : Fin 512) (l : Fin 128) (hl : l.val < 16) : (∑ k, x0 (ix3 0 r k) * x4 (ix2 k l)) = proj x w ⟨4096 + l.val, by omega⟩ ⟨512 * T.val + r.val, by omega⟩ :=
  Finset.sum_congr rfl fun k _ => by rw [H.h0, H.h4 k l hl]

/-- The steps spread over the columns. -/
theorem beta_tile (o q : ℕ) (ho : o + 256 ≤ 512) (hq : q + 256 ≤ 1024) (r c : Fin 256) :
    wideK (spreadK (betaK x0 x4) o ho (eCols x8 q hq)) (ix3 0 r c) = betaAt x w (headOf ⟨q + c.val, by omega⟩) ⟨512 * T.val + (o + r.val), by omega⟩ := by
  rw [wideK_apply, spreadK_apply]
  have e : ∀ k : Fin 128, eCols x8 q hq (ix2 k c) = (if k.val = (q + c.val) / 128 then 1 else 0 : EReal) := fun k => (eCols_apply x8 q hq k c).trans (H.h8 k ⟨q + c.val, by omega⟩)
  rw [Finset.sum_congr rfl fun k _ => congrArg (fun z => betaK x0 x4 (ix2 ⟨o + r.val, by omega⟩ k) * z) (e k)]
  rw [lane_sum (fun k : Fin 128 => k.val = (q + c.val) / 128) (fun k => betaK x0 x4 (ix2 ⟨o + r.val, by omega⟩ k)) ⟨(q + c.val) / 128, by omega⟩ (fun k => ⟨fun h => Fin.ext h, fun h => by rw [h]⟩)]
  show betaK x0 x4 (ix2 _ _) = _
  rw [betaK_apply, small_tile H _ _ (by show (q + c.val) / 128 < 16; omega)]
  rfl

/-- The decays at a lane that is used. -/
theorem g_tile (h : Fin 8) (r : Fin 512) : gK x0 x4 x5 x6 (ix2 r ⟨8 + h.val, by omega⟩) = decayAt x w a d h ⟨512 * T.val + r.val, by omega⟩ := by
  rw [gK_apply, small_tile H r ⟨8 + h.val, by omega⟩ (by show 8 + h.val < 16; omega), H.h5, H.h6]
  have e : (⟨4096 + (8 + h.val), by omega⟩ : Fin 4112) = ⟨4104 + h.val, by omega⟩ := Fin.ext (by show 4096 + (8 + h.val) = 4104 + h.val; omega)
  exact congrArg (fun C => decay (a h) (proj x w C _ + d h)) e

/-- Their running sums. -/
theorem gc_tile (h : Fin 8) (r : Fin 512) :
    gcK (gK x0 x4 x5 x6) x7 (ix2 r ⟨8 + h.val, by omega⟩) = chunkSum (decayAt x w a d h) ⟨512 * T.val + r.val, by omega⟩ := by
  rw [gcK_apply]
  have e1 : ∀ k : Fin 512, x7 (ix2 r k) * gK x0 x4 x5 x6 (ix2 k ⟨8 + h.val, by omega⟩) = (if k.val ≤ r.val ∧ r.val / 64 = k.val / 64 then 1 else 0 : EReal) * decayAt x w a d h ⟨512 * T.val + k.val, by omega⟩ :=
    fun k => by rw [H.h7, g_tile H]
  have e2 : ∀ k : Fin 512, x7 (ix2 r k) * (gK x0 x4 x5 x6 (ix2 k ⟨8 + h.val, by omega⟩) - gK x0 x4 x5 x6 (ix2 k ⟨8 + h.val, by omega⟩))
      = (if k.val ≤ r.val ∧ r.val / 64 = k.val / 64 then 1 else 0 : EReal) * (decayAt x w a d h ⟨512 * T.val + k.val, by omega⟩ - decayAt x w a d h ⟨512 * T.val + k.val, by omega⟩) :=
    fun k => by rw [H.h7, g_tile H]
  rw [Finset.sum_congr rfl fun k _ => e1 k, Finset.sum_congr rfl fun k _ => e2 k]
  rw [masked_sum (fun k : Fin 512 => k.val ≤ r.val ∧ r.val / 64 = k.val / 64) (fun k => decayAt x w a d h ⟨512 * T.val + k.val, by omega⟩) fun k => decay_nonpos _ _]
  exact chunk_of_mask (decayAt x w a d h) T r

/-- The running sums spread over the columns. -/
theorem gcOut_tile (o q : ℕ) (ho : o + 256 ≤ 512) (hq : q + 256 ≤ 1024) (r c : Fin 256) :
    gcOut x0 x4 x5 x6 x7 x9 o q ho hq (ix3 0 r c) = chunkSum (decayAt x w a d (headOf ⟨q + c.val, by omega⟩)) ⟨512 * T.val + (o + r.val), by omega⟩ := by
  rw [gcOut_apply]
  refine (congrArg₂ (· + ·) (Finset.sum_congr rfl fun k _ => congrArg (fun z => gcK (gK x0 x4 x5 x6) x7 (ix2 ⟨o + r.val, by omega⟩ k) * z) (H.h9 k ⟨q + c.val, by omega⟩))
    (Finset.sum_congr rfl fun k _ => congrArg (fun z => (gcK (gK x0 x4 x5 x6) x7 (ix2 ⟨o + r.val, by omega⟩ k) - gcK (gK x0 x4 x5 x6) x7 (ix2 ⟨o + r.val, by omega⟩ k)) * z) (H.h9 k ⟨q + c.val, by omega⟩))).trans ?_
  dsimp only
  rw [lane_sum (fun k : Fin 128 => k.val = (q + c.val) / 128 + 8) (fun k => gcK (gK x0 x4 x5 x6) x7 (ix2 ⟨o + r.val, by omega⟩ k)) ⟨8 + (headOf ⟨q + c.val, by omega⟩).val, by omega⟩
      (fun k => by rw [Fin.ext_iff]; show k.val = (q + c.val) / 128 + 8 ↔ k.val = 8 + (q + c.val) / 128; omega),
    lane_sum (fun k : Fin 128 => k.val = (q + c.val) / 128 + 8) (fun k => gcK (gK x0 x4 x5 x6) x7 (ix2 ⟨o + r.val, by omega⟩ k) - gcK (gK x0 x4 x5 x6) x7 (ix2 ⟨o + r.val, by omega⟩ k)) ⟨8 + (headOf ⟨q + c.val, by omega⟩).val, by omega⟩
      (fun k => by rw [Fin.ext_iff]; show k.val = (q + c.val) / 128 + 8 ↔ k.val = 8 + (q + c.val) / 128; omega)]
  rw [gc_tile H]
  exact add_sub_self' _ (ne_top_of_nonpos (chunk_nonpos _ (fun R => decay_nonpos _ _) _))

/-- The query block at an entry. -/
theorem q_block {C : Vec Ideal S3x8x1024 .f32} (hC : ∀ (p : Fin 3) (i : Fin 8) (c : Fin 1024), C (ix3 p i c) = before (proj x w ⟨1024 * p.val + c.val, by omega⟩) (512 * T.val + i.val)) (y : S1x512x1024.Idx)
    (hy : ∃ pc ∈ qL x0 x1 x3 C, y ∈ pc.1.set) :
    View.canon (qL x0 x1 x3 C) y = l2 (fun l => act3 x w cw (part 0 (hcol (headOf (y 2)) l)) ⟨512 * T.val + (y 1).val, by have h1 : (y 1).val < 512 := (y 1).isLt; omega⟩) (laneOf (y 2)) * Ideal.ofBits .f32 0x3DB504F3#32 := by
  refine View.canon_apply_of_pieces (fun y : S1x512x1024.Idx => l2 (fun l => act3 x w cw (part 0 (hcol (headOf (y 2)) l)) ⟨512 * T.val + (y 1).val, by have h1 : (y 1).val < 512 := (y 1).isLt; omega⟩) (laneOf (y 2)) * Ideal.ofBits .f32 0x3DB504F3#32) _ ?_ y hy
  intro p hp j
  simp only [qL, List.mem_cons, List.not_mem_nil, or_false] at hp
  rcases hp with rfl | rfl | rfl | rfl | rfl | rfl | rfl | rfl | rfl | rfl | rfl | rfl | rfl | rfl | rfl | rfl
  · exact head_piece (actB x0 x1 x3 768 (by decide)) 0 256 768 128 896 (by decide) (by decide) (by decide) rfl rfl 0x3DB504F3#32 inb_S1x512x1024_S1x256x128_0_256_896 (actB_tile H 0 768 768 (by decide) (by decide) rfl) j
  · exact head_piece (actB x0 x1 x3 768 (by decide)) 0 256 768 0 768 (by decide) (by decide) (by decide) rfl rfl 0x3DB504F3#32 inb_S1x512x1024_S1x256x128_0_256_768 (actB_tile H 0 768 768 (by decide) (by decide) rfl) j
  · exact head_piece (actA x0 x1 x3 C 0 768 768 (by decide) (by decide) (by decide)) 0 0 768 128 896 (by decide) (by decide) (by decide) rfl rfl 0x3DB504F3#32 inb_S1x512x1024_S1x256x128_0_0_896 (actA_tile H hC 0 768 768 (by decide) (by decide) rfl) j
  · exact head_piece (actA x0 x1 x3 C 0 768 768 (by decide) (by decide) (by decide)) 0 0 768 0 768 (by decide) (by decide) (by decide) rfl rfl 0x3DB504F3#32 inb_S1x512x1024_S1x256x128_0_0_768 (actA_tile H hC 0 768 768 (by decide) (by decide) rfl) j
  · exact head_piece (actB x0 x1 x3 512 (by decide)) 0 256 512 128 640 (by decide) (by decide) (by decide) rfl rfl 0x3DB504F3#32 inb_S1x512x1024_S1x256x128_0_256_640 (actB_tile H 0 512 512 (by decide) (by decide) rfl) j
  · exact head_piece (actB x0 x1 x3 512 (by decide)) 0 256 512 0 512 (by decide) (by decide) (by decide) rfl rfl 0x3DB504F3#32 inb_S1x512x1024_S1x256x128_0_256_512 (actB_tile H 0 512 512 (by decide) (by decide) rfl) j
  · exact head_piece (actA x0 x1 x3 C 0 512 512 (by decide) (by decide) (by decide)) 0 0 512 128 640 (by decide) (by decide) (by decide) rfl rfl 0x3DB504F3#32 inb_S1x512x1024_S1x256x128_0_0_640 (actA_tile H hC 0 512 512 (by decide) (by decide) rfl) j
  · exact head_piece (actA x0 x1 x3 C 0 512 512 (by decide) (by decide) (by decide)) 0 0 512 0 512 (by decide) (by decide) (by decide) rfl rfl 0x3DB504F3#32 inb_S1x512x1024_S1x256x128_0_0_512 (actA_tile H hC 0 512 512 (by decide) (by decide) rfl) j
  · exact head_piece (actB x0 x1 x3 256 (by decide)) 0 256 256 128 384 (by decide) (by decide) (by decide) rfl rfl 0x3DB504F3#32 inb_S1x512x1024_S1x256x128_0_256_384 (actB_tile H 0 256 256 (by decide) (by decide) rfl) j
  · exact head_piece (actB x0 x1 x3 256 (by decide)) 0 256 256 0 256 (by decide) (by decide) (by decide) rfl rfl 0x3DB504F3#32 inb_S1x512x1024_S1x256x128_0_256_256 (actB_tile H 0 256 256 (by decide) (by decide) rfl) j
  · exact head_piece (actA x0 x1 x3 C 0 256 256 (by decide) (by decide) (by decide)) 0 0 256 128 384 (by decide) (by decide) (by decide) rfl rfl 0x3DB504F3#32 inb_S1x512x1024_S1x256x128_0_0_384 (actA_tile H hC 0 256 256 (by decide) (by decide) rfl) j
  · exact head_piece (actA x0 x1 x3 C 0 256 256 (by decide) (by decide) (by decide)) 0 0 256 0 256 (by decide) (by decide) (by decide) rfl rfl 0x3DB504F3#32 inb_S1x512x1024_S1x256x128_0_0_256 (actA_tile H hC 0 256 256 (by decide) (by decide) rfl) j
  · exact head_piece (actB x0 x1 x3 0 (by decide)) 0 256 0 128 128 (by decide) (by decide) (by decide) rfl rfl 0x3DB504F3#32 inb_S1x512x1024_S1x256x128_0_256_128 (actB_tile H 0 0 0 (by decide) (by decide) rfl) j
  · exact head_piece (actB x0 x1 x3 0 (by decide)) 0 256 0 0 0 (by decide) (by decide) (by decide) rfl rfl 0x3DB504F3#32 inb_S1x512x1024_S1x256x128_0_256_0 (actB_tile H 0 0 0 (by decide) (by decide) rfl) j
  · exact head_piece (actA x0 x1 x3 C 0 0 0 (by decide) (by decide) (by decide)) 0 0 0 128 128 (by decide) (by decide) (by decide) rfl rfl 0x3DB504F3#32 inb_S1x512x1024_S1x256x128_0_0_128 (actA_tile H hC 0 0 0 (by decide) (by decide) rfl) j
  · exact head_piece (actA x0 x1 x3 C 0 0 0 (by decide) (by decide) (by decide)) 0 0 0 0 0 (by decide) (by decide) (by decide) rfl rfl 0x3DB504F3#32 inb_S1x512x1024_S1x256x128_0_0_0 (actA_tile H hC 0 0 0 (by decide) (by decide) rfl) j

/-- The key block at an entry. -/
theorem k_block {C : Vec Ideal S3x8x1024 .f32} (hC : ∀ (p : Fin 3) (i : Fin 8) (c : Fin 1024), C (ix3 p i c) = before (proj x w ⟨1024 * p.val + c.val, by omega⟩) (512 * T.val + i.val)) (y : S1x512x1024.Idx)
    (hy : ∃ pc ∈ kL x0 x1 x3 C, y ∈ pc.1.set) :
    View.canon (kL x0 x1 x3 C) y = l2 (fun l => act3 x w cw (part 1 (hcol (headOf (y 2)) l)) ⟨512 * T.val + (y 1).val, by have h1 : (y 1).val < 512 := (y 1).isLt; omega⟩) (laneOf (y 2)) * Ideal.ofBits .f32 0x3F800000#32 := by
  refine View.canon_apply_of_pieces (fun y : S1x512x1024.Idx => l2 (fun l => act3 x w cw (part 1 (hcol (headOf (y 2)) l)) ⟨512 * T.val + (y 1).val, by have h1 : (y 1).val < 512 := (y 1).isLt; omega⟩) (laneOf (y 2)) * Ideal.ofBits .f32 0x3F800000#32) _ ?_ y hy
  intro p hp j
  simp only [kL, List.mem_cons, List.not_mem_nil, or_false] at hp
  rcases hp with rfl | rfl | rfl | rfl | rfl | rfl | rfl | rfl | rfl | rfl | rfl | rfl | rfl | rfl | rfl | rfl
  · exact head_piece (actB x0 x1 x3 1792 (by decide)) 1 256 768 128 896 (by decide) (by decide) (by decide) rfl rfl 0x3F800000#32 inb_S1x512x1024_S1x256x128_0_256_896 (actB_tile H 1 768 1792 (by decide) (by decide) rfl) j
  · exact head_piece (actB x0 x1 x3 1792 (by decide)) 1 256 768 0 768 (by decide) (by decide) (by decide) rfl rfl 0x3F800000#32 inb_S1x512x1024_S1x256x128_0_256_768 (actB_tile H 1 768 1792 (by decide) (by decide) rfl) j
  · exact head_piece (actA x0 x1 x3 C 1 768 1792 (by decide) (by decide) (by decide)) 1 0 768 128 896 (by decide) (by decide) (by decide) rfl rfl 0x3F800000#32 inb_S1x512x1024_S1x256x128_0_0_896 (actA_tile H hC 1 768 1792 (by decide) (by decide) rfl) j
  · exact head_piece (actA x0 x1 x3 C 1 768 1792 (by decide) (by decide) (by decide)) 1 0 768 0 768 (by decide) (by decide) (by decide) rfl rfl 0x3F800000#32 inb_S1x512x1024_S1x256x128_0_0_768 (actA_tile H hC 1 768 1792 (by decide) (by decide) rfl) j
  · exact head_piece (actB x0 x1 x3 1536 (by decide)) 1 256 512 128 640 (by decide) (by decide) (by decide) rfl rfl 0x3F800000#32 inb_S1x512x1024_S1x256x128_0_256_640 (actB_tile H 1 512 1536 (by decide) (by decide) rfl) j
  · exact head_piece (actB x0 x1 x3 1536 (by decide)) 1 256 512 0 512 (by decide) (by decide) (by decide) rfl rfl 0x3F800000#32 inb_S1x512x1024_S1x256x128_0_256_512 (actB_tile H 1 512 1536 (by decide) (by decide) rfl) j
  · exact head_piece (actA x0 x1 x3 C 1 512 1536 (by decide) (by decide) (by decide)) 1 0 512 128 640 (by decide) (by decide) (by decide) rfl rfl 0x3F800000#32 inb_S1x512x1024_S1x256x128_0_0_640 (actA_tile H hC 1 512 1536 (by decide) (by decide) rfl) j
  · exact head_piece (actA x0 x1 x3 C 1 512 1536 (by decide) (by decide) (by decide)) 1 0 512 0 512 (by decide) (by decide) (by decide) rfl rfl 0x3F800000#32 inb_S1x512x1024_S1x256x128_0_0_512 (actA_tile H hC 1 512 1536 (by decide) (by decide) rfl) j
  · exact head_piece (actB x0 x1 x3 1280 (by decide)) 1 256 256 128 384 (by decide) (by decide) (by decide) rfl rfl 0x3F800000#32 inb_S1x512x1024_S1x256x128_0_256_384 (actB_tile H 1 256 1280 (by decide) (by decide) rfl) j
  · exact head_piece (actB x0 x1 x3 1280 (by decide)) 1 256 256 0 256 (by decide) (by decide) (by decide) rfl rfl 0x3F800000#32 inb_S1x512x1024_S1x256x128_0_256_256 (actB_tile H 1 256 1280 (by decide) (by decide) rfl) j
  · exact head_piece (actA x0 x1 x3 C 1 256 1280 (by decide) (by decide) (by decide)) 1 0 256 128 384 (by decide) (by decide) (by decide) rfl rfl 0x3F800000#32 inb_S1x512x1024_S1x256x128_0_0_384 (actA_tile H hC 1 256 1280 (by decide) (by decide) rfl) j
  · exact head_piece (actA x0 x1 x3 C 1 256 1280 (by decide) (by decide) (by decide)) 1 0 256 0 256 (by decide) (by decide) (by decide) rfl rfl 0x3F800000#32 inb_S1x512x1024_S1x256x128_0_0_256 (actA_tile H hC 1 256 1280 (by decide) (by decide) rfl) j
  · exact head_piece (actB x0 x1 x3 1024 (by decide)) 1 256 0 128 128 (by decide) (by decide) (by decide) rfl rfl 0x3F800000#32 inb_S1x512x1024_S1x256x128_0_256_128 (actB_tile H 1 0 1024 (by decide) (by decide) rfl) j
  · exact head_piece (actB x0 x1 x3 1024 (by decide)) 1 256 0 0 0 (by decide) (by decide) (by decide) rfl rfl 0x3F800000#32 inb_S1x512x1024_S1x256x128_0_256_0 (actB_tile H 1 0 1024 (by decide) (by decide) rfl) j
  · exact head_piece (actA x0 x1 x3 C 1 0 1024 (by decide) (by decide) (by decide)) 1 0 0 128 128 (by decide) (by decide) (by decide) rfl rfl 0x3F800000#32 inb_S1x512x1024_S1x256x128_0_0_128 (actA_tile H hC 1 0 1024 (by decide) (by decide) rfl) j
  · exact head_piece (actA x0 x1 x3 C 1 0 1024 (by decide) (by decide) (by decide)) 1 0 0 0 0 (by decide) (by decide) (by decide) rfl rfl 0x3F800000#32 inb_S1x512x1024_S1x256x128_0_0_0 (actA_tile H hC 1 0 1024 (by decide) (by decide) rfl) j

/-- The value block at an entry. -/
theorem v_block {C : Vec Ideal S3x8x1024 .f32} (hC : ∀ (p : Fin 3) (i : Fin 8) (c : Fin 1024), C (ix3 p i c) = before (proj x w ⟨1024 * p.val + c.val, by omega⟩) (512 * T.val + i.val)) (y : S1x512x1024.Idx) (hy : ∃ pc ∈ vL x0 x1 x3 C, y ∈ pc.1.set) :
    View.canon (vL x0 x1 x3 C) y = (fun (R : Fin 8192) (c : Fin 1024) => act3 x w cw (part 2 c) R) ⟨512 * T.val + (y 1).val, by have h1 : (y 1).val < 512 := (y 1).isLt; omega⟩ (y 2) := by
  refine View.canon_apply_of_pieces (fun y : S1x512x1024.Idx => (fun (R : Fin 8192) (c : Fin 1024) => act3 x w cw (part 2 c) R) ⟨512 * T.val + (y 1).val, by have h1 : (y 1).val < 512 := (y 1).isLt; omega⟩ (y 2)) _ ?_ y hy
  intro p hp j
  simp only [vL, List.mem_cons, List.not_mem_nil, or_false] at hp
  rcases hp with rfl | rfl | rfl | rfl | rfl | rfl | rfl | rfl
  · exact wide_piece (e := .bf16) (T := T) (wideK (actB x0 x1 x3 2816 (by decide))) 256 768 (by decide) (by decide) inb_S1x512x1024_S1x256x256_0_256_768 (fun R c => act3 x w cw (part 2 c) R) (fun r c => (wideK_apply _ r c).trans (actB_tile H 2 768 2816 (by decide) (by decide) rfl r c)) j
  · exact wide_piece (e := .bf16) (T := T) (wideK (actA x0 x1 x3 C 2 768 2816 (by decide) (by decide) (by decide))) 0 768 (by decide) (by decide) inb_S1x512x1024_S1x256x256_0_0_768 (fun R c => act3 x w cw (part 2 c) R) (fun r c => (wideK_apply _ r c).trans (actA_tile H hC 2 768 2816 (by decide) (by decide) rfl r c)) j
  · exact wide_piece (e := .bf16) (T := T) (wideK (actB x0 x1 x3 2560 (by decide))) 256 512 (by decide) (by decide) inb_S1x512x1024_S1x256x256_0_256_512 (fun R c => act3 x w cw (part 2 c) R) (fun r c => (wideK_apply _ r c).trans (actB_tile H 2 512 2560 (by decide) (by decide) rfl r c)) j
  · exact wide_piece (e := .bf16) (T := T) (wideK (actA x0 x1 x3 C 2 512 2560 (by decide) (by decide) (by decide))) 0 512 (by decide) (by decide) inb_S1x512x1024_S1x256x256_0_0_512 (fun R c => act3 x w cw (part 2 c) R) (fun r c => (wideK_apply _ r c).trans (actA_tile H hC 2 512 2560 (by decide) (by decide) rfl r c)) j
  · exact wide_piece (e := .bf16) (T := T) (wideK (actB x0 x1 x3 2304 (by decide))) 256 256 (by decide) (by decide) inb_S1x512x1024_S1x256x256_0_256_256 (fun R c => act3 x w cw (part 2 c) R) (fun r c => (wideK_apply _ r c).trans (actB_tile H 2 256 2304 (by decide) (by decide) rfl r c)) j
  · exact wide_piece (e := .bf16) (T := T) (wideK (actA x0 x1 x3 C 2 256 2304 (by decide) (by decide) (by decide))) 0 256 (by decide) (by decide) inb_S1x512x1024_S1x256x256_0_0_256 (fun R c => act3 x w cw (part 2 c) R) (fun r c => (wideK_apply _ r c).trans (actA_tile H hC 2 256 2304 (by decide) (by decide) rfl r c)) j
  · exact wide_piece (e := .bf16) (T := T) (wideK (actB x0 x1 x3 2048 (by decide))) 256 0 (by decide) (by decide) inb_S1x512x1024_S1x256x256_0_256_0 (fun R c => act3 x w cw (part 2 c) R) (fun r c => (wideK_apply _ r c).trans (actB_tile H 2 0 2048 (by decide) (by decide) rfl r c)) j
  · exact wide_piece (e := .bf16) (T := T) (wideK (actA x0 x1 x3 C 2 0 2048 (by decide) (by decide) (by decide))) 0 0 (by decide) (by decide) inb_S1x512x1024_S1x256x256_0_0_0 (fun R c => act3 x w cw (part 2 c) R) (fun r c => (wideK_apply _ r c).trans (actA_tile H hC 2 0 2048 (by decide) (by decide) rfl r c)) j

/-- The gate block at an entry. -/
theorem z_block (y : S1x512x1024.Idx) (hy : ∃ pc ∈ zL x0 x2, y ∈ pc.1.set) :
    View.canon (zL x0 x2) y = (fun (R : Fin 8192) (c : Fin 1024) => proj x w ⟨3072 + c.val, by omega⟩ R) ⟨512 * T.val + (y 1).val, by have h1 : (y 1).val < 512 := (y 1).isLt; omega⟩ (y 2) := by
  refine View.canon_apply_of_pieces (fun y : S1x512x1024.Idx => (fun (R : Fin 8192) (c : Fin 1024) => proj x w ⟨3072 + c.val, by omega⟩ R) ⟨512 * T.val + (y 1).val, by have h1 : (y 1).val < 512 := (y 1).isLt; omega⟩ (y 2)) _ ?_ y hy
  intro p hp j
  simp only [zL, List.mem_cons, List.not_mem_nil, or_false] at hp
  rcases hp with rfl | rfl | rfl | rfl | rfl | rfl | rfl | rfl
  · exact wide_piece (e := .bf16) (T := T) (wideK (projK x0 (zCols x2 768 (by decide)) 256 (by decide))) 256 768 (by decide) (by decide) inb_S1x512x1024_S1x256x256_0_256_768 (fun R c => proj x w ⟨3072 + c.val, by omega⟩ R) (z_tile H 256 768 (by decide) (by decide)) j
  · exact wide_piece (e := .bf16) (T := T) (wideK (projK x0 (zCols x2 768 (by decide)) 0 (by decide))) 0 768 (by decide) (by decide) inb_S1x512x1024_S1x256x256_0_0_768 (fun R c => proj x w ⟨3072 + c.val, by omega⟩ R) (z_tile H 0 768 (by decide) (by decide)) j
  · exact wide_piece (e := .bf16) (T := T) (wideK (projK x0 (zCols x2 512 (by decide)) 256 (by decide))) 256 512 (by decide) (by decide) inb_S1x512x1024_S1x256x256_0_256_512 (fun R c => proj x w ⟨3072 + c.val, by omega⟩ R) (z_tile H 256 512 (by decide) (by decide)) j
  · exact wide_piece (e := .bf16) (T := T) (wideK (projK x0 (zCols x2 512 (by decide)) 0 (by decide))) 0 512 (by decide) (by decide) inb_S1x512x1024_S1x256x256_0_0_512 (fun R c => proj x w ⟨3072 + c.val, by omega⟩ R) (z_tile H 0 512 (by decide) (by decide)) j
  · exact wide_piece (e := .bf16) (T := T) (wideK (projK x0 (zCols x2 256 (by decide)) 256 (by decide))) 256 256 (by decide) (by decide) inb_S1x512x1024_S1x256x256_0_256_256 (fun R c => proj x w ⟨3072 + c.val, by omega⟩ R) (z_tile H 256 256 (by decide) (by decide)) j
  · exact wide_piece (e := .bf16) (T := T) (wideK (projK x0 (zCols x2 256 (by decide)) 0 (by decide))) 0 256 (by decide) (by decide) inb_S1x512x1024_S1x256x256_0_0_256 (fun R c => proj x w ⟨3072 + c.val, by omega⟩ R) (z_tile H 0 256 (by decide) (by decide)) j
  · exact wide_piece (e := .bf16) (T := T) (wideK (projK x0 (zCols x2 0 (by decide)) 256 (by decide))) 256 0 (by decide) (by decide) inb_S1x512x1024_S1x256x256_0_256_0 (fun R c => proj x w ⟨3072 + c.val, by omega⟩ R) (z_tile H 256 0 (by decide) (by decide)) j
  · exact wide_piece (e := .bf16) (T := T) (wideK (projK x0 (zCols x2 0 (by decide)) 0 (by decide))) 0 0 (by decide) (by decide) inb_S1x512x1024_S1x256x256_0_0_0 (fun R c => proj x w ⟨3072 + c.val, by omega⟩ R) (z_tile H 0 0 (by decide) (by decide)) j

/-- The step block at an entry. -/
theorem beta_block (y : S1x512x1024.Idx) (hy : ∃ pc ∈ bL x0 x4 x8, y ∈ pc.1.set) :
    View.canon (bL x0 x4 x8) y = (fun (R : Fin 8192) (c : Fin 1024) => betaAt x w (headOf c) R) ⟨512 * T.val + (y 1).val, by have h1 : (y 1).val < 512 := (y 1).isLt; omega⟩ (y 2) := by
  refine View.canon_apply_of_pieces (fun y : S1x512x1024.Idx => (fun (R : Fin 8192) (c : Fin 1024) => betaAt x w (headOf c) R) ⟨512 * T.val + (y 1).val, by have h1 : (y 1).val < 512 := (y 1).isLt; omega⟩ (y 2)) _ ?_ y hy
  intro p hp j
  simp only [bL, List.mem_cons, List.not_mem_nil, or_false] at hp
  rcases hp with rfl | rfl | rfl | rfl | rfl | rfl | rfl | rfl
  · exact wide_piece (e := .bf16) (T := T) (wideK (spreadK (betaK x0 x4) 256 (by decide) (eCols x8 768 (by decide)))) 256 768 (by decide) (by decide) inb_S1x512x1024_S1x256x256_0_256_768 (fun R c => betaAt x w (headOf c) R) (beta_tile H 256 768 (by decide) (by decide)) j
  · exact wide_piece (e := .bf16) (T := T) (wideK (spreadK (betaK x0 x4) 0 (by decide) (eCols x8 768 (by decide)))) 0 768 (by decide) (by decide) inb_S1x512x1024_S1x256x256_0_0_768 (fun R c => betaAt x w (headOf c) R) (beta_tile H 0 768 (by decide) (by decide)) j
  · exact wide_piece (e := .bf16) (T := T) (wideK (spreadK (betaK x0 x4) 256 (by decide) (eCols x8 512 (by decide)))) 256 512 (by decide) (by decide) inb_S1x512x1024_S1x256x256_0_256_512 (fun R c => betaAt x w (headOf c) R) (beta_tile H 256 512 (by decide) (by decide)) j
  · exact wide_piece (e := .bf16) (T := T) (wideK (spreadK (betaK x0 x4) 0 (by decide) (eCols x8 512 (by decide)))) 0 512 (by decide) (by decide) inb_S1x512x1024_S1x256x256_0_0_512 (fun R c => betaAt x w (headOf c) R) (beta_tile H 0 512 (by decide) (by decide)) j
  · exact wide_piece (e := .bf16) (T := T) (wideK (spreadK (betaK x0 x4) 256 (by decide) (eCols x8 256 (by decide)))) 256 256 (by decide) (by decide) inb_S1x512x1024_S1x256x256_0_256_256 (fun R c => betaAt x w (headOf c) R) (beta_tile H 256 256 (by decide) (by decide)) j
  · exact wide_piece (e := .bf16) (T := T) (wideK (spreadK (betaK x0 x4) 0 (by decide) (eCols x8 256 (by decide)))) 0 256 (by decide) (by decide) inb_S1x512x1024_S1x256x256_0_0_256 (fun R c => betaAt x w (headOf c) R) (beta_tile H 0 256 (by decide) (by decide)) j
  · exact wide_piece (e := .bf16) (T := T) (wideK (spreadK (betaK x0 x4) 256 (by decide) (eCols x8 0 (by decide)))) 256 0 (by decide) (by decide) inb_S1x512x1024_S1x256x256_0_256_0 (fun R c => betaAt x w (headOf c) R) (beta_tile H 256 0 (by decide) (by decide)) j
  · exact wide_piece (e := .bf16) (T := T) (wideK (spreadK (betaK x0 x4) 0 (by decide) (eCols x8 0 (by decide)))) 0 0 (by decide) (by decide) inb_S1x512x1024_S1x256x256_0_0_0 (fun R c => betaAt x w (headOf c) R) (beta_tile H 0 0 (by decide) (by decide)) j

/-- The block of running sums at an entry. -/
theorem gc_block (y : S1x512x1024.Idx) (hy : ∃ pc ∈ gL x0 x4 x5 x6 x7 x9, y ∈ pc.1.set) :
    View.canon (gL x0 x4 x5 x6 x7 x9) y = (fun (R : Fin 8192) (c : Fin 1024) => chunkSum (decayAt x w a d (headOf c)) R) ⟨512 * T.val + (y 1).val, by have h1 : (y 1).val < 512 := (y 1).isLt; omega⟩ (y 2) := by
  refine View.canon_apply_of_pieces (fun y : S1x512x1024.Idx => (fun (R : Fin 8192) (c : Fin 1024) => chunkSum (decayAt x w a d (headOf c)) R) ⟨512 * T.val + (y 1).val, by have h1 : (y 1).val < 512 := (y 1).isLt; omega⟩ (y 2)) _ ?_ y hy
  intro p hp j
  simp only [gL, List.mem_cons, List.not_mem_nil, or_false] at hp
  rcases hp with rfl | rfl | rfl | rfl | rfl | rfl | rfl | rfl
  · exact wide_piece (e := .f32) (T := T) (gcOut x0 x4 x5 x6 x7 x9 256 768 (by decide) (by decide)) 256 768 (by decide) (by decide) inb_S1x512x1024_S1x256x256_0_256_768 (fun R c => chunkSum (decayAt x w a d (headOf c)) R) (gcOut_tile H 256 768 (by decide) (by decide)) j
  · exact wide_piece (e := .f32) (T := T) (gcOut x0 x4 x5 x6 x7 x9 0 768 (by decide) (by decide)) 0 768 (by decide) (by decide) inb_S1x512x1024_S1x256x256_0_0_768 (fun R c => chunkSum (decayAt x w a d (headOf c)) R) (gcOut_tile H 0 768 (by decide) (by decide)) j
  · exact wide_piece (e := .f32) (T := T) (gcOut x0 x4 x5 x6 x7 x9 256 512 (by decide) (by decide)) 256 512 (by decide) (by decide) inb_S1x512x1024_S1x256x256_0_256_512 (fun R c => chunkSum (decayAt x w a d (headOf c)) R) (gcOut_tile H 256 512 (by decide) (by decide)) j
  · exact wide_piece (e := .f32) (T := T) (gcOut x0 x4 x5 x6 x7 x9 0 512 (by decide) (by decide)) 0 512 (by decide) (by decide) inb_S1x512x1024_S1x256x256_0_0_512 (fun R c => chunkSum (decayAt x w a d (headOf c)) R) (gcOut_tile H 0 512 (by decide) (by decide)) j
  · exact wide_piece (e := .f32) (T := T) (gcOut x0 x4 x5 x6 x7 x9 256 256 (by decide) (by decide)) 256 256 (by decide) (by decide) inb_S1x512x1024_S1x256x256_0_256_256 (fun R c => chunkSum (decayAt x w a d (headOf c)) R) (gcOut_tile H 256 256 (by decide) (by decide)) j
  · exact wide_piece (e := .f32) (T := T) (gcOut x0 x4 x5 x6 x7 x9 0 256 (by decide) (by decide)) 0 256 (by decide) (by decide) inb_S1x512x1024_S1x256x256_0_0_256 (fun R c => chunkSum (decayAt x w a d (headOf c)) R) (gcOut_tile H 0 256 (by decide) (by decide)) j
  · exact wide_piece (e := .f32) (T := T) (gcOut x0 x4 x5 x6 x7 x9 256 0 (by decide) (by decide)) 256 0 (by decide) (by decide) inb_S1x512x1024_S1x256x256_0_256_0 (fun R c => chunkSum (decayAt x w a d (headOf c)) R) (gcOut_tile H 256 0 (by decide) (by decide)) j
  · exact wide_piece (e := .f32) (T := T) (gcOut x0 x4 x5 x6 x7 x9 0 0 (by decide) (by decide)) 0 0 (by decide) (by decide) inb_S1x512x1024_S1x256x256_0_0_0 (fun R c => chunkSum (decayAt x w a d (headOf c)) R) (gcOut_tile H 0 0 (by decide) (by decide)) j

omit H in
/-- Two writes of a place that is not looked at. -/
theorem skip_two (R : Rect S3x8x1024) (u v : Vec Ideal R.shape .f32) (L : List (View.Piece (Elt Ideal) S3x8x1024 .f32)) (y : S3x8x1024.Idx) (h : y ∉ R.set) :
    View.canon (⟨R, u⟩ :: ⟨R, v⟩ :: L) y = View.canon L y :=
  (View.canon_cons_of_not_mem ⟨R, u⟩ _ h).trans (View.canon_cons_of_not_mem ⟨R, v⟩ L h)

/-- One write of carried rows, as entries of what the tile leaves for the next. -/
theorem carry_piece (p : Fin 3) (q s : ℕ) (hq : q + 256 ≤ 1024) (hs : s + 256 ≤ 3072) (e : s = 1024 * p.val + q) (inb : ∀ a, (![p.val, 0, q] : Fin 3 → ℕ) a + S1x8x256.size a ≤ S3x8x1024.size a) (w' : Vec Ideal S1x8x256 .f32)
    (L : List (View.Piece (Elt Ideal) S3x8x1024 .f32)) (p' : Fin 3) (i : Fin 8) (c : Fin 1024)
    (hL : ¬ (p' = p ∧ q ≤ c.val ∧ c.val < q + 256) → View.canon L (ix3 p' i c) = before (proj x w ⟨1024 * p'.val + c.val, by omega⟩) (512 * T.val + 512 + i.val)) :
    View.canon (⟨Rect.unit (s := S3x8x1024) ![p.val, 0, q] S1x8x256.size inb, lastK (projK x0 (wCols x1 s hs) 256 (by decide))⟩ :: ⟨Rect.unit (s := S3x8x1024) ![p.val, 0, q] S1x8x256.size inb, w'⟩ :: L) (ix3 p' i c)
      = before (proj x w ⟨1024 * p'.val + c.val, by omega⟩) (512 * T.val + 512 + i.val) := by
  by_cases h : p' = p ∧ q ≤ c.val ∧ c.val < q + 256
  · obtain ⟨rfl, h1, h2⟩ := h
    have ey : (ix3 p' i c : S3x8x1024.Idx) = (Rect.unit (s := S3x8x1024) ![p'.val, 0, q] S1x8x256.size inb).emb (ix3 0 i ⟨c.val - q, by omega⟩) := by
      funext a
      apply Fin.ext
      match a with
      | ⟨0, _⟩ => show p'.val = p'.val + 1 * 0; omega
      | ⟨1, _⟩ => show i.val = 0 + 1 * i.val; omega
      | ⟨2, _⟩ => show c.val = q + 1 * (c.val - q); omega
    refine (congrArg _ ey).trans ((View.canon_cons_emb _ _ _ _).trans ?_)
    rw [lastK_apply, proj_cols H s hs 256 (by decide)]
    have e' : (⟨s + (c.val - q), by omega⟩ : Fin 4112) = ⟨1024 * p'.val + c.val, by omega⟩ := Fin.ext (by show s + (c.val - q) = 1024 * p'.val + c.val; omega)
    refine Eq.trans ?_ (before_row (proj x w ⟨1024 * p'.val + c.val, by omega⟩) ⟨512 * T.val + (256 + (248 + i.val)), by omega⟩ _ (by show 512 * T.val + 512 + i.val = 512 * T.val + (256 + (248 + i.val)) + 8; omega)).symm
    exact congrArg (fun C => proj x w C _) e'
  · have hn : (ix3 p' i c : S3x8x1024.Idx) ∉ (Rect.unit (s := S3x8x1024) ![p.val, 0, q] S1x8x256.size inb).set := fun hm => by
      have hm := Rect.mem_set_unit.mp hm
      have h0 : p.val ≤ p'.val ∧ p'.val < p.val + 1 := hm 0
      have h2 : q ≤ c.val ∧ c.val < q + 256 := hm 2
      exact h ⟨Fin.ext (by omega), h2⟩
    exact (skip_two _ _ _ _ _ hn).trans (hL h)

/-- What the tile leaves for the next: the last eight rows of the projection. -/
theorem carry_tile (Z : List (View.Piece (Elt Ideal) S3x8x1024 .f32)) (p : Fin 3) (i : Fin 8) (c : Fin 1024) :
    View.canon (cL x0 x1 Z) (ix3 p i c) = before (proj x w ⟨1024 * p.val + c.val, by omega⟩) (512 * T.val + 512 + i.val) := by
  unfold cL
  refine carry_piece H 2 768 2816 (by decide) (by decide) rfl inb_S3x8x1024_S1x8x256_2_0_768 _ _ p i c fun n0 => ?_
  refine carry_piece H 2 512 2560 (by decide) (by decide) rfl inb_S3x8x1024_S1x8x256_2_0_512 _ _ p i c fun n1 => ?_
  refine carry_piece H 2 256 2304 (by decide) (by decide) rfl inb_S3x8x1024_S1x8x256_2_0_256 _ _ p i c fun n2 => ?_
  refine carry_piece H 2 0 2048 (by decide) (by decide) rfl inb_S3x8x1024_S1x8x256_2_0_0 _ _ p i c fun n3 => ?_
  refine carry_piece H 1 768 1792 (by decide) (by decide) rfl inb_S3x8x1024_S1x8x256_1_0_768 _ _ p i c fun n4 => ?_
  refine carry_piece H 1 512 1536 (by decide) (by decide) rfl inb_S3x8x1024_S1x8x256_1_0_512 _ _ p i c fun n5 => ?_
  refine carry_piece H 1 256 1280 (by decide) (by decide) rfl inb_S3x8x1024_S1x8x256_1_0_256 _ _ p i c fun n6 => ?_
  refine carry_piece H 1 0 1024 (by decide) (by decide) rfl inb_S3x8x1024_S1x8x256_1_0_0 _ _ p i c fun n7 => ?_
  refine carry_piece H 0 768 768 (by decide) (by decide) rfl inb_S3x8x1024_S1x8x256_0_0_768 _ _ p i c fun n8 => ?_
  refine carry_piece H 0 512 512 (by decide) (by decide) rfl inb_S3x8x1024_S1x8x256_0_0_512 _ _ p i c fun n9 => ?_
  refine carry_piece H 0 256 256 (by decide) (by decide) rfl inb_S3x8x1024_S1x8x256_0_0_256 _ _ p i c fun n10 => ?_
  refine carry_piece H 0 0 0 (by decide) (by decide) rfl inb_S3x8x1024_S1x8x256_0_0_0 _ _ p i c fun n11 => ?_
  exfalso
  have hp := p.isLt
  have hc := c.isLt
  simp only [Fin.ext_iff] at n0 n1 n2 n3 n4 n5 n6 n7 n8 n9 n10 n11
  have v0 : ((0 : Fin 3)).val = 0 := rfl
  have v1 : ((1 : Fin 3)).val = 1 := rfl
  have v2 : ((2 : Fin 3)).val = 2 := rfl
  omega

end Cert.Tile3

end
-- ==== Proof.Arrays3.lean ====
module

public import proofs.«01_k».proof.Proof.Spec3
public import proofs.«01_k».proof.Proof.Gen.Kernel3Ideal.Value
public import Idealize.ShloMosaic.Lib.StableHlo.ReadAt
public import Idealize.ShloMosaic.Lib.Pointwise
public import Idealize.ShloMosaic.Lib.Routing.OpsOne

/-! What the host lines before the third call leave in the arrays the call stages, at an index. -/

@[expose] public section

noncomputable section

namespace Cert.Tile3

open Cert.Kernel3Ideal Cert.Kernel3Ideal.Gen Idealize.ShloMosaic Idealize.ShloMosaic.TcCoe Idealize.SL.Sem Idealize.ShloMosaic.Pointwise

/-- The sign of a word, as the host lines spell it. -/
abbrev signW (n : BitVec 32) : BitVec 32 := if n = 0 then 0 else if n.msb = true then -1 else 1

/-- A number by `d`, rounded down, as the host lines spell it. -/
abbrev floorW (n d : BitVec 32) : BitVec 32 :=
  Scalar.select
    (IntOp.andi (IntOp.cmpi CmpIPredicate.ne (signW n) (signW d))
      (IntOp.cmpi CmpIPredicate.ne (IntOp.remsi ArithUnit.host n d) 0#32))
    (IntOp.subi (IntOp.divsi ArithUnit.host n d) 1#32) (IntOp.divsi ArithUnit.host n d)

/-- It is the quotient by 128. -/
theorem floor128 : ∀ k : Fin 1024, floorW (BitVec.ofNat 32 k.val) 128#32 = BitVec.ofNat 32 (k.val / 128) := by decide +kernel

/-- It is the quotient by 64. -/
theorem floor64 : ∀ k : Fin 512, floorW (BitVec.ofNat 32 k.val) 64#32 = BitVec.ofNat 32 (k.val / 64) := by decide +kernel

/-- Equality of small numbers as a number. -/
theorem eqBit (a b : ℕ) (ha : a < 4294967296) (hb : b < 4294967296) :
    ((((IntOp.cmpi CmpIPredicate.eq (BitVec.ofNat 32 a) (BitVec.ofNat 32 b)).toNat : ℝ) : EReal)) = if a = b then 1 else 0 := by
  have e : (BitVec.ofNat 32 a == BitVec.ofNat 32 b) = decide (a = b) := by
    rw [Bool.eq_iff_iff, beq_iff_eq, decide_eq_true_iff]
    refine ⟨fun h => ?_, fun h => by rw [h]⟩
    have h' := congrArg BitVec.toNat h
    rwa [BitVec.toNat_ofNat, BitVec.toNat_ofNat, Nat.mod_eq_of_lt ha, Nat.mod_eq_of_lt hb] at h'
  show ((((BitVec.ofBool (BitVec.ofNat 32 a == BitVec.ofNat 32 b)).toNat : ℝ) : EReal)) = _
  rw [e]
  by_cases h : a = b
  · rw [if_pos h, decide_eq_true h]; simp
  · rw [if_neg h, decide_eq_false h]; simp

/-- The two conditions of the chunk sum as a number. -/
theorem triBit (r k : ℕ) (hr : r < 512) (hk : k < 512) :
    ((((IntOp.andi (IntOp.cmpi CmpIPredicate.sge (BitVec.ofNat 32 r) (BitVec.ofNat 32 k)) (IntOp.cmpi CmpIPredicate.eq (BitVec.ofNat 32 (r / 64)) (BitVec.ofNat 32 (k / 64)))).toNat : ℝ) : EReal))
      = if k ≤ r ∧ r / 64 = k / 64 then 1 else 0 := by
  have e1 : IntOp.cmpi CmpIPredicate.sge (BitVec.ofNat 32 r) (BitVec.ofNat 32 k) = BitVec.ofBool (decide (k ≤ r)) := by
    show BitVec.ofBool (BitVec.sle (BitVec.ofNat 32 k) (BitVec.ofNat 32 r)) = _
    congr 1
    rw [BitVec.sle_eq_decide, BitVec.toInt_eq_toNat_of_lt (by rw [BitVec.toNat_ofNat]; omega), BitVec.toInt_eq_toNat_of_lt (by rw [BitVec.toNat_ofNat]; omega), BitVec.toNat_ofNat, BitVec.toNat_ofNat,
      Nat.mod_eq_of_lt (by omega), Nat.mod_eq_of_lt (by omega)]
    exact decide_eq_decide.2 Int.ofNat_le
  have e2 : IntOp.cmpi CmpIPredicate.eq (BitVec.ofNat 32 (r / 64)) (BitVec.ofNat 32 (k / 64)) = BitVec.ofBool (decide (r / 64 = k / 64)) := by
    show BitVec.ofBool (BitVec.ofNat 32 (r / 64) == BitVec.ofNat 32 (k / 64)) = _
    congr 1
    rw [Bool.eq_iff_iff, beq_iff_eq, decide_eq_true_iff]
    refine ⟨fun h => ?_, fun h => by rw [h]⟩
    have h' := congrArg BitVec.toNat h
    rwa [BitVec.toNat_ofNat, BitVec.toNat_ofNat, Nat.mod_eq_of_lt (by omega), Nat.mod_eq_of_lt (by omega)] at h'
  rw [e1, e2]
  by_cases h1 : k ≤ r <;> by_cases h2 : r / 64 = k / 64 <;> simp [h1, h2, IntOp.andi]

/-- Entry `h` of a vector of eight written across columns 8 to 15 of the one row lands at column `8 + h`. -/
theorem lands_row (d : ScatterDims S1x128 S2 S8) (hiw : d.insertedWindowDims = [0]) (hsd : d.scatterDimsToOperandDims = [0, 1])
    (hivd : d.indexVectorDim = 0) (idx : IVec S2 32) (k : Fin 8) (r : Fin 1) (c : Fin 128) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show (Shape.kept S1x128) d.insertedWindowDims = _
      rw [hiw]
      rfl
    unfold ScatterDims.window
    rw [dif_pos (by rw [hk]; simp)]
    exact congrArg (fun t => ((ix1 k : S8.Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  refine (Routing.resultIdx?_ix2 (R := 1) (C := 128) d _ idx r c).trans ?_
  rw [Routing.start_pair (R := 1) (C := 128) d hsd hivd, Routing.start_pair (R := 1) (C := 128) d hsd hivd, hwin0, hwin1]
  rw [Nat.cast_zero, add_zero]
  exact Iff.rfl

/-- The first word of two put together. -/
theorem first_word (a b : IVec S1 32) :
    concatenate (α := BitVec 32) S2 0 [⟨S1, a⟩, ⟨S1, b⟩] concatenates_S1_S1_S2_d0 (ix1 0) = a (ix1 0) :=
  concatenate_apply_piece (t := S2) 0 _ _ _ 0 (by show 0 < 2; omega) S1 a rfl rfl 0 rfl (ix1 0) (fun b hb => by match b with | ⟨0, _⟩ => exact absurd rfl hb) rfl

/-- The second word of two put together. -/
theorem second_word (a b : IVec S1 32) :
    concatenate (α := BitVec 32) S2 0 [⟨S1, a⟩, ⟨S1, b⟩] concatenates_S1_S1_S2_d0 (ix1 1) = b (ix1 0) :=
  concatenate_apply_piece (t := S2) 0 _ _ _ 1 (by show 1 < 2; omega) S1 b rfl rfl 1 rfl (ix1 0) (fun b hb => by match b with | ⟨0, _⟩ => exact absurd rfl hb) rfl

/-- So column `8 + h` holds entry `h`. -/
theorem scatter_row {α : Type} (x : S1x128.Idx → α) (idx : IVec S2 32) (u : S8.Idx → α)
    (h0 : (idx (ix1 (0 : Fin 2))).toInt = 0) (h1 : (idx (ix1 (1 : Fin 2))).toInt = 8) (h : Fin 8) :
    Host.scatter scatter_S1x128_S2_S8_0_0_01_0 (fun _ b => b) x idx u (ix2 0 ⟨8 + h.val, by omega⟩) = u (ix1 h) := by
  refine Routing.scatter_set_hit _ x idx u _ (u (ix1 h)) (fun k hk => ?_) (ix1 h) ((lands_row _ rfl rfl rfl idx h 0 _).2 ⟨by rw [h0]; rfl, by rw [h1]; push_cast; rfl⟩)
  obtain ⟨k, rfl⟩ : ∃ k' : Fin 8, k = ix1 k' := ⟨k 0, eq_ix1 k⟩
  have q := ((lands_row _ rfl rfl rfl idx k 0 _).1 hk).2
  rw [h1] at q
  rw [show k = h from Fin.ext (by simp only at q; push_cast at q; omega)]

variable (m : (ℓ : Loc nD τ sig) → Buf (Elt Ideal) ℓ) (c : Dev nD)

/-- The weights, narrowed. -/
theorem V_w (j : S1x1024x4112.Idx) : V m c main_v16 j = m ((c : Thread nD τ).loc main_arg1) j := by
  unfold V
  after_reads_at

/-- The 16 columns of the weights past the four projections, then zeros. -/
theorem V_wba (k : Fin 1024) (l : Fin 128) : V m c main_v3 (ix2 k l) = (if h : l.val < 16 then m ((c : Thread nD τ).loc main_arg1) (ix3 0 k ⟨4096 + l.val, by omega⟩) else 0 : EReal) := by
  unfold V
  after_reads_at
  by_cases h : l.val < 16
  · rw [dif_pos h, dif_pos h]
  · rw [dif_neg h, dif_neg h]
    show (((0#32 : BitVec 32).toInt : ℝ) : EReal) = 0
    simp

/-- The eight decay logarithms sit in lanes 8 to 15. -/
theorem V_alog (h : Fin 8) : V m c main_v9 (ix2 0 ⟨8 + h.val, by omega⟩) = m ((c : Thread nD τ).loc main_arg3) (ix2 0 h) := by
  unfold V
  after_reads_at
  rw [scatter_row _ _ _ (by rw [first_word]; after_reads_at; rfl) (by rw [second_word]; after_reads_at; rfl)]
  rfl

/-- The eight step shifts sit in lanes 8 to 15. -/
theorem V_dtb (h : Fin 8) : V m c main_v15 (ix2 0 ⟨8 + h.val, by omega⟩) = m ((c : Thread nD τ).loc main_arg4) (ix2 0 h) := by
  unfold V
  after_reads_at
  rw [scatter_row _ _ _ (by rw [first_word]; after_reads_at; rfl) (by rw [second_word]; after_reads_at; rfl)]
  rfl

/-- Lane to column, for the steps: column `k` is lane `k / 128`. -/
theorem V_eb (l : Fin 128) (k : Fin 1024) : V m c main_v40 (ix2 l k) = (if l.val = k.val / 128 then 1 else 0 : EReal) := by
  unfold V
  after_reads_at
  refine Eq.trans (congrArg (fun z => FloatOps.uitofp (F := Ideal) .bf16 (IntOp.cmpi CmpIPredicate.eq (BitVec.ofNat 32 l.val) z)) (floor128 k)) ?_
  exact eqBit _ _ (by omega) (by omega)

/-- Lane to column, for the decays: column `k` is lane `8 + k / 128`. -/
theorem V_ea (l : Fin 128) (k : Fin 1024) : V m c main_v48 (ix2 l k) = (if l.val = k.val / 128 + 8 then 1 else 0 : EReal) := by
  unfold V
  after_reads_at
  refine Eq.trans (congrArg (fun z => FloatOps.uitofp (F := Ideal) .bf16 (IntOp.cmpi CmpIPredicate.eq (BitVec.ofNat 32 l.val) (IntOp.addi z 8#32))) (floor128 k)) ?_
  refine Eq.trans (congrArg (fun z => FloatOps.uitofp (F := Ideal) .bf16 (IntOp.cmpi CmpIPredicate.eq (BitVec.ofNat 32 l.val) z)) (show IntOp.addi (BitVec.ofNat 32 (k.val / 128)) 8#32 = BitVec.ofNat 32 (k.val / 128 + 8) from (BitVec.ofNat_add _ _).symm)) ?_
  exact eqBit _ _ (by omega) (by omega)

/-- A row's sum takes the rows of its chunk up to itself. -/
theorem V_tri (r k : Fin 512) : V m c main_v31 (ix2 r k) = (if k.val ≤ r.val ∧ r.val / 64 = k.val / 64 then 1 else 0 : EReal) := by
  unfold V
  after_reads_at
  refine Eq.trans (congrArg₂ (fun z w => FloatOps.uitofp (F := Ideal) .bf16 (IntOp.andi (IntOp.cmpi CmpIPredicate.sge (BitVec.ofNat 32 r.val) (BitVec.ofNat 32 k.val)) (IntOp.cmpi CmpIPredicate.eq z w))) (floor64 r) (floor64 k)) ?_
  exact triBit _ _ (by omega) (by omega)

end Cert.Tile3
end
-- ==== Proof.KernelValue3.lean ====
module

public import proofs.«01_k».proof.Proof.TileRead3
public import proofs.«01_k».proof.Proof.Arrays3
public import Idealize.ShloMosaic.Lib.Pipeline.ValueKit.Geometry

/-! What the projection kernel leaves in its six results, row by row. -/

@[expose] public section

noncomputable section

namespace Cert.Tile3

open Cert.Tile Cert.Spec Cert.Kernel3Ideal Cert.Kernel3Ideal.Gen Idealize.ShloMosaic Idealize.ShloMosaic.TcCoe Idealize.SL.Sem Idealize.ShloMosaic.Pointwise

variable (m : (ℓ : Loc nD τ sig) → Buf (Elt Ideal) ℓ) (c : Dev nD)

/-- The block of the rows at a grid point. -/
theorem ix_x : ∀ t : Fin cfg0.N, win0_0.index t = ![(grid0.coords t 0).val, (grid0.coords t 1).val, 0] := (by decide +kernel : ∀ t : Fin grid0.N, _)

/-- The block of the weights of the three parts. -/
theorem ix_w : ∀ t : Fin cfg0.N, win0_1.index t = ![0, 0, 0] := (by decide +kernel : ∀ t : Fin grid0.N, _)

/-- The block of the weights of the gate. -/
theorem ix_wz : ∀ t : Fin cfg0.N, win0_2.index t = ![0, 0, 3] := (by decide +kernel : ∀ t : Fin grid0.N, _)

/-- The block of the taps. -/
theorem ix_cw : ∀ t : Fin cfg0.N, win0_3.index t = ![0, 0, 0] := (by decide +kernel : ∀ t : Fin grid0.N, _)

/-- The block of window 4. -/
theorem ix_4 : ∀ t : Fin cfg0.N, win0_4.index t = ![0, 0] := (by decide +kernel : ∀ t : Fin grid0.N, _)

/-- The block of window 5. -/
theorem ix_5 : ∀ t : Fin cfg0.N, win0_5.index t = ![0, 0] := (by decide +kernel : ∀ t : Fin grid0.N, _)

/-- The block of window 6. -/
theorem ix_6 : ∀ t : Fin cfg0.N, win0_6.index t = ![0, 0] := (by decide +kernel : ∀ t : Fin grid0.N, _)

/-- The block of window 7. -/
theorem ix_7 : ∀ t : Fin cfg0.N, win0_7.index t = ![0, 0] := (by decide +kernel : ∀ t : Fin grid0.N, _)

/-- The block of window 8. -/
theorem ix_8 : ∀ t : Fin cfg0.N, win0_8.index t = ![0, 0] := (by decide +kernel : ∀ t : Fin grid0.N, _)

/-- The block of window 9. -/
theorem ix_9 : ∀ t : Fin cfg0.N, win0_9.index t = ![0, 0] := (by decide +kernel : ∀ t : Fin grid0.N, _)

/-- A grid point's sequence and tile. -/
theorem coords_at : ∀ t : Fin cfg0.N, (grid0.coords t 0).val = t.val / 16 ∧ (grid0.coords t 1).val = t.val % 16 := (by decide +kernel : ∀ t : Fin grid0.N, _)

/-- The grid has sixteen row tiles. -/
theorem lt16 (t : Fin cfg0.N) : (grid0.coords t 1).val < 16 := (grid0.coords t 1).isLt

/-- The grid has two sequences. -/
theorem lt2 (t : Fin cfg0.N) : (grid0.coords t 0).val < 2 := (grid0.coords t 0).isLt

/-- The rows of sequence `b`. -/
def xAt (b : Fin 2) : Fin 8192 → Fin 1024 → EReal := fun R k => m ((c : Thread nD τ).loc main_arg0) (ix3 b R k)

/-- The weights. -/
def wAt : Fin 1024 → Fin 4112 → EReal := fun k l => m ((c : Thread nD τ).loc main_arg1) (ix3 0 k l)

/-- The taps. -/
def cwAt : Fin 4 → Fin 3072 → EReal := fun j l => m ((c : Thread nD τ).loc main_arg2) (ix3 0 j l)

/-- The decay rates. -/
def aAt : Fin 8 → EReal := fun h => m ((c : Thread nD τ).loc main_arg3) (ix2 0 h)

/-- The step shifts. -/
def dAt : Fin 8 → EReal := fun h => m ((c : Thread nD τ).loc main_arg4) (ix2 0 h)

/-- The staged rows. -/
theorem blk_x (t : Fin cfg0.N) (r : Fin 512) (k : Fin 1024) :
    iblk m c 0 t (ix3 0 r k) = xAt m c ⟨(grid0.coords t 0).val, lt2 t⟩ ⟨512 * (grid0.coords t 1).val + r.val, by have := lt16 t; omega⟩ k := by
  unfold xAt
  blk_simp [iblk]
  rw [V_main_arg0]
  refine congrArg _ ?_
  blk_ext [ix_x]

/-- The staged weights of the three parts. -/
theorem blk_w (t : Fin cfg0.N) (k : Fin 1024) (l : Fin 3072) : X0_1 m c t (ix3 0 k l) = wAt m c k ⟨l.val, by omega⟩ := by
  unfold X0_1 wAt Pipeline.Window.fill
  rw [dif_pos (moved0_1 t _)]
  blk_simp [iblk]
  refine Eq.trans (congrArg (V m c main_v16) (?_ : _ = (ix3 (0 : Fin 1) k ⟨l.val, by omega⟩ : S1x1024x4112.Idx))) (V_w m c _)
  blk_ext [ix_w]

/-- The staged weights of the gate. -/
theorem blk_wz (t : Fin cfg0.N) (k l : Fin 1024) : X0_2 m c t (ix3 0 k l) = wAt m c k ⟨3072 + l.val, by omega⟩ := by
  unfold X0_2 wAt Pipeline.Window.fill
  rw [dif_pos (moved0_2 t _)]
  blk_simp [iblk]
  refine Eq.trans (congrArg (V m c main_v16) (?_ : _ = (ix3 (0 : Fin 1) k ⟨3072 + l.val, by omega⟩ : S1x1024x4112.Idx))) (V_w m c _)
  blk_ext [ix_wz]

/-- The staged taps. -/
theorem blk_cw (t : Fin cfg0.N) (j : Fin 4) (l : Fin 3072) : iblk m c 3 t (ix3 0 j l) = cwAt m c j l := by
  unfold cwAt
  blk_simp [iblk]
  rw [V_main_arg2]
  refine congrArg _ ?_
  blk_ext [ix_cw]

/-- The staged columns of the small projections. -/
theorem blk_wba (t : Fin cfg0.N) (k : Fin 1024) (l : Fin 128) (h : l.val < 16) : iblk m c 4 t (ix2 k l) = wAt m c k ⟨4096 + l.val, by omega⟩ := by
  blk_simp [iblk]
  refine Eq.trans (congrArg (V m c main_v3) (?_ : _ = (ix2 k l : S1024x128.Idx))) ((V_wba m c k l).trans (dif_pos h))
  blk_ext [ix_4]

/-- The staged decay rates. -/
theorem blk_a (t : Fin cfg0.N) (h : Fin 8) : iblk m c 5 t (ix2 0 ⟨8 + h.val, by omega⟩) = aAt m c h := by
  blk_simp [iblk]
  refine Eq.trans (congrArg (V m c main_v9) (?_ : _ = (ix2 (0 : Fin 1) ⟨8 + h.val, by omega⟩ : S1x128.Idx))) (V_alog m c h)
  blk_ext [ix_5]

/-- The staged step shifts. -/
theorem blk_d (t : Fin cfg0.N) (h : Fin 8) : iblk m c 6 t (ix2 0 ⟨8 + h.val, by omega⟩) = dAt m c h := by
  blk_simp [iblk]
  refine Eq.trans (congrArg (V m c main_v15) (?_ : _ = (ix2 (0 : Fin 1) ⟨8 + h.val, by omega⟩ : S1x128.Idx))) (V_dtb m c h)
  blk_ext [ix_6]

/-- The staged triangle. -/
theorem blk_tri (t : Fin cfg0.N) (r k : Fin 512) : iblk m c 7 t (ix2 r k) = (if k.val ≤ r.val ∧ r.val / 64 = k.val / 64 then 1 else 0 : EReal) := by
  blk_simp [iblk]
  refine Eq.trans (congrArg (V m c main_v31) (?_ : _ = (ix2 r k : S512x512.Idx))) (V_tri m c r k)
  blk_ext [ix_7]

/-- The staged spreading matrix of the steps. -/
theorem blk_eb (t : Fin cfg0.N) (l : Fin 128) (k : Fin 1024) : iblk m c 8 t (ix2 l k) = (if l.val = k.val / 128 then 1 else 0 : EReal) := by
  blk_simp [iblk]
  refine Eq.trans (congrArg (V m c main_v40) (?_ : _ = (ix2 l k : S128x1024.Idx))) (V_eb m c l k)
  blk_ext [ix_8]

/-- The staged spreading matrix of the decays. -/
theorem blk_ea (t : Fin cfg0.N) (l : Fin 128) (k : Fin 1024) : iblk m c 9 t (ix2 l k) = (if l.val = k.val / 128 + 8 then 1 else 0 : EReal) := by
  blk_simp [iblk]
  refine Eq.trans (congrArg (V m c main_v48) (?_ : _ = (ix2 l k : S128x1024.Idx))) (V_ea m c l k)
  blk_ext [ix_9]

/-- The blocks staged at a grid point. -/
theorem staged (t : Fin cfg0.N) : Staged (xAt m c ⟨(grid0.coords t 0).val, lt2 t⟩) (wAt m c) (cwAt m c) (aAt m c) (dAt m c) ⟨(grid0.coords t 1).val, lt16 t⟩
    (iblk m c 0 t) (X0_1 m c t) (X0_2 m c t) (iblk m c 3 t) (iblk m c 4 t) (iblk m c 5 t) (iblk m c 6 t) (iblk m c 7 t) (iblk m c 8 t) (iblk m c 9 t) where
  h0 := blk_x m c t
  h1 := blk_w m c t
  h2 := blk_wz m c t
  h3 := blk_cw m c t
  h4 := blk_wba m c t
  h5 := blk_a m c t
  h6 := blk_d m c t
  h7 := blk_tri m c t
  h8 := blk_eb m c t
  h9 := blk_ea m c t

/-- What a tile leaves for the next: the last eight rows of its projection, whatever was there before. -/
theorem carry_next (t : Fin cfg0.N) (p : Fin 3) (i : Fin 8) (l : Fin 1024) :
    (outsAt0 m c t.val t.isLt).2.2.2.2.2.2 (ix3 p i l) = before (proj (xAt m c ⟨(grid0.coords t 0).val, lt2 t⟩) (wAt m c) ⟨1024 * p.val + l.val, by omega⟩) (512 * (grid0.coords t 1).val + 512 + i.val) := by
  by_cases h0 : t.val % 16 = 0
  · rw [outsAt0_A m c t h0]
    dsimp only
    unfold sout0_A_0
    rw [View.read_writes_junk_eq_canon, carry_A]
    exact carry_tile (staged m c t) _ p i l
  · rw [outsAt0_B m c t h0]
    dsimp only
    unfold sout0_B_0
    rw [View.read_writes_junk_eq_canon, carry_B]
    exact carry_tile (staged m c t) _ p i l

/-- The zeros a sequence's first tile starts from are the rows before it. -/
theorem carry_first (t : Fin cfg0.N) (h0 : t.val % 16 = 0) (p : Fin 3) (i : Fin 8) (l : Fin 1024) :
    (k0_pay2 (F := Ideal)) (ix3 p i l) = before (proj (xAt m c ⟨(grid0.coords t 0).val, lt2 t⟩) (wAt m c) ⟨1024 * p.val + l.val, by omega⟩) (512 * (grid0.coords t 1).val + i.val) := by
  rw [before_zero _ _ (by have := (coords_at t).2; omega)]
  unfold k0_pay2
  pointwise

/-- What a later tile finds is the rows before it. -/
theorem carry_prev (t : Fin cfg0.N) (h0 : ¬t.val % 16 = 0) (p : Fin 3) (i : Fin 8) (l : Fin 1024) :
    (outsAt0 m c (t.val - 1) (Nat.lt_of_le_of_lt (Nat.sub_le _ _) t.isLt)).2.2.2.2.2.2 (ix3 p i l) = before (proj (xAt m c ⟨(grid0.coords t 0).val, lt2 t⟩) (wAt m c) ⟨1024 * p.val + l.val, by omega⟩) (512 * (grid0.coords t 1).val + i.val) := by
  refine (carry_next m c ⟨t.val - 1, Nat.lt_of_le_of_lt (Nat.sub_le _ _) t.isLt⟩ p i l).trans ?_
  have a := coords_at t
  have b := coords_at ⟨t.val - 1, Nat.lt_of_le_of_lt (Nat.sub_le _ _) t.isLt⟩
  have b1 : (grid0.coords ⟨t.val - 1, Nat.lt_of_le_of_lt (Nat.sub_le _ _) t.isLt⟩ 0).val = (t.val - 1) / 16 := b.1
  have b2 : (grid0.coords ⟨t.val - 1, Nat.lt_of_le_of_lt (Nat.sub_le _ _) t.isLt⟩ 1).val = (t.val - 1) % 16 := b.2
  have e1 : (⟨(grid0.coords ⟨t.val - 1, Nat.lt_of_le_of_lt (Nat.sub_le _ _) t.isLt⟩ 0).val, lt2 _⟩ : Fin 2) = ⟨(grid0.coords t 0).val, lt2 t⟩ := Fin.ext (by rw [b1, a.1]; omega)
  have e2 : 512 * (grid0.coords ⟨t.val - 1, Nat.lt_of_le_of_lt (Nat.sub_le _ _) t.isLt⟩ 1).val + 512 + i.val = 512 * (grid0.coords t 1).val + i.val := by rw [b2, a.2]; omega
  rw [e1, e2]

/-- A tile's block of the queries. -/
theorem q_after (t : Fin cfg0.N) (r : Fin 512) (l : Fin 1024) :
    (outsAt0 m c t.val t.isLt).1 (ix3 0 r l) = qAt (xAt m c ⟨(grid0.coords t 0).val, lt2 t⟩) (wAt m c) (cwAt m c) ⟨512 * (grid0.coords t 1).val + r.val, by have := lt16 t; omega⟩ (headOf l) (laneOf l) := by
  by_cases h0 : t.val % 16 = 0
  · rw [outsAt0_A m c t h0]
    dsimp only
    unfold out0_A_10
    rw [View.read_writes_junk_eq_canon]
    have hy := cover0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (X0_1 m c t) (X0_2 m c t) (iblk m c 3 t) (iblk m c 4 t) (iblk m c 5 t) (iblk m c 6 t) (iblk m c 7 t) (iblk m c 8 t) (iblk m c 9 t) (ix3 0 r l)
    rw [q_A] at hy ⊢
    refine (q_block (staged m c t) (carry_first m c t h0) _ hy).trans ?_
    rfl
  · rw [outsAt0_B m c t h0]
    dsimp only
    unfold out0_B_10
    rw [View.read_writes_junk_eq_canon]
    have hy := cover0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2 (ix3 0 r l)
    rw [q_B] at hy ⊢
    refine (q_block (staged m c t) (carry_prev m c t h0) _ hy).trans ?_
    rfl

/-- The array of the queries. -/
def qArr : Vec Ideal S2x8192x1024 .bf16 := fun j => qAt (xAt m c (j 0)) (wAt m c) (cwAt m c) (j 1) (headOf (j 2)) (laneOf (j 2))

/-- The block of the queries at a grid point. -/
theorem ix_10 : ∀ t : Fin cfg0.N, win0_10.index t = ![(grid0.coords t 0).val, (grid0.coords t 1).val, 0] := (by decide +kernel : ∀ t : Fin grid0.N, _)

/-- The queries after the call. -/
theorem q_final : (dats m 0 c).arrAt 10 cfg0.N = qArr m c := by
  refine (dats m 0 c).arrAt_eq_of_covers 10 _ (by decide +kernel) fun t hf y => ?_
  blk_simp
  rw [after0_10]
  obtain ⟨r, l, rfl⟩ : ∃ (r : Fin 512) (l : Fin 1024), y = (ix3 0 r l : S1x512x1024.Idx) := ⟨y 1, y 2, by
    funext a
    match a with
    | ⟨0, _⟩ => exact Subsingleton.elim (α := Fin 1) _ _
    | ⟨1, _⟩ => rfl
    | ⟨2, _⟩ => rfl⟩
  refine (q_after m c t r l).trans ?_
  have e : (win0_10.blk t).view.emb (ix3 0 r l : S1x512x1024.Idx) = (ix3 ⟨(grid0.coords t 0).val, lt2 t⟩ ⟨512 * (grid0.coords t 1).val + r.val, by have := lt16 t; omega⟩ l : S2x8192x1024.Idx) := by
    blk_ext [ix_10]
  exact (congrArg (qArr m c) e).symm

/-- A tile's block of the keys. -/
theorem k_after (t : Fin cfg0.N) (r : Fin 512) (l : Fin 1024) :
    (outsAt0 m c t.val t.isLt).2.1 (ix3 0 r l) = kAt (xAt m c ⟨(grid0.coords t 0).val, lt2 t⟩) (wAt m c) (cwAt m c) ⟨512 * (grid0.coords t 1).val + r.val, by have := lt16 t; omega⟩ (headOf l) (laneOf l) := by
  by_cases h0 : t.val % 16 = 0
  · rw [outsAt0_A m c t h0]
    dsimp only
    unfold out0_A_11
    rw [View.read_writes_junk_eq_canon]
    have hy := cover0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (X0_1 m c t) (X0_2 m c t) (iblk m c 3 t) (iblk m c 4 t) (iblk m c 5 t) (iblk m c 6 t) (iblk m c 7 t) (iblk m c 8 t) (iblk m c 9 t) (ix3 0 r l)
    rw [k_A] at hy ⊢
    refine (k_block (staged m c t) (carry_first m c t h0) _ hy).trans ?_
    rw [show Ideal.ofBits .f32 0x3F800000#32 = 1 by simp, mul_one]
    rfl
  · rw [outsAt0_B m c t h0]
    dsimp only
    unfold out0_B_11
    rw [View.read_writes_junk_eq_canon]
    have hy := cover0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2 (ix3 0 r l)
    rw [k_B] at hy ⊢
    refine (k_block (staged m c t) (carry_prev m c t h0) _ hy).trans ?_
    rw [show Ideal.ofBits .f32 0x3F800000#32 = 1 by simp, mul_one]
    rfl

/-- The array of the keys. -/
def kArr : Vec Ideal S2x8192x1024 .bf16 := fun j => kAt (xAt m c (j 0)) (wAt m c) (cwAt m c) (j 1) (headOf (j 2)) (laneOf (j 2))

/-- The block of the keys at a grid point. -/
theorem ix_11 : ∀ t : Fin cfg0.N, win0_11.index t = ![(grid0.coords t 0).val, (grid0.coords t 1).val, 0] := (by decide +kernel : ∀ t : Fin grid0.N, _)

/-- The keys after the call. -/
theorem k_final : (dats m 0 c).arrAt 11 cfg0.N = kArr m c := by
  refine (dats m 0 c).arrAt_eq_of_covers 11 _ (by decide +kernel) fun t hf y => ?_
  blk_simp
  rw [after0_11]
  obtain ⟨r, l, rfl⟩ : ∃ (r : Fin 512) (l : Fin 1024), y = (ix3 0 r l : S1x512x1024.Idx) := ⟨y 1, y 2, by
    funext a
    match a with
    | ⟨0, _⟩ => exact Subsingleton.elim (α := Fin 1) _ _
    | ⟨1, _⟩ => rfl
    | ⟨2, _⟩ => rfl⟩
  refine (k_after m c t r l).trans ?_
  have e : (win0_11.blk t).view.emb (ix3 0 r l : S1x512x1024.Idx) = (ix3 ⟨(grid0.coords t 0).val, lt2 t⟩ ⟨512 * (grid0.coords t 1).val + r.val, by have := lt16 t; omega⟩ l : S2x8192x1024.Idx) := by
    blk_ext [ix_11]
  exact (congrArg (kArr m c) e).symm

/-- A tile's block of the values. -/
theorem v_after (t : Fin cfg0.N) (r : Fin 512) (l : Fin 1024) :
    (outsAt0 m c t.val t.isLt).2.2.1 (ix3 0 r l) = act3 (xAt m c ⟨(grid0.coords t 0).val, lt2 t⟩) (wAt m c) (cwAt m c) (part 2 l) ⟨512 * (grid0.coords t 1).val + r.val, by have := lt16 t; omega⟩ := by
  by_cases h0 : t.val % 16 = 0
  · rw [outsAt0_A m c t h0]
    dsimp only
    unfold out0_A_12
    rw [View.read_writes_junk_eq_canon]
    have hy := cover0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (X0_1 m c t) (X0_2 m c t) (iblk m c 3 t) (iblk m c 4 t) (iblk m c 5 t) (iblk m c 6 t) (iblk m c 7 t) (iblk m c 8 t) (iblk m c 9 t) (ix3 0 r l)
    rw [v_A] at hy ⊢
    refine (v_block (staged m c t) (carry_first m c t h0) _ hy).trans ?_
    rfl
  · rw [outsAt0_B m c t h0]
    dsimp only
    unfold out0_B_12
    rw [View.read_writes_junk_eq_canon]
    have hy := cover0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2 (ix3 0 r l)
    rw [v_B] at hy ⊢
    refine (v_block (staged m c t) (carry_prev m c t h0) _ hy).trans ?_
    rfl

/-- The array of the values. -/
def vArr : Vec Ideal S2x8192x1024 .bf16 := fun j => act3 (xAt m c (j 0)) (wAt m c) (cwAt m c) (part 2 (j 2)) (j 1)

/-- The block of the values at a grid point. -/
theorem ix_12 : ∀ t : Fin cfg0.N, win0_12.index t = ![(grid0.coords t 0).val, (grid0.coords t 1).val, 0] := (by decide +kernel : ∀ t : Fin grid0.N, _)

/-- The values after the call. -/
theorem v_final : (dats m 0 c).arrAt 12 cfg0.N = vArr m c := by
  refine (dats m 0 c).arrAt_eq_of_covers 12 _ (by decide +kernel) fun t hf y => ?_
  blk_simp
  rw [after0_12]
  obtain ⟨r, l, rfl⟩ : ∃ (r : Fin 512) (l : Fin 1024), y = (ix3 0 r l : S1x512x1024.Idx) := ⟨y 1, y 2, by
    funext a
    match a with
    | ⟨0, _⟩ => exact Subsingleton.elim (α := Fin 1) _ _
    | ⟨1, _⟩ => rfl
    | ⟨2, _⟩ => rfl⟩
  refine (v_after m c t r l).trans ?_
  have e : (win0_12.blk t).view.emb (ix3 0 r l : S1x512x1024.Idx) = (ix3 ⟨(grid0.coords t 0).val, lt2 t⟩ ⟨512 * (grid0.coords t 1).val + r.val, by have := lt16 t; omega⟩ l : S2x8192x1024.Idx) := by
    blk_ext [ix_12]
  exact (congrArg (vArr m c) e).symm

/-- A tile's block of the gate. -/
theorem z_after (t : Fin cfg0.N) (r : Fin 512) (l : Fin 1024) :
    (outsAt0 m c t.val t.isLt).2.2.2.1 (ix3 0 r l) = proj (xAt m c ⟨(grid0.coords t 0).val, lt2 t⟩) (wAt m c) ⟨3072 + (l).val, by have h2 : (l).val < 1024 := (l).isLt; omega⟩ ⟨512 * (grid0.coords t 1).val + r.val, by have := lt16 t; omega⟩ := by
  by_cases h0 : t.val % 16 = 0
  · rw [outsAt0_A m c t h0]
    dsimp only
    unfold out0_A_13
    rw [View.read_writes_junk_eq_canon]
    have hy := cover0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (X0_1 m c t) (X0_2 m c t) (iblk m c 3 t) (iblk m c 4 t) (iblk m c 5 t) (iblk m c 6 t) (iblk m c 7 t) (iblk m c 8 t) (iblk m c 9 t) (ix3 0 r l)
    rw [z_A] at hy ⊢
    refine (z_block (staged m c t) _ hy).trans ?_
    rfl
  · rw [outsAt0_B m c t h0]
    dsimp only
    unfold out0_B_13
    rw [View.read_writes_junk_eq_canon]
    have hy := cover0_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2 (ix3 0 r l)
    rw [z_B] at hy ⊢
    refine (z_block (staged m c t) _ hy).trans ?_
    rfl

/-- The array of the gate. -/
def zArr : Vec Ideal S2x8192x1024 .bf16 := fun j => proj (xAt m c (j 0)) (wAt m c) ⟨3072 + ((j 2)).val, by have h2 : ((j 2)).val < 1024 := ((j 2)).isLt; omega⟩ (j 1)

/-- The block of the gate at a grid point. -/
theorem ix_13 : ∀ t : Fin cfg0.N, win0_13.index t = ![(grid0.coords t 0).val, (grid0.coords t 1).val, 0] := (by decide +kernel : ∀ t : Fin grid0.N, _)

/-- The gate after the call. -/
theorem z_final : (dats m 0 c).arrAt 13 cfg0.N = zArr m c := by
  refine (dats m 0 c).arrAt_eq_of_covers 13 _ (by decide +kernel) fun t hf y => ?_
  blk_simp
  rw [after0_13]
  obtain ⟨r, l, rfl⟩ : ∃ (r : Fin 512) (l : Fin 1024), y = (ix3 0 r l : S1x512x1024.Idx) := ⟨y 1, y 2, by
    funext a
    match a with
    | ⟨0, _⟩ => exact Subsingleton.elim (α := Fin 1) _ _
    | ⟨1, _⟩ => rfl
    | ⟨2, _⟩ => rfl⟩
  refine (z_after m c t r l).trans ?_
  have e : (win0_13.blk t).view.emb (ix3 0 r l : S1x512x1024.Idx) = (ix3 ⟨(grid0.coords t 0).val, lt2 t⟩ ⟨512 * (grid0.coords t 1).val + r.val, by have := lt16 t; omega⟩ l : S2x8192x1024.Idx) := by
    blk_ext [ix_13]
  exact (congrArg (zArr m c) e).symm

/-- A tile's block of the steps. -/
theorem beta_after (t : Fin cfg0.N) (r : Fin 512) (l : Fin 1024) :
    (outsAt0 m c t.val t.isLt).2.2.2.2.1 (ix3 0 r l) = betaAt (xAt m c ⟨(grid0.coords t 0).val, lt2 t⟩) (wAt m c) (headOf l) ⟨512 * (grid0.coords t 1).val + r.val, by have := lt16 t; omega⟩ := by
  by_cases h0 : t.val % 16 = 0
  · rw [outsAt0_A m c t h0]
    dsimp only
    unfold out0_A_14
    rw [View.read_writes_junk_eq_canon]
    have hy := cover0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (X0_1 m c t) (X0_2 m c t) (iblk m c 3 t) (iblk m c 4 t) (iblk m c 5 t) (iblk m c 6 t) (iblk m c 7 t) (iblk m c 8 t) (iblk m c 9 t) (ix3 0 r l)
    rw [beta_A] at hy ⊢
    refine (beta_block (staged m c t) _ hy).trans ?_
    rfl
  · rw [outsAt0_B m c t h0]
    dsimp only
    unfold out0_B_14
    rw [View.read_writes_junk_eq_canon]
    have hy := cover0_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2 (ix3 0 r l)
    rw [beta_B] at hy ⊢
    refine (beta_block (staged m c t) _ hy).trans ?_
    rfl

/-- The array of the steps. -/
def betaArr : Vec Ideal S2x8192x1024 .bf16 := fun j => betaAt (xAt m c (j 0)) (wAt m c) (headOf (j 2)) (j 1)

/-- The block of the steps at a grid point. -/
theorem ix_14 : ∀ t : Fin cfg0.N, win0_14.index t = ![(grid0.coords t 0).val, (grid0.coords t 1).val, 0] := (by decide +kernel : ∀ t : Fin grid0.N, _)

/-- The steps after the call. -/
theorem beta_final : (dats m 0 c).arrAt 14 cfg0.N = betaArr m c := by
  refine (dats m 0 c).arrAt_eq_of_covers 14 _ (by decide +kernel) fun t hf y => ?_
  blk_simp
  rw [after0_14]
  obtain ⟨r, l, rfl⟩ : ∃ (r : Fin 512) (l : Fin 1024), y = (ix3 0 r l : S1x512x1024.Idx) := ⟨y 1, y 2, by
    funext a
    match a with
    | ⟨0, _⟩ => exact Subsingleton.elim (α := Fin 1) _ _
    | ⟨1, _⟩ => rfl
    | ⟨2, _⟩ => rfl⟩
  refine (beta_after m c t r l).trans ?_
  have e : (win0_14.blk t).view.emb (ix3 0 r l : S1x512x1024.Idx) = (ix3 ⟨(grid0.coords t 0).val, lt2 t⟩ ⟨512 * (grid0.coords t 1).val + r.val, by have := lt16 t; omega⟩ l : S2x8192x1024.Idx) := by
    blk_ext [ix_14]
  exact (congrArg (betaArr m c) e).symm

/-- A tile's block of the decays' running sums. -/
theorem gc_after (t : Fin cfg0.N) (r : Fin 512) (l : Fin 1024) :
    (outsAt0 m c t.val t.isLt).2.2.2.2.2.1 (ix3 0 r l) = chunkSum (decayAt (xAt m c ⟨(grid0.coords t 0).val, lt2 t⟩) (wAt m c) (aAt m c) (dAt m c) (headOf l)) ⟨512 * (grid0.coords t 1).val + r.val, by have := lt16 t; omega⟩ := by
  by_cases h0 : t.val % 16 = 0
  · rw [outsAt0_A m c t h0]
    dsimp only
    unfold out0_A_15
    rw [View.read_writes_junk_eq_canon]
    have hy := cover0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (X0_1 m c t) (X0_2 m c t) (iblk m c 3 t) (iblk m c 4 t) (iblk m c 5 t) (iblk m c 6 t) (iblk m c 7 t) (iblk m c 8 t) (iblk m c 9 t) (ix3 0 r l)
    rw [decay_A] at hy ⊢
    refine (gc_block (staged m c t) _ hy).trans ?_
    rfl
  · rw [outsAt0_B m c t h0]
    dsimp only
    unfold out0_B_15
    rw [View.read_writes_junk_eq_canon]
    have hy := cover0_B_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2 (ix3 0 r l)
    rw [decay_B] at hy ⊢
    refine (gc_block (staged m c t) _ hy).trans ?_
    rfl

/-- The array of the decays' running sums. -/
def gcArr : Vec Ideal S2x8192x1024 .f32 := fun j => chunkSum (decayAt (xAt m c (j 0)) (wAt m c) (aAt m c) (dAt m c) (headOf (j 2))) (j 1)

/-- The block of the decays' running sums at a grid point. -/
theorem ix_15 : ∀ t : Fin cfg0.N, win0_15.index t = ![(grid0.coords t 0).val, (grid0.coords t 1).val, 0] := (by decide +kernel : ∀ t : Fin grid0.N, _)

/-- The decays' running sums after the call. -/
theorem gc_final : (dats m 0 c).arrAt 15 cfg0.N = gcArr m c := by
  refine (dats m 0 c).arrAt_eq_of_covers 15 _ (by decide +kernel) fun t hf y => ?_
  blk_simp
  rw [after0_15]
  obtain ⟨r, l, rfl⟩ : ∃ (r : Fin 512) (l : Fin 1024), y = (ix3 0 r l : S1x512x1024.Idx) := ⟨y 1, y 2, by
    funext a
    match a with
    | ⟨0, _⟩ => exact Subsingleton.elim (α := Fin 1) _ _
    | ⟨1, _⟩ => rfl
    | ⟨2, _⟩ => rfl⟩
  refine (gc_after m c t r l).trans ?_
  have e : (win0_15.blk t).view.emb (ix3 0 r l : S1x512x1024.Idx) = (ix3 ⟨(grid0.coords t 0).val, lt2 t⟩ ⟨512 * (grid0.coords t 1).val + r.val, by have := lt16 t; omega⟩ l : S2x8192x1024.Idx) := by
    blk_ext [ix_15]
  exact (congrArg (gcArr m c) e).symm

end Cert.Tile3

end
-- ==== Proof.RefProj.lean ====
module

public import proofs.«01_k».proof.Proof.Gen.Reference3Ideal.Read
public import proofs.«01_k».proof.Proof.Spec3
public import Idealize.ShloMosaic.Lib.KernelVsHost

/-! The third reference's projection and convolution, read at a row and a column. -/

@[expose] public section

noncomputable section

namespace Cert.RefRead3

open Cert.Spec Cert.Reference3Ideal Cert.Reference3Ideal.Gen Cert.Reference3Ideal.Read Idealize.ShloMosaic Idealize.ShloMosaic.TcCoe Idealize.ShloMosaic.Pointwise

variable (x0 : Vec Ideal S2x8192x1024 .f32) (x1 : Vec Ideal S1x1024x4112 .f32) (x2 : Vec Ideal S1x4x3072 .f32) (x3 x4 : Vec Ideal S1x8 .f32)

/-- Sequence `b`'s rows. -/
abbrev rowsOf (b : Fin 2) : Fin 8192 → Fin 1024 → EReal := fun R k => x0 (ix3 b R k)

/-- The weights. -/
abbrev wOf : Fin 1024 → Fin 4112 → EReal := fun k l => x1 (ix3 0 k l)

/-- The taps. -/
abbrev cwOf : Fin 4 → Fin 3072 → EReal := fun j l => x2 (ix3 0 j l)

/-- The whole projection. -/
theorem proj_read (b : Fin 2) (R : Fin 8192) (c : Fin 4112) : val_main_v1 x0 x1 (ix3 b R c) = proj (rowsOf x0 b) (wOf x1) c R := by
  unfold val_main_v1 val_main_v0 proj
  pointwise

/-- The columns that are convolved. -/
theorem qkv_read (b : Fin 2) (R : Fin 8192) (c : Fin 3072) : val_main_v2 x0 x1 (ix3 b R c) = proj (rowsOf x0 b) (wOf x1) ⟨c.val, by omega⟩ R := by
  rw [← proj_read]
  unfold val_main_v2
  generalize val_main_v1 x0 x1 = Y
  pointwise

/-- The columns of the gate. -/
theorem gate_read (b : Fin 2) (R : Fin 8192) (c : Fin 1024) : val_main_v3 x0 x1 (ix3 b R c) = proj (rowsOf x0 b) (wOf x1) ⟨3072 + c.val, by omega⟩ R := by
  rw [← proj_read]
  unfold val_main_v3
  generalize val_main_v1 x0 x1 = Y
  pointwise

/-- The columns of the steps. -/
theorem bcol_read (b : Fin 2) (R : Fin 8192) (c : Fin 8) : val_main_v4 x0 x1 (ix3 b R c) = proj (rowsOf x0 b) (wOf x1) ⟨4096 + c.val, by omega⟩ R := by
  rw [← proj_read]
  unfold val_main_v4
  generalize val_main_v1 x0 x1 = Y
  pointwise

/-- The columns of the decays. -/
theorem acol_read (b : Fin 2) (R : Fin 8192) (c : Fin 8) : val_main_v5 x0 x1 (ix3 b R c) = proj (rowsOf x0 b) (wOf x1) ⟨4104 + c.val, by omega⟩ R := by
  rw [← proj_read]
  unfold val_main_v5
  generalize val_main_v1 x0 x1 = Y
  pointwise

/-- The rows with three rows of zeros before them. -/
theorem pad_read (b : Fin 2) (n : Fin 8195) (c : Fin 3072) : val_main_v7 x0 x1 (ix3 b n c) = before (proj (rowsOf x0 b) (wOf x1) ⟨c.val, by omega⟩) (n.val + 5) := by
  unfold val_main_v7 before
  by_cases h : 3 ≤ n.val
  · rw [dif_pos (by omega)]
    refine (pad_apply_of_inside _ _ _ _ _ _ _ _ (ix3 b ⟨n.val - 3, by omega⟩ c) fun a => ?_).trans ((qkv_read x0 x1 b ⟨n.val - 3, by omega⟩ c).trans ?_)
    · match a with
      | ⟨0, _⟩ => show b.val = 0 + b.val * 1; omega
      | ⟨1, _⟩ => show n.val = 3 + (n.val - 3) * 1; omega
      | ⟨2, _⟩ => show c.val = 0 + c.val * 1; omega
    · exact congrArg _ (Fin.ext (by show n.val - 3 = n.val + 5 - 8; omega))
  · rw [dif_neg (by omega)]
    refine (pad_apply_of_not_inside _ _ _ _ _ _ _ _ (1 : Fin 3) fun hin => h hin.1).trans ?_
    rw [val_main_call0_v0_apply]
    show (((0#32 : BitVec 32).toInt : ℝ) : EReal) = 0
    simp

/-- The convolution, from padded rows. -/
theorem taps_read (b : Fin 2) (R : Fin 8192) (c : Fin 3072) :
    val_main_v36 x0 x1 x2 (ix3 b R c) = val_main_v7 x0 x1 (ix3 b ⟨0 + R.val, by omega⟩ c) * x2 (ix3 0 0 c) + val_main_v7 x0 x1 (ix3 b ⟨1 + R.val, by omega⟩ c) * x2 (ix3 0 1 c)
      + val_main_v7 x0 x1 (ix3 b ⟨2 + R.val, by omega⟩ c) * x2 (ix3 0 2 c) + val_main_v7 x0 x1 (ix3 b ⟨3 + R.val, by omega⟩ c) * x2 (ix3 0 3 c) := by
  unfold val_main_v36 val_main_v35 val_main_v34 val_main_v33 val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v15 val_main_v14 val_main_cst val_main_v13 val_main_v12 val_main_v11 val_main_v10 val_main_v9 val_main_v8 val_main_v6
  generalize val_main_v7 x0 x1 = Y
  pointwise

/-- The convolution. -/
theorem conv_read (b : Fin 2) (R : Fin 8192) (c : Fin 3072) :
    val_main_v36 x0 x1 x2 (ix3 b R c) = conv4 (before (proj (rowsOf x0 b) (wOf x1) ⟨c.val, by omega⟩)) (fun j => cwOf x2 j c) R.val := by
  rw [taps_read, pad_read, pad_read, pad_read, pad_read]
  unfold conv4
  have e : ∀ k : ℕ, (fun n => before (proj (rowsOf x0 b) (wOf x1) ⟨c.val, by omega⟩) n) (k + R.val + 5) = before (proj (rowsOf x0 b) (wOf x1) ⟨c.val, by omega⟩) (R.val + (k + 5)) :=
    fun k => congrArg (before (proj (rowsOf x0 b) (wOf x1) ⟨c.val, by omega⟩)) (by omega)
  exact congrArg₂ (· + ·) (congrArg₂ (· + ·) (congrArg₂ (· + ·) (congrArg (· * _) (e 0)) (congrArg (· * _) (e 1))) (congrArg (· * _) (e 2))) (congrArg (· * _) (e 3))

/-- The activated columns. -/
theorem act_read (b : Fin 2) (R : Fin 8192) (c : Fin 3072) : val_main_v37 x0 x1 x2 (ix3 b R c) = act3 (rowsOf x0 b) (wOf x1) (cwOf x2) c R := by
  unfold act3
  rw [← conv_read]
  unfold val_main_v37 val_main_call1_v5 val_main_call1_v4 val_main_call1_cst_0 val_main_call1_v3 val_main_call1_v2 val_main_call1_cst val_main_call1_v1 val_main_call1_v0 swish
  generalize val_main_v36 x0 x1 x2 = Y
  pointwise
  rfl

/-- The queries' columns. -/
theorem part0_read (b : Fin 2) (R : Fin 8192) (c : Fin 1024) : val_main_v38 x0 x1 x2 (ix3 b R c) = act3 (rowsOf x0 b) (wOf x1) (cwOf x2) (part 0 c) R := by
  rw [← act_read]
  unfold val_main_v38 part
  generalize val_main_v37 x0 x1 x2 = Y
  pointwise

/-- The keys' columns. -/
theorem part1_read (b : Fin 2) (R : Fin 8192) (c : Fin 1024) : val_main_v39 x0 x1 x2 (ix3 b R c) = act3 (rowsOf x0 b) (wOf x1) (cwOf x2) (part 1 c) R := by
  rw [← act_read]
  unfold val_main_v39 part
  generalize val_main_v37 x0 x1 x2 = Y
  pointwise

/-- The values' columns. -/
theorem part2_read (b : Fin 2) (R : Fin 8192) (c : Fin 1024) : val_main_v40 x0 x1 x2 (ix3 b R c) = act3 (rowsOf x0 b) (wOf x1) (cwOf x2) (part 2 c) R := by
  rw [← act_read]
  unfold val_main_v40 part
  generalize val_main_v37 x0 x1 x2 = Y
  pointwise

end Cert.RefRead3

end
-- ==== Proof.RefHead.lean ====
module

public import proofs.«01_k».proof.Proof.RefProj

/-! The third reference's queries, keys, values, gate and steps, read at a row and a column. -/

@[expose] public section

noncomputable section

namespace Cert.RefRead3

open Cert.Spec Cert.Reference3Ideal Cert.Reference3Ideal.Gen Cert.Reference3Ideal.Read Idealize.ShloMosaic Idealize.ShloMosaic.TcCoe Idealize.ShloMosaic.Pointwise

variable (x0 : Vec Ideal S2x8192x1024 .f32) (x1 : Vec Ideal S1x1024x4112 .f32) (x2 : Vec Ideal S1x4x3072 .f32) (x3 x4 : Vec Ideal S1x8 .f32)

/-- A row's place among the heads. -/
theorem split_head {α : Type} (y : S2x8192x1024.Idx → α) (b : Fin 2) (R : Fin 8192) (h : Fin 8) (l : Fin 128) : shapeCast S2x8192x8x128 y shapeCasts_S2x8192x1024_S2x8192x8x128 (ix4 b R h l) = y (ix3 b R (hcol h l)) := by
  have h0 := b.isLt
  have h1 := R.isLt
  have h2 := h.isLt
  have h3 := l.isLt
  refine shapeCast_apply y shapeCasts_S2x8192x1024_S2x8192x8x128 (ix4 b R h l) (ix3 b R (hcol h l)) ?_
  rw [Shape.rowMajor_val_three, Shape.rowMajor_val_four]
  show (b.val * 8192 + R.val) * 1024 + (128 * h.val + l.val) = ((b.val * 8192 + R.val) * 8 + h.val) * 128 + l.val
  omega

/-- The heads joined. -/
theorem join_head {α : Type} (y : S2x8192x8x128.Idx → α) (b : Fin 2) (R : Fin 8192) (c : Fin 1024) : shapeCast S2x8192x1024 y shapeCasts_S2x8192x8x128_S2x8192x1024 (ix3 b R c) = y (ix4 b R (headOf c) (laneOf c)) := by
  have h0 := b.isLt
  have h1 := R.isLt
  have h2 := c.isLt
  refine shapeCast_apply y shapeCasts_S2x8192x8x128_S2x8192x1024 (ix3 b R c) (ix4 b R (headOf c) (laneOf c)) ?_
  rw [Shape.rowMajor_val_three, Shape.rowMajor_val_four]
  show ((b.val * 8192 + R.val) * 8 + c.val / 128) * 128 + c.val % 128 = (b.val * 8192 + R.val) * 1024 + c.val
  omega

/-- A query's raw entry by head and place. -/
theorem qsplit_read (b : Fin 2) (R : Fin 8192) (h : Fin 8) (l : Fin 128) :
    val_main_v41 x0 x1 x2 (ix4 b R h l) = act3 (rowsOf x0 b) (wOf x1) (cwOf x2) (part 0 (hcol h l)) R := by
  rw [← part0_read]
  unfold val_main_v41
  generalize val_main_v38 x0 x1 x2 = Y
  exact split_head Y b R h l

/-- The sum of the squares of a query's lanes. -/
theorem qsum_read (b : Fin 2) (R : Fin 8192) (h : Fin 8) :
    val_main_v43 x0 x1 x2 (ix3 b R h) = ∑ k, val_main_v41 x0 x1 x2 (ix4 b R h k) * val_main_v41 x0 x1 x2 (ix4 b R h k) := by
  rw [val_main_v43_apply, val_main_cst_0_apply]
  have hz : (FloatOps.ofBits FTy.f32 0#32 : Ideal .f32) = 0 := by simp
  refine (congrArg (· + _) hz).trans ((zero_add _).trans (Finset.sum_congr rfl fun k _ => ?_))
  rw [show idx_main_v43 (ix3 b R h) k = ix4 b R h k from funext fun a => by
    match a with | ⟨0, _⟩ => rfl | ⟨1, _⟩ => rfl | ⟨2, _⟩ => rfl | ⟨3, _⟩ => rfl, val_main_v42_apply]
  generalize val_main_v41 x0 x1 x2 (ix4 b R h k) = y
  rfl

/-- A query's entry, from the queries split into heads. -/
theorem qnorm_read (b : Fin 2) (R : Fin 8192) (h : Fin 8) (l : Fin 128) :
    val_main_v51 x0 x1 x2 (ix4 b R h l) = l2 (fun l => val_main_v41 x0 x1 x2 (ix4 b R h l)) l * Ideal.ofBits .f32 0x3DB504F3#32 := by
  rw [val_main_v51_apply, val_main_v50_apply, val_main_cst_2_apply, val_main_v49_apply, val_main_v48_apply, val_main_v47_apply, val_main_v46_apply, val_main_v45_apply, val_main_cst_1_apply, val_main_v44_apply]
  rw [show idx_main_v44 (idx_main_v48 (ix4 b R h l)) = ix3 b R h from funext fun a => by
    match a with | ⟨0, _⟩ => rfl | ⟨1, _⟩ => rfl | ⟨2, _⟩ => rfl, qsum_read]
  unfold l2
  generalize val_main_v41 x0 x1 x2 = Y
  rfl

/-- A query's entry by head and place. -/
theorem qhead_read (b : Fin 2) (R : Fin 8192) (h : Fin 8) (l : Fin 128) : val_main_v51 x0 x1 x2 (ix4 b R h l) = qAt (rowsOf x0 b) (wOf x1) (cwOf x2) R h l := by
  rw [qnorm_read]
  unfold qAt
  rw [show (fun l => val_main_v41 x0 x1 x2 (ix4 b R h l)) = fun l => act3 (rowsOf x0 b) (wOf x1) (cwOf x2) (part 0 (hcol h l)) R from
    funext fun l => qsplit_read x0 x1 x2 b R h l]

/-- A key's raw entry by head and place. -/
theorem ksplit_read (b : Fin 2) (R : Fin 8192) (h : Fin 8) (l : Fin 128) :
    val_main_v52 x0 x1 x2 (ix4 b R h l) = act3 (rowsOf x0 b) (wOf x1) (cwOf x2) (part 1 (hcol h l)) R := by
  rw [← part1_read]
  unfold val_main_v52
  generalize val_main_v39 x0 x1 x2 = Y
  exact split_head Y b R h l

/-- The sum of the squares of a key's lanes. -/
theorem ksum_read (b : Fin 2) (R : Fin 8192) (h : Fin 8) :
    val_main_v54 x0 x1 x2 (ix3 b R h) = ∑ k, val_main_v52 x0 x1 x2 (ix4 b R h k) * val_main_v52 x0 x1 x2 (ix4 b R h k) := by
  rw [val_main_v54_apply, val_main_cst_3_apply]
  have hz : (FloatOps.ofBits FTy.f32 0#32 : Ideal .f32) = 0 := by simp
  refine (congrArg (· + _) hz).trans ((zero_add _).trans (Finset.sum_congr rfl fun k _ => ?_))
  rw [show idx_main_v54 (ix3 b R h) k = ix4 b R h k from funext fun a => by
    match a with | ⟨0, _⟩ => rfl | ⟨1, _⟩ => rfl | ⟨2, _⟩ => rfl | ⟨3, _⟩ => rfl, val_main_v53_apply]
  generalize val_main_v52 x0 x1 x2 (ix4 b R h k) = y
  rfl

/-- A key's entry, from the keys split into heads. -/
theorem knorm_read (b : Fin 2) (R : Fin 8192) (h : Fin 8) (l : Fin 128) :
    val_main_v60 x0 x1 x2 (ix4 b R h l) = l2 (fun l => val_main_v52 x0 x1 x2 (ix4 b R h l)) l := by
  rw [val_main_v60_apply, val_main_v59_apply, val_main_v58_apply, val_main_v57_apply, val_main_v56_apply, val_main_cst_4_apply, val_main_v55_apply]
  rw [show idx_main_v55 (idx_main_v59 (ix4 b R h l)) = ix3 b R h from funext fun a => by
    match a with | ⟨0, _⟩ => rfl | ⟨1, _⟩ => rfl | ⟨2, _⟩ => rfl, ksum_read]
  unfold l2
  generalize val_main_v52 x0 x1 x2 = Y
  rfl

/-- A key's entry by head and place. -/
theorem khead_read (b : Fin 2) (R : Fin 8192) (h : Fin 8) (l : Fin 128) : val_main_v60 x0 x1 x2 (ix4 b R h l) = kAt (rowsOf x0 b) (wOf x1) (cwOf x2) R h l := by
  rw [knorm_read]
  unfold kAt
  rw [show (fun l => val_main_v52 x0 x1 x2 (ix4 b R h l)) = fun l => act3 (rowsOf x0 b) (wOf x1) (cwOf x2) (part 1 (hcol h l)) R from
    funext fun l => ksplit_read x0 x1 x2 b R h l]

/-- The queries. -/
theorem q_read (b : Fin 2) (R : Fin 8192) (c : Fin 1024) : val_main_v85 x0 x1 x2 (ix3 b R c) = qAt (rowsOf x0 b) (wOf x1) (cwOf x2) R (headOf c) (laneOf c) := by
  refine Eq.trans (?_ : _ = val_main_v80 x0 x1 x2 (ix3 b R c)) ?_
  · unfold val_main_v85
    generalize val_main_v80 x0 x1 x2 = Y
    rfl
  · unfold val_main_v80
    rw [join_head, qhead_read]

/-- The keys. -/
theorem k_read (b : Fin 2) (R : Fin 8192) (c : Fin 1024) : val_main_v86 x0 x1 x2 (ix3 b R c) = kAt (rowsOf x0 b) (wOf x1) (cwOf x2) R (headOf c) (laneOf c) := by
  refine Eq.trans (?_ : _ = val_main_v81 x0 x1 x2 (ix3 b R c)) ?_
  · unfold val_main_v86
    generalize val_main_v81 x0 x1 x2 = Y
    rfl
  · unfold val_main_v81
    rw [join_head, khead_read]

/-- The values. -/
theorem v_read (b : Fin 2) (R : Fin 8192) (c : Fin 1024) : val_main_v87 x0 x1 x2 (ix3 b R c) = act3 (rowsOf x0 b) (wOf x1) (cwOf x2) (part 2 c) R := by
  refine Eq.trans (?_ : _ = val_main_v40 x0 x1 x2 (ix3 b R c)) (part2_read x0 x1 x2 b R c)
  unfold val_main_v87
  generalize val_main_v40 x0 x1 x2 = Y
  rfl

/-- The gate. -/
theorem z_read (b : Fin 2) (R : Fin 8192) (c : Fin 1024) : val_main_v88 x0 x1 (ix3 b R c) = proj (rowsOf x0 b) (wOf x1) ⟨3072 + c.val, by omega⟩ R := by
  refine Eq.trans (?_ : _ = val_main_v3 x0 x1 (ix3 b R c)) ?_
  · unfold val_main_v88
    generalize val_main_v3 x0 x1 = Y
    rfl
  · exact gate_read x0 x1 b R c

/-- The step of a head. -/
theorem step_read (b : Fin 2) (R : Fin 8192) (h : Fin 8) : val_main_v66 x0 x1 (ix3 b R h) = betaAt (rowsOf x0 b) (wOf x1) h R := by
  have e : val_main_v4 x0 x1 (ix3 b R h) = proj (rowsOf x0 b) (wOf x1) ⟨4096 + h.val, by omega⟩ R := bcol_read x0 x1 b R h
  unfold betaAt
  rw [← e]
  unfold val_main_v66 val_main_v65 val_main_cst_6 val_main_v64 val_main_v63 val_main_cst_5 val_main_v62 val_main_v61
  generalize val_main_v4 x0 x1 = Y
  pointwise
  rfl

/-- The steps. -/
theorem beta_read (b : Fin 2) (R : Fin 8192) (c : Fin 1024) : val_main_v89 x0 x1 (ix3 b R c) = betaAt (rowsOf x0 b) (wOf x1) (headOf c) R := by
  refine Eq.trans (?_ : _ = val_main_v84 x0 x1 (ix3 b R c)) ?_
  · unfold val_main_v89
    generalize val_main_v84 x0 x1 = Y
    rfl
  · rw [← step_read]
    unfold val_main_v84
    rw [join_head]
    unfold val_main_v83 val_main_v82
    generalize val_main_v66 x0 x1 = Y
    pointwise

end Cert.RefRead3

end
-- ==== Proof.RefDecay.lean ====
module

public import proofs.«01_k».proof.Proof.RefHead
public import proofs.«01_k».proof.Proof.RefSum

/-! The third reference's running sums of the decays, read at a row and a column. -/

@[expose] public section

noncomputable section

namespace Cert.RefRead3

open Cert.Spec Cert.Reference3Ideal Cert.Reference3Ideal.Gen Cert.Reference3Ideal.Read Idealize.ShloMosaic Idealize.ShloMosaic.TcCoe Idealize.ShloMosaic.Pointwise

variable (x0 : Vec Ideal S2x8192x1024 .f32) (x1 : Vec Ideal S1x1024x4112 .f32) (x2 : Vec Ideal S1x4x3072 .f32) (x3 x4 : Vec Ideal S1x8 .f32)

/-- The softplus as the reference writes it. -/
theorem softplus_read (i : S2x8192x8.Idx) : val_main_v74 x0 x1 x4 i = softplus (val_main_v73 x0 x1 x4 i) := by
  unfold val_main_v74 val_main_call2_v11 val_main_call2_v10 val_main_call2_v9 val_main_call2_v8 val_main_call2_v7 val_main_call2_v6 val_main_call2_v5 val_main_call2_v4 val_main_call2_v3 val_main_call2_v2 val_main_call2_v1
    val_main_call2_v0 val_main_call2_cst softplus
  generalize val_main_v73 x0 x1 x4 = Y
  pointwise
  exact if_neg (fun h => h rfl)

/-- The decay's logarithm of a head. -/
theorem decay_read (b : Fin 2) (R : Fin 8192) (h : Fin 8) : val_main_v77 x0 x1 x3 x4 (ix3 b R h) = decayAt (rowsOf x0 b) (wOf x1) (fun h => x3 (ix2 0 h)) (fun h => x4 (ix2 0 h)) h R := by
  have e : val_main_v73 x0 x1 x4 (ix3 b R h) = proj (rowsOf x0 b) (wOf x1) ⟨4104 + h.val, by omega⟩ R + x4 (ix2 0 h) := by
    have e5 : val_main_v5 x0 x1 (ix3 b R h) = proj (rowsOf x0 b) (wOf x1) ⟨4104 + h.val, by omega⟩ R := acol_read x0 x1 b R h
    rw [← e5]
    unfold val_main_v73 val_main_v72 val_main_v71 val_main_v70
    generalize val_main_v5 x0 x1 = Y
    pointwise
  unfold decayAt decay
  rw [← e, ← softplus_read]
  unfold val_main_v77 val_main_v76 val_main_v75 val_main_v69 val_main_v68 val_main_v67
  generalize val_main_v74 x0 x1 x4 = Y
  pointwise

/-- The decays by chunk. -/
theorem chunk_read (b : Fin 2) (C : Fin 128) (n : Fin 64) (h : Fin 8) :
    val_main_v78 x0 x1 x3 x4 (ix4 b C n h) = rowN (decayAt (rowsOf x0 b) (wOf x1) (fun h => x3 (ix2 0 h)) (fun h => x4 (ix2 0 h)) h) (64 * C.val + n.val) := by
  unfold rowN
  rw [dif_pos (by omega), ← decay_read]
  unfold val_main_v78
  generalize val_main_v77 x0 x1 x3 x4 = Y
  refine shapeCast_apply Y shapeCasts_S2x8192x8_S2x128x64x8 (ix4 b C n h) (ix3 b ⟨64 * C.val + n.val, by omega⟩ h) ?_
  rw [Shape.rowMajor_val_three, Shape.rowMajor_val_four]
  show (b.val * 8192 + (64 * C.val + n.val)) * 8 + h.val = ((b.val * 128 + C.val) * 64 + n.val) * 8 + h.val
  omega

/-- The shape of a chunk's window. -/
abbrev ChunkS : Shape := ⟨4, ![1, 1, 64, 1]⟩

/-- The window's positions are its rows. -/
def chunkRows : Fin 64 ≃ ChunkS.Idx where
  toFun i := ix4 0 0 i 0
  invFun j := j 2
  left_inv _ := rfl
  right_inv j := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- A sum over a chunk's window, as a sum over the rows up to the last. -/
theorem chunk_window (f : ℕ → EReal) (r : ℕ) (hr : r < 64) : (∑ i : Fin 64, if 63 ≤ r + i.val then f (r + i.val - 63) else 0) = ∑ n ∈ Finset.range (r + 1), f n := by
  rw [Fin.sum_univ_eq_sum_range (fun i => if 63 ≤ r + i then f (r + i - 63) else 0) 64]
  rw [show 64 = (63 - r) + (r + 1) by omega, Finset.sum_range_add, Finset.sum_eq_zero (fun i hi => if_neg (by have := Finset.mem_range.mp hi; omega)), zero_add]
  refine Finset.sum_congr rfl fun i _ => ?_
  rw [if_pos (by omega)]
  exact congrArg f (by omega)

/-- The running sums by chunk. -/
theorem running_read (b : Fin 2) (C : Fin 128) (r : Fin 64) (h : Fin 8) :
    val_main_v79 x0 x1 x3 x4 (ix4 b C r h) = ∑ n ∈ Finset.range (r.val + 1), rowN (decayAt (rowsOf x0 b) (wOf x1) (fun h => x3 (ix2 0 h)) (fun h => x4 (ix2 0 h)) h) (64 * C.val + n) := by
  unfold val_main_v79 Host.reduceWindowAdd
  have hv : val_main_call3_call0_v0 (F := Ideal) (Shape.Idx.first Gen.h_S_) = 0 := by
    unfold val_main_call3_call0_v0 val_main_call3_call0_cst
    pointwise
  rw [Ideal.hostReduceWindowAdd_def, hv, Cert.RefRead.windows_sum, ← chunk_window (fun n => rowN (decayAt (rowsOf x0 b) (wOf x1) (fun h => x3 (ix2 0 h)) (fun h => x4 (ix2 0 h)) h) (64 * C.val + n)) _ r.isLt]
  refine Eq.trans (Equiv.sum_comp chunkRows _).symm ?_
  refine Finset.sum_congr rfl fun i _ => ?_
  have h0 := b.isLt
  have h1 := C.isLt
  have h2 := r.isLt
  have h3 := h.isLt
  have hi := i.isLt
  by_cases hh : 63 ≤ r.val + i.val
  · rw [if_pos hh]
    refine (dif_pos fun a => ?_).trans ?_
    · match a with
      | ⟨0, _⟩ => show 0 ≤ b.val * 1 + 0 ∧ b.val * 1 + 0 - 0 < 2; omega
      | ⟨1, _⟩ => show 0 ≤ C.val * 1 + 0 ∧ C.val * 1 + 0 - 0 < 128; omega
      | ⟨2, _⟩ => show 63 ≤ r.val * 1 + i.val ∧ r.val * 1 + i.val - 63 < 64; omega
      | ⟨3, _⟩ => show 0 ≤ h.val * 1 + 0 ∧ h.val * 1 + 0 - 0 < 8; omega
    · refine Eq.trans (congrArg (val_main_v78 x0 x1 x3 x4) (?_ : _ = ix4 b C ⟨r.val + i.val - 63, by omega⟩ h)) (chunk_read x0 x1 x3 x4 b C ⟨r.val + i.val - 63, by omega⟩ h)
      funext a
      apply Fin.ext
      match a with
      | ⟨0, _⟩ => show b.val * 1 + 0 - 0 = b.val; omega
      | ⟨1, _⟩ => show C.val * 1 + 0 - 0 = C.val; omega
      | ⟨2, _⟩ => show r.val * 1 + i.val - 63 = r.val + i.val - 63; omega
      | ⟨3, _⟩ => show h.val * 1 + 0 - 0 = h.val; omega
  · rw [if_neg hh]
    refine dif_neg fun hin => hh ?_
    have h1 := (hin (2 : Fin 4)).1
    have h2 : 63 ≤ r.val * 1 + i.val := h1
    omega

/-- The decays' running sums. -/
theorem gc_read (b : Fin 2) (R : Fin 8192) (c : Fin 1024) :
    val_main_v92 x0 x1 x3 x4 (ix3 b R c) = chunkSum (decayAt (rowsOf x0 b) (wOf x1) (fun h => x3 (ix2 0 h)) (fun h => x4 (ix2 0 h)) (headOf c)) R := by
  unfold val_main_v92
  rw [join_head]
  refine Eq.trans (?_ : _ = val_main_v79 x0 x1 x3 x4 (ix4 b ⟨R.val / 64, by omega⟩ ⟨R.val % 64, by omega⟩ (headOf c))) (running_read x0 x1 x3 x4 b _ _ _)
  refine Eq.trans (?_ : _ = val_main_v90 x0 x1 x3 x4 (ix4 b R (headOf c) 0)) ?_
  · unfold val_main_v91
    generalize val_main_v90 x0 x1 x3 x4 = Y
    pointwise
  · unfold val_main_v90
    generalize val_main_v79 x0 x1 x3 x4 = Y
    refine shapeCast_apply Y shapeCasts_S2x128x64x8_S2x8192x8x1 (ix4 b R (headOf c) 0) (ix4 b ⟨R.val / 64, by omega⟩ ⟨R.val % 64, by omega⟩ (headOf c)) ?_
    rw [Shape.rowMajor_val_four, Shape.rowMajor_val_four]
    show ((b.val * 128 + R.val / 64) * 64 + R.val % 64) * 8 + c.val / 128 = ((b.val * 8192 + R.val) * 8 + c.val / 128) * 1 + 0
    omega

end Cert.RefRead3

end
-- ==== Proof.Equal3.lean ====
module

public import proofs.«01_k».proof.Proof.KernelValue3
public import proofs.«01_k».proof.Proof.RefDecay
public import proofs.«01_k».proof.Defs
public import proofs.«01_k».proof.Proof.Gen.Reference3Ideal.Run
public import Idealize.ShloMosaic.Lib.Quiescent

/-! The third kernel's six arrays and the third reference's are the same projections. -/

@[expose] public section

noncomputable section

namespace Cert.Tile3

open Idealize.ShloMosaic Idealize.ShloMosaic.TcCoe Idealize.SL.Sem

variable (m : (ℓ : Loc Cert.Kernel3Ideal.nD Cert.Kernel3Ideal.τ Cert.Kernel3Ideal.sig) → Buf (Elt Ideal) ℓ) (c : Dev Cert.Kernel3Ideal.nD)

/-- An index is its three coordinates. -/
theorem ix_parts (j : Cert.Reference3Ideal.S2x8192x1024.Idx) : j = ix3 (j 0) (j 1) (j 2) :=
  funext fun a => match a with | ⟨0, _⟩ => rfl | ⟨1, _⟩ => rfl | ⟨2, _⟩ => rfl

/-- The reference's queries, as the kernel's array. -/
theorem q_ref : Cert.Reference3Ideal.Read.val_main_v85 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) = qArr m c := by
  funext j
  rw [ix_parts j]
  exact Cert.RefRead3.q_read _ _ _ (j 0) (j 1) (j 2)

/-- The reference's keys, as the kernel's array. -/
theorem k_ref : Cert.Reference3Ideal.Read.val_main_v86 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) = kArr m c := by
  funext j
  rw [ix_parts j]
  exact Cert.RefRead3.k_read _ _ _ (j 0) (j 1) (j 2)

/-- The reference's values, as the kernel's array. -/
theorem v_ref : Cert.Reference3Ideal.Read.val_main_v87 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) = vArr m c := by
  funext j
  rw [ix_parts j]
  exact Cert.RefRead3.v_read _ _ _ (j 0) (j 1) (j 2)

/-- The reference's gate, as the kernel's array. -/
theorem z_ref : Cert.Reference3Ideal.Read.val_main_v88 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) = zArr m c := by
  funext j
  rw [ix_parts j]
  exact Cert.RefRead3.z_read _ _ (j 0) (j 1) (j 2)

/-- The reference's steps, as the kernel's array. -/
theorem beta_ref : Cert.Reference3Ideal.Read.val_main_v89 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) = betaArr m c := by
  funext j
  rw [ix_parts j]
  exact Cert.RefRead3.beta_read _ _ (j 0) (j 1) (j 2)

/-- The reference's decays' running sums, as the kernel's array. -/
theorem gc_ref : Cert.Reference3Ideal.Read.val_main_v92 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) = gcArr m c := by
  funext j
  rw [ix_parts j]
  exact Cert.RefRead3.gc_read _ _ _ _ (j 0) (j 1) (j 2)

/-- Both programs end with the same six results. -/
theorem equal : Cert.algebraic_Kernel3Ideal_Reference3Ideal (hKernel3Ideal := Cert.Kernel3Ideal.Gen.facts) (hReference3Ideal := Cert.Reference3Ideal.Gen.facts) := by
  intro m ρ m' ρ' hpre hagree
  refine ⟨fun c => qArr m c, fun c => kArr m c, fun c => vArr m c, fun c => zArr m c, fun c => betaArr m c, fun c => gcArr m c,
    (θ_run Cert.Kernel3Ideal.defs _ _).mono (fun _ h c => ⟨(h c).1.trans (q_final m c), (h c).2.1.trans (k_final m c), (h c).2.2.1.trans (v_final m c), (h c).2.2.2.1.trans (z_final m c),
      (h c).2.2.2.2.1.trans (beta_final m c), (h c).2.2.2.2.2.1.trans (gc_final m c), (h c).2.2.2.2.2.2⟩) (Cert.Kernel3Ideal.Value.run_blocks m ρ), ?_⟩
  refine (θ_run Cert.Reference3Ideal.defs _ _).mono (fun _ h c => ⟨((h c).1.trans (Cert.Reference3Ideal.Read.val_main_v85_eq m' c)).trans ?_, ((h c).2.1.trans (Cert.Reference3Ideal.Read.val_main_v86_eq m' c)).trans ?_,
      ((h c).2.2.1.trans (Cert.Reference3Ideal.Read.val_main_v87_eq m' c)).trans ?_, ((h c).2.2.2.1.trans (Cert.Reference3Ideal.Read.val_main_v88_eq _ _)).trans ?_,
      ((h c).2.2.2.2.1.trans (Cert.Reference3Ideal.Read.val_main_v89_eq _ _)).trans ?_, ((h c).2.2.2.2.2.1.trans (Cert.Reference3Ideal.Read.val_main_v92_eq _ _ _ _)).trans ?_, (h c).2.2.2.2.2.2⟩)
    (Cert.Reference3Ideal.Value.run (F := Ideal) m' ρ')
  · obtain ⟨h0, h1, h2, h3, h4⟩ := hagree c
    show Cert.Reference3Ideal.Read.val_main_v85 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = qArr m c
    rw [h0, h1, h2]
    exact q_ref m c
  · obtain ⟨h0, h1, h2, h3, h4⟩ := hagree c
    show Cert.Reference3Ideal.Read.val_main_v86 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = kArr m c
    rw [h0, h1, h2]
    exact k_ref m c
  · obtain ⟨h0, h1, h2, h3, h4⟩ := hagree c
    show Cert.Reference3Ideal.Read.val_main_v87 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = vArr m c
    rw [h0, h1, h2]
    exact v_ref m c
  · obtain ⟨h0, h1, h2, h3, h4⟩ := hagree c
    show Cert.Reference3Ideal.Read.val_main_v88 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = zArr m c
    rw [h0, h1]
    exact z_ref m c
  · obtain ⟨h0, h1, h2, h3, h4⟩ := hagree c
    show Cert.Reference3Ideal.Read.val_main_v89 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = betaArr m c
    rw [h0, h1]
    exact beta_ref m c
  · obtain ⟨h0, h1, h2, h3, h4⟩ := hagree c
    show Cert.Reference3Ideal.Read.val_main_v92 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = gcArr m c
    rw [h0, h1, h3, h4]
    exact gc_ref m c

/-- The reference runs, keeps its arguments and has no semaphore. -/
theorem frame_ref : Cert.quiescent_Reference3Ideal (hReference3Ideal := Cert.Reference3Ideal.Gen.facts) := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

end Cert.Tile3

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Equal
public import proofs.«01_k».proof.Proof.Equal2
public import proofs.«01_k».proof.Proof.Equal3
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  Cert.Tile.frame_ref, fun m ρ _ => Cert.Tile.frame_ref m ρ trivial,
  fun m ρ _ => Cert.Kernel2.Gen.frame m ρ, fun m ρ _ => Cert.Kernel2Ideal.Gen.frame m ρ, Cert.Tile2.frame_ref,
  fun m ρ _ => Cert.Kernel3.Gen.frame m ρ, fun m ρ _ => Cert.Kernel3Ideal.Gen.frame m ρ, Cert.Tile3.frame_ref,
  trivial, Cert.Tile.equal, trivial, Cert.Tile2.equal, trivial, Cert.Tile3.equal⟩

end Cert.Proof

end
